-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Oproj (m : (ℓ : Loc Cert.Oproj.nD Cert.Oproj.τ Cert.Oproj.sig) → Buf (Elt Bits) ℓ) : Prop :=
  True

def Pre_OprojIdeal (m : (ℓ : Loc Cert.OprojIdeal.nD Cert.OprojIdeal.τ Cert.OprojIdeal.sig) → Buf (Elt Ideal) ℓ) : Prop :=
  True

def Pre_OprojReferenceIdeal (m : (ℓ : Loc Cert.OprojReferenceIdeal.nD Cert.OprojReferenceIdeal.τ Cert.OprojReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Oproj [hOproj : Cert.Oproj.Facts] : Prop :=
  ∀ (m : (ℓ : Loc Cert.Oproj.nD Cert.Oproj.τ Cert.Oproj.sig) → Buf (Elt Bits) ℓ) (g : Dev Cert.Oproj.nD → PrngReg), Pre_Oproj m →
    θ_run (Cert.Oproj.defs (F := Bits)) (onTc (τ := Cert.Oproj.τ) (Cert.Oproj.main (F := Bits))) ⟨m, fun _ => 0, g⟩ (fun r => (∀ c : Dev Cert.Oproj.nD,
      r.2.mem ((c.tc : Thread Cert.Oproj.nD Cert.Oproj.τ).loc Cert.Oproj.main_arg0) = m ((c.tc : Thread Cert.Oproj.nD Cert.Oproj.τ).loc Cert.Oproj.main_arg0)
      ∧ r.2.mem ((c.tc : Thread Cert.Oproj.nD Cert.Oproj.τ).loc Cert.Oproj.main_arg1) = m ((c.tc : Thread Cert.Oproj.nD Cert.Oproj.τ).loc Cert.Oproj.main_arg1)
      ∧ r.2.mem ((c.tc : Thread Cert.Oproj.nD Cert.Oproj.τ).loc Cert.Oproj.main_arg2) = m ((c.tc : Thread Cert.Oproj.nD Cert.Oproj.τ).loc Cert.Oproj.main_arg2)
      ∧ r.2.mem ((c.tc : Thread Cert.Oproj.nD Cert.Oproj.τ).loc Cert.Oproj.main_arg3) = m ((c.tc : Thread Cert.Oproj.nD Cert.Oproj.τ).loc Cert.Oproj.main_arg3)
      ∧ r.2.mem ((c.tc : Thread Cert.Oproj.nD Cert.Oproj.τ).loc Cert.Oproj.main_arg4) = m ((c.tc : Thread Cert.Oproj.nD Cert.Oproj.τ).loc Cert.Oproj.main_arg4)
      ∧ r.2.mem ((c.tc : Thread Cert.Oproj.nD Cert.Oproj.τ).loc Cert.Oproj.main_arg5) = m ((c.tc : Thread Cert.Oproj.nD Cert.Oproj.τ).loc Cert.Oproj.main_arg5))
      ∧ r.2.sem = fun _ => 0)

def quiescent_OprojIdeal [hOprojIdeal : Cert.OprojIdeal.Facts] : Prop :=
  ∀ (m : (ℓ : Loc Cert.OprojIdeal.nD Cert.OprojIdeal.τ Cert.OprojIdeal.sig) → Buf (Elt Ideal) ℓ) (g : Dev Cert.OprojIdeal.nD → PrngReg), Pre_OprojIdeal m →
    θ_run (Cert.OprojIdeal.defs (F := Ideal)) (onTc (τ := Cert.OprojIdeal.τ) (Cert.OprojIdeal.main (F := Ideal))) ⟨m, fun _ => 0, g⟩ (fun r => (∀ c : Dev Cert.OprojIdeal.nD,
      r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
      ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
      ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
      ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3)
      ∧ r.2.mem ((c.tc : Thread Cert.OprojIdeal.nD Cert.OprojIdeal.τ).loc Cert.OprojIdeal.main_arg4) = m ((c.tc : Thread Cert.OprojIdeal.nD Cert.OprojIdeal.τ).loc Cert.OprojIdeal.main_arg4)
      ∧ r.2.mem ((c.tc : Thread Cert.OprojIdeal.nD Cert.OprojIdeal.τ).loc Cert.OprojIdeal.main_arg5) = m ((c.tc : Thread Cert.OprojIdeal.nD Cert.OprojIdeal.τ).loc Cert.OprojIdeal.main_arg5))
      ∧ r.2.sem = fun _ => 0)

def quiescent_OprojReferenceIdeal [hOprojReferenceIdeal : Cert.OprojReferenceIdeal.Facts] : Prop :=
  ∀ (m : (ℓ : Loc Cert.OprojReferenceIdeal.nD Cert.OprojReferenceIdeal.τ Cert.OprojReferenceIdeal.sig) → Buf (Elt Ideal) ℓ) (g : Dev Cert.OprojReferenceIdeal.nD → PrngReg), Pre_OprojReferenceIdeal m →
    θ_run (Cert.OprojReferenceIdeal.defs (F := Ideal)) (onTc (τ := Cert.OprojReferenceIdeal.τ) (Cert.OprojReferenceIdeal.main (F := Ideal))) ⟨m, fun _ => 0, g⟩ (fun r => (∀ c : Dev Cert.OprojReferenceIdeal.nD,
      r.2.mem ((c.tc : Thread Cert.OprojReferenceIdeal.nD Cert.OprojReferenceIdeal.τ).loc Cert.OprojReferenceIdeal.main_arg0) = m ((c.tc : Thread Cert.OprojReferenceIdeal.nD Cert.OprojReferenceIdeal.τ).loc Cert.OprojReferenceIdeal.main_arg0)
      ∧ r.2.mem ((c.tc : Thread Cert.OprojReferenceIdeal.nD Cert.OprojReferenceIdeal.τ).loc Cert.OprojReferenceIdeal.main_arg1) = m ((c.tc : Thread Cert.OprojReferenceIdeal.nD Cert.OprojReferenceIdeal.τ).loc Cert.OprojReferenceIdeal.main_arg1)
      ∧ r.2.mem ((c.tc : Thread Cert.OprojReferenceIdeal.nD Cert.OprojReferenceIdeal.τ).loc Cert.OprojReferenceIdeal.main_arg2) = m ((c.tc : Thread Cert.OprojReferenceIdeal.nD Cert.OprojReferenceIdeal.τ).loc Cert.OprojReferenceIdeal.main_arg2)
      ∧ r.2.mem ((c.tc : Thread Cert.OprojReferenceIdeal.nD Cert.OprojReferenceIdeal.τ).loc Cert.OprojReferenceIdeal.main_arg3) = m ((c.tc : Thread Cert.OprojReferenceIdeal.nD Cert.OprojReferenceIdeal.τ).loc Cert.OprojReferenceIdeal.main_arg3)
      ∧ r.2.mem ((c.tc : Thread Cert.OprojReferenceIdeal.nD Cert.OprojReferenceIdeal.τ).loc Cert.OprojReferenceIdeal.main_arg4) = m ((c.tc : Thread Cert.OprojReferenceIdeal.nD Cert.OprojReferenceIdeal.τ).loc Cert.OprojReferenceIdeal.main_arg4)
      ∧ r.2.mem ((c.tc : Thread Cert.OprojReferenceIdeal.nD Cert.OprojReferenceIdeal.τ).loc Cert.OprojReferenceIdeal.main_arg5) = m ((c.tc : Thread Cert.OprojReferenceIdeal.nD Cert.OprojReferenceIdeal.τ).loc Cert.OprojReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Oproj_OprojIdeal : Prop :=
  True

def algebraic_OprojIdeal_OprojReferenceIdeal [hOprojIdeal : Cert.OprojIdeal.Facts] [hOprojReferenceIdeal : Cert.OprojReferenceIdeal.Facts] : Prop :=
  ∀ (m : (ℓ : Loc Cert.OprojIdeal.nD Cert.OprojIdeal.τ Cert.OprojIdeal.sig) → Buf (Elt Ideal) ℓ) (g : Dev Cert.OprojIdeal.nD → PrngReg)
    (m' : (ℓ : Loc Cert.OprojReferenceIdeal.nD Cert.OprojReferenceIdeal.τ Cert.OprojReferenceIdeal.sig) → Buf (Elt Ideal) ℓ) (g' : Dev Cert.OprojReferenceIdeal.nD → PrngReg), Pre_OprojIdeal m →
    (∀ c : Dev Cert.OprojIdeal.nD,
      m' ((c.tc : Thread Cert.OprojReferenceIdeal.nD Cert.OprojReferenceIdeal.τ).loc Cert.OprojReferenceIdeal.main_arg0) = m ((c.tc : Thread Cert.OprojIdeal.nD Cert.OprojIdeal.τ).loc Cert.OprojIdeal.main_arg0)
      ∧ m' ((c.tc : Thread Cert.OprojReferenceIdeal.nD Cert.OprojReferenceIdeal.τ).loc Cert.OprojReferenceIdeal.main_arg1) = m ((c.tc : Thread Cert.OprojIdeal.nD Cert.OprojIdeal.τ).loc Cert.OprojIdeal.main_arg1)
      ∧ m' ((c.tc : Thread Cert.OprojReferenceIdeal.nD Cert.OprojReferenceIdeal.τ).loc Cert.OprojReferenceIdeal.main_arg2) = m ((c.tc : Thread Cert.OprojIdeal.nD Cert.OprojIdeal.τ).loc Cert.OprojIdeal.main_arg2)
      ∧ m' ((c.tc : Thread Cert.OprojReferenceIdeal.nD Cert.OprojReferenceIdeal.τ).loc Cert.OprojReferenceIdeal.main_arg3) = m ((c.tc : Thread Cert.OprojIdeal.nD Cert.OprojIdeal.τ).loc Cert.OprojIdeal.main_arg3)
      ∧ m' ((c.tc : Thread Cert.OprojReferenceIdeal.nD Cert.OprojReferenceIdeal.τ).loc Cert.OprojReferenceIdeal.main_arg4) = m ((c.tc : Thread Cert.OprojIdeal.nD Cert.OprojIdeal.τ).loc Cert.OprojIdeal.main_arg4)
      ∧ m' ((c.tc : Thread Cert.OprojReferenceIdeal.nD Cert.OprojReferenceIdeal.τ).loc Cert.OprojReferenceIdeal.main_arg5) = m ((c.tc : Thread Cert.OprojIdeal.nD Cert.OprojIdeal.τ).loc Cert.OprojIdeal.main_arg5)) →
    ∃ (v0 : (c : Dev Cert.OprojIdeal.nD) → Buf (Elt Ideal) ((c.tc : Thread Cert.OprojIdeal.nD Cert.OprojIdeal.τ).loc Cert.OprojIdeal.main_v2_0)) (v1 : (c : Dev Cert.OprojIdeal.nD) → Buf (Elt Ideal) ((c.tc : Thread Cert.OprojIdeal.nD Cert.OprojIdeal.τ).loc Cert.OprojIdeal.main_v2_1)) (v2 : (c : Dev Cert.OprojIdeal.nD) → Buf (Elt Ideal) ((c.tc : Thread Cert.OprojIdeal.nD Cert.OprojIdeal.τ).loc Cert.OprojIdeal.main_v2_2)) (v3 : (c : Dev Cert.OprojIdeal.nD) → Buf (Elt Ideal) ((c.tc : Thread Cert.OprojIdeal.nD Cert.OprojIdeal.τ).loc Cert.OprojIdeal.main_v2_3)),
      θ_run (Cert.OprojIdeal.defs (F := Ideal)) (onTc (τ := Cert.OprojIdeal.τ) (Cert.OprojIdeal.main (F := Ideal))) ⟨m, fun _ => 0, g⟩ (fun r => ∀ c : Dev Cert.OprojIdeal.nD,
          r.2.mem ((c.tc : Thread Cert.OprojIdeal.nD Cert.OprojIdeal.τ).loc Cert.OprojIdeal.main_v2_0) = v0 c
          ∧ r.2.mem ((c.tc : Thread Cert.OprojIdeal.nD Cert.OprojIdeal.τ).loc Cert.OprojIdeal.main_v2_1) = v1 c
          ∧ r.2.mem ((c.tc : Thread Cert.OprojIdeal.nD Cert.OprojIdeal.τ).loc Cert.OprojIdeal.main_v2_2) = v2 c
          ∧ r.2.mem ((c.tc : Thread Cert.OprojIdeal.nD Cert.OprojIdeal.τ).loc Cert.OprojIdeal.main_v2_3) = v3 c
          ∧ r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
          ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
          ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
          ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3)
          ∧ r.2.mem ((c.tc : Thread Cert.OprojIdeal.nD Cert.OprojIdeal.τ).loc Cert.OprojIdeal.main_arg4) = m ((c.tc : Thread Cert.OprojIdeal.nD Cert.OprojIdeal.τ).loc Cert.OprojIdeal.main_arg4)
          ∧ r.2.mem ((c.tc : Thread Cert.OprojIdeal.nD Cert.OprojIdeal.τ).loc Cert.OprojIdeal.main_arg5) = m ((c.tc : Thread Cert.OprojIdeal.nD Cert.OprojIdeal.τ).loc Cert.OprojIdeal.main_arg5))
      ∧ θ_run (Cert.OprojReferenceIdeal.defs (F := Ideal)) (onTc (τ := Cert.OprojReferenceIdeal.τ) (Cert.OprojReferenceIdeal.main (F := Ideal))) ⟨m', fun _ => 0, g'⟩ (fun r => ∀ c : Dev Cert.OprojReferenceIdeal.nD,
          r.2.mem ((c.tc : Thread Cert.OprojReferenceIdeal.nD Cert.OprojReferenceIdeal.τ).loc Cert.OprojReferenceIdeal.main_v3_0) = v0 c
          ∧ r.2.mem ((c.tc : Thread Cert.OprojReferenceIdeal.nD Cert.OprojReferenceIdeal.τ).loc Cert.OprojReferenceIdeal.main_v3_1) = v1 c
          ∧ r.2.mem ((c.tc : Thread Cert.OprojReferenceIdeal.nD Cert.OprojReferenceIdeal.τ).loc Cert.OprojReferenceIdeal.main_v3_2) = v2 c
          ∧ r.2.mem ((c.tc : Thread Cert.OprojReferenceIdeal.nD Cert.OprojReferenceIdeal.τ).loc Cert.OprojReferenceIdeal.main_v3_3) = v3 c
          ∧ r.2.mem ((c.tc : Thread Cert.OprojReferenceIdeal.nD Cert.OprojReferenceIdeal.τ).loc Cert.OprojReferenceIdeal.main_arg0) = m' ((c.tc : Thread Cert.OprojReferenceIdeal.nD Cert.OprojReferenceIdeal.τ).loc Cert.OprojReferenceIdeal.main_arg0)
          ∧ r.2.mem ((c.tc : Thread Cert.OprojReferenceIdeal.nD Cert.OprojReferenceIdeal.τ).loc Cert.OprojReferenceIdeal.main_arg1) = m' ((c.tc : Thread Cert.OprojReferenceIdeal.nD Cert.OprojReferenceIdeal.τ).loc Cert.OprojReferenceIdeal.main_arg1)
          ∧ r.2.mem ((c.tc : Thread Cert.OprojReferenceIdeal.nD Cert.OprojReferenceIdeal.τ).loc Cert.OprojReferenceIdeal.main_arg2) = m' ((c.tc : Thread Cert.OprojReferenceIdeal.nD Cert.OprojReferenceIdeal.τ).loc Cert.OprojReferenceIdeal.main_arg2)
          ∧ r.2.mem ((c.tc : Thread Cert.OprojReferenceIdeal.nD Cert.OprojReferenceIdeal.τ).loc Cert.OprojReferenceIdeal.main_arg3) = m' ((c.tc : Thread Cert.OprojReferenceIdeal.nD Cert.OprojReferenceIdeal.τ).loc Cert.OprojReferenceIdeal.main_arg3)
          ∧ r.2.mem ((c.tc : Thread Cert.OprojReferenceIdeal.nD Cert.OprojReferenceIdeal.τ).loc Cert.OprojReferenceIdeal.main_arg4) = m' ((c.tc : Thread Cert.OprojReferenceIdeal.nD Cert.OprojReferenceIdeal.τ).loc Cert.OprojReferenceIdeal.main_arg4)
          ∧ r.2.mem ((c.tc : Thread Cert.OprojReferenceIdeal.nD Cert.OprojReferenceIdeal.τ).loc Cert.OprojReferenceIdeal.main_arg5) = m' ((c.tc : Thread Cert.OprojReferenceIdeal.nD Cert.OprojReferenceIdeal.τ).loc Cert.OprojReferenceIdeal.main_arg5))

def Claim : Prop :=
  ∃ (hKernel : Cert.Kernel.Facts) (hKernelIdeal : Cert.KernelIdeal.Facts) (hReferenceIdeal : Cert.ReferenceIdeal.Facts) (hOproj : Cert.Oproj.Facts) (hOprojIdeal : Cert.OprojIdeal.Facts) (hOprojReferenceIdeal : Cert.OprojReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Oproj (hOproj := hOproj)
    ∧ quiescent_OprojIdeal (hOprojIdeal := hOprojIdeal)
    ∧ quiescent_OprojReferenceIdeal (hOprojReferenceIdeal := hOprojReferenceIdeal)
    ∧ preserves_Kernel_KernelIdeal
    ∧ algebraic_KernelIdeal_ReferenceIdeal (hKernelIdeal := hKernelIdeal) (hReferenceIdeal := hReferenceIdeal)
    ∧ preserves_Oproj_OprojIdeal
    ∧ algebraic_OprojIdeal_OprojReferenceIdeal (hOprojIdeal := hOprojIdeal) (hOprojReferenceIdeal := hOprojReferenceIdeal)
-- ==== Kernel.lean ====
abbrev S8192x3584 : Shape := ⟨2, ![8192, 3584]⟩
abbrev S8192x128 : Shape := ⟨2, ![8192, 128]⟩
abbrev S2x3584x9472 : Shape := ⟨3, ![2, 3584, 9472]⟩
abbrev S2x9472 : Shape := ⟨2, ![2, 9472]⟩
abbrev S2x4736x3584 : Shape := ⟨3, ![2, 4736, 3584]⟩
abbrev S2x3584 : Shape := ⟨2, ![2, 3584]⟩
abbrev S2x2x4736 : Shape := ⟨3, ![2, 2, 4736]⟩
abbrev S_ : Shape := ⟨0, ![]⟩
abbrev S2x2x5120 : Shape := ⟨3, ![2, 2, 5120]⟩
abbrev S2x1x5120 : Shape := ⟨3, ![2, 1, 5120]⟩
abbrev S2x1x3584 : Shape := ⟨3, ![2, 1, 3584]⟩
abbrev S8192x4736 : Shape := ⟨2, ![8192, 4736]⟩
abbrev S8x1x1024 : Shape := ⟨3, ![8, 1, 1024]⟩
abbrev S1024x3584 : Shape := ⟨2, ![1024, 3584]⟩
abbrev S1024x128 : Shape := ⟨2, ![1024, 128]⟩
abbrev S1x1x512 : Shape := ⟨3, ![1, 1, 512]⟩
abbrev S1024x512 : Shape := ⟨2, ![1024, 512]⟩
abbrev S1024x4736 : Shape := ⟨2, ![1024, 4736]⟩
abbrev S1x1x1024 : Shape := ⟨3, ![1, 1, 1024]⟩
abbrev S37x1024x128 : Shape := ⟨3, ![37, 1024, 128]⟩
abbrev S2x3584x1024 : Shape := ⟨3, ![2, 3584, 1024]⟩
abbrev S2x4736x512 : Shape := ⟨3, ![2, 4736, 512]⟩
abbrev S2x2 : Shape := ⟨2, ![2, 2]⟩
abbrev S2 : Shape := ⟨1, ![2]⟩
abbrev S1x1 : Shape := ⟨2, ![1, 1]⟩
abbrev S1x3584x512 : Shape := ⟨3, ![1, 3584, 512]⟩
abbrev S3584x512 : Shape := ⟨2, ![3584, 512]⟩
abbrev S1x3584x128 : Shape := ⟨3, ![1, 3584, 128]⟩
abbrev S3584x128 : Shape := ⟨2, ![3584, 128]⟩
abbrev S1 : Shape := ⟨1, ![1]⟩
abbrev S1x4736x512 : Shape := ⟨3, ![1, 4736, 512]⟩
abbrev S4736x512 : Shape := ⟨2, ![4736, 512]⟩
abbrev S1024x1 : Shape := ⟨2, ![1024, 1]⟩
abbrev S1x3584x256 : Shape := ⟨3, ![1, 3584, 256]⟩
abbrev S3584x256 : Shape := ⟨2, ![3584, 256]⟩
abbrev S1024x256 : Shape := ⟨2, ![1024, 256]⟩
abbrev S1x1x256 : Shape := ⟨3, ![1, 1, 256]⟩
abbrev S1x256 : Shape := ⟨2, ![1, 256]⟩
abbrev S1x1024x128 : Shape := ⟨3, ![1, 1024, 128]⟩
abbrev S1x1x128 : Shape := ⟨3, ![1, 1, 128]⟩
abbrev S1x128 : Shape := ⟨2, ![1, 128]⟩
abbrev S1024 : Shape := ⟨1, ![1024]⟩
abbrev S128x128 : Shape := ⟨2, ![128, 128]⟩
abbrev S128x1 : Shape := ⟨2, ![128, 1]⟩
abbrev S128 : Shape := ⟨1, ![128]⟩
abbrev S1x1024 : Shape := ⟨2, ![1, 1024]⟩
abbrev S1x512 : Shape := ⟨2, ![1, 512]⟩

abbrev nBuf : Space → Nat
  | .hbm => 17
  | .vmem => 22
  | .smem => 0
  | _ => 0

abbrev bufTy : (tb : Table) → Fin (tcTables nBuf tb) → BufTy
  | .hbm, ⟨0, _⟩ => ⟨S8192x3584, .fp8e4m3⟩
  | .hbm, ⟨1, _⟩ => ⟨S8192x128, .f32⟩
  | .hbm, ⟨2, _⟩ => ⟨S8192x3584, .f32⟩
  | .hbm, ⟨3, _⟩ => ⟨S2x3584x9472, .fp8e4m3⟩
  | .hbm, ⟨4, _⟩ => ⟨S2x9472, .f32⟩
  | .hbm, ⟨5, _⟩ => ⟨S2x4736x3584, .fp8e4m3⟩
  | .hbm, ⟨6, _⟩ => ⟨S2x3584, .f32⟩
  | .hbm, ⟨7, _⟩ => ⟨S2x2x4736, .f32⟩
  | .hbm, ⟨8, _⟩ => ⟨S_, .i32⟩
  | .hbm, ⟨9, _⟩ => ⟨S_, .f32⟩
  | .hbm, ⟨10, _⟩ => ⟨S2x2x5120, .f32⟩
  | .hbm, ⟨11, _⟩ => ⟨S2x1x5120, .f32⟩
  | .hbm, ⟨12, _⟩ => ⟨S2x1x5120, .f32⟩
  | .hbm, ⟨13, _⟩ => ⟨S2x1x3584, .f32⟩
  | .hbm, ⟨14, _⟩ => ⟨S8192x3584, .bf16⟩
  | .hbm, ⟨15, _⟩ => ⟨S8192x4736, .fp8e4m3⟩
  | .hbm, ⟨16, _⟩ => ⟨S8x1x1024, .f32⟩
  | .local _ .vmem, ⟨0, _⟩ => ⟨S1024x3584, .fp8e4m3⟩
  | .local _ .vmem, ⟨1, _⟩ => ⟨S1024x3584, .fp8e4m3⟩
  | .local _ .vmem, ⟨2, _⟩ => ⟨S1024x128, .f32⟩
  | .local _ .vmem, ⟨3, _⟩ => ⟨S1024x128, .f32⟩
  | .local _ .vmem, ⟨4, _⟩ => ⟨S1x1x512, .f32⟩
  | .local _ .vmem, ⟨5, _⟩ => ⟨S1x1x512, .f32⟩
  | .local _ .vmem, ⟨6, _⟩ => ⟨S1x1x512, .f32⟩
  | .local _ .vmem, ⟨7, _⟩ => ⟨S1x1x512, .f32⟩
  | .local _ .vmem, ⟨8, _⟩ => ⟨S1x1x512, .f32⟩
  | .local _ .vmem, ⟨9, _⟩ => ⟨S1x1x512, .f32⟩
  | .local _ .vmem, ⟨10, _⟩ => ⟨S1024x512, .f32⟩
  | .local _ .vmem, ⟨11, _⟩ => ⟨S1024x512, .f32⟩
  | .local _ .vmem, ⟨12, _⟩ => ⟨S1024x512, .bf16⟩
  | .local _ .vmem, ⟨13, _⟩ => ⟨S1024x512, .bf16⟩
  | .local _ .vmem, ⟨14, _⟩ => ⟨S1024x4736, .fp8e4m3⟩
  | .local _ .vmem, ⟨15, _⟩ => ⟨S1024x4736, .fp8e4m3⟩
  | .local _ .vmem, ⟨16, _⟩ => ⟨S1x1x1024, .f32⟩
  | .local _ .vmem, ⟨17, _⟩ => ⟨S1x1x1024, .f32⟩
  | .local _ .vmem, ⟨18, _⟩ => ⟨S37x1024x128, .f32⟩
  | .local _ .vmem, ⟨19, _⟩ => ⟨S2x3584x1024, .fp8e4m3⟩
  | .local _ .vmem, ⟨20, _⟩ => ⟨S2x4736x512, .fp8e4m3⟩
  | .local _ .vmem, ⟨21, _⟩ => ⟨S1024x128, .f32⟩
  | _, _ => ⟨S8192x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 17], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_mult1 : BitVec 32 :=
  let c0_i32_21 : BitVec 32 := 0#32
  c0_i32_21
def k0_mult2 : BitVec 32 :=
  let c4736_i32 : BitVec 32 := 4736#32
  c4736_i32
def k0_off1 (i : grid0.Coords) : Fin 2 → Nat :=
  let arg0 : BitVec 32 := BitVec.ofNat 32 (i 0).val
  let c10_i32_22 : BitVec 32 := 10#32
  let v42 : BitVec 32 := Scalar.muli arg0 c10_i32_22
  let c0_i32_23 : BitVec 32 := 0#32
  let v43 : BitVec 32 := Scalar.addi v42 c0_i32_23
  let c2_i32_24 : BitVec 32 := 2#32
  let v44 : BitVec 32 := Scalar.remsi v43 c2_i32_24
  let c0_i32_25 : BitVec 32 := 0#32
  ![v44.toNat, 0]
def k0_off2 (i : grid0.Coords) : Fin 3 → Nat :=
  let arg0 : BitVec 32 := BitVec.ofNat 32 (i 0).val
  let c10_i32_22 : BitVec 32 := 10#32
  let v42 : BitVec 32 := Scalar.muli arg0 c10_i32_22
  let c0_i32_23 : BitVec 32 := 0#32
  let v43 : BitVec 32 := Scalar.addi v42 c0_i32_23
  let c2_i32_24 : BitVec 32 := 2#32
  let v44 : BitVec 32 := Scalar.remsi v43 c2_i32_24
  let c0_i32_26 : BitVec 32 := 0#32
  let c0_i32_27 : BitVec 32 := 0#32
  ![v44.toNat, 0, 0]
def k0_off3 (i : grid0.Coords) : Fin 3 → Nat :=
  let arg0 : BitVec 32 := BitVec.ofNat 32 (i 0).val
  let c1_i32_18 : BitVec 32 := 1#32
  let v38 : BitVec 1 := Scalar.cmpi .sge arg0 c1_i32_18
  let c1_i32_19 : BitVec 32 := 1#32
  let c0_i32_20 : BitVec 32 := 0#32
  let v39 : BitVec 32 := Scalar.select v38 c1_i32_19 c0_i32_20
  let c0_i32_28 : BitVec 32 := 0#32
  let c0_i32_21 : BitVec 32 := 0#32
  let v40 : BitVec 32 := c0_i32_21
  ![v39.toNat, 0, 0]
def k0_off4 (i : grid0.Coords) : Fin 2 → Nat :=
  let arg0 : BitVec 32 := BitVec.ofNat 32 (i 0).val
  let c10_i32_22 : BitVec 32 := 10#32
  let v42 : BitVec 32 := Scalar.muli arg0 c10_i32_22
  let c0_i32_23 : BitVec 32 := 0#32
  let v43 : BitVec 32 := Scalar.addi v42 c0_i32_23
  let c2_i32_24 : BitVec 32 := 2#32
  let v44 : BitVec 32 := Scalar.remsi v43 c2_i32_24
  let c1_i32_29 : BitVec 32 := 1#32
  ![v44.toNat, 1]
def k0_off5 (i : grid0.Coords) : Fin 3 → Nat :=
  let arg0 : BitVec 32 := BitVec.ofNat 32 (i 0).val
  let c10_i32_22 : BitVec 32 := 10#32
  let v42 : BitVec 32 := Scalar.muli arg0 c10_i32_22
  let c0_i32_23 : BitVec 32 := 0#32
  let v43 : BitVec 32 := Scalar.addi v42 c0_i32_23
  let c2_i32_24 : BitVec 32 := 2#32
  let v44 : BitVec 32 := Scalar.remsi v43 c2_i32_24
  let c0_i32_30 : BitVec 32 := 0#32
  let c512_i32 : BitVec 32 := 512#32
  ![v44.toNat, 0, 512]
def k0_off6 (i : grid0.Coords) : Fin 3 → Nat :=
  let arg0 : BitVec 32 := BitVec.ofNat 32 (i 0).val
  let c1_i32_18 : BitVec 32 := 1#32
  let v38 : BitVec 1 := Scalar.cmpi .sge arg0 c1_i32_18
  let c1_i32_19 : BitVec 32 := 1#32
  let c0_i32_20 : BitVec 32 := 0#32
  let v39 : BitVec 32 := Scalar.select v38 c1_i32_19 c0_i32_20
  let c0_i32_31 : BitVec 32 := 0#32
  let c4736_i32 : BitVec 32 := 4736#32
  let v41 : BitVec 32 := c4736_i32
  ![v39.toNat, 0, 4736]
def k0_cond2 (i : grid0.Coords) : BitVec 1 :=
  let arg1 : BitVec 32 := BitVec.ofNat 32 (i 1).val
  let c8_i32 : BitVec 32 := 8#32
  let v5 : BitVec 1 := Scalar.cmpi .slt arg1 c8_i32
  let v6 : BitVec 32 := Scalar.extui v5
  let c0_i32_2 : BitVec 32 := 0#32
  let v7 : BitVec 1 := Scalar.cmpi .ne v6 c0_i32_2
  v7

def k0_mult3 (i : grid0.Coords) : BitVec 32 :=
  let arg1 : BitVec 32 := BitVec.ofNat 32 (i 1).val
  let c1_i32_18 : BitVec 32 := 1#32
  let v38 : BitVec 32 := Scalar.addi arg1 c1_i32_18
  let c512_i32 : BitVec 32 := 512#32
  let v41 : BitVec 32 := Scalar.muli v38 c512_i32
  v41
def k0_mult4 (i : grid0.Coords) : BitVec 32 :=
  let c4736_i32 : BitVec 32 := 4736#32
  let arg1 : BitVec 32 := BitVec.ofNat 32 (i 1).val
  let c1_i32_18 : BitVec 32 := 1#32
  let v38 : BitVec 32 := Scalar.addi arg1 c1_i32_18
  let c512_i32_22 : BitVec 32 := 512#32
  let v43 : BitVec 32 := Scalar.muli v38 c512_i32_22
  let v44 : BitVec 32 := Scalar.addi c4736_i32 v43
  v44
def k0_off7 (i : grid0.Coords) : Fin 2 → Nat :=
  let arg0 : BitVec 32 := BitVec.ofNat 32 (i 0).val
  let c10_i32_23 : BitVec 32 := 10#32
  let v46 : BitVec 32 := Scalar.muli arg0 c10_i32_23
  let arg1 : BitVec 32 := BitVec.ofNat 32 (i 1).val
  let c1_i32_18 : BitVec 32 := 1#32
  let v38 : BitVec 32 := Scalar.addi arg1 c1_i32_18
  let v47 : BitVec 32 := Scalar.addi v46 v38
  let c2_i32_24 : BitVec 32 := 2#32
  let v48 : BitVec 32 := Scalar.remsi v47 c2_i32_24
  let c0_i32_25 : BitVec 32 := 0#32
  ![v48.toNat, 0]
def k0_off8 (i : grid0.Coords) : Fin 3 → Nat :=
  let arg0 : BitVec 32 := BitVec.ofNat 32 (i 0).val
  let c10_i32_23 : BitVec 32 := 10#32
  let v46 : BitVec 32 := Scalar.muli arg0 c10_i32_23
  let arg1 : BitVec 32 := BitVec.ofNat 32 (i 1).val
  let c1_i32_18 : BitVec 32 := 1#32
  let v38 : BitVec 32 := Scalar.addi arg1 c1_i32_18
  let v47 : BitVec 32 := Scalar.addi v46 v38
  let c2_i32_24 : BitVec 32 := 2#32
  let v48 : BitVec 32 := Scalar.remsi v47 c2_i32_24
  let c0_i32_26 : BitVec 32 := 0#32
  let c0_i32_27 : BitVec 32 := 0#32
  ![v48.toNat, 0, 0]
def k0_off9 (i : grid0.Coords) : Fin 3 → Nat :=
  let arg0 : BitVec 32 := BitVec.ofNat 32 (i 0).val
  let c1_i32_19 : BitVec 32 := 1#32
  let v39 : BitVec 1 := Scalar.cmpi .sge arg0 c1_i32_19
  let c1_i32_20 : BitVec 32 := 1#32
  let c0_i32_21 : BitVec 32 := 0#32
  let v40 : BitVec 32 := Scalar.select v39 c1_i32_20 c0_i32_21
  let c0_i32_28 : BitVec 32 := 0#32
  let arg1 : BitVec 32 := BitVec.ofNat 32 (i 1).val
  let c1_i32_18 : BitVec 32 := 1#32
  let v38 : BitVec 32 := Scalar.addi arg1 c1_i32_18
  let c512_i32 : BitVec 32 := 512#32
  let v41 : BitVec 32 := Scalar.muli v38 c512_i32
  let v42 : BitVec 32 := v41
  ![v40.toNat, 0, v42.toNat]
def k0_off10 (i : grid0.Coords) : Fin 2 → Nat :=
  let arg0 : BitVec 32 := BitVec.ofNat 32 (i 0).val
  let c10_i32_23 : BitVec 32 := 10#32
  let v46 : BitVec 32 := Scalar.muli arg0 c10_i32_23
  let arg1 : BitVec 32 := BitVec.ofNat 32 (i 1).val
  let c1_i32_18 : BitVec 32 := 1#32
  let v38 : BitVec 32 := Scalar.addi arg1 c1_i32_18
  let v47 : BitVec 32 := Scalar.addi v46 v38
  let c2_i32_24 : BitVec 32 := 2#32
  let v48 : BitVec 32 := Scalar.remsi v47 c2_i32_24
  let c1_i32_29 : BitVec 32 := 1#32
  ![v48.toNat, 1]
def k0_off11 (i : grid0.Coords) : Fin 3 → Nat :=
  let arg0 : BitVec 32 := BitVec.ofNat 32 (i 0).val
  let c10_i32_23 : BitVec 32 := 10#32
  let v46 : BitVec 32 := Scalar.muli arg0 c10_i32_23
  let arg1 : BitVec 32 := BitVec.ofNat 32 (i 1).val
  let c1_i32_18 : BitVec 32 := 1#32
  let v38 : BitVec 32 := Scalar.addi arg1 c1_i32_18
  let v47 : BitVec 32 := Scalar.addi v46 v38
  let c2_i32_24 : BitVec 32 := 2#32
  let v48 : BitVec 32 := Scalar.remsi v47 c2_i32_24
  let c0_i32_30 : BitVec 32 := 0#32
  let c512_i32_31 : BitVec 32 := 512#32
  ![v48.toNat, 0, 512]
def k0_off12 (i : grid0.Coords) : Fin 3 → Nat :=
  let arg0 : BitVec 32 := BitVec.ofNat 32 (i 0).val
  let c1_i32_19 : BitVec 32 := 1#32
  let v39 : BitVec 1 := Scalar.cmpi .sge arg0 c1_i32_19
  let c1_i32_20 : BitVec 32 := 1#32
  let c0_i32_21 : BitVec 32 := 0#32
  let v40 : BitVec 32 := Scalar.select v39 c1_i32_20 c0_i32_21
  let c0_i32_32 : BitVec 32 := 0#32
  let c4736_i32 : BitVec 32 := 4736#32
  let arg1 : BitVec 32 := BitVec.ofNat 32 (i 1).val
  let c1_i32_18 : BitVec 32 := 1#32
  let v38 : BitVec 32 := Scalar.addi arg1 c1_i32_18
  let c512_i32_22 : BitVec 32 := 512#32
  let v43 : BitVec 32 := Scalar.muli v38 c512_i32_22
  let v44 : BitVec 32 := Scalar.addi c4736_i32 v43
  let v45 : BitVec 32 := v44
  ![v40.toNat, 0, v45.toNat]
def k0_cond3 (i : grid0.Coords) : BitVec 1 :=
  let arg1 : BitVec 32 := BitVec.ofNat 32 (i 1).val
  let c8_i32_3 : BitVec 32 := 8#32
  let v8 : BitVec 1 := Scalar.cmpi .eq arg1 c8_i32_3
  let v9 : BitVec 32 := Scalar.extui v8
  let c0_i32_4 : BitVec 32 := 0#32
  let v10 : BitVec 1 := Scalar.cmpi .ne v9 c0_i32_4
  v10

def k0_off13 (i : grid0.Coords) : Fin 2 → Nat :=
  let arg0 : BitVec 32 := BitVec.ofNat 32 (i 0).val
  let c10_i32_21 : BitVec 32 := 10#32
  let v40 : BitVec 32 := Scalar.muli arg0 c10_i32_21
  let c9_i32_22 : BitVec 32 := 9#32
  let v41 : BitVec 32 := Scalar.addi v40 c9_i32_22
  let c2_i32_23 : BitVec 32 := 2#32
  let v42 : BitVec 32 := Scalar.remsi v41 c2_i32_23
  let c0_i32_24 : BitVec 32 := 0#32
  ![v42.toNat, 0]
def k0_off14 (i : grid0.Coords) : Fin 3 → Nat :=
  let arg0 : BitVec 32 := BitVec.ofNat 32 (i 0).val
  let c10_i32_21 : BitVec 32 := 10#32
  let v40 : BitVec 32 := Scalar.muli arg0 c10_i32_21
  let c9_i32_22 : BitVec 32 := 9#32
  let v41 : BitVec 32 := Scalar.addi v40 c9_i32_22
  let c2_i32_23 : BitVec 32 := 2#32
  let v42 : BitVec 32 := Scalar.remsi v41 c2_i32_23
  let c0_i32_25 : BitVec 32 := 0#32
  let c0_i32_26 : BitVec 32 := 0#32
  ![v42.toNat, 0, 0]
def k0_off15 (i : grid0.Coords) : Fin 3 → Nat :=
  let arg0 : BitVec 32 := BitVec.ofNat 32 (i 0).val
  let c1_i32_18 : BitVec 32 := 1#32
  let v38 : BitVec 1 := Scalar.cmpi .sge arg0 c1_i32_18
  let c1_i32_19 : BitVec 32 := 1#32
  let c0_i32_20 : BitVec 32 := 0#32
  let v39 : BitVec 32 := Scalar.select v38 c1_i32_19 c0_i32_20
  let c0_i32_27 : BitVec 32 := 0#32
  let c4608_i32 : BitVec 32 := 4608#32
  ![v39.toNat, 0, 4608]
def k0_off16 (i : grid0.Coords) : Fin 2 → Nat :=
  let arg0 : BitVec 32 := BitVec.ofNat 32 (i 0).val
  let c10_i32_21 : BitVec 32 := 10#32
  let v40 : BitVec 32 := Scalar.muli arg0 c10_i32_21
  let c9_i32_22 : BitVec 32 := 9#32
  let v41 : BitVec 32 := Scalar.addi v40 c9_i32_22
  let c2_i32_23 : BitVec 32 := 2#32
  let v42 : BitVec 32 := Scalar.remsi v41 c2_i32_23
  let c1_i32_28 : BitVec 32 := 1#32
  ![v42.toNat, 1]
def k0_off17 (i : grid0.Coords) : Fin 3 → Nat :=
  let arg0 : BitVec 32 := BitVec.ofNat 32 (i 0).val
  let c10_i32_21 : BitVec 32 := 10#32
  let v40 : BitVec 32 := Scalar.muli arg0 c10_i32_21
  let c9_i32_22 : BitVec 32 := 9#32
  let v41 : BitVec 32 := Scalar.addi v40 c9_i32_22
  let c2_i32_23 : BitVec 32 := 2#32
  let v42 : BitVec 32 := Scalar.remsi v41 c2_i32_23
  let c0_i32_29 : BitVec 32 := 0#32
  let c512_i32 : BitVec 32 := 512#32
  ![v42.toNat, 0, 512]
def k0_off18 (i : grid0.Coords) : Fin 3 → Nat :=
  let arg0 : BitVec 32 := BitVec.ofNat 32 (i 0).val
  let c1_i32_18 : BitVec 32 := 1#32
  let v38 : BitVec 1 := Scalar.cmpi .sge arg0 c1_i32_18
  let c1_i32_19 : BitVec 32 := 1#32
  let c0_i32_20 : BitVec 32 := 0#32
  let v39 : BitVec 32 := Scalar.select v38 c1_i32_19 c0_i32_20
  let c0_i32_30 : BitVec 32 := 0#32
  let c9344_i32 : BitVec 32 := 9344#32
  ![v39.toNat, 0, 9344]
def k0_cond4 (i : grid0.Coords) : BitVec 1 :=
  let arg1 : BitVec 32 := BitVec.ofNat 32 (i 1).val
  let c9_i32 : BitVec 32 := 9#32
  let v11 : BitVec 1 := Scalar.cmpi .sge arg1 c9_i32
  let c16_i32 : BitVec 32 := 16#32
  let v12 : BitVec 1 := Scalar.cmpi .slt arg1 c16_i32
  let v13 : BitVec 1 := Scalar.andi v11 v12
  let v14 : BitVec 32 := Scalar.extui v13
  let c0_i32_5 : BitVec 32 := 0#32
  let v15 : BitVec 1 := Scalar.cmpi .ne v14 c0_i32_5
  v15

def k0_mult5 (i : grid0.Coords) : BitVec 32 :=
  let arg1 : BitVec 32 := BitVec.ofNat 32 (i 1).val
  let c9_i32_18 : BitVec 32 := 9#32
  let v38 : BitVec 32 := Scalar.subi arg1 c9_i32_18
  let c512_i32 : BitVec 32 := 512#32
  let v44 : BitVec 32 := Scalar.muli v38 c512_i32
  v44
def k0_off19 (i : grid0.Coords) : Fin 1 → Nat :=
  let arg0 : BitVec 32 := BitVec.ofNat 32 (i 0).val
  let c7_i32 : BitVec 32 := 7#32
  let v41 : BitVec 32 := Scalar.muli arg0 c7_i32
  let arg1 : BitVec 32 := BitVec.ofNat 32 (i 1).val
  let c9_i32_18 : BitVec 32 := 9#32
  let v38 : BitVec 32 := Scalar.subi arg1 c9_i32_18
  let v42 : BitVec 32 := Scalar.addi v41 v38
  let c2_i32_22 : BitVec 32 := 2#32
  let v43 : BitVec 32 := Scalar.remsi v42 c2_i32_22
  ![v43.toNat]
def k0_off20 (i : grid0.Coords) : Fin 3 → Nat :=
  let arg0 : BitVec 32 := BitVec.ofNat 32 (i 0).val
  let c7_i32 : BitVec 32 := 7#32
  let v41 : BitVec 32 := Scalar.muli arg0 c7_i32
  let arg1 : BitVec 32 := BitVec.ofNat 32 (i 1).val
  let c9_i32_18 : BitVec 32 := 9#32
  let v38 : BitVec 32 := Scalar.subi arg1 c9_i32_18
  let v42 : BitVec 32 := Scalar.addi v41 v38
  let c2_i32_22 : BitVec 32 := 2#32
  let v43 : BitVec 32 := Scalar.remsi v42 c2_i32_22
  let c0_i32_23 : BitVec 32 := 0#32
  let c0_i32_24 : BitVec 32 := 0#32
  ![v43.toNat, 0, 0]
def k0_off21 (i : grid0.Coords) : Fin 3 → Nat :=
  let arg0 : BitVec 32 := BitVec.ofNat 32 (i 0).val
  let c1_i32_19 : BitVec 32 := 1#32
  let v39 : BitVec 1 := Scalar.cmpi .sge arg0 c1_i32_19
  let c1_i32_20 : BitVec 32 := 1#32
  let c0_i32_21 : BitVec 32 := 0#32
  let v40 : BitVec 32 := Scalar.select v39 c1_i32_20 c0_i32_21
  let c0_i32_25 : BitVec 32 := 0#32
  let arg1 : BitVec 32 := BitVec.ofNat 32 (i 1).val
  let c9_i32_18 : BitVec 32 := 9#32
  let v38 : BitVec 32 := Scalar.subi arg1 c9_i32_18
  let c512_i32 : BitVec 32 := 512#32
  let v44 : BitVec 32 := Scalar.muli v38 c512_i32
  let v45 : BitVec 32 := v44
  ![v40.toNat, 0, v45.toNat]
def k0_cond5 (i : grid0.Coords) : BitVec 1 :=
  let arg1 : BitVec 32 := BitVec.ofNat 32 (i 1).val
  let c16_i32_6 : BitVec 32 := 16#32
  let v16 : BitVec 1 := Scalar.cmpi .eq arg1 c16_i32_6
  let arg0 : BitVec 32 := BitVec.ofNat 32 (i 0).val
  let c1_i32 : BitVec 32 := 1#32
  let v17 : BitVec 32 := Scalar.addi arg0 c1_i32
  let c8_i32_7 : BitVec 32 := 8#32
  let v18 : BitVec 1 := Scalar.cmpi .slt v17 c8_i32_7
  let v19 : BitVec 1 := Scalar.andi v16 v18
  let v20 : BitVec 32 := Scalar.extui v19
  let c0_i32_8 : BitVec 32 := 0#32
  let v21 : BitVec 1 := Scalar.cmpi .ne v20 c0_i32_8
  v21

def k0_mult6 : BitVec 32 :=
  let c0_i32_22 : BitVec 32 := 0#32
  c0_i32_22
def k0_mult7 : BitVec 32 :=
  let c4736_i32 : BitVec 32 := 4736#32
  c4736_i32
def k0_off22 (i : grid0.Coords) : Fin 2 → Nat :=
  let arg0 : BitVec 32 := BitVec.ofNat 32 (i 0).val
  let c1_i32_18 : BitVec 32 := 1#32
  let v38 : BitVec 32 := Scalar.addi arg0 c1_i32_18
  let c10_i32_23 : BitVec 32 := 10#32
  let v43 : BitVec 32 := Scalar.muli v38 c10_i32_23
  let c0_i32_24 : BitVec 32 := 0#32
  let v44 : BitVec 32 := Scalar.addi v43 c0_i32_24
  let c2_i32_25 : BitVec 32 := 2#32
  let v45 : BitVec 32 := Scalar.remsi v44 c2_i32_25
  let c0_i32_26 : BitVec 32 := 0#32
  ![v45.toNat, 0]
def k0_off23 (i : grid0.Coords) : Fin 3 → Nat :=
  let arg0 : BitVec 32 := BitVec.ofNat 32 (i 0).val
  let c1_i32_18 : BitVec 32 := 1#32
  let v38 : BitVec 32 := Scalar.addi arg0 c1_i32_18
  let c10_i32_23 : BitVec 32 := 10#32
  let v43 : BitVec 32 := Scalar.muli v38 c10_i32_23
  let c0_i32_24 : BitVec 32 := 0#32
  let v44 : BitVec 32 := Scalar.addi v43 c0_i32_24
  let c2_i32_25 : BitVec 32 := 2#32
  let v45 : BitVec 32 := Scalar.remsi v44 c2_i32_25
  let c0_i32_27 : BitVec 32 := 0#32
  let c0_i32_28 : BitVec 32 := 0#32
  ![v45.toNat, 0, 0]
def k0_off24 (i : grid0.Coords) : Fin 3 → Nat :=
  let arg0 : BitVec 32 := BitVec.ofNat 32 (i 0).val
  let c1_i32_18 : BitVec 32 := 1#32
  let v38 : BitVec 32 := Scalar.addi arg0 c1_i32_18
  let c1_i32_19 : BitVec 32 := 1#32
  let v39 : BitVec 1 := Scalar.cmpi .sge v38 c1_i32_19
  let c1_i32_20 : BitVec 32 := 1#32
  let c0_i32_21 : BitVec 32 := 0#32
  let v40 : BitVec 32 := Scalar.select v39 c1_i32_20 c0_i32_21
  let c0_i32_29 : BitVec 32 := 0#32
  let c0_i32_22 : BitVec 32 := 0#32
  let v41 : BitVec 32 := c0_i32_22
  ![v40.toNat, 0, 0]
def k0_off25 (i : grid0.Coords) : Fin 2 → Nat :=
  let arg0 : BitVec 32 := BitVec.ofNat 32 (i 0).val
  let c1_i32_18 : BitVec 32 := 1#32
  let v38 : BitVec 32 := Scalar.addi arg0 c1_i32_18
  let c10_i32_23 : BitVec 32 := 10#32
  let v43 : BitVec 32 := Scalar.muli v38 c10_i32_23
  let c0_i32_24 : BitVec 32 := 0#32
  let v44 : BitVec 32 := Scalar.addi v43 c0_i32_24
  let c2_i32_25 : BitVec 32 := 2#32
  let v45 : BitVec 32 := Scalar.remsi v44 c2_i32_25
  let c1_i32_30 : BitVec 32 := 1#32
  ![v45.toNat, 1]
def k0_off26 (i : grid0.Coords) : Fin 3 → Nat :=
  let arg0 : BitVec 32 := BitVec.ofNat 32 (i 0).val
  let c1_i32_18 : BitVec 32 := 1#32
  let v38 : BitVec 32 := Scalar.addi arg0 c1_i32_18
  let c10_i32_23 : BitVec 32 := 10#32
  let v43 : BitVec 32 := Scalar.muli v38 c10_i32_23
  let c0_i32_24 : BitVec 32 := 0#32
  let v44 : BitVec 32 := Scalar.addi v43 c0_i32_24
  let c2_i32_25 : BitVec 32 := 2#32
  let v45 : BitVec 32 := Scalar.remsi v44 c2_i32_25
  let c0_i32_31 : BitVec 32 := 0#32
  let c512_i32 : BitVec 32 := 512#32
  ![v45.toNat, 0, 512]
def k0_off27 (i : grid0.Coords) : Fin 3 → Nat :=
  let arg0 : BitVec 32 := BitVec.ofNat 32 (i 0).val
  let c1_i32_18 : BitVec 32 := 1#32
  let v38 : BitVec 32 := Scalar.addi arg0 c1_i32_18
  let c1_i32_19 : BitVec 32 := 1#32
  let v39 : BitVec 1 := Scalar.cmpi .sge v38 c1_i32_19
  let c1_i32_20 : BitVec 32 := 1#32
  let c0_i32_21 : BitVec 32 := 0#32
  let v40 : BitVec 32 := Scalar.select v39 c1_i32_20 c0_i32_21
  let c0_i32_32 : BitVec 32 := 0#32
  let c4736_i32 : BitVec 32 := 4736#32
  let v42 : BitVec 32 := c4736_i32
  ![v40.toNat, 0, 4736]
def k0_cond7 (i : grid0.Coords) : BitVec 1 :=
  let arg1 : BitVec 32 := BitVec.ofNat 32 (i 1).val
  let c9_i32_12 : BitVec 32 := 9#32
  let v29 : BitVec 1 := Scalar.cmpi .slt arg1 c9_i32_12
  let v30 : BitVec 32 := Scalar.extui v29
  let c0_i32_13 : BitVec 32 := 0#32
  let v31 : BitVec 1 := Scalar.cmpi .ne v30 c0_i32_13
  v31

def k0_mult8 (i : grid0.Coords) : BitVec 32 :=
  let arg1 : BitVec 32 := BitVec.ofNat 32 (i 1).val
  let c512_i32 : BitVec 32 := 512#32
  let v40 : BitVec 32 := Scalar.muli arg1 c512_i32
  v40
def k0_mult9 (i : grid0.Coords) : BitVec 32 :=
  let c4736_i32 : BitVec 32 := 4736#32
  let arg1 : BitVec 32 := BitVec.ofNat 32 (i 1).val
  let c512_i32_21 : BitVec 32 := 512#32
  let v42 : BitVec 32 := Scalar.muli arg1 c512_i32_21
  let v43 : BitVec 32 := Scalar.addi c4736_i32 v42
  v43
def k0_off28 (i : grid0.Coords) : Fin 2 → Nat :=
  let arg0 : BitVec 32 := BitVec.ofNat 32 (i 0).val
  let c10_i32_22 : BitVec 32 := 10#32
  let v45 : BitVec 32 := Scalar.muli arg0 c10_i32_22
  let arg1 : BitVec 32 := BitVec.ofNat 32 (i 1).val
  let v46 : BitVec 32 := Scalar.addi v45 arg1
  let c2_i32_23 : BitVec 32 := 2#32
  let v47 : BitVec 32 := Scalar.remsi v46 c2_i32_23
  let c0_i32_24 : BitVec 32 := 0#32
  ![v47.toNat, 0]
def k0_off29 (i : grid0.Coords) : Fin 3 → Nat :=
  let arg0 : BitVec 32 := BitVec.ofNat 32 (i 0).val
  let c10_i32_22 : BitVec 32 := 10#32
  let v45 : BitVec 32 := Scalar.muli arg0 c10_i32_22
  let arg1 : BitVec 32 := BitVec.ofNat 32 (i 1).val
  let v46 : BitVec 32 := Scalar.addi v45 arg1
  let c2_i32_23 : BitVec 32 := 2#32
  let v47 : BitVec 32 := Scalar.remsi v46 c2_i32_23
  let c0_i32_25 : BitVec 32 := 0#32
  let c0_i32_26 : BitVec 32 := 0#32
  ![v47.toNat, 0, 0]
def k0_off30 (i : grid0.Coords) : Fin 3 → Nat :=
  let arg0 : BitVec 32 := BitVec.ofNat 32 (i 0).val
  let c1_i32_18 : BitVec 32 := 1#32
  let v38 : BitVec 1 := Scalar.cmpi .sge arg0 c1_i32_18
  let c1_i32_19 : BitVec 32 := 1#32
  let c0_i32_20 : BitVec 32 := 0#32
  let v39 : BitVec 32 := Scalar.select v38 c1_i32_19 c0_i32_20
  let c0_i32_27 : BitVec 32 := 0#32
  let arg1 : BitVec 32 := BitVec.ofNat 32 (i 1).val
  let c512_i32 : BitVec 32 := 512#32
  let v40 : BitVec 32 := Scalar.muli arg1 c512_i32
  let v41 : BitVec 32 := v40
  ![v39.toNat, 0, v41.toNat]
def k0_off31 (i : grid0.Coords) : Fin 2 → Nat :=
  let arg0 : BitVec 32 := BitVec.ofNat 32 (i 0).val
  let c10_i32_22 : BitVec 32 := 10#32
  let v45 : BitVec 32 := Scalar.muli arg0 c10_i32_22
  let arg1 : BitVec 32 := BitVec.ofNat 32 (i 1).val
  let v46 : BitVec 32 := Scalar.addi v45 arg1
  let c2_i32_23 : BitVec 32 := 2#32
  let v47 : BitVec 32 := Scalar.remsi v46 c2_i32_23
  let c1_i32_28 : BitVec 32 := 1#32
  ![v47.toNat, 1]
def k0_off32 (i : grid0.Coords) : Fin 3 → Nat :=
  let arg0 : BitVec 32 := BitVec.ofNat 32 (i 0).val
  let c10_i32_22 : BitVec 32 := 10#32
  let v45 : BitVec 32 := Scalar.muli arg0 c10_i32_22
  let arg1 : BitVec 32 := BitVec.ofNat 32 (i 1).val
  let v46 : BitVec 32 := Scalar.addi v45 arg1
  let c2_i32_23 : BitVec 32 := 2#32
  let v47 : BitVec 32 := Scalar.remsi v46 c2_i32_23
  let c0_i32_29 : BitVec 32 := 0#32
  let c512_i32_30 : BitVec 32 := 512#32
  ![v47.toNat, 0, 512]
def k0_off33 (i : grid0.Coords) : Fin 3 → Nat :=
  let arg0 : BitVec 32 := BitVec.ofNat 32 (i 0).val
  let c1_i32_18 : BitVec 32 := 1#32
  let v38 : BitVec 1 := Scalar.cmpi .sge arg0 c1_i32_18
  let c1_i32_19 : BitVec 32 := 1#32
  let c0_i32_20 : BitVec 32 := 0#32
  let v39 : BitVec 32 := Scalar.select v38 c1_i32_19 c0_i32_20
  let c0_i32_31 : BitVec 32 := 0#32
  let c4736_i32 : BitVec 32 := 4736#32
  let arg1 : BitVec 32 := BitVec.ofNat 32 (i 1).val
  let c512_i32_21 : BitVec 32 := 512#32
  let v42 : BitVec 32 := Scalar.muli arg1 c512_i32_21
  let v43 : BitVec 32 := Scalar.addi c4736_i32 v42
  let v44 : BitVec 32 := v43
  ![v39.toNat, 0, v44.toNat]
def k0_off34 (i : grid0.Coords) : Fin 3 → Nat :=
  let arg0 : BitVec 32 := BitVec.ofNat 32 (i 0).val
  let c10_i32 : BitVec 32 := 10#32
  let v26 : BitVec 32 := Scalar.muli arg0 c10_i32
  let arg1 : BitVec 32 := BitVec.ofNat 32 (i 1).val
  let v27 : BitVec 32 := Scalar.addi v26 arg1
  let c2_i32 : BitVec 32 := 2#32
  let v28 : BitVec 32 := Scalar.remsi v27 c2_i32
  let v63 : Index := Scalar.indexCast v28
  let c0_35 : Index := 0#32
  let c0_36 : Index := 0#32
  ![v63.toNat, 0, 0]
def k0_off35 (i : grid0.Coords) : Fin 3 → Nat :=
  let arg0 : BitVec 32 := BitVec.ofNat 32 (i 0).val
  let c10_i32 : BitVec 32 := 10#32
  let v26 : BitVec 32 := Scalar.muli arg0 c10_i32
  let arg1 : BitVec 32 := BitVec.ofNat 32 (i 1).val
  let v27 : BitVec 32 := Scalar.addi v26 arg1
  let c2_i32 : BitVec 32 := 2#32
  let v28 : BitVec 32 := Scalar.remsi v27 c2_i32
  let v66 : Index := Scalar.indexCast v28
  let c0_37 : Index := 0#32
  let c512 : Index := 512#32
  ![v66.toNat, 0, 512]
def k0_off36 (i : grid0.Coords) (c0_i32_32 : BitVec 32) : Fin 3 → Nat :=
  let arg1 : BitVec 32 := BitVec.ofNat 32 (i 1).val
  let c4_i32 : BitVec 32 := 4#32
  let v60 : BitVec 32 := Scalar.muli arg1 c4_i32
  let v61 : BitVec 32 := Scalar.addi v60 c0_i32_32
  let v89 : Index := Scalar.indexCast v61
  let c0_44 : Index := 0#32
  let c0_45 : Index := 0#32
  ![v89.toNat, 0, 0]
def k0_off37 (i : grid0.Coords) (c0_i32_32 : BitVec 32) : Fin 3 → Nat :=
  let arg1 : BitVec 32 := BitVec.ofNat 32 (i 1).val
  let c4_i32 : BitVec 32 := 4#32
  let v60 : BitVec 32 := Scalar.muli arg1 c4_i32
  let v61 : BitVec 32 := Scalar.addi v60 c0_i32_32
  let c1_i32_46 : BitVec 32 := 1#32
  let v94 : BitVec 32 := Scalar.addi v61 c1_i32_46
  let v95 : Index := Scalar.indexCast v94
  let c0_47 : Index := 0#32
  let c0_48 : Index := 0#32
  ![v95.toNat, 0, 0]
def k0_off38 (i : grid0.Coords) : Fin 3 → Nat :=
  let arg0 : BitVec 32 := BitVec.ofNat 32 (i 0).val
  let c10_i32 : BitVec 32 := 10#32
  let v26 : BitVec 32 := Scalar.muli arg0 c10_i32
  let arg1 : BitVec 32 := BitVec.ofNat 32 (i 1).val
  let v27 : BitVec 32 := Scalar.addi v26 arg1
  let c2_i32 : BitVec 32 := 2#32
  let v28 : BitVec 32 := Scalar.remsi v27 c2_i32
  let v112 : Index := Scalar.indexCast v28
  let c0_57 : Index := 0#32
  let c256 : Index := 256#32
  ![v112.toNat, 0, 256]
def k0_off39 (i : grid0.Coords) : Fin 3 → Nat :=
  let arg0 : BitVec 32 := BitVec.ofNat 32 (i 0).val
  let c10_i32 : BitVec 32 := 10#32
  let v26 : BitVec 32 := Scalar.muli arg0 c10_i32
  let arg1 : BitVec 32 := BitVec.ofNat 32 (i 1).val
  let v27 : BitVec 32 := Scalar.addi v26 arg1
  let c2_i32 : BitVec 32 := 2#32
  let v28 : BitVec 32 := Scalar.remsi v27 c2_i32
  let v115 : Index := Scalar.indexCast v28
  let c0_58 : Index := 0#32
  let c768 : Index := 768#32
  ![v115.toNat, 0, 768]
def k0_cond8 (i : grid0.Coords) : BitVec 1 :=
  let arg1 : BitVec 32 := BitVec.ofNat 32 (i 1).val
  let c9_i32_14 : BitVec 32 := 9#32
  let v32 : BitVec 1 := Scalar.cmpi .eq arg1 c9_i32_14
  let v33 : BitVec 32 := Scalar.extui v32
  let c0_i32_15 : BitVec 32 := 0#32
  let v34 : BitVec 1 := Scalar.cmpi .ne v33 c0_i32_15
  v34

def k0_off40 (i : grid0.Coords) : Fin 2 → Nat :=
  let arg0 : BitVec 32 := BitVec.ofNat 32 (i 0).val
  let c10_i32_21 : BitVec 32 := 10#32
  let v40 : BitVec 32 := Scalar.muli arg0 c10_i32_21
  let c9_i32_22 : BitVec 32 := 9#32
  let v41 : BitVec 32 := Scalar.addi v40 c9_i32_22
  let c2_i32_23 : BitVec 32 := 2#32
  let v42 : BitVec 32 := Scalar.remsi v41 c2_i32_23
  let c0_i32_24 : BitVec 32 := 0#32
  ![v42.toNat, 0]
def k0_off41 (i : grid0.Coords) : Fin 3 → Nat :=
  let arg0 : BitVec 32 := BitVec.ofNat 32 (i 0).val
  let c10_i32_21 : BitVec 32 := 10#32
  let v40 : BitVec 32 := Scalar.muli arg0 c10_i32_21
  let c9_i32_22 : BitVec 32 := 9#32
  let v41 : BitVec 32 := Scalar.addi v40 c9_i32_22
  let c2_i32_23 : BitVec 32 := 2#32
  let v42 : BitVec 32 := Scalar.remsi v41 c2_i32_23
  let c0_i32_25 : BitVec 32 := 0#32
  let c0_i32_26 : BitVec 32 := 0#32
  ![v42.toNat, 0, 0]
def k0_off42 (i : grid0.Coords) : Fin 3 → Nat :=
  let arg0 : BitVec 32 := BitVec.ofNat 32 (i 0).val
  let c1_i32_18 : BitVec 32 := 1#32
  let v38 : BitVec 1 := Scalar.cmpi .sge arg0 c1_i32_18
  let c1_i32_19 : BitVec 32 := 1#32
  let c0_i32_20 : BitVec 32 := 0#32
  let v39 : BitVec 32 := Scalar.select v38 c1_i32_19 c0_i32_20
  let c0_i32_27 : BitVec 32 := 0#32
  let c4608_i32 : BitVec 32 := 4608#32
  ![v39.toNat, 0, 4608]
def k0_off43 (i : grid0.Coords) : Fin 2 → Nat :=
  let arg0 : BitVec 32 := BitVec.ofNat 32 (i 0).val
  let c10_i32_21 : BitVec 32 := 10#32
  let v40 : BitVec 32 := Scalar.muli arg0 c10_i32_21
  let c9_i32_22 : BitVec 32 := 9#32
  let v41 : BitVec 32 := Scalar.addi v40 c9_i32_22
  let c2_i32_23 : BitVec 32 := 2#32
  let v42 : BitVec 32 := Scalar.remsi v41 c2_i32_23
  let c1_i32_28 : BitVec 32 := 1#32
  ![v42.toNat, 1]
def k0_off44 (i : grid0.Coords) : Fin 3 → Nat :=
  let arg0 : BitVec 32 := BitVec.ofNat 32 (i 0).val
  let c10_i32_21 : BitVec 32 := 10#32
  let v40 : BitVec 32 := Scalar.muli arg0 c10_i32_21
  let c9_i32_22 : BitVec 32 := 9#32
  let v41 : BitVec 32 := Scalar.addi v40 c9_i32_22
  let c2_i32_23 : BitVec 32 := 2#32
  let v42 : BitVec 32 := Scalar.remsi v41 c2_i32_23
  let c0_i32_29 : BitVec 32 := 0#32
  let c512_i32 : BitVec 32 := 512#32
  ![v42.toNat, 0, 512]
def k0_off45 (i : grid0.Coords) : Fin 3 → Nat :=
  let arg0 : BitVec 32 := BitVec.ofNat 32 (i 0).val
  let c1_i32_18 : BitVec 32 := 1#32
  let v38 : BitVec 1 := Scalar.cmpi .sge arg0 c1_i32_18
  let c1_i32_19 : BitVec 32 := 1#32
  let c0_i32_20 : BitVec 32 := 0#32
  let v39 : BitVec 32 := Scalar.select v38 c1_i32_19 c0_i32_20
  let c0_i32_30 : BitVec 32 := 0#32
  let c9344_i32 : BitVec 32 := 9344#32
  ![v39.toNat, 0, 9344]
def k0_off46 (i : grid0.Coords) : Fin 3 → Nat :=
  let arg0 : BitVec 32 := BitVec.ofNat 32 (i 0).val
  let c10_i32 : BitVec 32 := 10#32
  let v26 : BitVec 32 := Scalar.muli arg0 c10_i32
  let arg1 : BitVec 32 := BitVec.ofNat 32 (i 1).val
  let v27 : BitVec 32 := Scalar.addi v26 arg1
  let c2_i32 : BitVec 32 := 2#32
  let v28 : BitVec 32 := Scalar.remsi v27 c2_i32
  let v56 : Index := Scalar.indexCast v28
  let c0_33 : Index := 0#32
  let c0_34 : Index := 0#32
  ![v56.toNat, 0, 0]
def k0_off47 (i : grid0.Coords) : Fin 3 → Nat :=
  let arg0 : BitVec 32 := BitVec.ofNat 32 (i 0).val
  let c10_i32 : BitVec 32 := 10#32
  let v26 : BitVec 32 := Scalar.muli arg0 c10_i32
  let arg1 : BitVec 32 := BitVec.ofNat 32 (i 1).val
  let v27 : BitVec 32 := Scalar.addi v26 arg1
  let c2_i32 : BitVec 32 := 2#32
  let v28 : BitVec 32 := Scalar.remsi v27 c2_i32
  let v59 : Index := Scalar.indexCast v28
  let c0_35 : Index := 0#32
  let c512 : Index := 512#32
  ![v59.toNat, 0, 512]
def k0_cond9 (i : grid0.Coords) : BitVec 1 :=
  let arg1 : BitVec 32 := BitVec.ofNat 32 (i 1).val
  let c9_i32_16 : BitVec 32 := 9#32
  let v35 : BitVec 1 := Scalar.cmpi .sgt arg1 c9_i32_16
  let v36 : BitVec 32 := Scalar.extui v35
  let c0_i32_17 : BitVec 32 := 0#32
  let v37 : BitVec 1 := Scalar.cmpi .ne v36 c0_i32_17
  v37

def k0_mult10 (i : grid0.Coords) : BitVec 32 :=
  let arg1 : BitVec 32 := BitVec.ofNat 32 (i 1).val
  let c9_i32_18 : BitVec 32 := 9#32
  let v38 : BitVec 32 := Scalar.subi arg1 c9_i32_18
  let c1_i32_19 : BitVec 32 := 1#32
  let v39 : BitVec 32 := Scalar.subi v38 c1_i32_19
  let c512_i32 : BitVec 32 := 512#32
  let v45 : BitVec 32 := Scalar.muli v39 c512_i32
  v45
def k0_off48 (i : grid0.Coords) : Fin 1 → Nat :=
  let arg0 : BitVec 32 := BitVec.ofNat 32 (i 0).val
  let c7_i32 : BitVec 32 := 7#32
  let v42 : BitVec 32 := Scalar.muli arg0 c7_i32
  let arg1 : BitVec 32 := BitVec.ofNat 32 (i 1).val
  let c9_i32_18 : BitVec 32 := 9#32
  let v38 : BitVec 32 := Scalar.subi arg1 c9_i32_18
  let c1_i32_19 : BitVec 32 := 1#32
  let v39 : BitVec 32 := Scalar.subi v38 c1_i32_19
  let v43 : BitVec 32 := Scalar.addi v42 v39
  let c2_i32_23 : BitVec 32 := 2#32
  let v44 : BitVec 32 := Scalar.remsi v43 c2_i32_23
  ![v44.toNat]
def k0_off49 (i : grid0.Coords) : Fin 3 → Nat :=
  let arg0 : BitVec 32 := BitVec.ofNat 32 (i 0).val
  let c7_i32 : BitVec 32 := 7#32
  let v42 : BitVec 32 := Scalar.muli arg0 c7_i32
  let arg1 : BitVec 32 := BitVec.ofNat 32 (i 1).val
  let c9_i32_18 : BitVec 32 := 9#32
  let v38 : BitVec 32 := Scalar.subi arg1 c9_i32_18
  let c1_i32_19 : BitVec 32 := 1#32
  let v39 : BitVec 32 := Scalar.subi v38 c1_i32_19
  let v43 : BitVec 32 := Scalar.addi v42 v39
  let c2_i32_23 : BitVec 32 := 2#32
  let v44 : BitVec 32 := Scalar.remsi v43 c2_i32_23
  let c0_i32_24 : BitVec 32 := 0#32
  let c0_i32_25 : BitVec 32 := 0#32
  ![v44.toNat, 0, 0]
def k0_off50 (i : grid0.Coords) : Fin 3 → Nat :=
  let arg0 : BitVec 32 := BitVec.ofNat 32 (i 0).val
  let c1_i32_20 : BitVec 32 := 1#32
  let v40 : BitVec 1 := Scalar.cmpi .sge arg0 c1_i32_20
  let c1_i32_21 : BitVec 32 := 1#32
  let c0_i32_22 : BitVec 32 := 0#32
  let v41 : BitVec 32 := Scalar.select v40 c1_i32_21 c0_i32_22
  let c0_i32_26 : BitVec 32 := 0#32
  let arg1 : BitVec 32 := BitVec.ofNat 32 (i 1).val
  let c9_i32_18 : BitVec 32 := 9#32
  let v38 : BitVec 32 := Scalar.subi arg1 c9_i32_18
  let c1_i32_19 : BitVec 32 := 1#32
  let v39 : BitVec 32 := Scalar.subi v38 c1_i32_19
  let c512_i32 : BitVec 32 := 512#32
  let v45 : BitVec 32 := Scalar.muli v39 c512_i32
  let v46 : BitVec 32 := v45
  ![v41.toNat, 0, v46.toNat]
def k0_off51 (i : grid0.Coords) : Fin 3 → Nat :=
  let arg0 : BitVec 32 := BitVec.ofNat 32 (i 0).val
  let c7_i32_27 : BitVec 32 := 7#32
  let v53 : BitVec 32 := Scalar.muli arg0 c7_i32_27
  let arg1 : BitVec 32 := BitVec.ofNat 32 (i 1).val
  let c9_i32_18 : BitVec 32 := 9#32
  let v38 : BitVec 32 := Scalar.subi arg1 c9_i32_18
  let c1_i32_19 : BitVec 32 := 1#32
  let v39 : BitVec 32 := Scalar.subi v38 c1_i32_19
  let v54 : BitVec 32 := Scalar.addi v53 v39
  let c2_i32_28 : BitVec 32 := 2#32
  let v55 : BitVec 32 := Scalar.remsi v54 c2_i32_28
  let v58 : Index := Scalar.indexCast v55
  let c0_31 : Index := 0#32
  let c0_32 : Index := 0#32
  ![v58.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg0 c1_i32
  let c1_i32_0 : BitVec 32 := 1#32
  let c0_i32 : BitVec 32 := 0#32
  let v1 : BitVec 32 := Scalar.select v0 c1_i32_0 c0_i32
  let c9_i32 : BitVec 32 := 9#32
  let v2 : BitVec 32 := Scalar.minsi arg1 c9_i32
  let c0_i32_1 : BitVec 32 := 0#32
  let c0_i32_2 : BitVec 32 := 0#32
  ![v1.toNat, c0_i32_1.toNat, v2.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg0 c1_i32
  let c1_i32_0 : BitVec 32 := 1#32
  let c0_i32 : BitVec 32 := 0#32
  let v1 : BitVec 32 := Scalar.select v0 c1_i32_0 c0_i32
  let c9_i32 : BitVec 32 := 9#32
  let v2 : BitVec 32 := Scalar.minsi arg1 c9_i32
  let c0_i32_1 : BitVec 32 := 0#32
  let c0_i32_2 : BitVec 32 := 0#32
  ![v1.toNat, c0_i32_1.toNat, v2.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg0 c1_i32
  let c1_i32_0 : BitVec 32 := 1#32
  let c0_i32 : BitVec 32 := 0#32
  let v1 : BitVec 32 := Scalar.select v0 c1_i32_0 c0_i32
  let c9_i32 : BitVec 32 := 9#32
  let v2 : BitVec 32 := Scalar.subi arg1 c9_i32
  let c1_i32_1 : BitVec 32 := 1#32
  let v3 : BitVec 32 := Scalar.subi v2 c1_i32_1
  let c0_i32_2 : BitVec 32 := 0#32
  let v4 : BitVec 32 := Scalar.maxsi v3 c0_i32_2
  let c0_i32_3 : BitVec 32 := 0#32
  let c0_i32_4 : BitVec 32 := 0#32
  ![v1.toNat, c0_i32_3.toNat, v4.toNat]

def cc0_transform_5 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.subi arg1 c9_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![arg0.toNat, v2.toNat]

def cc0_transform_8 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.subi arg1 c9_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![arg0.toNat, v2.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x3584 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x4736 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S8192x3584 : Shape := ⟨2, ![8192, 3584]⟩
abbrev S8192x128 : Shape := ⟨2, ![8192, 128]⟩
abbrev S2x3584x9472 : Shape := ⟨3, ![2, 3584, 9472]⟩
abbrev S2x9472 : Shape := ⟨2, ![2, 9472]⟩
abbrev S2x4736x3584 : Shape := ⟨3, ![2, 4736, 3584]⟩
abbrev S2x3584 : Shape := ⟨2, ![2, 3584]⟩
abbrev S2x1x9472 : Shape := ⟨3, ![2, 1, 9472]⟩
abbrev S2x1x3584 : Shape := ⟨3, ![2, 1, 3584]⟩
abbrev S8192x4736 : Shape := ⟨2, ![8192, 4736]⟩
abbrev S8x1x1024 : Shape := ⟨3, ![8, 1, 1024]⟩
abbrev S8192x1 : Shape := ⟨2, ![8192, 1]⟩
abbrev S1024x3584 : Shape := ⟨2, ![1024, 3584]⟩
abbrev S1x3584x9472 : Shape := ⟨3, ![1, 3584, 9472]⟩
abbrev S3584x9472 : Shape := ⟨2, ![3584, 9472]⟩
abbrev S1024x9472 : Shape := ⟨2, ![1024, 9472]⟩
abbrev S7168x3584 : Shape := ⟨2, ![7168, 3584]⟩
abbrev S7168x9472 : Shape := ⟨2, ![7168, 9472]⟩
abbrev S1024x1 : Shape := ⟨2, ![1024, 1]⟩
abbrev S1x1x9472 : Shape := ⟨3, ![1, 1, 9472]⟩
abbrev S1x9472 : Shape := ⟨2, ![1, 9472]⟩
abbrev S7168x1 : Shape := ⟨2, ![7168, 1]⟩
abbrev S8192x9472 : Shape := ⟨2, ![8192, 9472]⟩
abbrev S8192 : Shape := ⟨1, ![8192]⟩
abbrev S1024x4736 : Shape := ⟨2, ![1024, 4736]⟩
abbrev S1x4736x3584 : Shape := ⟨3, ![1, 4736, 3584]⟩
abbrev S4736x3584 : Shape := ⟨2, ![4736, 3584]⟩
abbrev S7168x4736 : Shape := ⟨2, ![7168, 4736]⟩
abbrev S1x1x3584 : Shape := ⟨3, ![1, 1, 3584]⟩
abbrev S1x3584 : Shape := ⟨2, ![1, 3584]⟩

abbrev nBuf : Space → Nat
  | .hbm => 12
  | .vmem => 10
  | .smem => 0
  | _ => 0

abbrev bufTy : (tb : Table) → Fin (tcTables nBuf tb) → BufTy
  | .hbm, ⟨0, _⟩ => ⟨S8192x3584, .fp8e4m3⟩
  | .hbm, ⟨1, _⟩ => ⟨S8192x128, .f32⟩
  | .hbm, ⟨2, _⟩ => ⟨S8192x3584, .f32⟩
  | .hbm, ⟨3, _⟩ => ⟨S2x3584x9472, .fp8e4m3⟩
  | .hbm, ⟨4, _⟩ => ⟨S2x9472, .f32⟩
  | .hbm, ⟨5, _⟩ => ⟨S2x4736x3584, .fp8e4m3⟩
  | .hbm, ⟨6, _⟩ => ⟨S2x3584, .f32⟩
  | .hbm, ⟨7, _⟩ => ⟨S2x1x9472, .f32⟩
  | .hbm, ⟨8, _⟩ => ⟨S2x1x3584, .f32⟩
  | .hbm, ⟨9, _⟩ => ⟨S8192x3584, .bf16⟩
  | .hbm, ⟨10, _⟩ => ⟨S8192x4736, .fp8e4m3⟩
  | .hbm, ⟨11, _⟩ => ⟨S8x1x1024, .f32⟩
  | .local _ .vmem, ⟨0, _⟩ => ⟨S8192x3584, .fp8e4m3⟩
  | .local _ .vmem, ⟨1, _⟩ => ⟨S8192x128, .f32⟩
  | .local _ .vmem, ⟨2, _⟩ => ⟨S2x1x9472, .f32⟩
  | .local _ .vmem, ⟨3, _⟩ => ⟨S2x1x3584, .f32⟩
  | .local _ .vmem, ⟨4, _⟩ => ⟨S8192x3584, .f32⟩
  | .local _ .vmem, ⟨5, _⟩ => ⟨S2x3584x9472, .fp8e4m3⟩
  | .local _ .vmem, ⟨6, _⟩ => ⟨S2x4736x3584, .fp8e4m3⟩
  | .local _ .vmem, ⟨7, _⟩ => ⟨S8192x3584, .bf16⟩
  | .local _ .vmem, ⟨8, _⟩ => ⟨S8192x4736, .fp8e4m3⟩
  | .local _ .vmem, ⟨9, _⟩ => ⟨S8x1x1024, .f32⟩
  | _, _ => ⟨S8192x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S8192x3584 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1x9472 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1x3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x3584 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x3584x9472 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x4736x3584 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8192x3584 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8192x4736 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8x1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Oproj.lean ====
abbrev S8192x896 : Shape := ⟨2, ![8192, 896]⟩
abbrev S64x1x128 : Shape := ⟨3, ![64, 1, 128]⟩
abbrev S2x896x3584 : Shape := ⟨3, ![2, 896, 3584]⟩
abbrev S2x3584 : Shape := ⟨2, ![2, 3584]⟩
abbrev S8192x3584 : Shape := ⟨2, ![8192, 3584]⟩
abbrev S2x1x3584 : Shape := ⟨3, ![2, 1, 3584]⟩
abbrev S32x1x256 : Shape := ⟨3, ![32, 1, 256]⟩
abbrev S8192x128 : Shape := ⟨2, ![8192, 128]⟩
abbrev S256x896 : Shape := ⟨2, ![256, 896]⟩
abbrev S2x1x128 : Shape := ⟨3, ![2, 1, 128]⟩
abbrev S1x896x3584 : Shape := ⟨3, ![1, 896, 3584]⟩
abbrev S1x1x3584 : Shape := ⟨3, ![1, 1, 3584]⟩
abbrev S256x3584 : Shape := ⟨2, ![256, 3584]⟩
abbrev S1x1x256 : Shape := ⟨3, ![1, 1, 256]⟩
abbrev S256x128 : Shape := ⟨2, ![256, 128]⟩
abbrev S896x3584 : Shape := ⟨2, ![896, 3584]⟩
abbrev S1x1x128 : Shape := ⟨3, ![1, 1, 128]⟩
abbrev S1x128 : Shape := ⟨2, ![1, 128]⟩
abbrev S128x128 : Shape := ⟨2, ![128, 128]⟩
abbrev S128 : Shape := ⟨1, ![128]⟩
abbrev S128x1 : Shape := ⟨2, ![128, 1]⟩
abbrev S256x1 : Shape := ⟨2, ![256, 1]⟩
abbrev S1x3584 : Shape := ⟨2, ![1, 3584]⟩
abbrev S256 : Shape := ⟨1, ![256]⟩
abbrev S1x256 : Shape := ⟨2, ![1, 256]⟩

abbrev nBuf : Space → Nat
  | .hbm => 12
  | .vmem => 20
  | .smem => 0
  | _ => 0

abbrev bufTy : (tb : Table) → Fin (tcTables nBuf tb) → BufTy
  | .hbm, ⟨0, _⟩ => ⟨S8192x896, .fp8e4m3⟩
  | .hbm, ⟨1, _⟩ => ⟨S64x1x128, .f32⟩
  | .hbm, ⟨2, _⟩ => ⟨S2x896x3584, .fp8e4m3⟩
  | .hbm, ⟨3, _⟩ => ⟨S2x3584, .f32⟩
  | .hbm, ⟨4, _⟩ => ⟨S8192x3584, .bf16⟩
  | .hbm, ⟨5, _⟩ => ⟨S2x3584, .f32⟩
  | .hbm, ⟨6, _⟩ => ⟨S2x1x3584, .f32⟩
  | .hbm, ⟨7, _⟩ => ⟨S2x1x3584, .f32⟩
  | .hbm, ⟨8, _⟩ => ⟨S8192x3584, .f32⟩
  | .hbm, ⟨9, _⟩ => ⟨S8192x3584, .fp8e4m3⟩
  | .hbm, ⟨10, _⟩ => ⟨S32x1x256, .f32⟩
  | .hbm, ⟨11, _⟩ => ⟨S8192x128, .f32⟩
  | .local _ .vmem, ⟨0, _⟩ => ⟨S256x896, .fp8e4m3⟩
  | .local _ .vmem, ⟨1, _⟩ => ⟨S256x896, .fp8e4m3⟩
  | .local _ .vmem, ⟨2, _⟩ => ⟨S2x1x128, .f32⟩
  | .local _ .vmem, ⟨3, _⟩ => ⟨S2x1x128, .f32⟩
  | .local _ .vmem, ⟨4, _⟩ => ⟨S1x896x3584, .fp8e4m3⟩
  | .local _ .vmem, ⟨5, _⟩ => ⟨S1x896x3584, .fp8e4m3⟩
  | .local _ .vmem, ⟨6, _⟩ => ⟨S1x1x3584, .f32⟩
  | .local _ .vmem, ⟨7, _⟩ => ⟨S1x1x3584, .f32⟩
  | .local _ .vmem, ⟨8, _⟩ => ⟨S256x3584, .bf16⟩
  | .local _ .vmem, ⟨9, _⟩ => ⟨S256x3584, .bf16⟩
  | .local _ .vmem, ⟨10, _⟩ => ⟨S1x1x3584, .f32⟩
  | .local _ .vmem, ⟨11, _⟩ => ⟨S1x1x3584, .f32⟩
  | .local _ .vmem, ⟨12, _⟩ => ⟨S256x3584, .f32⟩
  | .local _ .vmem, ⟨13, _⟩ => ⟨S256x3584, .f32⟩
  | .local _ .vmem, ⟨14, _⟩ => ⟨S256x3584, .fp8e4m3⟩
  | .local _ .vmem, ⟨15, _⟩ => ⟨S256x3584, .fp8e4m3⟩
  | .local _ .vmem, ⟨16, _⟩ => ⟨S1x1x256, .f32⟩
  | .local _ .vmem, ⟨17, _⟩ => ⟨S1x1x256, .f32⟩
  | .local _ .vmem, ⟨18, _⟩ => ⟨S256x128, .f32⟩
  | .local _ .vmem, ⟨19, _⟩ => ⟨S256x128, .f32⟩
  | _, _ => ⟨S8192x896, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c4_i32 : BitVec 32 := 4#32
  let v0 : BitVec 1 := Scalar.cmpi .sge arg0 c4_i32
  let c1_i32 : BitVec 32 := 1#32
  let c0_i32 : BitVec 32 := 0#32
  let v1 : BitVec 32 := Scalar.select v0 c1_i32 c0_i32
  let c0_i32_0 : BitVec 32 := 0#32
  let c0_i32_1 : BitVec 32 := 0#32
  let c0_i32_2 : BitVec 32 := 0#32
  ![v1.toNat, c0_i32_0.toNat, c0_i32_1.toNat]

def cc0_transform_3 (i : grid0.Coords) : Fin 3 → Nat :=
  let arg0 : BitVec 32 := BitVec.ofNat 32 (i 0).val
  let c4_i32 : BitVec 32 := 4#32
  let v0 : BitVec 1 := Scalar.cmpi .sge arg0 c4_i32
  let c1_i32 : BitVec 32 := 1#32
  let c0_i32 : BitVec 32 := 0#32
  let v1 : BitVec 32 := Scalar.select v0 c1_i32 c0_i32
  let c0_i32_0 : BitVec 32 := 0#32
  let c0_i32_1 : BitVec 32 := 0#32
  let c0_i32_2 : BitVec 32 := 0#32
  ![v1.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c4_i32 : BitVec 32 := 4#32
  let v0 : BitVec 1 := Scalar.cmpi .sge arg0 c4_i32
  let c1_i32 : BitVec 32 := 1#32
  let c0_i32 : BitVec 32 := 0#32
  let v1 : BitVec 32 := Scalar.select v0 c1_i32 c0_i32
  let c0_i32_0 : BitVec 32 := 0#32
  let c0_i32_1 : BitVec 32 := 0#32
  let c0_i32_2 : BitVec 32 := 0#32
  ![v1.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x896 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x896x3584 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x3584 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x3584 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x3584 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x3584 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x3584 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== OprojReferenceIdeal.lean ====
abbrev S8192x896 : Shape := ⟨2, ![8192, 896]⟩
abbrev S64x1x128 : Shape := ⟨3, ![64, 1, 128]⟩
abbrev S2x896x3584 : Shape := ⟨3, ![2, 896, 3584]⟩
abbrev S2x3584 : Shape := ⟨2, ![2, 3584]⟩
abbrev S8192x3584 : Shape := ⟨2, ![8192, 3584]⟩
abbrev S8192x1 : Shape := ⟨2, ![8192, 1]⟩
abbrev S2x1x3584 : Shape := ⟨3, ![2, 1, 3584]⟩
abbrev S32x1x256 : Shape := ⟨3, ![32, 1, 256]⟩
abbrev S8192x128 : Shape := ⟨2, ![8192, 128]⟩
abbrev S1024x896 : Shape := ⟨2, ![1024, 896]⟩
abbrev S1x896x3584 : Shape := ⟨3, ![1, 896, 3584]⟩
abbrev S896x3584 : Shape := ⟨2, ![896, 3584]⟩
abbrev S1024x3584 : Shape := ⟨2, ![1024, 3584]⟩
abbrev S7168x896 : Shape := ⟨2, ![7168, 896]⟩
abbrev S7168x3584 : Shape := ⟨2, ![7168, 3584]⟩
abbrev S1024x1 : Shape := ⟨2, ![1024, 1]⟩
abbrev S1x1x3584 : Shape := ⟨3, ![1, 1, 3584]⟩
abbrev S1x3584 : Shape := ⟨2, ![1, 3584]⟩
abbrev S7168x1 : Shape := ⟨2, ![7168, 1]⟩
abbrev S8192 : Shape := ⟨1, ![8192]⟩

abbrev nBuf : Space → Nat
  | .hbm => 13
  | .vmem => 10
  | .smem => 0
  | _ => 0

abbrev bufTy : (tb : Table) → Fin (tcTables nBuf tb) → BufTy
  | .hbm, ⟨0, _⟩ => ⟨S8192x896, .fp8e4m3⟩
  | .hbm, ⟨1, _⟩ => ⟨S64x1x128, .f32⟩
  | .hbm, ⟨2, _⟩ => ⟨S2x896x3584, .fp8e4m3⟩
  | .hbm, ⟨3, _⟩ => ⟨S2x3584, .f32⟩
  | .hbm, ⟨4, _⟩ => ⟨S8192x3584, .bf16⟩
  | .hbm, ⟨5, _⟩ => ⟨S2x3584, .f32⟩
  | .hbm, ⟨6, _⟩ => ⟨S8192x1, .f32⟩
  | .hbm, ⟨7, _⟩ => ⟨S2x1x3584, .f32⟩
  | .hbm, ⟨8, _⟩ => ⟨S2x1x3584, .f32⟩
  | .hbm, ⟨9, _⟩ => ⟨S8192x3584, .f32⟩
  | .hbm, ⟨10, _⟩ => ⟨S8192x3584, .fp8e4m3⟩
  | .hbm, ⟨11, _⟩ => ⟨S32x1x256, .f32⟩
  | .hbm, ⟨12, _⟩ => ⟨S8192x128, .f32⟩
  | .local _ .vmem, ⟨0, _⟩ => ⟨S8192x896, .fp8e4m3⟩
  | .local _ .vmem, ⟨1, _⟩ => ⟨S8192x1, .f32⟩
  | .local _ .vmem, ⟨2, _⟩ => ⟨S2x896x3584, .fp8e4m3⟩
  | .local _ .vmem, ⟨3, _⟩ => ⟨S2x1x3584, .f32⟩
  | .local _ .vmem, ⟨4, _⟩ => ⟨S8192x3584, .bf16⟩
  | .local _ .vmem, ⟨5, _⟩ => ⟨S2x1x3584, .f32⟩
  | .local _ .vmem, ⟨6, _⟩ => ⟨S8192x3584, .f32⟩
  | .local _ .vmem, ⟨7, _⟩ => ⟨S8192x3584, .fp8e4m3⟩
  | .local _ .vmem, ⟨8, _⟩ => ⟨S32x1x256, .f32⟩
  | .local _ .vmem, ⟨9, _⟩ => ⟨S8192x128, .f32⟩
  | _, _ => ⟨S8192x896, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S8192x896 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x896x3584 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1x3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x3584 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x1x3584 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8192x3584 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8192x3584 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S32x1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8192x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Ideal.Base.lean ====
/- The feed-forward kernel by hand: the launch facts restated over the resource of transfers, the conditions of the body
   in closed form, and the windows, sources and semaphore cells of its two streamed operands. -/
module

public import proofs.«01_k».proof.Proof.Gen.KernelIdeal.Launch
public import proofs.«01_k».proof.Proof.Gen.KernelIdeal.Points
public import proofs.«01_k».proof.Proof.Gen.KernelIdeal.Skeleton
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Ffn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The launch facts over the resource of transfers -/

set_option maxHeartbeats 800000 in
/-- The program up to the region. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- Input window 0's staging buffer holds its block at every point. -/
theorem before_0 {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point. -/
theorem before_1 {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point. -/
theorem before_2 {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point. -/
theorem before_3 {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point. -/
theorem before_4 {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point. -/
theorem before_5 {c : Dev nD} (dat : Dat τ (Elt F) Unit ℕ (Pipeline.UD sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- The argument arrays are unchanged after a run to the frame post. -/
theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 5).trans (((dats 0 c).arrAt_in 5 rfl _).trans ((hA c 5).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

/-! ## The conditions of the body -/

/-- Condition 1 of the body, -/
abbrev cnd1 (i : grid0.Coords) : Prop := k0_cond1 i = 1#1
/-- and where it holds. -/
theorem hcnd1 : ∀ t : Fin cfg0.N, cnd1 (grid0.coords t) ↔ t.val = 0 :=
  (by decide +kernel : ∀ t : Fin grid0.N, cnd1 (grid0.coords t) ↔ t.val = 0)
/-- Condition 2 of the body, -/
abbrev cnd2 (i : grid0.Coords) : Prop := k0_cond2 i = 1#1
/-- and where it holds. -/
theorem hcnd2 : ∀ t : Fin cfg0.N, cnd2 (grid0.coords t) ↔ t.val % 17 < 8 :=
  (by decide +kernel : ∀ t : Fin grid0.N, cnd2 (grid0.coords t) ↔ t.val % 17 < 8)
/-- Condition 3 of the body, -/
abbrev cnd3 (i : grid0.Coords) : Prop := k0_cond3 i = 1#1
/-- and where it holds. -/
theorem hcnd3 : ∀ t : Fin cfg0.N, cnd3 (grid0.coords t) ↔ t.val % 17 = 8 :=
  (by decide +kernel : ∀ t : Fin grid0.N, cnd3 (grid0.coords t) ↔ t.val % 17 = 8)
/-- Condition 4 of the body, -/
abbrev cnd4 (i : grid0.Coords) : Prop := k0_cond4 i = 1#1
/-- and where it holds. -/
theorem hcnd4 : ∀ t : Fin cfg0.N, cnd4 (grid0.coords t) ↔ 9 ≤ t.val % 17 ∧ t.val % 17 < 16 :=
  (by decide +kernel : ∀ t : Fin grid0.N, cnd4 (grid0.coords t) ↔ 9 ≤ t.val % 17 ∧ t.val % 17 < 16)
/-- Condition 5 of the body, -/
abbrev cnd5 (i : grid0.Coords) : Prop := k0_cond5 i = 1#1
/-- and where it holds. -/
theorem hcnd5 : ∀ t : Fin cfg0.N, cnd5 (grid0.coords t) ↔ t.val % 17 = 16 ∧ t.val / 17 < 7 :=
  (by decide +kernel : ∀ t : Fin grid0.N, cnd5 (grid0.coords t) ↔ t.val % 17 = 16 ∧ t.val / 17 < 7)
/-- Condition 6 of the body, -/
abbrev cnd6 (i : grid0.Coords) : Prop := (Scalar.cmpi .ne (Scalar.extui (Scalar.cmpi .eq (BitVec.ofNat 32 (i 1).val) 0#32)) 0#32) = 1#1
/-- and where it holds. -/
theorem hcnd6 : ∀ t : Fin cfg0.N, cnd6 (grid0.coords t) ↔ t.val % 17 = 0 :=
  (by decide +kernel : ∀ t : Fin grid0.N, cnd6 (grid0.coords t) ↔ t.val % 17 = 0)
/-- Condition 7 of the body, -/
abbrev cnd7 (i : grid0.Coords) : Prop := k0_cond7 i = 1#1
/-- and where it holds. -/
theorem hcnd7 : ∀ t : Fin cfg0.N, cnd7 (grid0.coords t) ↔ t.val % 17 < 9 :=
  (by decide +kernel : ∀ t : Fin grid0.N, cnd7 (grid0.coords t) ↔ t.val % 17 < 9)
/-- Condition 8 of the body, -/
abbrev cnd8 (i : grid0.Coords) : Prop := k0_cond8 i = 1#1
/-- and where it holds. -/
theorem hcnd8 : ∀ t : Fin cfg0.N, cnd8 (grid0.coords t) ↔ t.val % 17 = 9 :=
  (by decide +kernel : ∀ t : Fin grid0.N, cnd8 (grid0.coords t) ↔ t.val % 17 = 9)
/-- Condition 9 of the body, -/
abbrev cnd9 (i : grid0.Coords) : Prop := k0_cond9 i = 1#1
/-- and where it holds. -/
theorem hcnd9 : ∀ t : Fin cfg0.N, cnd9 (grid0.coords t) ↔ 9 < t.val % 17 :=
  (by decide +kernel : ∀ t : Fin grid0.N, cnd9 (grid0.coords t) ↔ 9 < t.val % 17)

/-! ## The memrefs of the body -/

/-- Window 0's staging memref at point `t`, and its wholeness. -/
abbrev ms0_0 (t : Fin cfg0.N) : Memref sig .tc .vmem S1024x3584 .fp8e4m3 := win0_0.stage (cfg0.slots t 0)
abbrev hs0_0 (t : Fin cfg0.N) : (ms0_0 t).IsWhole := hstage0_0 ((cfg0.slots t 0).cast nbuf0_0)
/-- Window 1's staging memref at point `t`, and its wholeness. -/
abbrev ms0_1 (t : Fin cfg0.N) : Memref sig .tc .vmem S1024x128 .f32 := win0_1.stage (cfg0.slots t 1)
abbrev hs0_1 (t : Fin cfg0.N) : (ms0_1 t).IsWhole := hstage0_1 ((cfg0.slots t 1).cast nbuf0_1)
/-- Window 2's staging memref at point `t`, and its wholeness. -/
abbrev ms0_2 (t : Fin cfg0.N) : Memref sig .tc .vmem S1x1x512 .f32 := win0_2.stage (cfg0.slots t 2)
abbrev hs0_2 (t : Fin cfg0.N) : (ms0_2 t).IsWhole := hstage0_2 ((cfg0.slots t 2).cast nbuf0_2)
/-- Window 3's staging memref at point `t`, and its wholeness. -/
abbrev ms0_3 (t : Fin cfg0.N) : Memref sig .tc .vmem S1x1x512 .f32 := win0_3.stage (cfg0.slots t 3)
abbrev hs0_3 (t : Fin cfg0.N) : (ms0_3 t).IsWhole := hstage0_3 ((cfg0.slots t 3).cast nbuf0_3)
/-- Window 4's staging memref at point `t`, and its wholeness. -/
abbrev ms0_4 (t : Fin cfg0.N) : Memref sig .tc .vmem S1x1x512 .f32 := win0_4.stage (cfg0.slots t 4)
abbrev hs0_4 (t : Fin cfg0.N) : (ms0_4 t).IsWhole := hstage0_4 ((cfg0.slots t 4).cast nbuf0_4)
/-- Window 5's staging memref at point `t`, and its wholeness. -/
abbrev ms0_5 (t : Fin cfg0.N) : Memref sig .tc .vmem S1024x512 .f32 := win0_5.stage (cfg0.slots t 5)
abbrev hs0_5 (t : Fin cfg0.N) : (ms0_5 t).IsWhole := hstage0_5 ((cfg0.slots t 5).cast nbuf0_5)
/-- Window 6's staging memref at point `t`, and its wholeness. -/
abbrev ms0_6 (t : Fin cfg0.N) : Memref sig .tc .vmem S1024x512 .bf16 := win0_6.stage (cfg0.slots t 6)
abbrev hs0_6 (t : Fin cfg0.N) : (ms0_6 t).IsWhole := hstage0_6 ((cfg0.slots t 6).cast nbuf0_6)
/-- Window 7's staging memref at point `t`, and its wholeness. -/
abbrev ms0_7 (t : Fin cfg0.N) : Memref sig .tc .vmem S1024x4736 .fp8e4m3 := win0_7.stage (cfg0.slots t 7)
abbrev hs0_7 (t : Fin cfg0.N) : (ms0_7 t).IsWhole := hstage0_7 ((cfg0.slots t 7).cast nbuf0_7)
/-- Window 8's staging memref at point `t`, and its wholeness. -/
abbrev ms0_8 (t : Fin cfg0.N) : Memref sig .tc .vmem S1x1x1024 .f32 := win0_8.stage (cfg0.slots t 8)
abbrev hs0_8 (t : Fin cfg0.N) : (ms0_8 t).IsWhole := hstage0_8 ((cfg0.slots t 8).cast nbuf0_8)
/-- The scratch operands: the activations, the two streamed windows, the row maxima. -/
abbrev scM0_0 : Memref sig .tc .vmem S37x1024x128 .f32 := Memref.whole cc0_scratch0
abbrev scM0_1 : Memref sig .tc .vmem S2x3584x1024 .fp8e4m3 := Memref.whole cc0_scratch1
abbrev scM0_2 : Memref sig .tc .vmem S2x4736x512 .fp8e4m3 := Memref.whole cc0_scratch2
abbrev scM0_3 : Memref sig .tc .vmem S1024x128 .f32 := Memref.whole cc0_scratch3
/-- The two streamed operands, whole. -/
abbrev hbM0_0 : Memref sig .tc .hbm S2x3584x9472 .fp8e4m3 := Memref.whole main_arg3
abbrev hbM0_1 : Memref sig .tc .hbm S2x4736x3584 .fp8e4m3 := Memref.whole main_arg5
/-- A memref's buffer on a core: its contents type, and it held whole. -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own semaphores. -/
abbrev osem0 : Fin 6 → SemLoc sig := fun j => (![SemLoc.dma 18, SemLoc.dma 19, SemLoc.dma 20, SemLoc.dma 21, SemLoc.dma 22, SemLoc.dma 23] : Fin 6 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0) := by
  rw [Pipeline.ownSems0_eq_of_list c osem0 [0, 1, 2, 3, 4, 5] (by decide) (by decide)]; rfl
/-- The operands the body copies from itself. -/
def H0 : Finset (Ref sig .tc) := {main_arg3, main_arg5}
theorem H0_sub : H0 ⊆ Pipeline.restRefs sig spec0 := by decide
theorem hbmPts0_eq (c : Dev nD) :
    (bigSep H0 (fun b => ((c : Thread nD τ).loc b) ↦{fullShare} V m c b) : sProp 𝕄) = iprop(hbPt0 c hbM0_0 (V m c main_arg3) ∗ hbPt0 c hbM0_1 (V m c main_arg5)) := by
  rw [BI.bigSep_eq_bigSepL_of_eq [main_arg3, main_arg5] (by decide) (by decide)]; rfl
/-- The launch's invariant, conjunct by conjunct. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)
          ∗ iprop(semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0)
          ∗ iprop(hbPt0 c hbM0_0 (V m c main_arg3) ∗ hbPt0 c hbM0_1 (V m c main_arg5))) := by
  rw [Pipeline.ΦD_eq, scopedRest0_eq, ownSems00_eq, hbmPts0_eq]; simp only [scM0_0, scM0_1, scM0_2, scM0_3, owns_whole]; try rfl

/-! ## Windows, sources and cells -/

instance : NeZero grid0.N := ⟨by rw [N_0]; decide⟩

/-- The slot of the gate and up windows at position `n` (by the parity of the step within the row block). -/
abbrev sg (n : ℕ) : Fin 2 := ⟨n % 17 % 2, Nat.mod_lt _ (by decide)⟩
/-- The slot of the down window at position `n`. -/
abbrev sd (n : ℕ) : Fin 2 := ⟨(n / 17 + n % 17) % 2, Nat.mod_lt _ (by decide)⟩
/-- The matrix a row block uses: the first for the first row block, else the second. -/
abbrev kd (n : ℕ) : Fin 2 := ⟨min (n / 17) 1, by omega⟩
/-- The column tile of the gate and up products at position `n`; -/
abbrev tg (n : ℕ) : Fin 9 := ⟨n % 17 % 9, Nat.mod_lt _ (by decide)⟩
/-- the column tile of the down product. -/
abbrev td (n : ℕ) : Fin 7 := ⟨(n % 17 + 4) % 7, Nat.mod_lt _ (by decide)⟩

theorem inb_wA (s : Fin 2) : ∀ a, (![s.val, 0, 0] : Fin 3 → Nat) a + S1x3584x512.size a ≤ S2x3584x1024.size a := by
  have := s.isLt; intro a; fin_cases a <;> simp <;> omega
/-- The gate window of slot `s`, -/
def wA (s : Fin 2) : Memref sig .tc .vmem S3584x512 .fp8e4m3 :=
  (scM0_1.slice (Rect.unit (s := S2x3584x1024) ![s.val, 0, 0] S1x3584x512.size (inb_wA s)) (fun _ => rfl)).squeeze S3584x512 squeezes_S1x3584x512_S3584x512
theorem inb_wB (s : Fin 2) : ∀ a, (![s.val, 0, 512] : Fin 3 → Nat) a + S1x3584x512.size a ≤ S2x3584x1024.size a := by
  have := s.isLt; intro a; fin_cases a <;> simp <;> omega
/-- the up window of slot `s`, -/
def wB (s : Fin 2) : Memref sig .tc .vmem S3584x512 .fp8e4m3 :=
  (scM0_1.slice (Rect.unit (s := S2x3584x1024) ![s.val, 0, 512] S1x3584x512.size (inb_wB s)) (fun _ => rfl)).squeeze S3584x512 squeezes_S1x3584x512_S3584x512
theorem inb_tA (s : Fin 2) : ∀ a, (![s.val, 0, 0] : Fin 3 → Nat) a + S1x3584x128.size a ≤ S2x3584x1024.size a := by
  have := s.isLt; intro a; fin_cases a <;> simp <;> omega
/-- the part of the gate window the last, narrow tile fills, -/
def tA (s : Fin 2) : Memref sig .tc .vmem S3584x128 .fp8e4m3 :=
  (scM0_1.slice (Rect.unit (s := S2x3584x1024) ![s.val, 0, 0] S1x3584x128.size (inb_tA s)) (fun _ => rfl)).squeeze S3584x128 squeezes_S1x3584x128_S3584x128
theorem inb_tB (s : Fin 2) : ∀ a, (![s.val, 0, 512] : Fin 3 → Nat) a + S1x3584x128.size a ≤ S2x3584x1024.size a := by
  have := s.isLt; intro a; fin_cases a <;> simp <;> omega
/-- and that of the up window. -/
def tB (s : Fin 2) : Memref sig .tc .vmem S3584x128 .fp8e4m3 :=
  (scM0_1.slice (Rect.unit (s := S2x3584x1024) ![s.val, 0, 512] S1x3584x128.size (inb_tB s)) (fun _ => rfl)).squeeze S3584x128 squeezes_S1x3584x128_S3584x128
theorem inb_rA (k : Fin 2) (b : Fin 9) : ∀ a, (![k.val, 0, 512 * b.val] : Fin 3 → Nat) a + S1x3584x512.size a ≤ S2x3584x9472.size a := by
  have := k.isLt; have := b.isLt; intro a; fin_cases a <;> simp <;> omega
/-- Column tile `b` of the gate matrix `k`, -/
def rA (k : Fin 2) (b : Fin 9) : Memref sig .tc .hbm S3584x512 .fp8e4m3 :=
  (hbM0_0.slice (Rect.unit (s := S2x3584x9472) ![k.val, 0, 512 * b.val] S1x3584x512.size (inb_rA k b)) (fun _ => rfl)).squeeze S3584x512 squeezes_S1x3584x512_S3584x512
theorem inb_rB (k : Fin 2) (b : Fin 9) : ∀ a, (![k.val, 0, 4736 + 512 * b.val] : Fin 3 → Nat) a + S1x3584x512.size a ≤ S2x3584x9472.size a := by
  have := k.isLt; have := b.isLt; intro a; fin_cases a <;> simp <;> omega
/-- column tile `b` of the up matrix `k`, -/
def rB (k : Fin 2) (b : Fin 9) : Memref sig .tc .hbm S3584x512 .fp8e4m3 :=
  (hbM0_0.slice (Rect.unit (s := S2x3584x9472) ![k.val, 0, 4736 + 512 * b.val] S1x3584x512.size (inb_rB k b)) (fun _ => rfl)).squeeze S3584x512 squeezes_S1x3584x512_S3584x512
theorem inb_uA (k : Fin 2) : ∀ a, (![k.val, 0, 4608] : Fin 3 → Nat) a + S1x3584x128.size a ≤ S2x3584x9472.size a := by
  have := k.isLt; intro a; fin_cases a <;> simp <;> omega
/-- the last tile of the gate matrix, -/
def uA (k : Fin 2) : Memref sig .tc .hbm S3584x128 .fp8e4m3 :=
  (hbM0_0.slice (Rect.unit (s := S2x3584x9472) ![k.val, 0, 4608] S1x3584x128.size (inb_uA k)) (fun _ => rfl)).squeeze S3584x128 squeezes_S1x3584x128_S3584x128
theorem inb_uB (k : Fin 2) : ∀ a, (![k.val, 0, 9344] : Fin 3 → Nat) a + S1x3584x128.size a ≤ S2x3584x9472.size a := by
  have := k.isLt; intro a; fin_cases a <;> simp <;> omega
/-- and that of the up matrix. -/
def uB (k : Fin 2) : Memref sig .tc .hbm S3584x128 .fp8e4m3 :=
  (hbM0_0.slice (Rect.unit (s := S2x3584x9472) ![k.val, 0, 9344] S1x3584x128.size (inb_uB k)) (fun _ => rfl)).squeeze S3584x128 squeezes_S1x3584x128_S3584x128
theorem inb_wD (s : Fin 2) : ∀ a, (![s.val, 0, 0] : Fin 3 → Nat) a + S1x4736x512.size a ≤ S2x4736x512.size a := by
  have := s.isLt; intro a; fin_cases a <;> simp <;> omega
/-- The down window of slot `s`; -/
def wD (s : Fin 2) : Memref sig .tc .vmem S4736x512 .fp8e4m3 :=
  (scM0_2.slice (Rect.unit (s := S2x4736x512) ![s.val, 0, 0] S1x4736x512.size (inb_wD s)) (fun _ => rfl)).squeeze S4736x512 squeezes_S1x4736x512_S4736x512
theorem inb_rD (k : Fin 2) (b : Fin 7) : ∀ a, (![k.val, 0, 512 * b.val] : Fin 3 → Nat) a + S1x4736x512.size a ≤ S2x4736x3584.size a := by
  have := k.isLt; have := b.isLt; intro a; fin_cases a <;> simp <;> omega
/-- column tile `b` of the down matrix `k`. -/
def rD (k : Fin 2) (b : Fin 7) : Memref sig .tc .hbm S4736x512 .fp8e4m3 :=
  (hbM0_1.slice (Rect.unit (s := S2x4736x3584) ![k.val, 0, 512 * b.val] S1x4736x512.size (inb_rD k b)) (fun _ => rfl)).squeeze S4736x512 squeezes_S1x4736x512_S4736x512
theorem inb_cA (s : Fin 2) : ∀ a, (![s.val, 0] : Fin 2 → Nat) a + S1x1.size a ≤ S2x2.size a := by
  have := s.isLt; intro a; fin_cases a <;> simp <;> omega
/-- The semaphore of slot `s`'s gate window. -/
def cA (s : Fin 2) : DmaSems sig S_ := (cc0_scratch4.slice (Rect.unit (s := S2x2) ![s.val, 0] S1x1.size (inb_cA s))).squeeze S_ squeezes_S1x1_S_
theorem inb_cB (s : Fin 2) : ∀ a, (![s.val, 1] : Fin 2 → Nat) a + S1x1.size a ≤ S2x2.size a := by
  have := s.isLt; intro a; fin_cases a <;> simp <;> omega
/-- The semaphore of slot `s`'s up window. -/
def cB (s : Fin 2) : DmaSems sig S_ := (cc0_scratch4.slice (Rect.unit (s := S2x2) ![s.val, 1] S1x1.size (inb_cB s))).squeeze S_ squeezes_S1x1_S_
theorem inb_cD (s : Fin 2) : ∀ a, (![s.val] : Fin 1 → Nat) a + S1.size a ≤ S2.size a := by
  have := s.isLt; intro a; fin_cases a <;> simp <;> omega
/-- The semaphore of slot `s`'s down window. -/
def cD (s : Fin 2) : DmaSems sig S_ := (cc0_scratch5.slice (Rect.unit (s := S2) ![s.val] S1.size (inb_cD s))).squeeze S_ squeezes_S1_S_
abbrev qA (s : Fin 2) : SemLoc sig := SemLoc.dma (cA s).sem
theorem qA_0 : qA 0 = SemLoc.dma 18 := by decide
theorem qA_1 : qA 1 = SemLoc.dma 20 := by decide
abbrev qB (s : Fin 2) : SemLoc sig := SemLoc.dma (cB s).sem
theorem qB_0 : qB 0 = SemLoc.dma 19 := by decide
theorem qB_1 : qB 1 = SemLoc.dma 21 := by decide
abbrev qD (s : Fin 2) : SemLoc sig := SemLoc.dma (cD s).sem
theorem qD_0 : qD 0 = SemLoc.dma 22 := by decide
theorem qD_1 : qD 1 = SemLoc.dma 23 := by decide

/-! ## The body's operands at point `t` are these -/

section Canon
omit [FloatOps F]
set_option synthInstance.maxSize 4096 in
theorem coff1 : ∀ t : Fin grid0.N, cnd1 (grid0.coords t) → k0_off1 (grid0.coords t) = ![(sg t.val).val, 0] := by decide +kernel
@[sl_canon] theorem canon1 (t : Fin grid0.N) (h : cnd1 (grid0.coords t)) :
    (cc0_scratch4.slice (Rect.unit (s := S2x2) (k0_off1 (grid0.coords t)) S1x1.size (k0_off1_inb (grid0.coords t) h))).squeeze S_ squeezes_S1x1_S_ = cA (sg t.val) :=
  congrArg (fun A : DmaSems sig S1x1 => A.squeeze S_ squeezes_S1x1_S_) (SemArray.slice_unit_congr _ (coff1 t h) _ _)
set_option synthInstance.maxSize 4096 in
theorem coff2 : ∀ t : Fin grid0.N, cnd1 (grid0.coords t) → k0_off2 (grid0.coords t) = ![(sg t.val).val, 0, 0] := by decide +kernel
@[sl_canon] theorem canon2 (t : Fin grid0.N) (h : cnd1 (grid0.coords t)) :
    (scM0_1.slice (Rect.unit (s := S2x3584x1024) (k0_off2 (grid0.coords t)) S1x3584x512.size (k0_off2_inb (grid0.coords t) h)) (fun _ => rfl)).squeeze S3584x512 squeezes_S1x3584x512_S3584x512 = wA (sg t.val) :=
  congrArg (fun M : Memref sig .tc .vmem S1x3584x512 .fp8e4m3 => M.squeeze S3584x512 squeezes_S1x3584x512_S3584x512) (Memref.slice_unit_congr _ (coff2 t h) _ _ (fun _ => rfl) (fun _ => rfl))
set_option synthInstance.maxSize 4096 in
theorem coff3 : ∀ t : Fin grid0.N, cnd1 (grid0.coords t) → k0_off3 (grid0.coords t) = ![(kd t.val).val, 0, 512 * (tg t.val).val] := by decide +kernel
@[sl_canon] theorem canon3 (t : Fin grid0.N) (h : cnd1 (grid0.coords t)) :
    (hbM0_0.slice (Rect.unit (s := S2x3584x9472) (k0_off3 (grid0.coords t)) S1x3584x512.size (k0_off3_inb (grid0.coords t) h)) (fun _ => rfl)).squeeze S3584x512 squeezes_S1x3584x512_S3584x512 = rA (kd t.val) (tg t.val) :=
  congrArg (fun M : Memref sig .tc .hbm S1x3584x512 .fp8e4m3 => M.squeeze S3584x512 squeezes_S1x3584x512_S3584x512) (Memref.slice_unit_congr _ (coff3 t h) _ _ (fun _ => rfl) (fun _ => rfl))
set_option synthInstance.maxSize 4096 in
theorem coff4 : ∀ t : Fin grid0.N, cnd1 (grid0.coords t) → k0_off4 (grid0.coords t) = ![(sg t.val).val, 1] := by decide +kernel
@[sl_canon] theorem canon4 (t : Fin grid0.N) (h : cnd1 (grid0.coords t)) :
    (cc0_scratch4.slice (Rect.unit (s := S2x2) (k0_off4 (grid0.coords t)) S1x1.size (k0_off4_inb (grid0.coords t) h))).squeeze S_ squeezes_S1x1_S_ = cB (sg t.val) :=
  congrArg (fun A : DmaSems sig S1x1 => A.squeeze S_ squeezes_S1x1_S_) (SemArray.slice_unit_congr _ (coff4 t h) _ _)
set_option synthInstance.maxSize 4096 in
theorem coff5 : ∀ t : Fin grid0.N, cnd1 (grid0.coords t) → k0_off5 (grid0.coords t) = ![(sg t.val).val, 0, 512] := by decide +kernel
@[sl_canon] theorem canon5 (t : Fin grid0.N) (h : cnd1 (grid0.coords t)) :
    (scM0_1.slice (Rect.unit (s := S2x3584x1024) (k0_off5 (grid0.coords t)) S1x3584x512.size (k0_off5_inb (grid0.coords t) h)) (fun _ => rfl)).squeeze S3584x512 squeezes_S1x3584x512_S3584x512 = wB (sg t.val) :=
  congrArg (fun M : Memref sig .tc .vmem S1x3584x512 .fp8e4m3 => M.squeeze S3584x512 squeezes_S1x3584x512_S3584x512) (Memref.slice_unit_congr _ (coff5 t h) _ _ (fun _ => rfl) (fun _ => rfl))
set_option synthInstance.maxSize 4096 in
theorem coff6 : ∀ t : Fin grid0.N, cnd1 (grid0.coords t) → k0_off6 (grid0.coords t) = ![(kd t.val).val, 0, 4736 + 512 * (tg t.val).val] := by decide +kernel
@[sl_canon] theorem canon6 (t : Fin grid0.N) (h : cnd1 (grid0.coords t)) :
    (hbM0_0.slice (Rect.unit (s := S2x3584x9472) (k0_off6 (grid0.coords t)) S1x3584x512.size (k0_off6_inb (grid0.coords t) h)) (fun _ => rfl)).squeeze S3584x512 squeezes_S1x3584x512_S3584x512 = rB (kd t.val) (tg t.val) :=
  congrArg (fun M : Memref sig .tc .hbm S1x3584x512 .fp8e4m3 => M.squeeze S3584x512 squeezes_S1x3584x512_S3584x512) (Memref.slice_unit_congr _ (coff6 t h) _ _ (fun _ => rfl) (fun _ => rfl))
set_option synthInstance.maxSize 4096 in
theorem coff7 : ∀ t : Fin grid0.N, cnd2 (grid0.coords t) → k0_off7 (grid0.coords t) = ![(sg (t.val + 1)).val, 0] := by decide +kernel
@[sl_canon] theorem canon7 (t : Fin grid0.N) (h : cnd2 (grid0.coords t)) :
    (cc0_scratch4.slice (Rect.unit (s := S2x2) (k0_off7 (grid0.coords t)) S1x1.size (k0_off7_inb (grid0.coords t) h))).squeeze S_ squeezes_S1x1_S_ = cA (sg (t.val + 1)) :=
  congrArg (fun A : DmaSems sig S1x1 => A.squeeze S_ squeezes_S1x1_S_) (SemArray.slice_unit_congr _ (coff7 t h) _ _)
set_option synthInstance.maxSize 4096 in
theorem coff8 : ∀ t : Fin grid0.N, cnd2 (grid0.coords t) → k0_off8 (grid0.coords t) = ![(sg (t.val + 1)).val, 0, 0] := by decide +kernel
@[sl_canon] theorem canon8 (t : Fin grid0.N) (h : cnd2 (grid0.coords t)) :
    (scM0_1.slice (Rect.unit (s := S2x3584x1024) (k0_off8 (grid0.coords t)) S1x3584x512.size (k0_off8_inb (grid0.coords t) h)) (fun _ => rfl)).squeeze S3584x512 squeezes_S1x3584x512_S3584x512 = wA (sg (t.val + 1)) :=
  congrArg (fun M : Memref sig .tc .vmem S1x3584x512 .fp8e4m3 => M.squeeze S3584x512 squeezes_S1x3584x512_S3584x512) (Memref.slice_unit_congr _ (coff8 t h) _ _ (fun _ => rfl) (fun _ => rfl))
set_option synthInstance.maxSize 4096 in
theorem coff9 : ∀ t : Fin grid0.N, cnd2 (grid0.coords t) → k0_off9 (grid0.coords t) = ![(kd (t.val + 1)).val, 0, 512 * (tg (t.val + 1)).val] := by decide +kernel
@[sl_canon] theorem canon9 (t : Fin grid0.N) (h : cnd2 (grid0.coords t)) :
    (hbM0_0.slice (Rect.unit (s := S2x3584x9472) (k0_off9 (grid0.coords t)) S1x3584x512.size (k0_off9_inb (grid0.coords t) h)) (fun _ => rfl)).squeeze S3584x512 squeezes_S1x3584x512_S3584x512 = rA (kd (t.val + 1)) (tg (t.val + 1)) :=
  congrArg (fun M : Memref sig .tc .hbm S1x3584x512 .fp8e4m3 => M.squeeze S3584x512 squeezes_S1x3584x512_S3584x512) (Memref.slice_unit_congr _ (coff9 t h) _ _ (fun _ => rfl) (fun _ => rfl))
set_option synthInstance.maxSize 4096 in
theorem coff10 : ∀ t : Fin grid0.N, cnd2 (grid0.coords t) → k0_off10 (grid0.coords t) = ![(sg (t.val + 1)).val, 1] := by decide +kernel
@[sl_canon] theorem canon10 (t : Fin grid0.N) (h : cnd2 (grid0.coords t)) :
    (cc0_scratch4.slice (Rect.unit (s := S2x2) (k0_off10 (grid0.coords t)) S1x1.size (k0_off10_inb (grid0.coords t) h))).squeeze S_ squeezes_S1x1_S_ = cB (sg (t.val + 1)) :=
  congrArg (fun A : DmaSems sig S1x1 => A.squeeze S_ squeezes_S1x1_S_) (SemArray.slice_unit_congr _ (coff10 t h) _ _)
set_option synthInstance.maxSize 4096 in
theorem coff11 : ∀ t : Fin grid0.N, cnd2 (grid0.coords t) → k0_off11 (grid0.coords t) = ![(sg (t.val + 1)).val, 0, 512] := by decide +kernel
@[sl_canon] theorem canon11 (t : Fin grid0.N) (h : cnd2 (grid0.coords t)) :
    (scM0_1.slice (Rect.unit (s := S2x3584x1024) (k0_off11 (grid0.coords t)) S1x3584x512.size (k0_off11_inb (grid0.coords t) h)) (fun _ => rfl)).squeeze S3584x512 squeezes_S1x3584x512_S3584x512 = wB (sg (t.val + 1)) :=
  congrArg (fun M : Memref sig .tc .vmem S1x3584x512 .fp8e4m3 => M.squeeze S3584x512 squeezes_S1x3584x512_S3584x512) (Memref.slice_unit_congr _ (coff11 t h) _ _ (fun _ => rfl) (fun _ => rfl))
set_option synthInstance.maxSize 4096 in
theorem coff12 : ∀ t : Fin grid0.N, cnd2 (grid0.coords t) → k0_off12 (grid0.coords t) = ![(kd (t.val + 1)).val, 0, 4736 + 512 * (tg (t.val + 1)).val] := by decide +kernel
@[sl_canon] theorem canon12 (t : Fin grid0.N) (h : cnd2 (grid0.coords t)) :
    (hbM0_0.slice (Rect.unit (s := S2x3584x9472) (k0_off12 (grid0.coords t)) S1x3584x512.size (k0_off12_inb (grid0.coords t) h)) (fun _ => rfl)).squeeze S3584x512 squeezes_S1x3584x512_S3584x512 = rB (kd (t.val + 1)) (tg (t.val + 1)) :=
  congrArg (fun M : Memref sig .tc .hbm S1x3584x512 .fp8e4m3 => M.squeeze S3584x512 squeezes_S1x3584x512_S3584x512) (Memref.slice_unit_congr _ (coff12 t h) _ _ (fun _ => rfl) (fun _ => rfl))
set_option synthInstance.maxSize 4096 in
theorem coff13 : ∀ t : Fin grid0.N, cnd3 (grid0.coords t) → k0_off13 (grid0.coords t) = ![(sg (t.val + 1)).val, 0] := by decide +kernel
@[sl_canon] theorem canon13 (t : Fin grid0.N) (h : cnd3 (grid0.coords t)) :
    (cc0_scratch4.slice (Rect.unit (s := S2x2) (k0_off13 (grid0.coords t)) S1x1.size (k0_off13_inb (grid0.coords t) h))).squeeze S_ squeezes_S1x1_S_ = cA (sg (t.val + 1)) :=
  congrArg (fun A : DmaSems sig S1x1 => A.squeeze S_ squeezes_S1x1_S_) (SemArray.slice_unit_congr _ (coff13 t h) _ _)
set_option synthInstance.maxSize 4096 in
theorem coff14 : ∀ t : Fin grid0.N, cnd3 (grid0.coords t) → k0_off14 (grid0.coords t) = ![(sg (t.val + 1)).val, 0, 0] := by decide +kernel
@[sl_canon] theorem canon14 (t : Fin grid0.N) (h : cnd3 (grid0.coords t)) :
    (scM0_1.slice (Rect.unit (s := S2x3584x1024) (k0_off14 (grid0.coords t)) S1x3584x128.size (k0_off14_inb (grid0.coords t) h)) (fun _ => rfl)).squeeze S3584x128 squeezes_S1x3584x128_S3584x128 = tA (sg (t.val + 1)) :=
  congrArg (fun M : Memref sig .tc .vmem S1x3584x128 .fp8e4m3 => M.squeeze S3584x128 squeezes_S1x3584x128_S3584x128) (Memref.slice_unit_congr _ (coff14 t h) _ _ (fun _ => rfl) (fun _ => rfl))
set_option synthInstance.maxSize 4096 in
theorem coff15 : ∀ t : Fin grid0.N, cnd3 (grid0.coords t) → k0_off15 (grid0.coords t) = ![(kd (t.val + 1)).val, 0, 4608] := by decide +kernel
@[sl_canon] theorem canon15 (t : Fin grid0.N) (h : cnd3 (grid0.coords t)) :
    (hbM0_0.slice (Rect.unit (s := S2x3584x9472) (k0_off15 (grid0.coords t)) S1x3584x128.size (k0_off15_inb (grid0.coords t) h)) (fun _ => rfl)).squeeze S3584x128 squeezes_S1x3584x128_S3584x128 = uA (kd (t.val + 1)) :=
  congrArg (fun M : Memref sig .tc .hbm S1x3584x128 .fp8e4m3 => M.squeeze S3584x128 squeezes_S1x3584x128_S3584x128) (Memref.slice_unit_congr _ (coff15 t h) _ _ (fun _ => rfl) (fun _ => rfl))
set_option synthInstance.maxSize 4096 in
theorem coff16 : ∀ t : Fin grid0.N, cnd3 (grid0.coords t) → k0_off16 (grid0.coords t) = ![(sg (t.val + 1)).val, 1] := by decide +kernel
@[sl_canon] theorem canon16 (t : Fin grid0.N) (h : cnd3 (grid0.coords t)) :
    (cc0_scratch4.slice (Rect.unit (s := S2x2) (k0_off16 (grid0.coords t)) S1x1.size (k0_off16_inb (grid0.coords t) h))).squeeze S_ squeezes_S1x1_S_ = cB (sg (t.val + 1)) :=
  congrArg (fun A : DmaSems sig S1x1 => A.squeeze S_ squeezes_S1x1_S_) (SemArray.slice_unit_congr _ (coff16 t h) _ _)
set_option synthInstance.maxSize 4096 in
theorem coff17 : ∀ t : Fin grid0.N, cnd3 (grid0.coords t) → k0_off17 (grid0.coords t) = ![(sg (t.val + 1)).val, 0, 512] := by decide +kernel
@[sl_canon] theorem canon17 (t : Fin grid0.N) (h : cnd3 (grid0.coords t)) :
    (scM0_1.slice (Rect.unit (s := S2x3584x1024) (k0_off17 (grid0.coords t)) S1x3584x128.size (k0_off17_inb (grid0.coords t) h)) (fun _ => rfl)).squeeze S3584x128 squeezes_S1x3584x128_S3584x128 = tB (sg (t.val + 1)) :=
  congrArg (fun M : Memref sig .tc .vmem S1x3584x128 .fp8e4m3 => M.squeeze S3584x128 squeezes_S1x3584x128_S3584x128) (Memref.slice_unit_congr _ (coff17 t h) _ _ (fun _ => rfl) (fun _ => rfl))
set_option synthInstance.maxSize 4096 in
theorem coff18 : ∀ t : Fin grid0.N, cnd3 (grid0.coords t) → k0_off18 (grid0.coords t) = ![(kd (t.val + 1)).val, 0, 9344] := by decide +kernel
@[sl_canon] theorem canon18 (t : Fin grid0.N) (h : cnd3 (grid0.coords t)) :
    (hbM0_0.slice (Rect.unit (s := S2x3584x9472) (k0_off18 (grid0.coords t)) S1x3584x128.size (k0_off18_inb (grid0.coords t) h)) (fun _ => rfl)).squeeze S3584x128 squeezes_S1x3584x128_S3584x128 = uB (kd (t.val + 1)) :=
  congrArg (fun M : Memref sig .tc .hbm S1x3584x128 .fp8e4m3 => M.squeeze S3584x128 squeezes_S1x3584x128_S3584x128) (Memref.slice_unit_congr _ (coff18 t h) _ _ (fun _ => rfl) (fun _ => rfl))
set_option synthInstance.maxSize 4096 in
theorem coff19 : ∀ t : Fin grid0.N, cnd4 (grid0.coords t) → k0_off19 (grid0.coords t) = ![(sd (t.val + 1)).val] := by decide +kernel
@[sl_canon] theorem canon19 (t : Fin grid0.N) (h : cnd4 (grid0.coords t)) :
    (cc0_scratch5.slice (Rect.unit (s := S2) (k0_off19 (grid0.coords t)) S1.size (k0_off19_inb (grid0.coords t) h))).squeeze S_ squeezes_S1_S_ = cD (sd (t.val + 1)) :=
  congrArg (fun A : DmaSems sig S1 => A.squeeze S_ squeezes_S1_S_) (SemArray.slice_unit_congr _ (coff19 t h) _ _)
set_option synthInstance.maxSize 4096 in
theorem coff20 : ∀ t : Fin grid0.N, cnd4 (grid0.coords t) → k0_off20 (grid0.coords t) = ![(sd (t.val + 1)).val, 0, 0] := by decide +kernel
@[sl_canon] theorem canon20 (t : Fin grid0.N) (h : cnd4 (grid0.coords t)) :
    (scM0_2.slice (Rect.unit (s := S2x4736x512) (k0_off20 (grid0.coords t)) S1x4736x512.size (k0_off20_inb (grid0.coords t) h)) (fun _ => rfl)).squeeze S4736x512 squeezes_S1x4736x512_S4736x512 = wD (sd (t.val + 1)) :=
  congrArg (fun M : Memref sig .tc .vmem S1x4736x512 .fp8e4m3 => M.squeeze S4736x512 squeezes_S1x4736x512_S4736x512) (Memref.slice_unit_congr _ (coff20 t h) _ _ (fun _ => rfl) (fun _ => rfl))
set_option synthInstance.maxSize 4096 in
theorem coff21 : ∀ t : Fin grid0.N, cnd4 (grid0.coords t) → k0_off21 (grid0.coords t) = ![(kd (t.val + 1)).val, 0, 512 * (td (t.val + 1)).val] := by decide +kernel
@[sl_canon] theorem canon21 (t : Fin grid0.N) (h : cnd4 (grid0.coords t)) :
    (hbM0_1.slice (Rect.unit (s := S2x4736x3584) (k0_off21 (grid0.coords t)) S1x4736x512.size (k0_off21_inb (grid0.coords t) h)) (fun _ => rfl)).squeeze S4736x512 squeezes_S1x4736x512_S4736x512 = rD (kd (t.val + 1)) (td (t.val + 1)) :=
  congrArg (fun M : Memref sig .tc .hbm S1x4736x512 .fp8e4m3 => M.squeeze S4736x512 squeezes_S1x4736x512_S4736x512) (Memref.slice_unit_congr _ (coff21 t h) _ _ (fun _ => rfl) (fun _ => rfl))
set_option synthInstance.maxSize 4096 in
theorem coff22 : ∀ t : Fin grid0.N, cnd5 (grid0.coords t) → k0_off22 (grid0.coords t) = ![(sg (t.val + 1)).val, 0] := by decide +kernel
@[sl_canon] theorem canon22 (t : Fin grid0.N) (h : cnd5 (grid0.coords t)) :
    (cc0_scratch4.slice (Rect.unit (s := S2x2) (k0_off22 (grid0.coords t)) S1x1.size (k0_off22_inb (grid0.coords t) h))).squeeze S_ squeezes_S1x1_S_ = cA (sg (t.val + 1)) :=
  congrArg (fun A : DmaSems sig S1x1 => A.squeeze S_ squeezes_S1x1_S_) (SemArray.slice_unit_congr _ (coff22 t h) _ _)
set_option synthInstance.maxSize 4096 in
theorem coff23 : ∀ t : Fin grid0.N, cnd5 (grid0.coords t) → k0_off23 (grid0.coords t) = ![(sg (t.val + 1)).val, 0, 0] := by decide +kernel
@[sl_canon] theorem canon23 (t : Fin grid0.N) (h : cnd5 (grid0.coords t)) :
    (scM0_1.slice (Rect.unit (s := S2x3584x1024) (k0_off23 (grid0.coords t)) S1x3584x512.size (k0_off23_inb (grid0.coords t) h)) (fun _ => rfl)).squeeze S3584x512 squeezes_S1x3584x512_S3584x512 = wA (sg (t.val + 1)) :=
  congrArg (fun M : Memref sig .tc .vmem S1x3584x512 .fp8e4m3 => M.squeeze S3584x512 squeezes_S1x3584x512_S3584x512) (Memref.slice_unit_congr _ (coff23 t h) _ _ (fun _ => rfl) (fun _ => rfl))
set_option synthInstance.maxSize 4096 in
theorem coff24 : ∀ t : Fin grid0.N, cnd5 (grid0.coords t) → k0_off24 (grid0.coords t) = ![(kd (t.val + 1)).val, 0, 512 * (tg (t.val + 1)).val] := by decide +kernel
@[sl_canon] theorem canon24 (t : Fin grid0.N) (h : cnd5 (grid0.coords t)) :
    (hbM0_0.slice (Rect.unit (s := S2x3584x9472) (k0_off24 (grid0.coords t)) S1x3584x512.size (k0_off24_inb (grid0.coords t) h)) (fun _ => rfl)).squeeze S3584x512 squeezes_S1x3584x512_S3584x512 = rA (kd (t.val + 1)) (tg (t.val + 1)) :=
  congrArg (fun M : Memref sig .tc .hbm S1x3584x512 .fp8e4m3 => M.squeeze S3584x512 squeezes_S1x3584x512_S3584x512) (Memref.slice_unit_congr _ (coff24 t h) _ _ (fun _ => rfl) (fun _ => rfl))
set_option synthInstance.maxSize 4096 in
theorem coff25 : ∀ t : Fin grid0.N, cnd5 (grid0.coords t) → k0_off25 (grid0.coords t) = ![(sg (t.val + 1)).val, 1] := by decide +kernel
@[sl_canon] theorem canon25 (t : Fin grid0.N) (h : cnd5 (grid0.coords t)) :
    (cc0_scratch4.slice (Rect.unit (s := S2x2) (k0_off25 (grid0.coords t)) S1x1.size (k0_off25_inb (grid0.coords t) h))).squeeze S_ squeezes_S1x1_S_ = cB (sg (t.val + 1)) :=
  congrArg (fun A : DmaSems sig S1x1 => A.squeeze S_ squeezes_S1x1_S_) (SemArray.slice_unit_congr _ (coff25 t h) _ _)
set_option synthInstance.maxSize 4096 in
theorem coff26 : ∀ t : Fin grid0.N, cnd5 (grid0.coords t) → k0_off26 (grid0.coords t) = ![(sg (t.val + 1)).val, 0, 512] := by decide +kernel
@[sl_canon] theorem canon26 (t : Fin grid0.N) (h : cnd5 (grid0.coords t)) :
    (scM0_1.slice (Rect.unit (s := S2x3584x1024) (k0_off26 (grid0.coords t)) S1x3584x512.size (k0_off26_inb (grid0.coords t) h)) (fun _ => rfl)).squeeze S3584x512 squeezes_S1x3584x512_S3584x512 = wB (sg (t.val + 1)) :=
  congrArg (fun M : Memref sig .tc .vmem S1x3584x512 .fp8e4m3 => M.squeeze S3584x512 squeezes_S1x3584x512_S3584x512) (Memref.slice_unit_congr _ (coff26 t h) _ _ (fun _ => rfl) (fun _ => rfl))
set_option synthInstance.maxSize 4096 in
theorem coff27 : ∀ t : Fin grid0.N, cnd5 (grid0.coords t) → k0_off27 (grid0.coords t) = ![(kd (t.val + 1)).val, 0, 4736 + 512 * (tg (t.val + 1)).val] := by decide +kernel
@[sl_canon] theorem canon27 (t : Fin grid0.N) (h : cnd5 (grid0.coords t)) :
    (hbM0_0.slice (Rect.unit (s := S2x3584x9472) (k0_off27 (grid0.coords t)) S1x3584x512.size (k0_off27_inb (grid0.coords t) h)) (fun _ => rfl)).squeeze S3584x512 squeezes_S1x3584x512_S3584x512 = rB (kd (t.val + 1)) (tg (t.val + 1)) :=
  congrArg (fun M : Memref sig .tc .hbm S1x3584x512 .fp8e4m3 => M.squeeze S3584x512 squeezes_S1x3584x512_S3584x512) (Memref.slice_unit_congr _ (coff27 t h) _ _ (fun _ => rfl) (fun _ => rfl))
set_option synthInstance.maxSize 4096 in
theorem coff28 : ∀ t : Fin grid0.N, cnd7 (grid0.coords t) → k0_off28 (grid0.coords t) = ![(sg t.val).val, 0] := by decide +kernel
@[sl_canon] theorem canon28 (t : Fin grid0.N) (h : cnd7 (grid0.coords t)) :
    (cc0_scratch4.slice (Rect.unit (s := S2x2) (k0_off28 (grid0.coords t)) S1x1.size (k0_off28_inb (grid0.coords t) h))).squeeze S_ squeezes_S1x1_S_ = cA (sg t.val) :=
  congrArg (fun A : DmaSems sig S1x1 => A.squeeze S_ squeezes_S1x1_S_) (SemArray.slice_unit_congr _ (coff28 t h) _ _)
set_option synthInstance.maxSize 4096 in
theorem coff29 : ∀ t : Fin grid0.N, cnd7 (grid0.coords t) → k0_off29 (grid0.coords t) = ![(sg t.val).val, 0, 0] := by decide +kernel
@[sl_canon] theorem canon29 (t : Fin grid0.N) (h : cnd7 (grid0.coords t)) :
    (scM0_1.slice (Rect.unit (s := S2x3584x1024) (k0_off29 (grid0.coords t)) S1x3584x512.size (k0_off29_inb (grid0.coords t) h)) (fun _ => rfl)).squeeze S3584x512 squeezes_S1x3584x512_S3584x512 = wA (sg t.val) :=
  congrArg (fun M : Memref sig .tc .vmem S1x3584x512 .fp8e4m3 => M.squeeze S3584x512 squeezes_S1x3584x512_S3584x512) (Memref.slice_unit_congr _ (coff29 t h) _ _ (fun _ => rfl) (fun _ => rfl))
set_option synthInstance.maxSize 4096 in
theorem coff30 : ∀ t : Fin grid0.N, cnd7 (grid0.coords t) → k0_off30 (grid0.coords t) = ![(kd t.val).val, 0, 512 * (tg t.val).val] := by decide +kernel
@[sl_canon] theorem canon30 (t : Fin grid0.N) (h : cnd7 (grid0.coords t)) :
    (hbM0_0.slice (Rect.unit (s := S2x3584x9472) (k0_off30 (grid0.coords t)) S1x3584x512.size (k0_off30_inb (grid0.coords t) h)) (fun _ => rfl)).squeeze S3584x512 squeezes_S1x3584x512_S3584x512 = rA (kd t.val) (tg t.val) :=
  congrArg (fun M : Memref sig .tc .hbm S1x3584x512 .fp8e4m3 => M.squeeze S3584x512 squeezes_S1x3584x512_S3584x512) (Memref.slice_unit_congr _ (coff30 t h) _ _ (fun _ => rfl) (fun _ => rfl))
set_option synthInstance.maxSize 4096 in
theorem coff31 : ∀ t : Fin grid0.N, cnd7 (grid0.coords t) → k0_off31 (grid0.coords t) = ![(sg t.val).val, 1] := by decide +kernel
@[sl_canon] theorem canon31 (t : Fin grid0.N) (h : cnd7 (grid0.coords t)) :
    (cc0_scratch4.slice (Rect.unit (s := S2x2) (k0_off31 (grid0.coords t)) S1x1.size (k0_off31_inb (grid0.coords t) h))).squeeze S_ squeezes_S1x1_S_ = cB (sg t.val) :=
  congrArg (fun A : DmaSems sig S1x1 => A.squeeze S_ squeezes_S1x1_S_) (SemArray.slice_unit_congr _ (coff31 t h) _ _)
set_option synthInstance.maxSize 4096 in
theorem coff32 : ∀ t : Fin grid0.N, cnd7 (grid0.coords t) → k0_off32 (grid0.coords t) = ![(sg t.val).val, 0, 512] := by decide +kernel
@[sl_canon] theorem canon32 (t : Fin grid0.N) (h : cnd7 (grid0.coords t)) :
    (scM0_1.slice (Rect.unit (s := S2x3584x1024) (k0_off32 (grid0.coords t)) S1x3584x512.size (k0_off32_inb (grid0.coords t) h)) (fun _ => rfl)).squeeze S3584x512 squeezes_S1x3584x512_S3584x512 = wB (sg t.val) :=
  congrArg (fun M : Memref sig .tc .vmem S1x3584x512 .fp8e4m3 => M.squeeze S3584x512 squeezes_S1x3584x512_S3584x512) (Memref.slice_unit_congr _ (coff32 t h) _ _ (fun _ => rfl) (fun _ => rfl))
set_option synthInstance.maxSize 4096 in
theorem coff33 : ∀ t : Fin grid0.N, cnd7 (grid0.coords t) → k0_off33 (grid0.coords t) = ![(kd t.val).val, 0, 4736 + 512 * (tg t.val).val] := by decide +kernel
@[sl_canon] theorem canon33 (t : Fin grid0.N) (h : cnd7 (grid0.coords t)) :
    (hbM0_0.slice (Rect.unit (s := S2x3584x9472) (k0_off33 (grid0.coords t)) S1x3584x512.size (k0_off33_inb (grid0.coords t) h)) (fun _ => rfl)).squeeze S3584x512 squeezes_S1x3584x512_S3584x512 = rB (kd t.val) (tg t.val) :=
  congrArg (fun M : Memref sig .tc .hbm S1x3584x512 .fp8e4m3 => M.squeeze S3584x512 squeezes_S1x3584x512_S3584x512) (Memref.slice_unit_congr _ (coff33 t h) _ _ (fun _ => rfl) (fun _ => rfl))
set_option synthInstance.maxSize 4096 in
theorem coff40 : ∀ t : Fin grid0.N, cnd8 (grid0.coords t) → k0_off40 (grid0.coords t) = ![(sg t.val).val, 0] := by decide +kernel
@[sl_canon] theorem canon40 (t : Fin grid0.N) (h : cnd8 (grid0.coords t)) :
    (cc0_scratch4.slice (Rect.unit (s := S2x2) (k0_off40 (grid0.coords t)) S1x1.size (k0_off40_inb (grid0.coords t) h))).squeeze S_ squeezes_S1x1_S_ = cA (sg t.val) :=
  congrArg (fun A : DmaSems sig S1x1 => A.squeeze S_ squeezes_S1x1_S_) (SemArray.slice_unit_congr _ (coff40 t h) _ _)
set_option synthInstance.maxSize 4096 in
theorem coff41 : ∀ t : Fin grid0.N, cnd8 (grid0.coords t) → k0_off41 (grid0.coords t) = ![(sg t.val).val, 0, 0] := by decide +kernel
@[sl_canon] theorem canon41 (t : Fin grid0.N) (h : cnd8 (grid0.coords t)) :
    (scM0_1.slice (Rect.unit (s := S2x3584x1024) (k0_off41 (grid0.coords t)) S1x3584x128.size (k0_off41_inb (grid0.coords t) h)) (fun _ => rfl)).squeeze S3584x128 squeezes_S1x3584x128_S3584x128 = tA (sg t.val) :=
  congrArg (fun M : Memref sig .tc .vmem S1x3584x128 .fp8e4m3 => M.squeeze S3584x128 squeezes_S1x3584x128_S3584x128) (Memref.slice_unit_congr _ (coff41 t h) _ _ (fun _ => rfl) (fun _ => rfl))
set_option synthInstance.maxSize 4096 in
theorem coff42 : ∀ t : Fin grid0.N, cnd8 (grid0.coords t) → k0_off42 (grid0.coords t) = ![(kd t.val).val, 0, 4608] := by decide +kernel
@[sl_canon] theorem canon42 (t : Fin grid0.N) (h : cnd8 (grid0.coords t)) :
    (hbM0_0.slice (Rect.unit (s := S2x3584x9472) (k0_off42 (grid0.coords t)) S1x3584x128.size (k0_off42_inb (grid0.coords t) h)) (fun _ => rfl)).squeeze S3584x128 squeezes_S1x3584x128_S3584x128 = uA (kd t.val) :=
  congrArg (fun M : Memref sig .tc .hbm S1x3584x128 .fp8e4m3 => M.squeeze S3584x128 squeezes_S1x3584x128_S3584x128) (Memref.slice_unit_congr _ (coff42 t h) _ _ (fun _ => rfl) (fun _ => rfl))
set_option synthInstance.maxSize 4096 in
theorem coff43 : ∀ t : Fin grid0.N, cnd8 (grid0.coords t) → k0_off43 (grid0.coords t) = ![(sg t.val).val, 1] := by decide +kernel
@[sl_canon] theorem canon43 (t : Fin grid0.N) (h : cnd8 (grid0.coords t)) :
    (cc0_scratch4.slice (Rect.unit (s := S2x2) (k0_off43 (grid0.coords t)) S1x1.size (k0_off43_inb (grid0.coords t) h))).squeeze S_ squeezes_S1x1_S_ = cB (sg t.val) :=
  congrArg (fun A : DmaSems sig S1x1 => A.squeeze S_ squeezes_S1x1_S_) (SemArray.slice_unit_congr _ (coff43 t h) _ _)
set_option synthInstance.maxSize 4096 in
theorem coff44 : ∀ t : Fin grid0.N, cnd8 (grid0.coords t) → k0_off44 (grid0.coords t) = ![(sg t.val).val, 0, 512] := by decide +kernel
@[sl_canon] theorem canon44 (t : Fin grid0.N) (h : cnd8 (grid0.coords t)) :
    (scM0_1.slice (Rect.unit (s := S2x3584x1024) (k0_off44 (grid0.coords t)) S1x3584x128.size (k0_off44_inb (grid0.coords t) h)) (fun _ => rfl)).squeeze S3584x128 squeezes_S1x3584x128_S3584x128 = tB (sg t.val) :=
  congrArg (fun M : Memref sig .tc .vmem S1x3584x128 .fp8e4m3 => M.squeeze S3584x128 squeezes_S1x3584x128_S3584x128) (Memref.slice_unit_congr _ (coff44 t h) _ _ (fun _ => rfl) (fun _ => rfl))
set_option synthInstance.maxSize 4096 in
theorem coff45 : ∀ t : Fin grid0.N, cnd8 (grid0.coords t) → k0_off45 (grid0.coords t) = ![(kd t.val).val, 0, 9344] := by decide +kernel
@[sl_canon] theorem canon45 (t : Fin grid0.N) (h : cnd8 (grid0.coords t)) :
    (hbM0_0.slice (Rect.unit (s := S2x3584x9472) (k0_off45 (grid0.coords t)) S1x3584x128.size (k0_off45_inb (grid0.coords t) h)) (fun _ => rfl)).squeeze S3584x128 squeezes_S1x3584x128_S3584x128 = uB (kd t.val) :=
  congrArg (fun M : Memref sig .tc .hbm S1x3584x128 .fp8e4m3 => M.squeeze S3584x128 squeezes_S1x3584x128_S3584x128) (Memref.slice_unit_congr _ (coff45 t h) _ _ (fun _ => rfl) (fun _ => rfl))
set_option synthInstance.maxSize 4096 in
theorem coff48 : ∀ t : Fin grid0.N, cnd9 (grid0.coords t) → k0_off48 (grid0.coords t) = ![(sd t.val).val] := by decide +kernel
@[sl_canon] theorem canon48 (t : Fin grid0.N) (h : cnd9 (grid0.coords t)) :
    (cc0_scratch5.slice (Rect.unit (s := S2) (k0_off48 (grid0.coords t)) S1.size (k0_off48_inb (grid0.coords t) h))).squeeze S_ squeezes_S1_S_ = cD (sd t.val) :=
  congrArg (fun A : DmaSems sig S1 => A.squeeze S_ squeezes_S1_S_) (SemArray.slice_unit_congr _ (coff48 t h) _ _)
set_option synthInstance.maxSize 4096 in
theorem coff49 : ∀ t : Fin grid0.N, cnd9 (grid0.coords t) → k0_off49 (grid0.coords t) = ![(sd t.val).val, 0, 0] := by decide +kernel
@[sl_canon] theorem canon49 (t : Fin grid0.N) (h : cnd9 (grid0.coords t)) :
    (scM0_2.slice (Rect.unit (s := S2x4736x512) (k0_off49 (grid0.coords t)) S1x4736x512.size (k0_off49_inb (grid0.coords t) h)) (fun _ => rfl)).squeeze S4736x512 squeezes_S1x4736x512_S4736x512 = wD (sd t.val) :=
  congrArg (fun M : Memref sig .tc .vmem S1x4736x512 .fp8e4m3 => M.squeeze S4736x512 squeezes_S1x4736x512_S4736x512) (Memref.slice_unit_congr _ (coff49 t h) _ _ (fun _ => rfl) (fun _ => rfl))
set_option synthInstance.maxSize 4096 in
theorem coff50 : ∀ t : Fin grid0.N, cnd9 (grid0.coords t) → k0_off50 (grid0.coords t) = ![(kd t.val).val, 0, 512 * (td t.val).val] := by decide +kernel
@[sl_canon] theorem canon50 (t : Fin grid0.N) (h : cnd9 (grid0.coords t)) :
    (hbM0_1.slice (Rect.unit (s := S2x4736x3584) (k0_off50 (grid0.coords t)) S1x4736x512.size (k0_off50_inb (grid0.coords t) h)) (fun _ => rfl)).squeeze S4736x512 squeezes_S1x4736x512_S4736x512 = rD (kd t.val) (td t.val) :=
  congrArg (fun M : Memref sig .tc .hbm S1x4736x512 .fp8e4m3 => M.squeeze S4736x512 squeezes_S1x4736x512_S4736x512) (Memref.slice_unit_congr _ (coff50 t h) _ _ (fun _ => rfl) (fun _ => rfl))
set_option synthInstance.maxSize 4096 in
theorem coff34 : ∀ t : Fin grid0.N, k0_off34 (grid0.coords t) = ![(sg t.val).val, 0, 0] := by decide +kernel
instance (priority := high) closed34 (t : Fin grid0.N) : ClosedOff (k0_off34 (grid0.coords t)) := ⟨![(sg t.val).val, 0, 0], coff34 t⟩
set_option synthInstance.maxSize 4096 in
theorem coff35 : ∀ t : Fin grid0.N, k0_off35 (grid0.coords t) = ![(sg t.val).val, 0, 512] := by decide +kernel
instance (priority := high) closed35 (t : Fin grid0.N) : ClosedOff (k0_off35 (grid0.coords t)) := ⟨![(sg t.val).val, 0, 512], coff35 t⟩
set_option synthInstance.maxSize 4096 in
theorem coff38 : ∀ t : Fin grid0.N, k0_off38 (grid0.coords t) = ![(sg t.val).val, 0, 256] := by decide +kernel
instance (priority := high) closed38 (t : Fin grid0.N) : ClosedOff (k0_off38 (grid0.coords t)) := ⟨![(sg t.val).val, 0, 256], coff38 t⟩
set_option synthInstance.maxSize 4096 in
theorem coff39 : ∀ t : Fin grid0.N, k0_off39 (grid0.coords t) = ![(sg t.val).val, 0, 768] := by decide +kernel
instance (priority := high) closed39 (t : Fin grid0.N) : ClosedOff (k0_off39 (grid0.coords t)) := ⟨![(sg t.val).val, 0, 768], coff39 t⟩
set_option synthInstance.maxSize 4096 in
theorem coff46 : ∀ t : Fin grid0.N, k0_off46 (grid0.coords t) = ![(sg t.val).val, 0, 0] := by decide +kernel
instance (priority := high) closed46 (t : Fin grid0.N) : ClosedOff (k0_off46 (grid0.coords t)) := ⟨![(sg t.val).val, 0, 0], coff46 t⟩
set_option synthInstance.maxSize 4096 in
theorem coff47 : ∀ t : Fin grid0.N, k0_off47 (grid0.coords t) = ![(sg t.val).val, 0, 512] := by decide +kernel
instance (priority := high) closed47 (t : Fin grid0.N) : ClosedOff (k0_off47 (grid0.coords t)) := ⟨![(sg t.val).val, 0, 512], coff47 t⟩
set_option synthInstance.maxSize 4096 in
theorem coff51 : ∀ t : Fin grid0.N, cnd9 (grid0.coords t) → k0_off51 (grid0.coords t) = ![(sd t.val).val, 0, 0] := by decide +kernel
instance (priority := high) closed51 (t : Fin grid0.N) [h : Fact (cnd9 (grid0.coords t))] : ClosedOff (k0_off51 (grid0.coords t)) := ⟨![(sd t.val).val, 0, 0], coff51 t h.out⟩
set_option synthInstance.maxSize 4096 in
theorem coff36_0 : ∀ t : Fin grid0.N, k0_off36 (grid0.coords t) 0#32 = ![4 * (t.val % 17), 0, 0] := by decide +kernel
instance (priority := high) closed36_0 (t : Fin grid0.N) : ClosedOff (k0_off36 (grid0.coords t) 0#32) := ⟨![4 * (t.val % 17), 0, 0], coff36_0 t⟩
set_option synthInstance.maxSize 4096 in
theorem coff37_0 : ∀ t : Fin grid0.N, k0_off37 (grid0.coords t) 0#32 = ![4 * (t.val % 17) + 1, 0, 0] := by decide +kernel
instance (priority := high) closed37_0 (t : Fin grid0.N) : ClosedOff (k0_off37 (grid0.coords t) 0#32) := ⟨![4 * (t.val % 17) + 1, 0, 0], coff37_0 t⟩
set_option synthInstance.maxSize 4096 in
theorem coff36_2 : ∀ t : Fin grid0.N, k0_off36 (grid0.coords t) 2#32 = ![4 * (t.val % 17) + 2, 0, 0] := by decide +kernel
instance (priority := high) closed36_2 (t : Fin grid0.N) : ClosedOff (k0_off36 (grid0.coords t) 2#32) := ⟨![4 * (t.val % 17) + 2, 0, 0], coff36_2 t⟩
set_option synthInstance.maxSize 4096 in
theorem coff37_2 : ∀ t : Fin grid0.N, k0_off37 (grid0.coords t) 2#32 = ![4 * (t.val % 17) + 3, 0, 0] := by decide +kernel
instance (priority := high) closed37_2 (t : Fin grid0.N) : ClosedOff (k0_off37 (grid0.coords t) 2#32) := ⟨![4 * (t.val % 17) + 3, 0, 0], coff37_2 t⟩
end Canon

end Cert.KernelIdeal.Ffn

end
-- ==== Proof.Ideal.Ring.lean ====
/- What the streams of the two operands hold: windows, cells, sources by share, and transfers in flight. -/
module

public import proofs.«01_k».proof.Proof.Ideal.Base

@[expose] public section

set_option maxRecDepth 16384

noncomputable section

namespace Cert.KernelIdeal.Ffn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

section Streams
variable (c : Dev nD)

/-- The operands are lent by share, one copy per slot and part. -/
abbrev shA (s : Fin 2) : PosShare TreeShare := if s.val = 0 then fullShare.left.left else fullShare.right.left
abbrev shB (s : Fin 2) : PosShare TreeShare := if s.val = 0 then fullShare.left.right else fullShare.right.right
abbrev shD (s : Fin 2) : PosShare TreeShare := if s.val = 0 then fullShare.left else fullShare.right

/-- The window held at `f`; -/
abbrev slotA (s : Fin 2) (f : HbBuf0 (F := F) c (wA s)) : sProp 𝕄 := (wA s).view.loc (c : Thread nD τ) ↦[(wA s).view.set]{fullShare} f
/-- its semaphore at zero; -/
abbrev cellA (s : Fin 2) : sProp 𝕄 := semVal ((c : Thread nD τ), qA s) 0
/-- its copy of the operand; -/
abbrev wholeA (W : HbBuf0 (F := F) c hbM0_0) (s : Fin 2) : sProp 𝕄 := ((c : Thread nD τ).loc main_arg3) ↦[Finset.univ]{shA s} W
/-- the elements of that copy a transfer lends, -/
abbrev srcA (W : HbBuf0 (F := F) c hbM0_0) (s : Fin 2) (k : Fin 2) (b : Fin 9) : sProp 𝕄 := (rA k b).view.loc (c : Thread nD τ) ↦[(rA k b).view.set]{shA s} W
/-- and the rest of it; -/
def restA (W : HbBuf0 (F := F) c hbM0_0) (s : Fin 2) (k : Fin 2) (b : Fin 9) : sProp 𝕄 := ((c : Thread nD τ).loc main_arg3) ↦[Finset.univ \ (rA k b).view.set]{shA s} W
theorem splitA (W : HbBuf0 (F := F) c hbM0_0) (s : Fin 2) (k : Fin 2) (b : Fin 9) : wholeA (F := F) c W s ⊣⊢ iprop(srcA c W s k b ∗ restA c W s k b) := by
  unfold restA; exact pointsTo_split_subset (Finset.subset_univ _)
/-- the window once the transfer landed; -/
abbrev landA (W : HbBuf0 (F := F) c hbM0_0) (s : Fin 2) (k : Fin 2) (b : Fin 9) (f : HbBuf0 (F := F) c (wA s)) : HbBuf0 (F := F) c (wA s) :=
  (wA s).view.writes (Elt F) f [⟨Rect.whole S3584x512, ReadAs.same.apply ((rA k b).view.read (Elt F) W)⟩]
/-- the transfer in flight. -/
abbrev flightA (W : HbBuf0 (F := F) c hbM0_0) (s : Fin 2) (k : Fin 2) (b : Fin 9) (f : HbBuf0 (F := F) c (wA s)) : sProp 𝕄 :=
  Transfers.Flight countersEmb (c : Thread nD τ) (qA s) default ((wA s).view.amount (qA s))
    iprop(slotA c s (landA c W s k b f) ∗ srcA c W s k b)
/-- Tile `b` on its way into slot `s`; -/
def flyA (W : HbBuf0 (F := F) c hbM0_0) (s : Fin 2) (k : Fin 2) (b : Fin 9) : sProp 𝕄 := iprop(∃ f, flightA c W s k b f ∗ restA c W s k b)
/-- the slot free. -/
def freeA (W : HbBuf0 (F := F) c hbM0_0) (s : Fin 2) : sProp 𝕄 := iprop(cellA c s ∗ (∃ f, slotA c s f) ∗ wholeA c W s)
/-- The window held at `f`; -/
abbrev slotB (s : Fin 2) (f : HbBuf0 (F := F) c (wB s)) : sProp 𝕄 := (wB s).view.loc (c : Thread nD τ) ↦[(wB s).view.set]{fullShare} f
/-- its semaphore at zero; -/
abbrev cellB (s : Fin 2) : sProp 𝕄 := semVal ((c : Thread nD τ), qB s) 0
/-- its copy of the operand; -/
abbrev wholeB (W : HbBuf0 (F := F) c hbM0_0) (s : Fin 2) : sProp 𝕄 := ((c : Thread nD τ).loc main_arg3) ↦[Finset.univ]{shB s} W
/-- the elements of that copy a transfer lends, -/
abbrev srcB (W : HbBuf0 (F := F) c hbM0_0) (s : Fin 2) (k : Fin 2) (b : Fin 9) : sProp 𝕄 := (rB k b).view.loc (c : Thread nD τ) ↦[(rB k b).view.set]{shB s} W
/-- and the rest of it; -/
def restB (W : HbBuf0 (F := F) c hbM0_0) (s : Fin 2) (k : Fin 2) (b : Fin 9) : sProp 𝕄 := ((c : Thread nD τ).loc main_arg3) ↦[Finset.univ \ (rB k b).view.set]{shB s} W
theorem splitB (W : HbBuf0 (F := F) c hbM0_0) (s : Fin 2) (k : Fin 2) (b : Fin 9) : wholeB (F := F) c W s ⊣⊢ iprop(srcB c W s k b ∗ restB c W s k b) := by
  unfold restB; exact pointsTo_split_subset (Finset.subset_univ _)
/-- the window once the transfer landed; -/
abbrev landB (W : HbBuf0 (F := F) c hbM0_0) (s : Fin 2) (k : Fin 2) (b : Fin 9) (f : HbBuf0 (F := F) c (wB s)) : HbBuf0 (F := F) c (wB s) :=
  (wB s).view.writes (Elt F) f [⟨Rect.whole S3584x512, ReadAs.same.apply ((rB k b).view.read (Elt F) W)⟩]
/-- the transfer in flight. -/
abbrev flightB (W : HbBuf0 (F := F) c hbM0_0) (s : Fin 2) (k : Fin 2) (b : Fin 9) (f : HbBuf0 (F := F) c (wB s)) : sProp 𝕄 :=
  Transfers.Flight countersEmb (c : Thread nD τ) (qB s) default ((wB s).view.amount (qB s))
    iprop(slotB c s (landB c W s k b f) ∗ srcB c W s k b)
/-- Tile `b` on its way into slot `s`; -/
def flyB (W : HbBuf0 (F := F) c hbM0_0) (s : Fin 2) (k : Fin 2) (b : Fin 9) : sProp 𝕄 := iprop(∃ f, flightB c W s k b f ∗ restB c W s k b)
/-- the slot free. -/
def freeB (W : HbBuf0 (F := F) c hbM0_0) (s : Fin 2) : sProp 𝕄 := iprop(cellB c s ∗ (∃ f, slotB c s f) ∗ wholeB c W s)
/-- The window held at `f`; -/
abbrev slotD (s : Fin 2) (f : HbBuf0 (F := F) c (wD s)) : sProp 𝕄 := (wD s).view.loc (c : Thread nD τ) ↦[(wD s).view.set]{fullShare} f
/-- its semaphore at zero; -/
abbrev cellD (s : Fin 2) : sProp 𝕄 := semVal ((c : Thread nD τ), qD s) 0
/-- its copy of the operand; -/
abbrev wholeD (W : HbBuf0 (F := F) c hbM0_1) (s : Fin 2) : sProp 𝕄 := ((c : Thread nD τ).loc main_arg5) ↦[Finset.univ]{shD s} W
/-- the elements of that copy a transfer lends, -/
abbrev srcD (W : HbBuf0 (F := F) c hbM0_1) (s : Fin 2) (k : Fin 2) (b : Fin 7) : sProp 𝕄 := (rD k b).view.loc (c : Thread nD τ) ↦[(rD k b).view.set]{shD s} W
/-- and the rest of it; -/
def restD (W : HbBuf0 (F := F) c hbM0_1) (s : Fin 2) (k : Fin 2) (b : Fin 7) : sProp 𝕄 := ((c : Thread nD τ).loc main_arg5) ↦[Finset.univ \ (rD k b).view.set]{shD s} W
theorem splitD (W : HbBuf0 (F := F) c hbM0_1) (s : Fin 2) (k : Fin 2) (b : Fin 7) : wholeD (F := F) c W s ⊣⊢ iprop(srcD c W s k b ∗ restD c W s k b) := by
  unfold restD; exact pointsTo_split_subset (Finset.subset_univ _)
/-- the window once the transfer landed; -/
abbrev landD (W : HbBuf0 (F := F) c hbM0_1) (s : Fin 2) (k : Fin 2) (b : Fin 7) (f : HbBuf0 (F := F) c (wD s)) : HbBuf0 (F := F) c (wD s) :=
  (wD s).view.writes (Elt F) f [⟨Rect.whole S4736x512, ReadAs.same.apply ((rD k b).view.read (Elt F) W)⟩]
/-- the transfer in flight. -/
abbrev flightD (W : HbBuf0 (F := F) c hbM0_1) (s : Fin 2) (k : Fin 2) (b : Fin 7) (f : HbBuf0 (F := F) c (wD s)) : sProp 𝕄 :=
  Transfers.Flight countersEmb (c : Thread nD τ) (qD s) default ((wD s).view.amount (qD s))
    iprop(slotD c s (landD c W s k b f) ∗ srcD c W s k b)
/-- Tile `b` on its way into slot `s`; -/
def flyD (W : HbBuf0 (F := F) c hbM0_1) (s : Fin 2) (k : Fin 2) (b : Fin 7) : sProp 𝕄 := iprop(∃ f, flightD c W s k b f ∗ restD c W s k b)
/-- the slot free. -/
def freeD (W : HbBuf0 (F := F) c hbM0_1) (s : Fin 2) : sProp 𝕄 := iprop(cellD c s ∗ (∃ f, slotD c s f) ∗ wholeD c W s)
/-- The window held at `f`; -/
abbrev slotTA (s : Fin 2) (f : HbBuf0 (F := F) c (tA s)) : sProp 𝕄 := (tA s).view.loc (c : Thread nD τ) ↦[(tA s).view.set]{fullShare} f
/-- the elements of that copy a transfer lends, -/
abbrev srcTA (W : HbBuf0 (F := F) c hbM0_0) (s : Fin 2) (k : Fin 2) : sProp 𝕄 := (uA k).view.loc (c : Thread nD τ) ↦[(uA k).view.set]{shA s} W
/-- and the rest of it; -/
def restTA (W : HbBuf0 (F := F) c hbM0_0) (s : Fin 2) (k : Fin 2) : sProp 𝕄 := ((c : Thread nD τ).loc main_arg3) ↦[Finset.univ \ (uA k).view.set]{shA s} W
theorem splitTA (W : HbBuf0 (F := F) c hbM0_0) (s : Fin 2) (k : Fin 2) : wholeA (F := F) c W s ⊣⊢ iprop(srcTA c W s k ∗ restTA c W s k) := by
  unfold restTA; exact pointsTo_split_subset (Finset.subset_univ _)
/-- the window once the transfer landed; -/
abbrev landTA (W : HbBuf0 (F := F) c hbM0_0) (s : Fin 2) (k : Fin 2) (f : HbBuf0 (F := F) c (tA s)) : HbBuf0 (F := F) c (tA s) :=
  (tA s).view.writes (Elt F) f [⟨Rect.whole S3584x128, ReadAs.same.apply ((uA k).view.read (Elt F) W)⟩]
/-- the transfer in flight. -/
abbrev flightTA (W : HbBuf0 (F := F) c hbM0_0) (s : Fin 2) (k : Fin 2) (f : HbBuf0 (F := F) c (tA s)) : sProp 𝕄 :=
  Transfers.Flight countersEmb (c : Thread nD τ) (qA s) default ((tA s).view.amount (qA s))
    iprop(slotTA c s (landTA c W s k f) ∗ srcTA c W s k)
/-- What the narrow tile leaves of the window. -/
def spareTA (s : Fin 2) (f : HbBuf0 (F := F) c (wA s)) : sProp 𝕄 := (wA s).view.loc (c : Thread nD τ) ↦[(wA s).view.set \ (tA s).view.set]{fullShare} f
/-- The narrow tile on its way into slot `s`. -/
def flyTA (W : HbBuf0 (F := F) c hbM0_0) (s : Fin 2) (k : Fin 2) : sProp 𝕄 := iprop(∃ f, flightTA c W s k f ∗ restTA c W s k ∗ ∃ g, spareTA c s g)
/-- The window held at `f`; -/
abbrev slotTB (s : Fin 2) (f : HbBuf0 (F := F) c (tB s)) : sProp 𝕄 := (tB s).view.loc (c : Thread nD τ) ↦[(tB s).view.set]{fullShare} f
/-- the elements of that copy a transfer lends, -/
abbrev srcTB (W : HbBuf0 (F := F) c hbM0_0) (s : Fin 2) (k : Fin 2) : sProp 𝕄 := (uB k).view.loc (c : Thread nD τ) ↦[(uB k).view.set]{shB s} W
/-- and the rest of it; -/
def restTB (W : HbBuf0 (F := F) c hbM0_0) (s : Fin 2) (k : Fin 2) : sProp 𝕄 := ((c : Thread nD τ).loc main_arg3) ↦[Finset.univ \ (uB k).view.set]{shB s} W
theorem splitTB (W : HbBuf0 (F := F) c hbM0_0) (s : Fin 2) (k : Fin 2) : wholeB (F := F) c W s ⊣⊢ iprop(srcTB c W s k ∗ restTB c W s k) := by
  unfold restTB; exact pointsTo_split_subset (Finset.subset_univ _)
/-- the window once the transfer landed; -/
abbrev landTB (W : HbBuf0 (F := F) c hbM0_0) (s : Fin 2) (k : Fin 2) (f : HbBuf0 (F := F) c (tB s)) : HbBuf0 (F := F) c (tB s) :=
  (tB s).view.writes (Elt F) f [⟨Rect.whole S3584x128, ReadAs.same.apply ((uB k).view.read (Elt F) W)⟩]
/-- the transfer in flight. -/
abbrev flightTB (W : HbBuf0 (F := F) c hbM0_0) (s : Fin 2) (k : Fin 2) (f : HbBuf0 (F := F) c (tB s)) : sProp 𝕄 :=
  Transfers.Flight countersEmb (c : Thread nD τ) (qB s) default ((tB s).view.amount (qB s))
    iprop(slotTB c s (landTB c W s k f) ∗ srcTB c W s k)
/-- What the narrow tile leaves of the window. -/
def spareTB (s : Fin 2) (f : HbBuf0 (F := F) c (wB s)) : sProp 𝕄 := (wB s).view.loc (c : Thread nD τ) ↦[(wB s).view.set \ (tB s).view.set]{fullShare} f
/-- The narrow tile on its way into slot `s`. -/
def flyTB (W : HbBuf0 (F := F) c hbM0_0) (s : Fin 2) (k : Fin 2) : sProp 𝕄 := iprop(∃ f, flightTB c W s k f ∗ restTB c W s k ∗ ∃ g, spareTB c s g)
end Streams

end Cert.KernelIdeal.Ffn

end
-- ==== Proof.Ideal.Pure.lean ====
/- What the loads of the body read and what its stores leave, as plain functions. -/
module

public import proofs.«01_k».proof.Proof.Ideal.Ring
public import Idealize.ShloMosaic.Lib.WritesUnit
public import Idealize.ShloMosaic.Lib.VecWindow
public import Idealize.ShloMosaic.Lib.Pipeline.FrameBody
public import Idealize.ShloMosaic.Lib.Pipeline.Value

@[expose] public section

set_option maxRecDepth 16384

noncomputable section

namespace Cert.KernelIdeal.Ffn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

section Land
omit [FloatOps F]
variable {Val : EltTy → Type}

/-- A box of a window that a transfer filled reads the same box of the transfer's source. -/
theorem land_sub {d d' size size2 : Fin 3 → ℕ} {e : EltTy} {sp sp' : Space} (M : Memref sig .tc sp ⟨3, d⟩ e) (N : Memref sig .tc sp' ⟨3, d'⟩ e)
    (off off' off2 off2' δ : Fin 3 → ℕ) (inb : ∀ a, off a + size a ≤ d a) (inb' : ∀ a, off' a + size a ≤ d' a)
    (inb2 : ∀ a, off2 a + size2 a ≤ d a) (inb2' : ∀ a, off2' a + size2 a ≤ d' a) (T : Shape) (hq : (⟨3, size⟩ : Shape).Squeezes T) (hc : (⟨3, size⟩ : Shape).ShapeCasts T)
    (h2 : ∀ a, off2 a = off a + δ a) (h2' : ∀ a, off2' a = off' a + δ a) (hδ : ∀ a, δ a + size2 a ≤ size a)
    (f : M.view.ty.Contents Val) (W : N.view.ty.Contents Val) :
    M.view.readAt Val (Rect.unit (s := ⟨3, d⟩) off2 size2 inb2).toLoadRect
        (((M.slice (Rect.unit (s := ⟨3, d⟩) off size inb) (fun _ => rfl)).squeeze T hq).view.writes Val f
          [⟨Rect.whole T, ReadAs.same.apply (((N.slice (Rect.unit (s := ⟨3, d'⟩) off' size inb') (fun _ => rfl)).squeeze T hq).view.read Val W)⟩])
      = N.view.readAt Val (Rect.unit (s := ⟨3, d'⟩) off2' size2 inb2').toLoadRect W := by
  have e1 := View.read_writes_whole ((M.slice (Rect.unit (s := ⟨3, d⟩) off size inb) (fun _ => rfl)).squeeze T hq).view f
    (ReadAs.same.apply (((N.slice (Rect.unit (s := ⟨3, d'⟩) off' size inb') (fun _ => rfl)).squeeze T hq).view.read Val W))
  have e2 : ∀ g : N.view.ty.Contents Val, ReadAs.same.apply (((N.slice (Rect.unit (s := ⟨3, d'⟩) off' size inb') (fun _ => rfl)).squeeze T hq).view.read Val g)
      = shapeCast T (N.view.readAt Val (Rect.unit (s := ⟨3, d'⟩) off' size inb').toLoadRect g) hc := fun _ => rfl
  generalize (((M.slice (Rect.unit (s := ⟨3, d⟩) off size inb) (fun _ => rfl)).squeeze T hq).view.writes Val f
          [⟨Rect.whole T, ReadAs.same.apply (((N.slice (Rect.unit (s := ⟨3, d'⟩) off' size inb') (fun _ => rfl)).squeeze T hq).view.read Val W)⟩]) = g at e1 ⊢
  have e3 : shapeCast T (M.view.readAt Val (Rect.unit (s := ⟨3, d⟩) off size inb).toLoadRect g) hc
      = shapeCast T (N.view.readAt Val (Rect.unit (s := ⟨3, d'⟩) off' size inb').toLoadRect W) hc := e1.trans (e2 W)
  have e4 : M.view.readAt Val (Rect.unit (s := ⟨3, d⟩) off size inb).toLoadRect g = N.view.readAt Val (Rect.unit (s := ⟨3, d'⟩) off' size inb').toLoadRect W := by
    have := congrArg (fun v => shapeCast (⟨3, size⟩ : Shape) v hc.symm) e3
    simpa only [shapeCast_shapeCast, shapeCast_self] using this
  funext x
  let y : (⟨3, size⟩ : Shape).Idx := fun a => ⟨δ a + (x a).val, by
    have h := hδ a; have h' : (x a).val < size2 a := (x a).isLt; show δ a + (x a).val < size a; omega⟩
  have e5 := congrFun e4 y
  rw [View.readAt_apply, View.readAt_apply] at e5 ⊢
  have ea : (Rect.unit (s := ⟨3, d⟩) off2 size2 inb2).toLoadRect.idx x = (Rect.unit (s := ⟨3, d⟩) off size inb).toLoadRect.idx y :=
    funext fun a => Fin.ext (by show off2 a + 1 * (x a).val = off a + 1 * (δ a + (x a).val); rw [h2]; omega)
  have eb : (Rect.unit (s := ⟨3, d'⟩) off2' size2 inb2').toLoadRect.idx x = (Rect.unit (s := ⟨3, d'⟩) off' size inb').toLoadRect.idx y :=
    funext fun a => Fin.ext (by show off2' a + 1 * (x a).val = off' a + 1 * (δ a + (x a).val); rw [h2']; omega)
  rw [ea, eb]; exact e5

/-- Pieces that agree with one function leave that function where they reach. -/
theorem read_writes_agree {S : Shape} {e : EltTy} {sp : Space} (v : View sig .tc sp S e) (f : v.ty.Contents Val) (G : S.Idx → Val e) :
    ∀ (L : List (View.Piece Val S e)) (hL : ∀ p ∈ L, ∀ x, p.2 x = G (p.1.emb x)) (y : S.Idx) (hy : ∃ p ∈ L, y ∈ p.1.set), v.read Val (v.writes Val f L) y = G y
  | [], _, y, ⟨p, hp, _⟩ => absurd hp List.not_mem_nil
  | p :: L, hL, y, hy => by
      by_cases h : y ∈ Finset.univ.map p.1.emb
      · obtain ⟨x, -, rfl⟩ := Finset.mem_map.mp h
        rw [View.read_writes_cons_emb]; exact hL p List.mem_cons_self x
      · rw [View.writes_cons, View.read_slice_write_of_not_mem _ _ _ _ h]
        refine read_writes_agree v f G L (fun q hq => hL q (List.mem_cons_of_mem _ hq)) y ?_
        obtain ⟨q, hq, hyq⟩ := hy
        rcases List.mem_cons.mp hq with rfl | hq'
        · exact absurd (by rw [Rect.map_emb_univ]; exact hyq) h
        · exact ⟨q, hq', hyq⟩
end Land

/-! ## The values -/

/-- A buffer of planes with plane `o` put in. -/
def put {α : Type} (o : ℕ) (Q : S1x1024x128.Idx → α) (d : S37x1024x128.Idx → α) : S37x1024x128.Idx → α := fun y =>
  if h : ∀ a, (![o, 0, 0] : Fin 3 → ℕ) a ≤ (y a).val ∧ (y a).val < (![o, 0, 0] : Fin 3 → ℕ) a + S1x1024x128.size a then
    Q (Rect.unitLocal (s := S37x1024x128) (off := ![o, 0, 0]) (size := S1x1024x128.size) y h)
  else d y

/-- Storing a plane puts it in. -/
theorem read_put {sp : Space} (v : View sig .tc sp S37x1024x128 .f32) (f : v.ty.Contents (Elt F)) (o : ℕ) {off : Fin 3 → ℕ} (inb : ∀ a, off a + S1x1024x128.size a ≤ S37x1024x128.size a)
    (h : off = ![o, 0, 0]) (Q : S1x1024x128.Idx → Elt F .f32) (L : List (View.Piece (Elt F) S37x1024x128 .f32)) :
    v.read (Elt F) (v.writes (Elt F) f (⟨Rect.unit off S1x1024x128.size inb, Q⟩ :: L)) = put o Q (v.read (Elt F) (v.writes (Elt F) f L)) :=
  funext fun y => View.read_writes_cons_unit v f inb Q L y h

theorem inb_gA (k : Fin 2) (b : Fin 9) (h : Fin 2) : ∀ a, (![k.val, 0, 512 * b.val + 256 * h.val] : Fin 3 → Nat) a + S1x3584x256.size a ≤ S2x3584x9472.size a := by
  have := k.isLt; have := b.isLt; have := h.isLt; intro a; fin_cases a <;> simp <;> omega
theorem inb_gB (k : Fin 2) (b : Fin 9) (h : Fin 2) : ∀ a, (![k.val, 0, 4736 + 512 * b.val + 256 * h.val] : Fin 3 → Nat) a + S1x3584x256.size a ≤ S2x3584x9472.size a := by
  have := k.isLt; have := b.isLt; have := h.isLt; intro a; fin_cases a <;> simp <;> omega

/-- Half `h` of column tile `b` of the gate matrix `k`; -/
def gA (W : hbM0_0.view.ty.Contents (Elt F)) (k : Fin 2) (b : Fin 9) (h : Fin 2) : Vec F S1x3584x256 .fp8e4m3 :=
  hbM0_0.view.readAt (Elt F) (Rect.unit (s := S2x3584x9472) ![k.val, 0, 512 * b.val + 256 * h.val] S1x3584x256.size (inb_gA k b h)).toLoadRect W
/-- of the up matrix; -/
def gB (W : hbM0_0.view.ty.Contents (Elt F)) (k : Fin 2) (b : Fin 9) (h : Fin 2) : Vec F S1x3584x256 .fp8e4m3 :=
  hbM0_0.view.readAt (Elt F) (Rect.unit (s := S2x3584x9472) ![k.val, 0, 4736 + 512 * b.val + 256 * h.val] S1x3584x256.size (inb_gB k b h)).toLoadRect W
/-- the last tile of the gate matrix, -/
def hA (W : hbM0_0.view.ty.Contents (Elt F)) (k : Fin 2) : Vec F S1x3584x128 .fp8e4m3 :=
  hbM0_0.view.readAt (Elt F) (Rect.unit (s := S2x3584x9472) ![k.val, 0, 4608] S1x3584x128.size (inb_uA k)).toLoadRect W
/-- of the up matrix; -/
def hB (W : hbM0_0.view.ty.Contents (Elt F)) (k : Fin 2) : Vec F S1x3584x128 .fp8e4m3 :=
  hbM0_0.view.readAt (Elt F) (Rect.unit (s := S2x3584x9472) ![k.val, 0, 9344] S1x3584x128.size (inb_uB k)).toLoadRect W
/-- column tile `b` of the down matrix. -/
def gD (W : hbM0_1.view.ty.Contents (Elt F)) (k : Fin 2) (b : Fin 7) : Vec F S1x4736x512 .fp8e4m3 :=
  hbM0_1.view.readAt (Elt F) (Rect.unit (s := S2x4736x3584) ![k.val, 0, 512 * b.val] S1x4736x512.size (inb_rD k b)).toLoadRect W

theorem readA_0 (c : Dev nD) (s : Fin 2) (k : Fin 2) (b : Fin 9) {off : Fin 3 → ℕ} (inb : ∀ a, off a + S1x3584x256.size a ≤ S2x3584x1024.size a) (hoff : off = ![s.val, 0, 0])
    (f : (wA s).view.ty.Contents (Elt F)) (W : hbM0_0.view.ty.Contents (Elt F)) :
    View.readAt (Elt F) scM0_1.view (Rect.unit (s := S2x3584x1024) off S1x3584x256.size inb).toLoadRect
      ((wA s).view.writes (Elt F) f [⟨Rect.whole S3584x512, ReadAs.same.apply (View.read (Elt F) (rA k b).view W)⟩]) = gA W k b 0 := by
  subst hoff
  exact land_sub scM0_1 hbM0_0 ![s.val, 0, 0] ![k.val, 0, 512 * b.val] _ ![k.val, 0, 512 * b.val + 256 * (0 : Fin 2).val] ![0, 0, 0] (inb_wA s) (inb_rA k b) inb (inb_gA k b 0) S3584x512 squeezes_S1x3584x512_S3584x512 (by decide)
    (by intro a; fin_cases a <;> simp) (by intro a; fin_cases a <;> simp <;> try omega) (by intro a; fin_cases a <;> simp) f W
theorem readB_0 (c : Dev nD) (s : Fin 2) (k : Fin 2) (b : Fin 9) {off : Fin 3 → ℕ} (inb : ∀ a, off a + S1x3584x256.size a ≤ S2x3584x1024.size a) (hoff : off = ![s.val, 0, 512])
    (f : (wB s).view.ty.Contents (Elt F)) (W : hbM0_0.view.ty.Contents (Elt F)) :
    View.readAt (Elt F) scM0_1.view (Rect.unit (s := S2x3584x1024) off S1x3584x256.size inb).toLoadRect
      ((wB s).view.writes (Elt F) f [⟨Rect.whole S3584x512, ReadAs.same.apply (View.read (Elt F) (rB k b).view W)⟩]) = gB W k b 0 := by
  subst hoff
  exact land_sub scM0_1 hbM0_0 ![s.val, 0, 512] ![k.val, 0, 4736 + 512 * b.val] _ ![k.val, 0, 4736 + 512 * b.val + 256 * (0 : Fin 2).val] ![0, 0, 0] (inb_wB s) (inb_rB k b) inb (inb_gB k b 0) S3584x512 squeezes_S1x3584x512_S3584x512 (by decide)
    (by intro a; fin_cases a <;> simp) (by intro a; fin_cases a <;> simp <;> try omega) (by intro a; fin_cases a <;> simp) f W
theorem readA_1 (c : Dev nD) (s : Fin 2) (k : Fin 2) (b : Fin 9) {off : Fin 3 → ℕ} (inb : ∀ a, off a + S1x3584x256.size a ≤ S2x3584x1024.size a) (hoff : off = ![s.val, 0, 256])
    (f : (wA s).view.ty.Contents (Elt F)) (W : hbM0_0.view.ty.Contents (Elt F)) :
    View.readAt (Elt F) scM0_1.view (Rect.unit (s := S2x3584x1024) off S1x3584x256.size inb).toLoadRect
      ((wA s).view.writes (Elt F) f [⟨Rect.whole S3584x512, ReadAs.same.apply (View.read (Elt F) (rA k b).view W)⟩]) = gA W k b 1 := by
  subst hoff
  exact land_sub scM0_1 hbM0_0 ![s.val, 0, 0] ![k.val, 0, 512 * b.val] _ ![k.val, 0, 512 * b.val + 256 * (1 : Fin 2).val] ![0, 0, 256] (inb_wA s) (inb_rA k b) inb (inb_gA k b 1) S3584x512 squeezes_S1x3584x512_S3584x512 (by decide)
    (by intro a; fin_cases a <;> simp) (by intro a; fin_cases a <;> simp <;> try omega) (by intro a; fin_cases a <;> simp) f W
theorem readB_1 (c : Dev nD) (s : Fin 2) (k : Fin 2) (b : Fin 9) {off : Fin 3 → ℕ} (inb : ∀ a, off a + S1x3584x256.size a ≤ S2x3584x1024.size a) (hoff : off = ![s.val, 0, 768])
    (f : (wB s).view.ty.Contents (Elt F)) (W : hbM0_0.view.ty.Contents (Elt F)) :
    View.readAt (Elt F) scM0_1.view (Rect.unit (s := S2x3584x1024) off S1x3584x256.size inb).toLoadRect
      ((wB s).view.writes (Elt F) f [⟨Rect.whole S3584x512, ReadAs.same.apply (View.read (Elt F) (rB k b).view W)⟩]) = gB W k b 1 := by
  subst hoff
  exact land_sub scM0_1 hbM0_0 ![s.val, 0, 512] ![k.val, 0, 4736 + 512 * b.val] _ ![k.val, 0, 4736 + 512 * b.val + 256 * (1 : Fin 2).val] ![0, 0, 256] (inb_wB s) (inb_rB k b) inb (inb_gB k b 1) S3584x512 squeezes_S1x3584x512_S3584x512 (by decide)
    (by intro a; fin_cases a <;> simp) (by intro a; fin_cases a <;> simp <;> try omega) (by intro a; fin_cases a <;> simp) f W
theorem readTA (c : Dev nD) (s : Fin 2) (k : Fin 2) {off : Fin 3 → ℕ} (inb : ∀ a, off a + S1x3584x128.size a ≤ S2x3584x1024.size a) (hoff : off = ![s.val, 0, 0])
    (f : (tA s).view.ty.Contents (Elt F)) (W : hbM0_0.view.ty.Contents (Elt F)) :
    View.readAt (Elt F) scM0_1.view (Rect.unit (s := S2x3584x1024) off S1x3584x128.size inb).toLoadRect
      ((tA s).view.writes (Elt F) f [⟨Rect.whole S3584x128, ReadAs.same.apply (View.read (Elt F) (uA k).view W)⟩]) = hA W k := by
  subst hoff
  exact land_sub scM0_1 hbM0_0 ![s.val, 0, 0] ![k.val, 0, 4608] _ ![k.val, 0, 4608] ![0, 0, 0] (inb_tA s) (inb_uA k) inb (inb_uA k) S3584x128 squeezes_S1x3584x128_S3584x128 (by decide)
    (by intro a; fin_cases a <;> simp) (by intro a; fin_cases a <;> simp <;> try omega) (by intro a; fin_cases a <;> simp) f W
theorem readTB (c : Dev nD) (s : Fin 2) (k : Fin 2) {off : Fin 3 → ℕ} (inb : ∀ a, off a + S1x3584x128.size a ≤ S2x3584x1024.size a) (hoff : off = ![s.val, 0, 512])
    (f : (tB s).view.ty.Contents (Elt F)) (W : hbM0_0.view.ty.Contents (Elt F)) :
    View.readAt (Elt F) scM0_1.view (Rect.unit (s := S2x3584x1024) off S1x3584x128.size inb).toLoadRect
      ((tB s).view.writes (Elt F) f [⟨Rect.whole S3584x128, ReadAs.same.apply (View.read (Elt F) (uB k).view W)⟩]) = hB W k := by
  subst hoff
  exact land_sub scM0_1 hbM0_0 ![s.val, 0, 512] ![k.val, 0, 9344] _ ![k.val, 0, 9344] ![0, 0, 0] (inb_tB s) (inb_uB k) inb (inb_uB k) S3584x128 squeezes_S1x3584x128_S3584x128 (by decide)
    (by intro a; fin_cases a <;> simp) (by intro a; fin_cases a <;> simp <;> try omega) (by intro a; fin_cases a <;> simp) f W
theorem readD (c : Dev nD) (s : Fin 2) (k : Fin 2) (b : Fin 7) {off : Fin 3 → ℕ} (inb : ∀ a, off a + S1x4736x512.size a ≤ S2x4736x512.size a) (hoff : off = ![s.val, 0, 0])
    (f : (wD s).view.ty.Contents (Elt F)) (W : hbM0_1.view.ty.Contents (Elt F)) :
    View.readAt (Elt F) scM0_2.view (Rect.unit (s := S2x4736x512) off S1x4736x512.size inb).toLoadRect
      ((wD s).view.writes (Elt F) f [⟨Rect.whole S4736x512, ReadAs.same.apply (View.read (Elt F) (rD k b).view W)⟩]) = gD W k b := by
  subst hoff
  exact land_sub scM0_2 hbM0_1 ![s.val, 0, 0] ![k.val, 0, 512 * b.val] _ ![k.val, 0, 512 * b.val] ![0, 0, 0] (inb_wD s) (inb_rD k b) inb (inb_rD k b) S4736x512 squeezes_S1x4736x512_S4736x512 (by decide)
    (by intro a; fin_cases a <;> simp) (by intro a; fin_cases a <;> simp <;> try omega) (by intro a; fin_cases a <;> simp) f W

theorem readAt_unread {S : Shape} {e : EltTy} {sp : Space} {M : Memref sig .tc sp S e} (h : M.IsWhole) (x : S.Idx → Elt F e) (r : Rect S) :
    M.view.readAt (Elt F) r.toLoadRect (h.unread x) = View.ld x r := by
  rw [View.readAt_eq_ld, h.read_unread]

section Full
variable {sp : Space}
/-- A store of a whole buffer leaves what was stored; -/
theorem store_full (v : View sig .tc sp S1024x128 .f32) (f : v.ty.Contents (Elt F)) (inb : ∀ a, (![0, 0] : Fin 2 → ℕ) a + (![1024, 128] : Fin 2 → ℕ) a ≤ S1024x128.size a)
    (w : S1024x128.Idx → Elt F .f32) (L : List (View.Piece (Elt F) S1024x128 .f32)) :
    v.read (Elt F) (v.writes (Elt F) f (⟨Rect.unit (s := S1024x128) ![0, 0] ![1024, 128] inb, w⟩ :: L)) = w := View.read_writes_full v f inb w L
/-- a load of the whole after it reads that; -/
theorem cov_full (v : View sig .tc sp S1024x128 .f32) (inb inb' : ∀ a, (![0, 0] : Fin 2 → ℕ) a + (![1024, 128] : Fin 2 → ℕ) a ≤ S1024x128.size a)
    (w : S1024x128.Idx → Elt F .f32) (L : List (View.Piece (Elt F) S1024x128 .f32)) :
    v.readCov (⟨Rect.unit (s := S1024x128) ![0, 0] ![1024, 128] inb', w⟩ :: L) (Rect.unit (s := S1024x128) ![0, 0] ![1024, 128] inb).toLoadRect = w := View.readCov_full v inb inb' w L
/-- a load of the whole reads the contents. -/
theorem load_full (v : View sig .tc sp S1024x128 .f32) (f : v.ty.Contents (Elt F)) (inb : ∀ a, (![0, 0] : Fin 2 → ℕ) a + (![1024, 128] : Fin 2 → ℕ) a ≤ S1024x128.size a) :
    v.readAt (Elt F) (Rect.unit (s := S1024x128) ![0, 0] ![1024, 128] inb).toLoadRect f = v.read (Elt F) f := View.readAt_full v f inb
theorem ld_full {e : EltTy} (a b : ℕ) (x : (⟨2, ![a, b]⟩ : Shape).Idx → Elt F e) (inb : ∀ i, (![0, 0] : Fin 2 → ℕ) i + (![a, b] : Fin 2 → ℕ) i ≤ (⟨2, ![a, b]⟩ : Shape).size i) :
    View.ld x (Rect.unit (s := ⟨2, ![a, b]⟩) ![0, 0] ![a, b] inb) = x :=
  funext fun y => congrArg x (funext fun i => Fin.ext (by show (![0, 0] : Fin 2 → ℕ) i + 1 * (y i).val = (y i).val; fin_cases i <;> simp))
theorem ld_full3 {e : EltTy} (a b d : ℕ) (x : (⟨3, ![a, b, d]⟩ : Shape).Idx → Elt F e) (inb : ∀ i, (![0, 0, 0] : Fin 3 → ℕ) i + (![a, b, d] : Fin 3 → ℕ) i ≤ (⟨3, ![a, b, d]⟩ : Shape).size i) :
    View.ld x (Rect.unit (s := ⟨3, ![a, b, d]⟩) ![0, 0, 0] ![a, b, d] inb) = x :=
  funext fun y => congrArg x (funext fun i => Fin.ext (by show (![0, 0, 0] : Fin 3 → ℕ) i + 1 * (y i).val = (y i).val; fin_cases i <;> simp))
/-- A load of the box a store just filled reads what was stored. -/
theorem cov_same {S : Shape} {e : EltTy} (v : View sig .tc sp S e) (r : Rect S) (w : r.shape.Idx → Elt F e) (L : List (View.Piece (Elt F) S e)) :
    v.readCov (⟨r, w⟩ :: L) r.toLoadRect = w := funext fun x => View.read_writes_cons_emb v v.junk r w L x
theorem store_full2 (v : View sig .tc sp S1024x512 .bf16) (f : v.ty.Contents (Elt F)) (inb : ∀ a, (![0, 0] : Fin 2 → ℕ) a + (![1024, 512] : Fin 2 → ℕ) a ≤ S1024x512.size a)
    (w : S1024x512.Idx → Elt F .bf16) (L : List (View.Piece (Elt F) S1024x512 .bf16)) :
    v.read (Elt F) (v.writes (Elt F) f (⟨Rect.unit (s := S1024x512) ![0, 0] ![1024, 512] inb, w⟩ :: L)) = w := View.read_writes_full v f inb w L
theorem store_full3 (v : View sig .tc sp S1x1x1024 .f32) (f : v.ty.Contents (Elt F)) (inb : ∀ a, (![0, 0, 0] : Fin 3 → ℕ) a + (![1, 1, 1024] : Fin 3 → ℕ) a ≤ S1x1x1024.size a)
    (w : S1x1x1024.Idx → Elt F .f32) (L : List (View.Piece (Elt F) S1x1x1024 .f32)) :
    v.read (Elt F) (v.writes (Elt F) f (⟨Rect.unit (s := S1x1x1024) ![0, 0, 0] ![1, 1, 1024] inb, w⟩ :: L)) = w := View.read_writes_full v f inb w L
end Full

/-- The tokens' scales of a row block, as a column; -/
def s3c (x1 : Vec F S1024x128 .f32) : Vec F S1024x1 .f32 := View.ld x1 (Rect.unit (s := S1024x128) ![0, 0] S1024x1.size inb_S1024x128_S1024x1_0_0)
/-- the two halves and the head of a tile of column scales. -/
def cs0 (x : Vec F S1x1x512 .f32) : Vec F S1x1x256 .f32 := View.ld x (Rect.unit (s := S1x1x512) ![0, 0, 0] S1x1x256.size inb_S1x1x512_S1x1x256_0_0_0)
def cs1 (x : Vec F S1x1x512 .f32) : Vec F S1x1x256 .f32 := View.ld x (Rect.unit (s := S1x1x512) ![0, 0, 256] S1x1x256.size inb_S1x1x512_S1x1x256_0_0_256)
def csT (x : Vec F S1x1x512 .f32) : Vec F S1x1x128 .f32 := View.ld x (Rect.unit (s := S1x1x512) ![0, 0, 0] S1x1x128.size inb_S1x1x512_S1x1x128_0_0_0)

/-- The gated activations of the left half of a tile; -/
def main0 (x0 : Vec F S1024x3584 .fp8e4m3) (x1 : Vec F S1024x128 .f32) (x2 x3 : Vec F S1x1x512 .f32) (W : hbM0_0.view.ty.Contents (Elt F)) (k : Fin 2) (b : Fin 9) : FVec F S1024x256 .f32 :=
  k0_pay3 (s3c x1) (k0_pay2 x0 (gA W k b 0) (gB W k b 0)) (cs0 x2) (cs0 x3)
/-- of the right half; -/
def main1 (x0 : Vec F S1024x3584 .fp8e4m3) (x1 : Vec F S1024x128 .f32) (x2 x3 : Vec F S1x1x512 .f32) (W : hbM0_0.view.ty.Contents (Elt F)) (k : Fin 2) (b : Fin 9) : FVec F S1024x256 .f32 :=
  k0_pay3 (s3c x1) (k0_pay2 x0 (gA W k b 1) (gB W k b 1)) (cs1 x2) (cs1 x3)
/-- of the last, narrow tile. -/
def tailV (x0 : Vec F S1024x3584 .fp8e4m3) (x1 : Vec F S1024x128 .f32) (x2 x3 : Vec F S1x1x512 .f32) (W : hbM0_0.view.ty.Contents (Elt F)) (k : Fin 2) : FVec F S1024x128 .f32 :=
  k0_pay15 (s3c x1) (k0_pay12 x0 (hA W k) (hB W k)) (k0_pay13 (s3c x1) x0 (hA W k) (hB W k)) (k0_pay14 (csT x2)) (csT x3)
/-- The first and the second plane of a half; -/
def pl0 (v : FVec F S1024x256 .f32) : FVec F S1x1024x128 .f32 := shapeCast S1x1024x128 (extractStridedSlice S1024x128 ![0, 0] v slices_S1024x256_o0_0_S1024x128) shapeCasts_S1024x128_S1x1024x128
def pl1 (v : FVec F S1024x256 .f32) : FVec F S1x1024x128 .f32 := shapeCast S1x1024x128 (extractStridedSlice S1024x128 ![0, 128] v slices_S1024x256_o0_128_S1024x128) shapeCasts_S1024x128_S1x1024x128
/-- the running maximum after a half, -/
def amx (v : FVec F S1024x256 .f32) (y : Vec F S1024x128 .f32) : FVec F S1024x128 .f32 :=
  shapeCast S1024x128 (maximumf y (maximumf (absf (extractStridedSlice S1024x128 ![0, 0] v slices_S1024x256_o0_0_S1024x128)) (absf (extractStridedSlice S1024x128 ![0, 128] v slices_S1024x256_o0_128_S1024x128)))) shapeCasts_S1024x128_S1024x128
/-- and after the narrow tile; -/
def amxT (v : FVec F S1024x128 .f32) (y : Vec F S1024x128 .f32) : FVec F S1024x128 .f32 := shapeCast S1024x128 (maximumf y (absf v)) shapeCasts_S1024x128_S1024x128
/-- the narrow tile's plane. -/
def plT (v : FVec F S1024x128 .f32) : FVec F S1x1024x128 .f32 := shapeCast S1x1024x128 v shapeCasts_S1024x128_S1x1024x128
theorem tail_fold (x0 : Vec F S1024x3584 .fp8e4m3) (x1 : Vec F S1024x128 .f32) (x2 x3 : Vec F S1x1x512 .f32) (W : hbM0_0.view.ty.Contents (Elt F)) (k : Fin 2) (y : Vec F S1024x128 .f32) :
    k0_pay17 (View.ld x1 (Rect.unit (s := S1024x128) ![0, 0] ![1024, 1] inb_S1024x128_S1024x1_0_0)) (k0_pay12 x0 (hA W k) (hB W k))
      (k0_pay13 (View.ld x1 (Rect.unit (s := S1024x128) ![0, 0] ![1024, 1] inb_S1024x128_S1024x1_0_0)) x0 (hA W k) (hB W k))
      (k0_pay14 (View.ld x2 (Rect.unit (s := S1x1x512) ![0, 0, 0] ![1, 1, 128] inb_S1x1x512_S1x1x128_0_0_0))) (View.ld x3 (Rect.unit (s := S1x1x512) ![0, 0, 0] ![1, 1, 128] inb_S1x1x512_S1x1x128_0_0_0)) y
      = amxT (tailV x0 x1 x2 x3 W k) y := rfl
/-- The four planes of a tile put in. -/
def putM (b : ℕ) (v0 v1 : FVec F S1024x256 .f32) (d : S37x1024x128.Idx → Elt F .f32) : S37x1024x128.Idx → Elt F .f32 :=
  put (4 * b + 3) (pl1 v1) (put (4 * b + 2) (pl0 v1) (put (4 * b + 1) (pl1 v0) (put (4 * b) (pl0 v0) d)))

/-- The block's scales, as a row, from the maxima; -/
def s4F (v : Vec F S1024x128 .f32) : FVec F S1x1x1024 .f32 :=
  k0_pay29 (k0_pay20 v) (k0_pay22 k0_pay19 (k0_pay21 v)) (k0_pay23 (k0_pay18 v) k0_pay19) (k0_pay24 (k0_pay18 v) k0_pay19) (k0_pay25 (k0_pay18 v) k0_pay19)
    (k0_pay26 (k0_pay18 v) k0_pay19) (k0_pay27 (k0_pay18 v) k0_pay19) (k0_pay28 (k0_pay18 v) k0_pay19)
theorem inb_pl (k : Fin 37) : ∀ a, (![k.val, 0, 0] : Fin 3 → Nat) a + S1x1024x128.size a ≤ S37x1024x128.size a := by
  have := k.isLt; intro a; fin_cases a <;> simp; omega
/-- the plane of the activations a column lies in, -/
def planeOf (d : S37x1024x128.Idx → Elt F .f32) (k : Fin 37) : Vec F S1x1024x128 .f32 := View.ld d (Rect.unit (s := S37x1024x128) ![k.val, 0, 0] S1x1024x128.size (inb_pl k))
/-- where in the plane, -/
def colIn (y : S1024x4736.Idx) : S1024x128.Idx := fun a => match a with
  | ⟨0, _⟩ => y 0
  | ⟨1, _⟩ => ⟨(y 1).val % 128, Nat.mod_lt _ (by decide)⟩
theorem plane_lt (y : S1024x4736.Idx) : (y 1).val / 128 < 37 := by have : (y 1).val < 4736 := (y 1).isLt; omega
/-- and the block's codes from the activations and the scales. -/
def c4F (d : S37x1024x128.Idx → Elt F .f32) (sc : Vec F S1024x128 .f32) : S1024x4736.Idx → Elt F .fp8e4m3 := fun y =>
  k0_pay31 sc (planeOf d ⟨(y 1).val / 128, plane_lt y⟩) (colIn y)

/-! ## The codes of a row block, stored a plane at a time -/

theorem planeOf_put_lt (Q : S1x1024x128.Idx → Elt F .f32) (d : S37x1024x128.Idx → Elt F .f32) (k : Fin 37) (hk : k.val < 36) :
    planeOf (put 36 Q d) k = View.ld d (Rect.unit (s := S37x1024x128) ![k.val, 0, 0] S1x1024x128.size (inb_pl k)) := by
  funext x
  show put 36 Q d ((Rect.unit (s := S37x1024x128) ![k.val, 0, 0] S1x1024x128.size (inb_pl k)).idx x) = _
  unfold put
  rw [dif_neg]
  intro h
  have h0 := (h 0).1
  have hx : (x 0).val < 1 := (x 0).isLt
  have : (36 : ℕ) ≤ k.val + 1 * (x 0).val := h0
  omega
theorem planeOf_put_36 (Q : S1x1024x128.Idx → Elt F .f32) (d : S37x1024x128.Idx → Elt F .f32) : planeOf (put 36 Q d) 36 = Q := by
  funext x
  show put 36 Q d ((Rect.unit (s := S37x1024x128) ![36, 0, 0] S1x1024x128.size (inb_pl 36)).idx x) = _
  unfold put
  have hv : ∀ a, (((Rect.unit (s := S37x1024x128) ![36, 0, 0] S1x1024x128.size (inb_pl 36)).idx x) a).val = (![36, 0, 0] : Fin 3 → ℕ) a + 1 * (x a).val := fun a => rfl
  rw [dif_pos]
  · refine congrArg Q (funext fun a => Fin.ext ?_)
    show (((Rect.unit (s := S37x1024x128) ![36, 0, 0] S1x1024x128.size (inb_pl 36)).idx x) a).val - (![36, 0, 0] : Fin 3 → ℕ) a = (x a).val
    rw [hv]; omega
  · intro a; rw [hv]; have : (x a).val < S1x1024x128.size a := (x a).isLt
    constructor
    · omega
    · have h1 : (![36, 0, 0] : Fin 3 → ℕ) a + 1 * (x a).val < (![36, 0, 0] : Fin 3 → ℕ) a + S1x1024x128.size a := by omega
      exact h1
theorem c4_piece (d : S37x1024x128.Idx → Elt F .f32) (sc : Vec F S1024x128 .f32) (k : Fin 37) (o : ℕ) (ho : o = 128 * k.val)
    (inb : ∀ a, (![0, o] : Fin 2 → ℕ) a + S1024x128.size a ≤ S1024x4736.size a) (x : S1024x128.Idx) :
    k0_pay31 sc (planeOf d k) x = c4F d sc ((Rect.unit (s := S1024x4736) ![0, o] S1024x128.size inb).emb x) := by
  subst ho
  have h1 : (x 1).val < 128 := (x 1).isLt
  have hy : (((Rect.unit (s := S1024x4736) ![0, 128 * k.val] S1024x128.size inb).emb x) 1).val = 128 * k.val + 1 * (x 1).val := rfl
  have hp : (⟨_, plane_lt ((Rect.unit (s := S1024x4736) ![0, 128 * k.val] S1024x128.size inb).emb x)⟩ : Fin 37) = k := Fin.ext (by
    show (((Rect.unit (s := S1024x4736) ![0, 128 * k.val] S1024x128.size inb).emb x) 1).val / 128 = k.val
    rw [hy]; omega)
  have hc : colIn ((Rect.unit (s := S1024x4736) ![0, 128 * k.val] S1024x128.size inb).emb x) = x := by
    funext a
    fin_cases a
    · exact Fin.ext (by show 0 + 1 * (x 0).val = (x 0).val; omega)
    · exact Fin.ext (by show (((Rect.unit (s := S1024x4736) ![0, 128 * k.val] S1024x128.size inb).emb x) 1).val % 128 = (x 1).val; rw [hy]; omega)
  unfold c4F
  rw [hp, hc]
theorem c4_cover (y : S1024x4736.Idx) (k : Fin 37) (hk : (y 1).val / 128 = k.val) (o : ℕ) (ho : o = 128 * k.val)
    (inb : ∀ a, (![0, o] : Fin 2 → ℕ) a + S1024x128.size a ≤ S1024x4736.size a) : y ∈ (Rect.unit (s := S1024x4736) ![0, o] S1024x128.size inb).set := by
  subst ho
  rw [Rect.mem_set_unit]
  intro a
  have h0 : (y 0).val < 1024 := (y 0).isLt
  fin_cases a
  · exact ⟨Nat.zero_le _, by show (y 0).val < 0 + 1024; omega⟩
  · exact ⟨by show 128 * k.val ≤ (y 1).val; omega, by show (y 1).val < 128 * k.val + 128; omega⟩
set_option maxHeartbeats 2000000 in
/-- The thirty-seven stores of a row block's codes leave the codes. -/
theorem c4_read {sp : Space} (v : View sig .tc sp S1024x4736 .fp8e4m3) (f : v.ty.Contents (Elt F)) (d : S37x1024x128.Idx → Elt F .f32) (sc : Vec F S1024x128 .f32)
    (P0 P1 P2 P3 P4 P5 P6 P7 P8 P9 P10 P11 P12 P13 P14 P15 P16 P17 P18 P19 P20 P21 P22 P23 P24 P25 P26 P27 P28 P29 P30 P31 P32 P33 P34 P35 P36 : S1024x128.Idx → Elt F .fp8e4m3)
    (h0 : P0 = k0_pay31 sc (planeOf d 0)) (h1 : P1 = k0_pay31 sc (planeOf d 1)) (h2 : P2 = k0_pay31 sc (planeOf d 2)) (h3 : P3 = k0_pay31 sc (planeOf d 3)) (h4 : P4 = k0_pay31 sc (planeOf d 4)) (h5 : P5 = k0_pay31 sc (planeOf d 5)) (h6 : P6 = k0_pay31 sc (planeOf d 6)) (h7 : P7 = k0_pay31 sc (planeOf d 7)) (h8 : P8 = k0_pay31 sc (planeOf d 8)) (h9 : P9 = k0_pay31 sc (planeOf d 9)) (h10 : P10 = k0_pay31 sc (planeOf d 10)) (h11 : P11 = k0_pay31 sc (planeOf d 11)) (h12 : P12 = k0_pay31 sc (planeOf d 12)) (h13 : P13 = k0_pay31 sc (planeOf d 13)) (h14 : P14 = k0_pay31 sc (planeOf d 14)) (h15 : P15 = k0_pay31 sc (planeOf d 15)) (h16 : P16 = k0_pay31 sc (planeOf d 16)) (h17 : P17 = k0_pay31 sc (planeOf d 17)) (h18 : P18 = k0_pay31 sc (planeOf d 18)) (h19 : P19 = k0_pay31 sc (planeOf d 19)) (h20 : P20 = k0_pay31 sc (planeOf d 20)) (h21 : P21 = k0_pay31 sc (planeOf d 21)) (h22 : P22 = k0_pay31 sc (planeOf d 22)) (h23 : P23 = k0_pay31 sc (planeOf d 23)) (h24 : P24 = k0_pay31 sc (planeOf d 24)) (h25 : P25 = k0_pay31 sc (planeOf d 25)) (h26 : P26 = k0_pay31 sc (planeOf d 26)) (h27 : P27 = k0_pay31 sc (planeOf d 27)) (h28 : P28 = k0_pay31 sc (planeOf d 28)) (h29 : P29 = k0_pay31 sc (planeOf d 29)) (h30 : P30 = k0_pay31 sc (planeOf d 30)) (h31 : P31 = k0_pay31 sc (planeOf d 31)) (h32 : P32 = k0_pay31 sc (planeOf d 32)) (h33 : P33 = k0_pay31 sc (planeOf d 33)) (h34 : P34 = k0_pay31 sc (planeOf d 34)) (h35 : P35 = k0_pay31 sc (planeOf d 35)) (h36 : P36 = k0_pay31 sc (planeOf d 36)) :
    v.read (Elt F) (v.writes (Elt F) f [
      ⟨Rect.unit (s := S1024x4736) ![0, 4608] S1024x128.size inb_S1024x4736_S1024x128_0_4608, P36⟩,
      ⟨Rect.unit (s := S1024x4736) ![0, 4480] S1024x128.size inb_S1024x4736_S1024x128_0_4480, P35⟩,
      ⟨Rect.unit (s := S1024x4736) ![0, 4352] S1024x128.size inb_S1024x4736_S1024x128_0_4352, P34⟩,
      ⟨Rect.unit (s := S1024x4736) ![0, 4224] S1024x128.size inb_S1024x4736_S1024x128_0_4224, P33⟩,
      ⟨Rect.unit (s := S1024x4736) ![0, 4096] S1024x128.size inb_S1024x4736_S1024x128_0_4096, P32⟩,
      ⟨Rect.unit (s := S1024x4736) ![0, 3968] S1024x128.size inb_S1024x4736_S1024x128_0_3968, P31⟩,
      ⟨Rect.unit (s := S1024x4736) ![0, 3840] S1024x128.size inb_S1024x4736_S1024x128_0_3840, P30⟩,
      ⟨Rect.unit (s := S1024x4736) ![0, 3712] S1024x128.size inb_S1024x4736_S1024x128_0_3712, P29⟩,
      ⟨Rect.unit (s := S1024x4736) ![0, 3584] S1024x128.size inb_S1024x4736_S1024x128_0_3584, P28⟩,
      ⟨Rect.unit (s := S1024x4736) ![0, 3456] S1024x128.size inb_S1024x4736_S1024x128_0_3456, P27⟩,
      ⟨Rect.unit (s := S1024x4736) ![0, 3328] S1024x128.size inb_S1024x4736_S1024x128_0_3328, P26⟩,
      ⟨Rect.unit (s := S1024x4736) ![0, 3200] S1024x128.size inb_S1024x4736_S1024x128_0_3200, P25⟩,
      ⟨Rect.unit (s := S1024x4736) ![0, 3072] S1024x128.size inb_S1024x4736_S1024x128_0_3072, P24⟩,
      ⟨Rect.unit (s := S1024x4736) ![0, 2944] S1024x128.size inb_S1024x4736_S1024x128_0_2944, P23⟩,
      ⟨Rect.unit (s := S1024x4736) ![0, 2816] S1024x128.size inb_S1024x4736_S1024x128_0_2816, P22⟩,
      ⟨Rect.unit (s := S1024x4736) ![0, 2688] S1024x128.size inb_S1024x4736_S1024x128_0_2688, P21⟩,
      ⟨Rect.unit (s := S1024x4736) ![0, 2560] S1024x128.size inb_S1024x4736_S1024x128_0_2560, P20⟩,
      ⟨Rect.unit (s := S1024x4736) ![0, 2432] S1024x128.size inb_S1024x4736_S1024x128_0_2432, P19⟩,
      ⟨Rect.unit (s := S1024x4736) ![0, 2304] S1024x128.size inb_S1024x4736_S1024x128_0_2304, P18⟩,
      ⟨Rect.unit (s := S1024x4736) ![0, 2176] S1024x128.size inb_S1024x4736_S1024x128_0_2176, P17⟩,
      ⟨Rect.unit (s := S1024x4736) ![0, 2048] S1024x128.size inb_S1024x4736_S1024x128_0_2048, P16⟩,
      ⟨Rect.unit (s := S1024x4736) ![0, 1920] S1024x128.size inb_S1024x4736_S1024x128_0_1920, P15⟩,
      ⟨Rect.unit (s := S1024x4736) ![0, 1792] S1024x128.size inb_S1024x4736_S1024x128_0_1792, P14⟩,
      ⟨Rect.unit (s := S1024x4736) ![0, 1664] S1024x128.size inb_S1024x4736_S1024x128_0_1664, P13⟩,
      ⟨Rect.unit (s := S1024x4736) ![0, 1536] S1024x128.size inb_S1024x4736_S1024x128_0_1536, P12⟩,
      ⟨Rect.unit (s := S1024x4736) ![0, 1408] S1024x128.size inb_S1024x4736_S1024x128_0_1408, P11⟩,
      ⟨Rect.unit (s := S1024x4736) ![0, 1280] S1024x128.size inb_S1024x4736_S1024x128_0_1280, P10⟩,
      ⟨Rect.unit (s := S1024x4736) ![0, 1152] S1024x128.size inb_S1024x4736_S1024x128_0_1152, P9⟩,
      ⟨Rect.unit (s := S1024x4736) ![0, 1024] S1024x128.size inb_S1024x4736_S1024x128_0_1024, P8⟩,
      ⟨Rect.unit (s := S1024x4736) ![0, 896] S1024x128.size inb_S1024x4736_S1024x128_0_896, P7⟩,
      ⟨Rect.unit (s := S1024x4736) ![0, 768] S1024x128.size inb_S1024x4736_S1024x128_0_768, P6⟩,
      ⟨Rect.unit (s := S1024x4736) ![0, 640] S1024x128.size inb_S1024x4736_S1024x128_0_640, P5⟩,
      ⟨Rect.unit (s := S1024x4736) ![0, 512] S1024x128.size inb_S1024x4736_S1024x128_0_512, P4⟩,
      ⟨Rect.unit (s := S1024x4736) ![0, 384] S1024x128.size inb_S1024x4736_S1024x128_0_384, P3⟩,
      ⟨Rect.unit (s := S1024x4736) ![0, 256] S1024x128.size inb_S1024x4736_S1024x128_0_256, P2⟩,
      ⟨Rect.unit (s := S1024x4736) ![0, 128] S1024x128.size inb_S1024x4736_S1024x128_0_128, P1⟩,
      ⟨Rect.unit (s := S1024x4736) ![0, 0] S1024x128.size inb_S1024x4736_S1024x128_0_0, P0⟩]) = c4F d sc := by
  subst h0 h1 h2 h3 h4 h5 h6 h7 h8 h9 h10 h11 h12 h13 h14 h15 h16 h17 h18 h19 h20 h21 h22 h23 h24 h25 h26 h27 h28 h29 h30 h31 h32 h33 h34 h35 h36
  funext y
  refine read_writes_agree v f (c4F d sc) _ ?_ y ?_
  · simp only [List.forall_mem_cons]
    refine ⟨fun x => c4_piece d sc 36 _ rfl _ x, fun x => c4_piece d sc 35 _ rfl _ x, fun x => c4_piece d sc 34 _ rfl _ x, fun x => c4_piece d sc 33 _ rfl _ x, fun x => c4_piece d sc 32 _ rfl _ x, fun x => c4_piece d sc 31 _ rfl _ x, fun x => c4_piece d sc 30 _ rfl _ x, fun x => c4_piece d sc 29 _ rfl _ x, fun x => c4_piece d sc 28 _ rfl _ x, fun x => c4_piece d sc 27 _ rfl _ x, fun x => c4_piece d sc 26 _ rfl _ x, fun x => c4_piece d sc 25 _ rfl _ x, fun x => c4_piece d sc 24 _ rfl _ x, fun x => c4_piece d sc 23 _ rfl _ x, fun x => c4_piece d sc 22 _ rfl _ x, fun x => c4_piece d sc 21 _ rfl _ x, fun x => c4_piece d sc 20 _ rfl _ x, fun x => c4_piece d sc 19 _ rfl _ x, fun x => c4_piece d sc 18 _ rfl _ x, fun x => c4_piece d sc 17 _ rfl _ x, fun x => c4_piece d sc 16 _ rfl _ x, fun x => c4_piece d sc 15 _ rfl _ x, fun x => c4_piece d sc 14 _ rfl _ x, fun x => c4_piece d sc 13 _ rfl _ x, fun x => c4_piece d sc 12 _ rfl _ x, fun x => c4_piece d sc 11 _ rfl _ x, fun x => c4_piece d sc 10 _ rfl _ x, fun x => c4_piece d sc 9 _ rfl _ x, fun x => c4_piece d sc 8 _ rfl _ x, fun x => c4_piece d sc 7 _ rfl _ x, fun x => c4_piece d sc 6 _ rfl _ x, fun x => c4_piece d sc 5 _ rfl _ x, fun x => c4_piece d sc 4 _ rfl _ x, fun x => c4_piece d sc 3 _ rfl _ x, fun x => c4_piece d sc 2 _ rfl _ x, fun x => c4_piece d sc 1 _ rfl _ x, fun x => c4_piece d sc 0 _ rfl _ x, ?_⟩
    intro p hp; exact absurd hp List.not_mem_nil
  · have hk : ∃ k : Fin 37, (y 1).val / 128 = k.val := ⟨⟨_, plane_lt y⟩, rfl⟩
    obtain ⟨k, hk⟩ := hk
    simp only [List.exists_mem_cons_iff]
    match k, hk with
    | ⟨0, _⟩, hk => exact Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inl (c4_cover y 0 hk _ rfl _)))))))))))))))))))))))))))))))))))))
    | ⟨1, _⟩, hk => exact Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inl (c4_cover y 1 hk _ rfl _))))))))))))))))))))))))))))))))))))
    | ⟨2, _⟩, hk => exact Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inl (c4_cover y 2 hk _ rfl _)))))))))))))))))))))))))))))))))))
    | ⟨3, _⟩, hk => exact Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inl (c4_cover y 3 hk _ rfl _))))))))))))))))))))))))))))))))))
    | ⟨4, _⟩, hk => exact Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inl (c4_cover y 4 hk _ rfl _)))))))))))))))))))))))))))))))))
    | ⟨5, _⟩, hk => exact Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inl (c4_cover y 5 hk _ rfl _))))))))))))))))))))))))))))))))
    | ⟨6, _⟩, hk => exact Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inl (c4_cover y 6 hk _ rfl _)))))))))))))))))))))))))))))))
    | ⟨7, _⟩, hk => exact Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inl (c4_cover y 7 hk _ rfl _))))))))))))))))))))))))))))))
    | ⟨8, _⟩, hk => exact Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inl (c4_cover y 8 hk _ rfl _)))))))))))))))))))))))))))))
    | ⟨9, _⟩, hk => exact Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inl (c4_cover y 9 hk _ rfl _))))))))))))))))))))))))))))
    | ⟨10, _⟩, hk => exact Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inl (c4_cover y 10 hk _ rfl _)))))))))))))))))))))))))))
    | ⟨11, _⟩, hk => exact Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inl (c4_cover y 11 hk _ rfl _))))))))))))))))))))))))))
    | ⟨12, _⟩, hk => exact Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inl (c4_cover y 12 hk _ rfl _)))))))))))))))))))))))))
    | ⟨13, _⟩, hk => exact Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inl (c4_cover y 13 hk _ rfl _))))))))))))))))))))))))
    | ⟨14, _⟩, hk => exact Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inl (c4_cover y 14 hk _ rfl _)))))))))))))))))))))))
    | ⟨15, _⟩, hk => exact Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inl (c4_cover y 15 hk _ rfl _))))))))))))))))))))))
    | ⟨16, _⟩, hk => exact Or.inr (Or.inr (Or.inr (Or.inr (Or.inr (Or.inr (Or.inr (Or.inr (Or.inr (Or.inr (Or.inr (Or.inr (Or.inr (Or.inr (Or.inr (Or.inr (Or.inr (Or.inr (Or.inr (Or.inr (Or.inl (c4_cover y 16 hk _ rfl _)))))))))))))))))))))
    | ⟨17, _⟩, hk => exact Or.inr (Or.inr (Or.inr (Or.inr (Or.inr (Or.inr (Or.inr (Or.inr (Or.inr (Or.inr (Or.inr (Or.inr (Or.inr (Or.inr (Or.inr (Or.inr (Or.inr (Or.inr (Or.inr (Or.inl (c4_cover y 17 hk _ rfl _))))))))))))))))))))
    | ⟨18, _⟩, hk => exact Or.inr (Or.inr (Or.inr (Or.inr (Or.inr (Or.inr (Or.inr (Or.inr (Or.inr (Or.inr (Or.inr (Or.inr (Or.inr (Or.inr (Or.inr (Or.inr (Or.inr (Or.inr (Or.inl (c4_cover y 18 hk _ rfl _)))))))))))))))))))
    | ⟨19, _⟩, hk => exact Or.inr (Or.inr (Or.inr (Or.inr (Or.inr (Or.inr (Or.inr (Or.inr (Or.inr (Or.inr (Or.inr (Or.inr (Or.inr (Or.inr (Or.inr (Or.inr (Or.inr (Or.inl (c4_cover y 19 hk _ rfl _))))))))))))))))))
    | ⟨20, _⟩, hk => exact Or.inr (Or.inr (Or.inr (Or.inr (Or.inr (Or.inr (Or.inr (Or.inr (Or.inr (Or.inr (Or.inr (Or.inr (Or.inr (Or.inr (Or.inr (Or.inr (Or.inl (c4_cover y 20 hk _ rfl _)))))))))))))))))
    | ⟨21, _⟩, hk => exact Or.inr (Or.inr (Or.inr (Or.inr (Or.inr (Or.inr (Or.inr (Or.inr (Or.inr (Or.inr (Or.inr (Or.inr (Or.inr (Or.inr (Or.inr (Or.inl (c4_cover y 21 hk _ rfl _))))))))))))))))
    | ⟨22, _⟩, hk => exact Or.inr (Or.inr (Or.inr (Or.inr (Or.inr (Or.inr (Or.inr (Or.inr (Or.inr (Or.inr (Or.inr (Or.inr (Or.inr (Or.inr (Or.inl (c4_cover y 22 hk _ rfl _)))))))))))))))
    | ⟨23, _⟩, hk => exact Or.inr (Or.inr (Or.inr (Or.inr (Or.inr (Or.inr (Or.inr (Or.inr (Or.inr (Or.inr (Or.inr (Or.inr (Or.inr (Or.inl (c4_cover y 23 hk _ rfl _))))))))))))))
    | ⟨24, _⟩, hk => exact Or.inr (Or.inr (Or.inr (Or.inr (Or.inr (Or.inr (Or.inr (Or.inr (Or.inr (Or.inr (Or.inr (Or.inr (Or.inl (c4_cover y 24 hk _ rfl _)))))))))))))
    | ⟨25, _⟩, hk => exact Or.inr (Or.inr (Or.inr (Or.inr (Or.inr (Or.inr (Or.inr (Or.inr (Or.inr (Or.inr (Or.inr (Or.inl (c4_cover y 25 hk _ rfl _))))))))))))
    | ⟨26, _⟩, hk => exact Or.inr (Or.inr (Or.inr (Or.inr (Or.inr (Or.inr (Or.inr (Or.inr (Or.inr (Or.inr (Or.inl (c4_cover y 26 hk _ rfl _)))))))))))
    | ⟨27, _⟩, hk => exact Or.inr (Or.inr (Or.inr (Or.inr (Or.inr (Or.inr (Or.inr (Or.inr (Or.inr (Or.inl (c4_cover y 27 hk _ rfl _))))))))))
    | ⟨28, _⟩, hk => exact Or.inr (Or.inr (Or.inr (Or.inr (Or.inr (Or.inr (Or.inr (Or.inr (Or.inl (c4_cover y 28 hk _ rfl _)))))))))
    | ⟨29, _⟩, hk => exact Or.inr (Or.inr (Or.inr (Or.inr (Or.inr (Or.inr (Or.inr (Or.inl (c4_cover y 29 hk _ rfl _))))))))
    | ⟨30, _⟩, hk => exact Or.inr (Or.inr (Or.inr (Or.inr (Or.inr (Or.inr (Or.inl (c4_cover y 30 hk _ rfl _)))))))
    | ⟨31, _⟩, hk => exact Or.inr (Or.inr (Or.inr (Or.inr (Or.inr (Or.inl (c4_cover y 31 hk _ rfl _))))))
    | ⟨32, _⟩, hk => exact Or.inr (Or.inr (Or.inr (Or.inr (Or.inl (c4_cover y 32 hk _ rfl _)))))
    | ⟨33, _⟩, hk => exact Or.inr (Or.inr (Or.inr (Or.inl (c4_cover y 33 hk _ rfl _))))
    | ⟨34, _⟩, hk => exact Or.inr (Or.inr (Or.inl (c4_cover y 34 hk _ rfl _)))
    | ⟨35, _⟩, hk => exact Or.inr (Or.inl (c4_cover y 35 hk _ rfl _))
    | ⟨36, _⟩, hk => exact Or.inl (c4_cover y 36 hk _ rfl _)
    | ⟨n + 37, h⟩, _ => exact absurd h (by omega)

end Cert.KernelIdeal.Ffn

end
-- ==== Proof.Ideal.Model.lean ====
/- What the feed-forward kernel holds before each point: the activations, the running maxima, the codes and scales of a row block,
   each as a function of the arguments. -/
module

public import proofs.«01_k».proof.Proof.Ideal.Pure

@[expose] public section

set_option maxRecDepth 16384

noncomputable section

namespace Cert.KernelIdeal.Ffn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The point at a position. -/
def pt (t : ℕ) : Fin cfg0.N := ⟨t % 136, lt_of_lt_of_eq (Nat.mod_lt _ (by decide)) (show cfg0.N = 136 from N_0).symm⟩
theorem pt_val (t : Fin cfg0.N) : pt t.val = t := Fin.ext (Nat.mod_eq_of_lt (lt_of_lt_of_eq t.isLt (show cfg0.N = 136 from N_0)))

section Model
variable (c : Dev nD)

/-- The gated activations at position `t`: the left half of the tile, -/
def M0 (t : ℕ) : FVec F S1024x256 .f32 := main0 (iblk m c 0 (pt t)) (iblk m c 1 (pt t)) (iblk m c 2 (pt t)) (iblk m c 3 (pt t)) (V m c main_arg3) (kd t) (tg t)
/-- the right half, -/
def M1 (t : ℕ) : FVec F S1024x256 .f32 := main1 (iblk m c 0 (pt t)) (iblk m c 1 (pt t)) (iblk m c 2 (pt t)) (iblk m c 3 (pt t)) (V m c main_arg3) (kd t) (tg t)
/-- the narrow tile. -/
def TV (t : ℕ) : FVec F S1024x128 .f32 := tailV (iblk m c 0 (pt t)) (iblk m c 1 (pt t)) (iblk m c 2 (pt t)) (iblk m c 3 (pt t)) (V m c main_arg3) (kd t)
theorem M0_at (t : Fin cfg0.N) : main0 (iblk m c 0 t) (iblk m c 1 t) (iblk m c 2 t) (iblk m c 3 t) (V m c main_arg3) (kd t.val) (tg t.val) = M0 m c t.val := by
  unfold M0; rw [pt_val]
theorem M1_at (t : Fin cfg0.N) : main1 (iblk m c 0 t) (iblk m c 1 t) (iblk m c 2 t) (iblk m c 3 t) (V m c main_arg3) (kd t.val) (tg t.val) = M1 m c t.val := by
  unfold M1; rw [pt_val]
theorem TV_at (t : Fin cfg0.N) : tailV (iblk m c 0 t) (iblk m c 1 t) (iblk m c 2 t) (iblk m c 3 t) (V m c main_arg3) (kd t.val) = TV m c t.val := by
  unfold TV; rw [pt_val]

/-- The activations' buffer in row block `i` after `n` tiles, if it held `d` before. -/
def ACT (i : ℕ) : ℕ → (S37x1024x128.Idx → Elt F .f32) → S37x1024x128.Idx → Elt F .f32
  | 0, d => d
  | n + 1, d => if n = 9 then put 36 (plT (TV m c (17 * i + n))) (ACT i n d) else putM n (M0 m c (17 * i + n)) (M1 m c (17 * i + n)) (ACT i n d)
/-- The running maxima after `n` tiles; after the last the scales. -/
def AM (i : ℕ) : ℕ → Vec F S1024x128 .f32
  | 0 => k0_pay75 (F := F)
  | n + 1 => if n = 9 then k0_pay30 (k0_pay18 (amxT (TV m c (17 * i + n)) (AM i n))) else amx (M1 m c (17 * i + n)) (amx (M0 m c (17 * i + n)) (AM i n))
theorem ACT_main (i n : ℕ) (h : n ≠ 9) (d) : ACT m c i (n + 1) d = putM n (M0 m c (17 * i + n)) (M1 m c (17 * i + n)) (ACT m c i n d) := by
  rw [ACT, if_neg h]
theorem ACT_tail (i : ℕ) (d) : ACT m c i 10 d = put 36 (plT (TV m c (17 * i + 9))) (ACT m c i 9 d) := by
  rw [ACT, if_pos rfl]
theorem AM_main (i n : ℕ) (h : n ≠ 9) : AM m c i (n + 1) = amx (M1 m c (17 * i + n)) (amx (M0 m c (17 * i + n)) (AM m c i n)) := by
  rw [AM, if_neg h]
theorem AM_tail (i : ℕ) : AM m c i 10 = k0_pay30 (k0_pay18 (amxT (TV m c (17 * i + 9)) (AM m c i 9))) := by
  rw [AM, if_pos rfl]

/-- Plane `k` of row block `i`'s activations. -/
def PL (i k : ℕ) : S1x1024x128.Idx → Elt F .f32 :=
  if k = 36 then plT (TV m c (17 * i + 9)) else if k % 4 = 0 then pl0 (M0 m c (17 * i + k / 4)) else if k % 4 = 1 then pl1 (M0 m c (17 * i + k / 4))
  else if k % 4 = 2 then pl0 (M1 m c (17 * i + k / 4)) else pl1 (M1 m c (17 * i + k / 4))

/-- A place of the buffer, within its plane. -/
def dn (y : S37x1024x128.Idx) : S1x1024x128.Idx := fun a => match a with
  | ⟨0, _⟩ => ⟨0, Nat.one_pos⟩
  | ⟨1, _⟩ => y 1
  | ⟨2, _⟩ => y 2
theorem put_hit {α : Type} (o : ℕ) (Q : S1x1024x128.Idx → α) (d : S37x1024x128.Idx → α) (y : S37x1024x128.Idx) (h : (y 0).val = o) : put o Q d y = Q (dn y) := by
  have h1 : (y 1).val < 1024 := (y 1).isLt
  have h2 : (y 2).val < 128 := (y 2).isLt
  have hh : ∀ a, (![o, 0, 0] : Fin 3 → ℕ) a ≤ (y a).val ∧ (y a).val < (![o, 0, 0] : Fin 3 → ℕ) a + S1x1024x128.size a := by
    intro a; fin_cases a
    · exact ⟨h.ge, (show (y 0).val < o + 1 by omega)⟩
    · exact ⟨Nat.zero_le _, (show (y 1).val < 0 + 1024 by omega)⟩
    · exact ⟨Nat.zero_le _, (show (y 2).val < 0 + 128 by omega)⟩
  unfold put; rw [dif_pos hh]
  congr 1; funext a; fin_cases a
  · exact Fin.ext (show (y 0).val - o = 0 by omega)
  · exact Fin.ext (show (y 1).val - 0 = (y 1).val by omega)
  · exact Fin.ext (show (y 2).val - 0 = (y 2).val by omega)
theorem put_miss {α : Type} (o : ℕ) (Q : S1x1024x128.Idx → α) (d : S37x1024x128.Idx → α) (y : S37x1024x128.Idx) (h : (y 0).val ≠ o) : put o Q d y = d y := by
  unfold put; rw [dif_neg]
  intro hh
  have h0 := hh 0
  have h1 : o ≤ (y 0).val := h0.1
  have h2 : (y 0).val < o + 1 := h0.2
  omega

/-- After `n ≤ 9` tiles the first `4n` planes are those of the row block, whatever was there before. -/
theorem ACT_plane (i : ℕ) (d : S37x1024x128.Idx → Elt F .f32) : ∀ n, n ≤ 9 → ∀ y : S37x1024x128.Idx, (y 0).val < 4 * n → ACT m c i n d y = PL m c i (y 0).val (dn y)
  | 0, _, y, h => absurd h (Nat.not_lt_zero _)
  | n + 1, hn, y, h => by
    rw [ACT_main m c i n (by omega)]
    unfold putM
    by_cases h3 : (y 0).val = 4 * n + 3
    · rw [put_hit _ _ _ y h3]; unfold PL
      rw [if_neg (by omega), if_neg (by omega), if_neg (by omega), if_neg (by omega), show (y 0).val / 4 = n by omega]
    rw [put_miss _ _ _ y h3]
    by_cases h2 : (y 0).val = 4 * n + 2
    · rw [put_hit _ _ _ y h2]; unfold PL
      rw [if_neg (by omega), if_neg (by omega), if_neg (by omega), if_pos (by omega), show (y 0).val / 4 = n by omega]
    rw [put_miss _ _ _ y h2]
    by_cases h1 : (y 0).val = 4 * n + 1
    · rw [put_hit _ _ _ y h1]; unfold PL
      rw [if_neg (by omega), if_neg (by omega), if_pos (by omega), show (y 0).val / 4 = n by omega]
    rw [put_miss _ _ _ y h1]
    by_cases h0 : (y 0).val = 4 * n
    · rw [put_hit _ _ _ y h0]; unfold PL
      rw [if_neg (by omega), if_pos (by omega), show (y 0).val / 4 = n by omega]
    rw [put_miss _ _ _ y h0]
    exact ACT_plane i d n (by omega) y (by omega)
/-- After all ten every plane is. -/
theorem ACT_all (i : ℕ) (d : S37x1024x128.Idx → Elt F .f32) (y : S37x1024x128.Idx) : ACT m c i 10 d y = PL m c i (y 0).val (dn y) := by
  have hy : (y 0).val < 37 := (y 0).isLt
  rw [ACT_tail]
  by_cases h : (y 0).val = 36
  · rw [put_hit _ _ _ y h]; unfold PL; rw [if_pos h]
  · rw [put_miss _ _ _ y h]; exact ACT_plane m c i d 9 le_rfl y (by omega)
theorem ACT_indep (i : ℕ) (d d' : S37x1024x128.Idx → Elt F .f32) : ACT m c i 10 d = ACT m c i 10 d' :=
  funext fun y => (ACT_all m c i d y).trans (ACT_all m c i d' y).symm

/-- The activations of row block `i`, -/
def ACTV (i : ℕ) : S37x1024x128.Idx → Elt F .f32 := fun y => PL m c i (y 0).val (dn y)
theorem ACT_full (i : ℕ) (d : S37x1024x128.Idx → Elt F .f32) : ACT m c i 10 d = ACTV m c i := funext fun y => ACT_all m c i d y
/-- its codes, -/
def C4 (i : ℕ) : Vec F S1024x4736 .fp8e4m3 := c4F (ACTV m c i) (AM m c i 10)
/-- its scales as a row, -/
def S4 (i : ℕ) : Vec F S1x1x1024 .f32 := s4F (amxT (TV m c (17 * i + 9)) (AM m c i 9))
/-- and what the down product leaves at position `t`. -/
def HV (t : Fin cfg0.N) : Vec F S1024x512 .bf16 :=
  k0_pay74 (C4 m c (t.val / 17)) (gD (V m c main_arg5) (kd t.val) (td t.val)) (iblk m c 5 t) (s3c (AM m c (t.val / 17) 10)) (iblk m c 4 t)
end Model

end Cert.KernelIdeal.Ffn

end
-- ==== Proof.Ideal.Cut.lean ====
/- The window sets, and a narrow tile's part of a window. -/
module

public import proofs.«01_k».proof.Proof.Ideal.Ring

@[expose] public section

set_option maxRecDepth 16384

noncomputable section

namespace Cert.KernelIdeal.Ffn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The elements of a window. -/
theorem set_wA (s : Fin 2) : (wA s).view.set = (Rect.unit (s := S2x3584x1024) ![s.val, 0, 0] S1x3584x512.size (inb_wA s)).set := by
  simp only [wA, Memref.view_squeeze, View.set_reshape]; exact View.set_slice_whole _ _
/-- The elements of a window. -/
theorem set_wB (s : Fin 2) : (wB s).view.set = (Rect.unit (s := S2x3584x1024) ![s.val, 0, 512] S1x3584x512.size (inb_wB s)).set := by
  simp only [wB, Memref.view_squeeze, View.set_reshape]; exact View.set_slice_whole _ _
/-- The elements of a window. -/
theorem set_wD (s : Fin 2) : (wD s).view.set = (Rect.unit (s := S2x4736x512) ![s.val, 0, 0] S1x4736x512.size (inb_wD s)).set := by
  simp only [wD, Memref.view_squeeze, View.set_reshape]; exact View.set_slice_whole _ _
theorem set_tA (s : Fin 2) : (tA s).view.set = (Rect.unit (s := S2x3584x1024) ![s.val, 0, 0] S1x3584x128.size (inb_tA s)).set := by
  simp only [tA, Memref.view_squeeze, View.set_reshape]; exact View.set_slice_whole _ _
theorem sub_tA (s : Fin 2) : (tA s).view.set ⊆ (wA s).view.set := by
  rw [set_wA, set_tA]
  have h : (Rect.unit (s := S2x3584x1024) ![s.val, 0, 0] S1x3584x128.size (inb_tA s)).set ⊆ (Rect.unit (s := S2x3584x1024) ![s.val, 0, 0] S1x3584x512.size (inb_wA s)).set := by
    intro y hy
    rw [Rect.mem_set_unit] at hy ⊢
    intro a; have := hy a; fin_cases a <;> simp at this ⊢ <;> omega
  exact h
/-- A window is cut into the narrow tile's part and the rest, -/
theorem cutA (c : Dev nD) (s : Fin 2) (f : HbBuf0 (F := F) c (wA s)) : slotA c s f ⊣⊢ iprop(slotTA c s f ∗ spareTA c s f) := by
  unfold spareTA; exact pointsTo_split_subset (sub_tA s)
/-- and put together again. -/
theorem glueA (c : Dev nD) (s : Fin 2) (f : HbBuf0 (F := F) c (tA s)) (g : HbBuf0 (F := F) c (wA s)) : iprop(slotTA c s f ∗ spareTA c s g) ⊢ iprop(∃ h, slotA (F := F) c s h) := by
  unfold spareTA
  exact (pointsTo_join_subset (sub_tA s)).trans (exists_intro (Φ := fun h => slotA (F := F) c s h) _)
theorem set_tB (s : Fin 2) : (tB s).view.set = (Rect.unit (s := S2x3584x1024) ![s.val, 0, 512] S1x3584x128.size (inb_tB s)).set := by
  simp only [tB, Memref.view_squeeze, View.set_reshape]; exact View.set_slice_whole _ _
theorem sub_tB (s : Fin 2) : (tB s).view.set ⊆ (wB s).view.set := by
  rw [set_wB, set_tB]
  have h : (Rect.unit (s := S2x3584x1024) ![s.val, 0, 512] S1x3584x128.size (inb_tB s)).set ⊆ (Rect.unit (s := S2x3584x1024) ![s.val, 0, 512] S1x3584x512.size (inb_wB s)).set := by
    intro y hy
    rw [Rect.mem_set_unit] at hy ⊢
    intro a; have := hy a; fin_cases a <;> simp at this ⊢ <;> omega
  exact h
/-- A window is cut into the narrow tile's part and the rest, -/
theorem cutB (c : Dev nD) (s : Fin 2) (f : HbBuf0 (F := F) c (wB s)) : slotB c s f ⊣⊢ iprop(slotTB c s f ∗ spareTB c s f) := by
  unfold spareTB; exact pointsTo_split_subset (sub_tB s)
/-- and put together again. -/
theorem glueB (c : Dev nD) (s : Fin 2) (f : HbBuf0 (F := F) c (tB s)) (g : HbBuf0 (F := F) c (wB s)) : iprop(slotTB c s f ∗ spareTB c s g) ⊢ iprop(∃ h, slotB (F := F) c s h) := by
  unfold spareTB
  exact (pointsTo_join_subset (sub_tB s)).trans (exists_intro (Φ := fun h => slotB (F := F) c s h) _)

end Cert.KernelIdeal.Ffn

end
-- ==== Proof.Ideal.Ends.lean ====
/- What the launch hands the streamed windows, and takes back: the scratch buffers by slots and parts, the operands by shares. -/
module

public import proofs.«01_k».proof.Proof.Ideal.Ring
public import proofs.«01_k».proof.Proof.Ideal.Cut

@[expose] public section

set_option maxRecDepth 16384

noncomputable section

namespace Cert.KernelIdeal.Ffn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

theorem inb_part (b : Fin 4) : ∀ a, (![b.val / 2, 0, 512 * (b.val % 2)] : Fin 3 → Nat) a + S1x3584x512.size a ≤ S2x3584x1024.size a := by
  have := b.isLt; intro a; fin_cases a <;> simp <;> omega
/-- The four parts of the gate and up scratch. -/
abbrev partSet (b : Fin 4) : Finset S2x3584x1024.Idx := (Rect.unit (s := S2x3584x1024) ![b.val / 2, 0, 512 * (b.val % 2)] S1x3584x512.size (inb_part b)).set
theorem mem_part (b : Fin 4) (y : S2x3584x1024.Idx) : y ∈ partSet b ↔ (y 0).val = b.val / 2 ∧ (y 2).val / 512 = b.val % 2 := by
  have h1 : (y 1).val < 3584 := (y 1).isLt
  rw [Rect.mem_set_unit]
  constructor
  · intro h
    have h0 : b.val / 2 ≤ (y 0).val ∧ (y 0).val < b.val / 2 + 1 := h 0
    have h2 : 512 * (b.val % 2) ≤ (y 2).val ∧ (y 2).val < 512 * (b.val % 2) + 512 := h 2
    omega
  · rintro ⟨h0, h2⟩ a
    fin_cases a
    · exact (show b.val / 2 ≤ (y 0).val ∧ (y 0).val < b.val / 2 + 1 by omega)
    · exact (show 0 ≤ (y 1).val ∧ (y 1).val < 0 + 3584 by omega)
    · exact (show 512 * (b.val % 2) ≤ (y 2).val ∧ (y 2).val < 512 * (b.val % 2) + 512 by omega)
theorem part_disjoint (b b' : Fin 4) (h : b ≠ b') : Disjoint (partSet b) (partSet b') := by
  rw [Finset.disjoint_left]
  intro y hy hy'
  rw [mem_part] at hy hy'
  exact h (Fin.ext (by omega))
theorem part_cover : Finset.univ.biUnion partSet = Finset.univ := by
  ext y
  have h0 : (y 0).val < 2 := (y 0).isLt
  have h2 : (y 2).val < 1024 := (y 2).isLt
  simp only [Finset.mem_biUnion, Finset.mem_univ, true_and, iff_true]
  exact ⟨⟨2 * (y 0).val + (y 2).val / 512, by omega⟩, (mem_part _ _).mpr ⟨by simp only; omega, by simp only; omega⟩⟩
theorem big4 (Φ : Fin 4 → sProp 𝕄) : bigSep Finset.univ Φ = iprop(Φ 0 ∗ Φ 1 ∗ Φ 2 ∗ Φ 3) :=
  bigSep_univ_eq_bigSepL [(0 : Fin 4), 1, 2, 3] (by decide) (by decide) Φ

section Ends
variable (c : Dev nD)

theorem slotA_eq0 (f) : slotA (F := F) c 0 f = (((c : Thread nD τ).loc cc0_scratch1) ↦[partSet 0]{fullShare} f : sProp 𝕄) := by
  unfold slotA; rw [set_wA]; rfl
theorem slotB_eq0 (f) : slotB (F := F) c 0 f = (((c : Thread nD τ).loc cc0_scratch1) ↦[partSet 1]{fullShare} f : sProp 𝕄) := by
  unfold slotB; rw [set_wB]; rfl
theorem slotA_eq1 (f) : slotA (F := F) c 1 f = (((c : Thread nD τ).loc cc0_scratch1) ↦[partSet 2]{fullShare} f : sProp 𝕄) := by
  unfold slotA; rw [set_wA]; rfl
theorem slotB_eq1 (f) : slotB (F := F) c 1 f = (((c : Thread nD τ).loc cc0_scratch1) ↦[partSet 3]{fullShare} f : sProp 𝕄) := by
  unfold slotB; rw [set_wB]; rfl
set_option maxHeartbeats 1000000 in
/-- The gate and up scratch whole at anything is its four parts at something each, -/
theorem parts_in : iprop(∃ d, owns (c : Thread nD τ) scM0_1 fullShare d) ⊢ (iprop((∃ f, slotA (F := F) c 0 f) ∗ (∃ f, slotB (F := F) c 0 f) ∗ (∃ f, slotA (F := F) c 1 f) ∗ ∃ f, slotB (F := F) c 1 f) : sProp 𝕄) := by
  simp only [scM0_1, owns_whole]
  iintro ⟨%f, H⟩
  ihave H2 := (Entails.of_eq ((Ring.pointsTo_blocks (Ix := Unit) (Name := ℕ) (U := Pipeline.UD sig nD τ) (Lvl := ℕ) (q := fullShare) (ℓ := (c : Thread nD τ).loc cc0_scratch1) partSet part_disjoint part_cover f).trans (big4 _))) $$ H
  icases H2 with ⟨H0, H1, H2, H3⟩
  isplitl [H0]; · iexists f; iapply (Entails.of_eq (slotA_eq0 c f).symm); iexact H0
  isplitl [H1]; · iexists f; iapply (Entails.of_eq (slotB_eq0 c f).symm); iexact H1
  isplitl [H2]; · iexists f; iapply (Entails.of_eq (slotA_eq1 c f).symm); iexact H2
  iexists f; iapply (Entails.of_eq (slotB_eq1 c f).symm); iexact H3
set_option maxHeartbeats 1000000 in
/-- and back. -/
theorem parts_out : (iprop((∃ f, slotA (F := F) c 0 f) ∗ (∃ f, slotB (F := F) c 0 f) ∗ (∃ f, slotA (F := F) c 1 f) ∗ ∃ f, slotB (F := F) c 1 f) : sProp 𝕄) ⊢ iprop(∃ d, owns (c : Thread nD τ) scM0_1 fullShare d) := by
  simp only [scM0_1, owns_whole]
  iintro ⟨⟨%f0, H0⟩, ⟨%f1, H1⟩, ⟨%f2, H2⟩, ⟨%f3, H3⟩⟩
  iapply (Ring.pointsTo_blocks_join_exists (Ix := Unit) (Name := ℕ) (U := Pipeline.UD sig nD τ) (Lvl := ℕ) (q := fullShare) (ℓ := (c : Thread nD τ).loc cc0_scratch1) partSet part_disjoint part_cover f0)
  irw [big4]
  isplitl [H0]; · iexists f0; iapply (Entails.of_eq (slotA_eq0 c f0)); iexact H0
  isplitl [H1]; · iexists f1; iapply (Entails.of_eq (slotB_eq0 c f1)); iexact H1
  isplitl [H2]; · iexists f2; iapply (Entails.of_eq (slotA_eq1 c f2)); iexact H2
  iexists f3; iapply (Entails.of_eq (slotB_eq1 c f3)); iexact H3

abbrev slotSetD (s : Fin 2) : Finset S2x4736x512.Idx := (Rect.unit (s := S2x4736x512) ![s.val, 0, 0] S1x4736x512.size (inb_wD s)).set
theorem slotD_disjoint (s s' : Fin 2) (h : s ≠ s') : Disjoint (slotSetD s) (slotSetD s') :=
  Ring.lead_disjoint (s := S2x4736x512) (0 : Fin 3) 1 (fun s : Fin 2 => (![s.val, 0, 0] : Fin 3 → Nat)) S1x4736x512.size inb_wD (fun s => by simp) rfl s s' h
theorem slotD_cover : Finset.univ.biUnion slotSetD = Finset.univ :=
  Ring.lead_cover (s := S2x4736x512) (0 : Fin 3) 1 (fun s : Fin 2 => (![s.val, 0, 0] : Fin 3 → Nat)) S1x4736x512.size inb_wD (fun s => by simp)
    (fun s a ha => by fin_cases a <;> first | exact absurd rfl ha | rfl) rfl (fun a ha => by fin_cases a <;> first | exact absurd rfl ha | rfl) rfl
theorem slotD_eq (s : Fin 2) (f) : slotD (F := F) c s f = (((c : Thread nD τ).loc cc0_scratch2) ↦[slotSetD s]{fullShare} f : sProp 𝕄) := by
  unfold slotD; rw [set_wD]; rfl
set_option maxHeartbeats 1000000 in
theorem slotsD_in : iprop(∃ d, owns (c : Thread nD τ) scM0_2 fullShare d) ⊢ (iprop((∃ f, slotD (F := F) c 0 f) ∗ ∃ f, slotD (F := F) c 1 f) : sProp 𝕄) := by
  simp only [scM0_2, owns_whole]
  exact Ring.slots2_split (U := Pipeline.UD sig nD τ) (ℓ := (c : Thread nD τ).loc cc0_scratch2) (q := fullShare) slotSetD slotD_disjoint slotD_cover
    (slotD c 0) (slotD c 1) (slotD_eq c 0) (slotD_eq c 1)
set_option maxHeartbeats 1000000 in
theorem slotsD_out : (iprop((∃ f, slotD (F := F) c 0 f) ∗ ∃ f, slotD (F := F) c 1 f) : sProp 𝕄) ⊢ iprop(∃ d, owns (c : Thread nD τ) scM0_2 fullShare d) := by
  simp only [scM0_2, owns_whole]
  exact Ring.slots2_join (U := Pipeline.UD sig nD τ) (ℓ := (c : Thread nD τ).loc cc0_scratch2) (q := fullShare) slotSetD slotD_disjoint slotD_cover
    (slotD c 0) (slotD c 1) (slotD_eq c 0) (slotD_eq c 1)

/-- The gate and up operand is one copy per slot and part; -/
theorem gu_whole (W : HbBuf0 (F := F) c hbM0_0) : (hbPt0 c hbM0_0 W : sProp 𝕄) ⊣⊢ iprop((wholeA c W 0 ∗ wholeB c W 0) ∗ (wholeA c W 1 ∗ wholeB c W 1)) :=
  (pointsTo_share (PosShare.mem_left_op_right fullShare)).trans
    (sep_congr (pointsTo_share (PosShare.mem_left_op_right fullShare.left)) (pointsTo_share (PosShare.mem_left_op_right fullShare.right)))
/-- the down operand one per slot. -/
theorem dn_whole (W : HbBuf0 (F := F) c hbM0_1) : (hbPt0 c hbM0_1 W : sProp 𝕄) ⊣⊢ iprop(wholeD c W 0 ∗ wholeD c W 1) :=
  pointsTo_share (PosShare.mem_left_op_right fullShare)

/-- Every slot of the gate and up windows free. -/
def guFree (W : HbBuf0 (F := F) c hbM0_0) : sProp 𝕄 := iprop((freeA c W 0 ∗ freeB c W 0) ∗ (freeA c W 1 ∗ freeB c W 1))
/-- Every slot of the down window free. -/
def dnFree (W : HbBuf0 (F := F) c hbM0_1) : sProp 𝕄 := iprop(freeD c W 0 ∗ freeD c W 1)
theorem cellA_0 : cellA (F := F) c 0 = semVal ((c : Thread nD τ), SemLoc.dma 18) 0 := congrArg (fun x => (semVal ((c : Thread nD τ), x) 0 : sProp 𝕄)) qA_0
theorem cellA_1 : cellA (F := F) c 1 = semVal ((c : Thread nD τ), SemLoc.dma 20) 0 := congrArg (fun x => (semVal ((c : Thread nD τ), x) 0 : sProp 𝕄)) qA_1
theorem cellB_0 : cellB (F := F) c 0 = semVal ((c : Thread nD τ), SemLoc.dma 19) 0 := congrArg (fun x => (semVal ((c : Thread nD τ), x) 0 : sProp 𝕄)) qB_0
theorem cellB_1 : cellB (F := F) c 1 = semVal ((c : Thread nD τ), SemLoc.dma 21) 0 := congrArg (fun x => (semVal ((c : Thread nD τ), x) 0 : sProp 𝕄)) qB_1
theorem cellD_0 : cellD (F := F) c 0 = semVal ((c : Thread nD τ), SemLoc.dma 22) 0 := congrArg (fun x => (semVal ((c : Thread nD τ), x) 0 : sProp 𝕄)) qD_0
theorem cellD_1 : cellD (F := F) c 1 = semVal ((c : Thread nD τ), SemLoc.dma 23) 0 := congrArg (fun x => (semVal ((c : Thread nD τ), x) 0 : sProp 𝕄)) qD_1
theorem gu_in (W : HbBuf0 (F := F) c hbM0_0) :
    iprop((∃ d, owns (c : Thread nD τ) scM0_1 fullShare d) ∗ (semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0) ∗ hbPt0 c hbM0_0 W) ⊢ guFree c W := by
  unfold guFree freeA freeB
  rw [cellA_0, cellA_1, cellB_0, cellB_1]
  iintro ⟨HS, ⟨C0, C1, C2, C3⟩, HW⟩
  ihave HS' := (parts_in (F := F) c) $$ HS
  icases HS' with ⟨S0, S1, S2, S3⟩
  ihave HW' := (gu_whole (F := F) c W).1 $$ HW
  icases HW' with ⟨⟨W0, W1⟩, ⟨W2, W3⟩⟩
  isplitl [C0 S0 W0 C1 S1 W1]
  · isplitl [C0 S0 W0]
    · isplitl [C0]; · iexact C0
      isplitl [S0]; · iexact S0
      iexact W0
    · isplitl [C1]; · iexact C1
      isplitl [S1]; · iexact S1
      iexact W1
  · isplitl [C2 S2 W2]
    · isplitl [C2]; · iexact C2
      isplitl [S2]; · iexact S2
      iexact W2
    · isplitl [C3]; · iexact C3
      isplitl [S3]; · iexact S3
      iexact W3
theorem gu_out (W : HbBuf0 (F := F) c hbM0_0) : guFree c W ⊢
    iprop((∃ d, owns (c : Thread nD τ) scM0_1 fullShare d) ∗ (semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0) ∗ hbPt0 c hbM0_0 W) := by
  unfold guFree freeA freeB
  rw [cellA_0, cellA_1, cellB_0, cellB_1]
  iintro ⟨⟨⟨C0, S0, W0⟩, ⟨C1, S1, W1⟩⟩, ⟨⟨C2, S2, W2⟩, ⟨C3, S3, W3⟩⟩⟩
  isplitl [S0 S1 S2 S3]
  · iapply (parts_out (F := F) c)
    isplitl [S0]; · iexact S0
    isplitl [S1]; · iexact S1
    isplitl [S2]; · iexact S2
    iexact S3
  isplitl [C0 C1 C2 C3]
  · isplitl [C0]; · iexact C0
    isplitl [C1]; · iexact C1
    isplitl [C2]; · iexact C2
    iexact C3
  iapply (gu_whole (F := F) c W).2
  isplitl [W0 W1]
  · isplitl [W0]; · iexact W0
    iexact W1
  isplitl [W2]; · iexact W2
  iexact W3
theorem dn_in (W : HbBuf0 (F := F) c hbM0_1) :
    iprop((∃ d, owns (c : Thread nD τ) scM0_2 fullShare d) ∗ (semVal ((c : Thread nD τ), SemLoc.dma 22) 0 ∗ semVal ((c : Thread nD τ), SemLoc.dma 23) 0) ∗ hbPt0 c hbM0_1 W) ⊢ dnFree c W := by
  unfold dnFree freeD
  rw [cellD_0, cellD_1]
  iintro ⟨HS, ⟨C0, C1⟩, HW⟩
  ihave HS' := (slotsD_in (F := F) c) $$ HS
  icases HS' with ⟨S0, S1⟩
  ihave HW' := (dn_whole (F := F) c W).1 $$ HW
  icases HW' with ⟨W0, W1⟩
  isplitl [C0 S0 W0]
  · isplitl [C0]; · iexact C0
    isplitl [S0]; · iexact S0
    iexact W0
  · isplitl [C1]; · iexact C1
    isplitl [S1]; · iexact S1
    iexact W1
theorem dn_out (W : HbBuf0 (F := F) c hbM0_1) : dnFree c W ⊢
    iprop((∃ d, owns (c : Thread nD τ) scM0_2 fullShare d) ∗ (semVal ((c : Thread nD τ), SemLoc.dma 22) 0 ∗ semVal ((c : Thread nD τ), SemLoc.dma 23) 0) ∗ hbPt0 c hbM0_1 W) := by
  unfold dnFree freeD
  rw [cellD_0, cellD_1]
  iintro ⟨⟨C0, S0, W0⟩, ⟨C1, S1, W1⟩⟩
  isplitl [S0 S1]
  · iapply (slotsD_out (F := F) c)
    isplitl [S0]; · iexact S0
    iexact S1
  isplitl [C0 C1]
  · isplitl [C0]; · iexact C0
    iexact C1
  iapply (dn_whole (F := F) c W).2
  isplitl [W0]; · iexact W0
  iexact W1

/-- Two different slots are the two slots. -/
theorem two_slots (P : Fin 2 → sProp 𝕄) (a b : Fin 2) (h : a.val ≠ b.val) : iprop(P a ∗ P b) ⊣⊢ iprop(P 0 ∗ P 1) := by
  rcases a with ⟨a, ha⟩; rcases b with ⟨b, hb⟩
  have h' : a ≠ b := h
  rcases (by omega : (a = 0 ∧ b = 1) ∨ (a = 1 ∧ b = 0)) with ⟨rfl, rfl⟩ | ⟨rfl, rfl⟩
  · exact .rfl
  · exact sep_comm
theorem gu_pair (W : HbBuf0 (F := F) c hbM0_0) (a b : Fin 2) (h : a.val ≠ b.val) : guFree c W ⊣⊢ iprop((freeA c W a ∗ freeB c W a) ∗ (freeA c W b ∗ freeB c W b)) :=
  (two_slots (fun s => iprop(freeA c W s ∗ freeB c W s)) a b h).symm
theorem dn_pair (W : HbBuf0 (F := F) c hbM0_1) (a b : Fin 2) (h : a.val ≠ b.val) : dnFree c W ⊣⊢ iprop(freeD c W a ∗ freeD c W b) :=
  (two_slots (fun s => freeD c W s) a b h).symm
end Ends

end Cert.KernelIdeal.Ffn

end
-- ==== Proof.Ideal.Inv.lean ====
/- The invariant of the feed-forward kernel, its proof data, and where its outputs are stored and written back. -/
module

public import proofs.«01_k».proof.Proof.Ideal.Model
public import proofs.«01_k».proof.Proof.Ideal.Ends
public import Idealize.ShloMosaic.Lib.Pipeline.TableIdle

@[expose] public section

set_option maxRecDepth 16384

noncomputable section

namespace Cert.KernelIdeal.Ffn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

section Inv
variable (c : Dev nD)

/-- The activations' buffer before position `n`; -/
def ACTat (n : ℕ) (d : S37x1024x128.Idx → Elt F .f32) : S37x1024x128.Idx → Elt F .f32 := ACT m c (n / 17) (min (n % 17) 10) d
/-- the maxima, or the scales. -/
def AMat (n : ℕ) : Vec F S1024x128 .f32 := AM m c (n / 17) (min (n % 17) 10)
theorem ACT_step (t : ℕ) (h : t % 17 < 9) (d) : putM (t % 17) (M0 m c t) (M1 m c t) (ACTat m c t d) = ACTat m c (t + 1) d := by
  unfold ACTat
  rw [show (t + 1) / 17 = t / 17 by omega, show min ((t + 1) % 17) 10 = t % 17 + 1 by omega, show min (t % 17) 10 = t % 17 by omega, ACT_main m c _ _ (by omega),
    show 17 * (t / 17) + t % 17 = t by omega]
theorem AM_step (t : ℕ) (h : t % 17 < 9) : amx (M1 m c t) (amx (M0 m c t) (AMat m c t)) = AMat m c (t + 1) := by
  unfold AMat
  rw [show (t + 1) / 17 = t / 17 by omega, show min ((t + 1) % 17) 10 = t % 17 + 1 by omega, show min (t % 17) 10 = t % 17 by omega, AM_main m c _ _ (by omega),
    show 17 * (t / 17) + t % 17 = t by omega]
theorem AM_first (t : ℕ) (h : t % 17 = 0) : AMat m c t = k0_pay75 (F := F) := by
  unfold AMat; rw [h]; rfl
theorem ACT_first (t : ℕ) (h : t % 17 = 0) (d) : ACTat m c t d = d := by
  unfold ACTat; rw [h]; rfl
theorem ACT_stepE (t : ℕ) (h : t % 17 = 9) (d) : put 36 (plT (TV m c t)) (ACTat m c t d) = ACTat m c (t + 1) d := by
  unfold ACTat
  rw [show (t + 1) / 17 = t / 17 by omega, show min ((t + 1) % 17) 10 = 10 by omega, show min (t % 17) 10 = 9 by omega, ACT_tail,
    show 17 * (t / 17) + 9 = t by omega]
theorem AM_stepE (t : ℕ) (h : t % 17 = 9) : k0_pay30 (k0_pay18 (amxT (TV m c t) (AMat m c t))) = AMat m c (t + 1) := by
  unfold AMat
  rw [show (t + 1) / 17 = t / 17 by omega, show min ((t + 1) % 17) 10 = 10 by omega, show min (t % 17) 10 = 9 by omega, AM_tail,
    show 17 * (t / 17) + 9 = t by omega]
theorem ACT_keep (t : ℕ) (h : 10 ≤ t % 17) (h' : t % 17 < 16) (d) : ACTat m c (t + 1) d = ACTat m c t d := by
  unfold ACTat
  rw [show (t + 1) / 17 = t / 17 by omega, show min ((t + 1) % 17) 10 = 10 by omega, show min (t % 17) 10 = 10 by omega]
theorem AM_keep (t : ℕ) (h : 10 ≤ t % 17) (h' : t % 17 < 16) : AMat m c (t + 1) = AMat m c t := by
  unfold AMat
  rw [show (t + 1) / 17 = t / 17 by omega, show min ((t + 1) % 17) 10 = 10 by omega, show min (t % 17) 10 = 10 by omega]
theorem AM_late (t : ℕ) (h : 10 ≤ t % 17) : AMat m c t = AM m c (t / 17) 10 := by
  unfold AMat; rw [show min (t % 17) 10 = 10 by omega]
theorem C4_at (t : ℕ) (h : t % 17 = 9) (d) : c4F (put 36 (plT (TV m c t)) (ACTat m c t d)) (k0_pay30 (k0_pay18 (amxT (TV m c t) (AMat m c t)))) = C4 m c (t / 17) := by
  rw [ACT_stepE m c t h, AM_stepE m c t h, AM_late m c (t + 1) (by omega)]
  unfold ACTat C4
  rw [show (t + 1) / 17 = t / 17 by omega, show min ((t + 1) % 17) 10 = 10 by omega, ACT_full]
theorem S4_at (t : ℕ) (h : t % 17 = 9) : s4F (amxT (TV m c t) (AMat m c t)) = S4 m c (t / 17) := by
  unfold S4 AMat
  rw [show min (t % 17) 10 = 9 by omega, show 17 * (t / 17) + 9 = t by omega]

/-- The gate and up windows before position `n`. -/
def GU (n : ℕ) : sProp 𝕄 :=
  if n = 0 ∨ 136 ≤ n ∨ 10 ≤ n % 17 then guFree c (V m c main_arg3)
  else if n % 17 = 9 then iprop((flyTA c (V m c main_arg3) (sg n) (kd n) ∗ flyTB c (V m c main_arg3) (sg n) (kd n)) ∗ (freeA c (V m c main_arg3) (sg (n + 1)) ∗ freeB c (V m c main_arg3) (sg (n + 1))))
  else iprop((flyA c (V m c main_arg3) (sg n) (kd n) (tg n) ∗ flyB c (V m c main_arg3) (sg n) (kd n) (tg n)) ∗ (freeA c (V m c main_arg3) (sg (n + 1)) ∗ freeB c (V m c main_arg3) (sg (n + 1))))
/-- The down window before position `n`. -/
def WD (n : ℕ) : sProp 𝕄 :=
  if 10 ≤ n % 17 then iprop(flyD c (V m c main_arg5) (sd n) (kd n) (td n) ∗ freeD c (V m c main_arg5) (sd (n + 1)))
  else dnFree c (V m c main_arg5)
theorem GU_free (n : ℕ) (h : n = 0 ∨ 136 ≤ n ∨ 10 ≤ n % 17) : GU m c n = guFree c (V m c main_arg3) := by unfold GU; rw [if_pos h]
theorem GU_tail (n : ℕ) (h : n % 17 = 9) (h' : n < 136) : GU m c n = iprop((flyTA c (V m c main_arg3) (sg n) (kd n) ∗ flyTB c (V m c main_arg3) (sg n) (kd n)) ∗ (freeA c (V m c main_arg3) (sg (n + 1)) ∗ freeB c (V m c main_arg3) (sg (n + 1)))) := by
  unfold GU; rw [if_neg (by omega), if_pos h]
theorem GU_main (n : ℕ) (h : n % 17 < 9) (h' : n < 136) (h0 : n ≠ 0) : GU m c n = iprop((flyA c (V m c main_arg3) (sg n) (kd n) (tg n) ∗ flyB c (V m c main_arg3) (sg n) (kd n) (tg n)) ∗ (freeA c (V m c main_arg3) (sg (n + 1)) ∗ freeB c (V m c main_arg3) (sg (n + 1)))) := by
  unfold GU; rw [if_neg (by omega), if_neg (by omega)]
theorem WD_fly (n : ℕ) (h : 10 ≤ n % 17) : WD m c n = iprop(flyD c (V m c main_arg5) (sd n) (kd n) (td n) ∗ freeD c (V m c main_arg5) (sd (n + 1))) := by unfold WD; rw [if_pos h]
theorem WD_free (n : ℕ) (h : n % 17 < 10) : WD m c n = dnFree c (V m c main_arg5) := by unfold WD; rw [if_neg (by omega)]

/-- The invariant before position `n`. -/
def PhiR (n : ℕ) : sProp 𝕄 :=
  iprop((∃ d, owns (c : Thread nD τ) scM0_0 fullShare (ACTat m c n d)) ∗ (∃ r, prngReg c r) ∗ (∃ y, ⌜1 ≤ n % 17 → y = AMat m c n⌝ ∗ owns (c : Thread nD τ) scM0_3 fullShare y)
    ∗ GU m c n ∗ WD m c n)
end Inv

/-- The proof data: the arrays as the region finds them, what the body leaves in each window's buffer, the invariant. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => HV m c t
    | ⟨7, _⟩ => C4 m c (t.val / 17)
    | ⟨8, _⟩ => S4 m c (t.val / 17)
    | ⟨_ + 9, h⟩ => absurd h (Nat.not_lt.2 (Nat.le_add_left _ _))
  Φ t := PhiR m c t.val
  q _ := fullShare
  owed _ := 0
theorem A_eq (c : Dev nD) (w : Fin cfg0.W) : (dats m 0 c).A w = V m c (Pipeline.arrRef spec0 w) := by
  dsimp only [dats]
theorem PhiR_castSucc (c : Dev nD) (t : Fin cfg0.N) : (dats m 0 c).Φ t.castSucc = PhiR m c t.val := by
  dsimp only [dats]; simp only [Fin.val_castSucc]
theorem PhiR_succ (c : Dev nD) (t : Fin cfg0.N) : (dats m 0 c).Φ t.succ = PhiR m c (t.val + 1) := by
  dsimp only [dats]; simp only [Fin.val_succ]
theorem after_0 (c : Dev nD) (t : Fin cfg0.N) : (dats m 0 c).after 0 t = iblk m c 0 t := by dsimp only [dats]
theorem bef_0 (c : Dev nD) (t : Fin cfg0.N) (d) : (dats m 0 c).before 0 t d = iblk m c 0 t := before_0 m (dats m 0 c) (A_eq m c 0) (after_0 m c) t d
theorem lv_0 (c : Dev nD) (t : Fin cfg0.N) : (dats m 0 c).leavesExact 0 t = owns (c : Thread nD τ) (ms0_0 t) fullShare (iblk m c 0 t) := by
  unfold Dat.leavesExact; rw [show cfg0.idle 0 (grid0.coords t) = false from rfl, after_0]
theorem after_1 (c : Dev nD) (t : Fin cfg0.N) : (dats m 0 c).after 1 t = iblk m c 1 t := by dsimp only [dats]
theorem bef_1 (c : Dev nD) (t : Fin cfg0.N) (d) : (dats m 0 c).before 1 t d = iblk m c 1 t := before_1 m (dats m 0 c) (A_eq m c 1) (after_1 m c) t d
theorem lv_1 (c : Dev nD) (t : Fin cfg0.N) : (dats m 0 c).leavesExact 1 t = owns (c : Thread nD τ) (ms0_1 t) fullShare (iblk m c 1 t) := by
  unfold Dat.leavesExact; rw [show cfg0.idle 1 (grid0.coords t) = false from rfl, after_1]
theorem after_2 (c : Dev nD) (t : Fin cfg0.N) : (dats m 0 c).after 2 t = iblk m c 2 t := by dsimp only [dats]
theorem bef_2 (c : Dev nD) (t : Fin cfg0.N) (d) : (dats m 0 c).before 2 t d = iblk m c 2 t := before_2 m (dats m 0 c) (A_eq m c 2) (after_2 m c) t d
theorem lv_2 (c : Dev nD) (t : Fin cfg0.N) : (dats m 0 c).leavesExact 2 t = owns (c : Thread nD τ) (ms0_2 t) fullShare (iblk m c 2 t) := by
  unfold Dat.leavesExact; rw [show cfg0.idle 2 (grid0.coords t) = false from rfl, after_2]
theorem after_3 (c : Dev nD) (t : Fin cfg0.N) : (dats m 0 c).after 3 t = iblk m c 3 t := by dsimp only [dats]
theorem bef_3 (c : Dev nD) (t : Fin cfg0.N) (d) : (dats m 0 c).before 3 t d = iblk m c 3 t := before_3 m (dats m 0 c) (A_eq m c 3) (after_3 m c) t d
theorem lv_3 (c : Dev nD) (t : Fin cfg0.N) : (dats m 0 c).leavesExact 3 t = owns (c : Thread nD τ) (ms0_3 t) fullShare (iblk m c 3 t) := by
  unfold Dat.leavesExact; rw [show cfg0.idle 3 (grid0.coords t) = false from rfl, after_3]
theorem after_4 (c : Dev nD) (t : Fin cfg0.N) : (dats m 0 c).after 4 t = iblk m c 4 t := by dsimp only [dats]
theorem bef_4 (c : Dev nD) (t : Fin cfg0.N) (d) : (dats m 0 c).before 4 t d = iblk m c 4 t := before_4 m (dats m 0 c) (A_eq m c 4) (after_4 m c) t d
theorem lv_4 (c : Dev nD) (t : Fin cfg0.N) : (dats m 0 c).leavesExact 4 t = owns (c : Thread nD τ) (ms0_4 t) fullShare (iblk m c 4 t) := by
  unfold Dat.leavesExact; rw [show cfg0.idle 4 (grid0.coords t) = false from rfl, after_4]
theorem after_5 (c : Dev nD) (t : Fin cfg0.N) : (dats m 0 c).after 5 t = iblk m c 5 t := by dsimp only [dats]
theorem bef_5 (c : Dev nD) (t : Fin cfg0.N) (d) : (dats m 0 c).before 5 t d = iblk m c 5 t := before_5 m (dats m 0 c) (A_eq m c 5) (after_5 m c) t d
theorem lv_5 (c : Dev nD) (t : Fin cfg0.N) : (dats m 0 c).leavesExact 5 t = owns (c : Thread nD τ) (ms0_5 t) fullShare (iblk m c 5 t) := by
  unfold Dat.leavesExact; rw [show cfg0.idle 5 (grid0.coords t) = false from rfl, after_5]
theorem after_6 (c : Dev nD) (t : Fin cfg0.N) : (dats m 0 c).after 6 t = HV m c t := by dsimp only [dats]
theorem after_7 (c : Dev nD) (t : Fin cfg0.N) : (dats m 0 c).after 7 t = C4 m c (t.val / 17) := by dsimp only [dats]
theorem after_8 (c : Dev nD) (t : Fin cfg0.N) : (dats m 0 c).after 8 t = S4 m c (t.val / 17) := by dsimp only [dats]

/-! ## Where the outputs are stored and written back -/

theorem idle6 : ∀ t : Fin cfg0.N, cfg0.idle 6 (grid0.coords t) = decide (t.val % 17 < 10) :=
  (by decide +kernel : ∀ t : Fin grid0.N, idle0 6 (grid0.coords t) = decide (t.val % 17 < 10))
theorem idle7 : ∀ t : Fin cfg0.N, cfg0.idle 7 (grid0.coords t) = decide (t.val % 17 ≠ 9) :=
  (by decide +kernel : ∀ t : Fin grid0.N, idle0 7 (grid0.coords t) = decide (t.val % 17 ≠ 9))
theorem idle8 : ∀ t : Fin cfg0.N, cfg0.idle 8 (grid0.coords t) = decide (t.val % 17 ≠ 9) :=
  (by decide +kernel : ∀ t : Fin grid0.N, idle0 8 (grid0.coords t) = decide (t.val % 17 ≠ 9))
theorem flush6 : ∀ t : Fin cfg0.N, (cfg0.win 6).flush t = decide (10 ≤ t.val % 17) :=
  (by decide +kernel : ∀ t : Fin grid0.N, win0_6.flush t = decide (10 ≤ t.val % 17))
theorem flush7 (t : Fin cfg0.N) : (cfg0.win 7).flush t = decide (t.val % 17 = 16) := by
  rw [Bool.eq_iff_iff, flush0_7, decide_eq_true_iff]
theorem flush8 (t : Fin cfg0.N) : (cfg0.win 8).flush t = decide (t.val % 17 = 16) := by
  rw [Bool.eq_iff_iff, flush0_8, decide_eq_true_iff]
theorem fresh7 (n : ℕ) (h : n ≤ cfg0.N) : cfg0.fresh 7 n = decide (n % 17 < 10) :=
  cfg0.fresh_tab 7 (fun n => decide (n % 17 < 10)) rfl (fun t => by
    rw [flush7, idle7 t, ← Bool.decide_and, ← Bool.decide_or]; exact decide_eq_decide.mpr (by omega)) n h
theorem bef_7 (c : Dev nD) (t : Fin cfg0.N) (h : 10 ≤ t.val % 17) (d) : (dats m 0 c).before 7 t d = C4 m c (t.val / 17) := by
  rw [(dats m 0 c).before_out_traj 7 rfl (fun _ _ => rfl) (fun t h0 hi hf => by
    rw [fresh7 _ t.isLt.le, decide_eq_false_iff_not] at hf
    rw [after_7, after_7]; show C4 m c (t.val / 17) = C4 m c ((t.val - 1) / 17)
    rw [show (t.val - 1) / 17 = t.val / 17 by omega]) t.val t rfl d, fresh7 _ t.isLt.le, if_neg (by rw [decide_eq_true_iff]; omega), after_7]
  show C4 m c ((t.val - 1) / 17) = _
  rw [show (t.val - 1) / 17 = t.val / 17 by omega]
theorem lv_7_idle (c : Dev nD) (t : Fin cfg0.N) (h : t.val % 17 ≠ 9) (h' : t.val % 17 ≠ 16) :
    (dats m 0 c).leavesExact 7 t = iprop(∃ d, owns (c : Thread nD τ) (ms0_7 t) fullShare ((dats m 0 c).before 7 t d)) :=
  (dats m 0 c).leavesExact_idle 7 t ((idle7 t).trans (decide_eq_true h)) ((flush7 t).trans (decide_eq_false h'))
theorem lv_7 (c : Dev nD) (t : Fin cfg0.N) (h : t.val % 17 = 9 ∨ t.val % 17 = 16) :
    (dats m 0 c).leavesExact 7 t = owns (c : Thread nD τ) (ms0_7 t) fullShare (C4 m c (t.val / 17)) := by
  rw [← after_7 m c t]
  unfold Dat.leavesExact
  rw [idle7 t, flush7 t]
  rcases h with h | h
  · rw [decide_eq_false (by omega : ¬ (t.val % 17 ≠ 9))]
  · rw [decide_eq_true (by omega : t.val % 17 ≠ 9), decide_eq_true h]
theorem fresh8 (n : ℕ) (h : n ≤ cfg0.N) : cfg0.fresh 8 n = decide (n % 17 < 10) :=
  cfg0.fresh_tab 8 (fun n => decide (n % 17 < 10)) rfl (fun t => by
    rw [flush8, idle8 t, ← Bool.decide_and, ← Bool.decide_or]; exact decide_eq_decide.mpr (by omega)) n h
theorem bef_8 (c : Dev nD) (t : Fin cfg0.N) (h : 10 ≤ t.val % 17) (d) : (dats m 0 c).before 8 t d = S4 m c (t.val / 17) := by
  rw [(dats m 0 c).before_out_traj 8 rfl (fun _ _ => rfl) (fun t h0 hi hf => by
    rw [fresh8 _ t.isLt.le, decide_eq_false_iff_not] at hf
    rw [after_8, after_8]; show S4 m c (t.val / 17) = S4 m c ((t.val - 1) / 17)
    rw [show (t.val - 1) / 17 = t.val / 17 by omega]) t.val t rfl d, fresh8 _ t.isLt.le, if_neg (by rw [decide_eq_true_iff]; omega), after_8]
  show S4 m c ((t.val - 1) / 17) = _
  rw [show (t.val - 1) / 17 = t.val / 17 by omega]
theorem lv_8_idle (c : Dev nD) (t : Fin cfg0.N) (h : t.val % 17 ≠ 9) (h' : t.val % 17 ≠ 16) :
    (dats m 0 c).leavesExact 8 t = iprop(∃ d, owns (c : Thread nD τ) (ms0_8 t) fullShare ((dats m 0 c).before 8 t d)) :=
  (dats m 0 c).leavesExact_idle 8 t ((idle8 t).trans (decide_eq_true h)) ((flush8 t).trans (decide_eq_false h'))
theorem lv_8 (c : Dev nD) (t : Fin cfg0.N) (h : t.val % 17 = 9 ∨ t.val % 17 = 16) :
    (dats m 0 c).leavesExact 8 t = owns (c : Thread nD τ) (ms0_8 t) fullShare (S4 m c (t.val / 17)) := by
  rw [← after_8 m c t]
  unfold Dat.leavesExact
  rw [idle8 t, flush8 t]
  rcases h with h | h
  · rw [decide_eq_false (by omega : ¬ (t.val % 17 ≠ 9))]
  · rw [decide_eq_true (by omega : t.val % 17 ≠ 9), decide_eq_true h]
theorem lv_6_idle (c : Dev nD) (t : Fin cfg0.N) (h : t.val % 17 < 10) :
    (dats m 0 c).leavesExact 6 t = iprop(∃ d, owns (c : Thread nD τ) (ms0_6 t) fullShare ((dats m 0 c).before 6 t d)) :=
  (dats m 0 c).leavesExact_idle 6 t ((idle6 t).trans (decide_eq_true h)) ((flush6 t).trans (decide_eq_false (by omega)))
theorem lv_6 (c : Dev nD) (t : Fin cfg0.N) (h : 10 ≤ t.val % 17) :
    (dats m 0 c).leavesExact 6 t = owns (c : Thread nD τ) (ms0_6 t) fullShare (HV m c t) := by
  rw [← after_6 m c t]
  unfold Dat.leavesExact
  rw [idle6 t, decide_eq_false (by omega : ¬ (t.val % 17 < 10))]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))
/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

end Cert.KernelIdeal.Ffn

end
-- ==== Proof.Ideal.RunA.lean ====
/- The body at the very first point. -/
module

public import proofs.«01_k».proof.Proof.Ideal.Pure
public import proofs.«01_k».proof.Proof.Ideal.Cut
public import Idealize.ShloMosaic.Lib.Tactic.Stretches

@[expose] public section

set_option maxRecDepth 16384

noncomputable section

namespace Cert.KernelIdeal.Ffn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 4000000 in
/-- The body at the very first point. -/
theorem runA (c : Dev nD) (t : Fin cfg0.N) (arg2 : Memref sig .tc .vmem S1024x3584 .fp8e4m3) (harg2 : arg2.IsWhole) (arg3 : Memref sig .tc .vmem S1024x128 .f32) (harg3 : arg3.IsWhole) (arg4 : Memref sig .tc .vmem S1x1x512 .f32) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1024x512 .f32) (harg7 : arg7.IsWhole) (arg10 : Memref sig .tc .vmem S1024x512 .bf16) (harg10 : arg10.IsWhole) (arg11 : Memref sig .tc .vmem S1024x4736 .fp8e4m3) (harg11 : arg11.IsWhole) (arg12 : Memref sig .tc .vmem S1x1x1024 .f32) (harg12 : arg12.IsWhole) (hc1 : cnd1 (grid0.coords t)) (hc2 : cnd2 (grid0.coords t)) (hc3 : ¬cnd3 (grid0.coords t)) (hc4 : ¬cnd4 (grid0.coords t)) (hc5 : ¬cnd5 (grid0.coords t)) (hc6 : cnd6 (grid0.coords t)) (hc7 : cnd7 (grid0.coords t)) (hc8 : ¬cnd8 (grid0.coords t)) (hc9 : ¬cnd9 (grid0.coords t))
    (x0 : Vec F S1024x3584 .fp8e4m3) (x1 : Vec F S1024x128 .f32) (x2 : Vec F S1x1x512 .f32) (x3 : Vec F S1x1x512 .f32) (y0 : Vec F S37x1024x128 .f32) (y3 : Vec F S1024x128 .f32) (W0 : HbBuf0 (F := F) c hbM0_0) :
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) scM0_0 fullShare y0 ∗ owns (c : Thread nD τ) scM0_3 fullShare y3 ∗ freeA c W0 (sg t.val) ∗ freeB c W0 (sg t.val) ∗ freeA c W0 (sg (t.val + 1)) ∗ freeB c W0 (sg (t.val + 1)) ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) scM0_0 fullShare (putM (t.val % 17) (main0 x0 x1 x2 x3 W0 (kd t.val) (tg t.val)) (main1 x0 x1 x2 x3 W0 (kd t.val) (tg t.val)) y0) ∗ owns (c : Thread nD τ) scM0_3 fullShare (amx (main1 x0 x1 x2 x3 W0 (kd t.val) (tg t.val)) (amx (main0 x0 x1 x2 x3 W0 (kd t.val) (tg t.val)) (k0_pay75 (F := F)))) ∗ flyA c W0 (sg (t.val + 1)) (kd (t.val + 1)) (tg (t.val + 1)) ∗ flyB c W0 (sg (t.val + 1)) (kd (t.val + 1)) (tg (t.val + 1)) ∗ freeA c W0 (sg t.val) ∗ freeB c W0 (sg t.val) ∗ (∃ W', owes (c : Thread nD τ) 0 W')) -∗ K ⟨⟩))
          ⊢ wp frame (wpE (defs₀ (F := F)) Variants.none c none) Set.univ (cc0_ffn (grid0.coords t) arg2 harg2 arg3 harg3 arg4 harg4 arg5 harg5 arg6 harg6 arg7 harg7 (Memref.whole main_arg3) (Memref.isWhole_whole _) (Memref.whole main_arg5) (Memref.isWhole_whole _) arg10 harg10 arg11 harg11 arg12 harg12 scM0_0 (Memref.isWhole_whole _) scM0_1 (Memref.isWhole_whole _) scM0_2 (Memref.isWhole_whole _) scM0_3 (Memref.isWhole_whole _) cc0_scratch4 cc0_scratch5) K := by
    intro W K
    haveI : Fact (cnd1 (grid0.coords t)) := ⟨hc1⟩
    haveI : Fact (cnd2 (grid0.coords t)) := ⟨hc2⟩
    haveI : Fact (¬cnd3 (grid0.coords t)) := ⟨hc3⟩
    haveI : Fact (¬cnd4 (grid0.coords t)) := ⟨hc4⟩
    haveI : Fact (¬cnd5 (grid0.coords t)) := ⟨hc5⟩
    haveI : Fact (cnd6 (grid0.coords t)) := ⟨hc6⟩
    haveI : Fact (cnd7 (grid0.coords t)) := ⟨hc7⟩
    haveI : Fact (¬cnd8 (grid0.coords t)) := ⟨hc8⟩
    haveI : Fact (¬cnd9 (grid0.coords t)) := ⟨hc9⟩
    simp only [cc0_ffn_eq_skeleton]; unfold cc0_ffn_skel
    simp only [k0_part19_eq_skeleton, k0_part1_eq_skeleton, k0_part2_eq_skeleton, k0_part3_eq_skeleton]
    unfold owns freeA freeB flyA flyB
    iintro ⟨⟨%f0, %hf0, H0⟩, ⟨%f1, %hf1, H1⟩, ⟨%f2, %hf2, H2⟩, ⟨%f3, %hf3, H3⟩, ⟨%g0, %hg0, HS0⟩, ⟨%g3, %hg3, HS3⟩, ⟨Hcfa, ⟨%gfa, Hsfa⟩, Hwfa⟩, ⟨Hcfb, ⟨%gfb, Hsfb⟩, Hwfb⟩, ⟨Hcna, ⟨%gna, Hsna⟩, Hwna⟩, ⟨Hcnb, ⟨%gnb, Hsnb⟩, Hwnb⟩, HW, Hk⟩
    ihave Hx := (splitA c W0 (sg t.val) (kd t.val) (tg t.val)).1 $$ Hwfa
    icases Hx with ⟨Hhfa, Hrfaw⟩
    ihave Hx := (splitB c W0 (sg t.val) (kd t.val) (tg t.val)).1 $$ Hwfb
    icases Hx with ⟨Hhfb, Hrfbw⟩
    ihave Hx := (splitA c W0 (sg (t.val + 1)) (kd (t.val + 1)) (tg (t.val + 1))).1 $$ Hwna
    icases Hx with ⟨Hhna, Hrnaw⟩
    ihave Hx := (splitB c W0 (sg (t.val + 1)) (kd (t.val + 1)) (tg (t.val + 1))).1 $$ Hwnb
    icases Hx with ⟨Hhnb, Hrnbw⟩
    obtain rfl := harg2.eq_unread hf0
    obtain rfl := harg3.eq_unread hf1
    obtain rfl := harg4.eq_unread hf2
    obtain rfl := harg5.eq_unread hf3
    sl_exec (disch := first | sl_exact hc1 | sl_exact hc2 | sl_exact hc3 | sl_exact hc4 | sl_exact hc5 | sl_exact hc6 | sl_exact hc7 | sl_exact hc8 | sl_exact hc9)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]
    · iexists _; isplitr; swap; · iexact HS0
      ipureintro
      sl_open_run
      rw [read_put _ _ _ _ (coff37_2 t), read_put _ _ _ _ (coff36_2 t), read_put _ _ _ _ (coff37_0 t), read_put _ _ _ _ (coff36_0 t), View.writes_nil, hg0]
      simp only [readAt_unread, store_full, cov_full, load_full, ld_full, ld_full3, readA_0 c (sg t.val) (kd t.val) (tg t.val) _ (coff34 t), readB_0 c (sg t.val) (kd t.val) (tg t.val) _ (coff35 t), readA_1 c (sg t.val) (kd t.val) (tg t.val) _ (coff38 t), readB_1 c (sg t.val) (kd t.val) (tg t.val) _ (coff39 t)]
      rfl
    isplitl [HS3]
    · iexists _; isplitr; swap; · iexact HS3
      ipureintro
      sl_open_run
      simp only [readAt_unread, store_full, cov_full, load_full, ld_full, ld_full3, readA_0 c (sg t.val) (kd t.val) (tg t.val) _ (coff34 t), readB_0 c (sg t.val) (kd t.val) (tg t.val) _ (coff35 t), readA_1 c (sg t.val) (kd t.val) (tg t.val) _ (coff38 t), readB_1 c (sg t.val) (kd t.val) (tg t.val) _ (coff39 t), hg3]
      rfl
    isplitl [Hcna Hrnaw]
    · iexists _; isplitl [Hcna]; · iexact Hcna
      iexact Hrnaw
    isplitl [Hcnb Hrnbw]
    · iexists _; isplitl [Hcnb]; · iexact Hcnb
      iexact Hrnbw
    isplitl [Hcfa Hsfa Hhfa Hrfaw]
    · isplitl [Hcfa]; · iexact Hcfa
      isplitl [Hsfa]; · iexists _; iexact Hsfa
      iapply (splitA c W0 (sg t.val) (kd t.val) (tg t.val)).2; isplitl [Hhfa]; · iexact Hhfa
      iexact Hrfaw
    isplitl [Hcfb Hsfb Hhfb Hrfbw]
    · isplitl [Hcfb]; · iexact Hcfb
      isplitl [Hsfb]; · iexists _; iexact Hsfb
      iapply (splitB c W0 (sg t.val) (kd t.val) (tg t.val)).2; isplitl [Hhfb]; · iexact Hhfb
      iexact Hrfbw
    iexists _; iexact HW

end Cert.KernelIdeal.Ffn

end
-- ==== Proof.Ideal.SoundA.lean ====
/- The body obligation at the points of case A. -/
module

public import proofs.«01_k».proof.Proof.Ideal.Inv
public import proofs.«01_k».proof.Proof.Ideal.RunA

@[expose] public section

set_option maxRecDepth 16384

noncomputable section

namespace Cert.KernelIdeal.Ffn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 2000000 in
theorem sound_A (c : Dev nD) (t : Fin cfg0.N) (h : t.val = 0) :
    bodyPre m c t ⊢ wp frame (wpE (defs₀ (F := F)) Variants.none c none) Set.univ (bodyAt0 t) (fun _ => bodyPost m c t) := by
  have hN : t.val < 136 := lt_of_lt_of_eq t.isLt (show cfg0.N = 136 from N_0)
  have hc1 : cnd1 (grid0.coords t) := (hcnd1 t).mpr (by omega)
  have hc2 : cnd2 (grid0.coords t) := (hcnd2 t).mpr (by omega)
  have hc3 : ¬cnd3 (grid0.coords t) := fun e => absurd ((hcnd3 t).mp e) (by omega)
  have hc4 : ¬cnd4 (grid0.coords t) := fun e => absurd ((hcnd4 t).mp e) (by omega)
  have hc5 : ¬cnd5 (grid0.coords t) := fun e => absurd ((hcnd5 t).mp e) (by omega)
  have hc6 : cnd6 (grid0.coords t) := (hcnd6 t).mpr (by omega)
  have hc7 : cnd7 (grid0.coords t) := (hcnd7 t).mpr (by omega)
  have hc8 : ¬cnd8 (grid0.coords t) := fun e => absurd ((hcnd8 t).mp e) (by omega)
  have hc9 : ¬cnd9 (grid0.coords t) := fun e => absurd ((hcnd9 t).mp e) (by omega)
  unfold bodyPre bodyPost bodyAt0
  simp only [bef_0, bef_1, bef_2, bef_3, bef_4, bef_5]
  rw [PhiR_castSucc m c t, PhiR_succ m c t, lv_0, lv_1, lv_2, lv_3, lv_4, lv_5]
  rw [lv_6_idle m c t (by omega), lv_7_idle m c t (by omega) (by omega), lv_8_idle m c t (by omega) (by omega)]
  unfold Dat.owesAt Pipeline.owesWithin
  rw [show (dats m 0 c).owed t.castSucc = 0 from rfl, show (dats m 0 c).owed t.succ = 0 from rfl]
  unfold PhiR
  rw [GU_free m c t.val (by omega), GU_main m c (t.val + 1) (by omega) (by omega) (by omega), WD_free m c t.val (by omega), WD_free m c (t.val + 1) (by omega)]
  rw [show sg (t.val + 1 + 1) = sg t.val from Fin.ext (show (t.val + 1 + 1) % 17 % 2 = t.val % 17 % 2 by omega)]
  iintro ⟨⟨⟨%dA, HACT⟩, Hg, ⟨%y, %hy, HAM⟩, HGU, HWD⟩, ⟨%W, -, HW⟩, ⟨%d0, H0⟩, ⟨%d1, H1⟩, ⟨%d2, H2⟩, ⟨%d3, H3⟩, ⟨%d4, H4⟩, ⟨%d5, H5⟩, H6, H7, H8⟩
  ihave HG := (gu_pair c (V m c main_arg3) (sg t.val) (sg (t.val + 1)) (show t.val % 17 % 2 ≠ (t.val + 1) % 17 % 2 by omega)).1 $$ HGU
  icases HG with ⟨⟨Hfa, Hfb⟩, ⟨Hna, Hnb⟩⟩
  iapply (runA c t _ _ _ _ _ _ _ _ _ _ _ _ _ _ _ _ _ _ hc1 hc2 hc3 hc4 hc5 hc6 hc7 hc8 hc9 (iblk m c 0 t) (iblk m c 1 t) (iblk m c 2 t) (iblk m c 3 t) (ACTat m c t.val dA) y (V m c main_arg3) W _)
  isplitl [H0]; · iexact H0
  isplitl [H1]; · iexact H1
  isplitl [H2]; · iexact H2
  isplitl [H3]; · iexact H3
  isplitl [HACT]; · iexact HACT
  isplitl [HAM]; · iexact HAM
  isplitl [Hfa]; · iexact Hfa
  isplitl [Hfb]; · iexact Hfb
  isplitl [Hna]; · iexact Hna
  isplitl [Hnb]; · iexact Hnb
  isplitl [HW]; · iexact HW
  iintro ⟨H0, H1, H2, H3, HACT, HAM, Hfa, Hfb, Hna, Hnb, ⟨%W2, HW⟩⟩
  rw [M0_at m c t, M1_at m c t, ACT_step m c t.val (by omega)]
  rw [← AM_first m c t.val (by omega)]
  rw [AM_step m c t.val (by omega)]
  isplitl [HACT Hg HAM Hfa Hfb Hna Hnb HWD]
  · isplitl [HACT]; · iexists dA; iexact HACT
    isplitl [Hg]; · iexact Hg
    isplitl [HAM]
    · iexists _; isplitr; · ipureintro; exact fun _ => rfl
      iexact HAM
    isplitl [Hfa Hfb Hna Hnb]
    · isplitl [Hfa Hfb]
      · isplitl [Hfa]; · iexact Hfa
        iexact Hfb
      isplitl [Hna]; · iexact Hna
      iexact Hnb
    iexact HWD
  isplitl [HW]
  · iexists W2; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

end Cert.KernelIdeal.Ffn

end
-- ==== Proof.Ideal.RunB.lean ====
/- The body at the first column tile of a later row block. -/
module

public import proofs.«01_k».proof.Proof.Ideal.Pure
public import proofs.«01_k».proof.Proof.Ideal.Cut
public import Idealize.ShloMosaic.Lib.Tactic.Stretches

@[expose] public section

set_option maxRecDepth 16384

noncomputable section

namespace Cert.KernelIdeal.Ffn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 4000000 in
/-- The body at the first column tile of a later row block. -/
theorem runB (c : Dev nD) (t : Fin cfg0.N) (arg2 : Memref sig .tc .vmem S1024x3584 .fp8e4m3) (harg2 : arg2.IsWhole) (arg3 : Memref sig .tc .vmem S1024x128 .f32) (harg3 : arg3.IsWhole) (arg4 : Memref sig .tc .vmem S1x1x512 .f32) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1024x512 .f32) (harg7 : arg7.IsWhole) (arg10 : Memref sig .tc .vmem S1024x512 .bf16) (harg10 : arg10.IsWhole) (arg11 : Memref sig .tc .vmem S1024x4736 .fp8e4m3) (harg11 : arg11.IsWhole) (arg12 : Memref sig .tc .vmem S1x1x1024 .f32) (harg12 : arg12.IsWhole) (hc1 : ¬cnd1 (grid0.coords t)) (hc2 : cnd2 (grid0.coords t)) (hc3 : ¬cnd3 (grid0.coords t)) (hc4 : ¬cnd4 (grid0.coords t)) (hc5 : ¬cnd5 (grid0.coords t)) (hc6 : cnd6 (grid0.coords t)) (hc7 : cnd7 (grid0.coords t)) (hc8 : ¬cnd8 (grid0.coords t)) (hc9 : ¬cnd9 (grid0.coords t))
    (x0 : Vec F S1024x3584 .fp8e4m3) (x1 : Vec F S1024x128 .f32) (x2 : Vec F S1x1x512 .f32) (x3 : Vec F S1x1x512 .f32) (y0 : Vec F S37x1024x128 .f32) (y3 : Vec F S1024x128 .f32) (W0 : HbBuf0 (F := F) c hbM0_0) :
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) scM0_0 fullShare y0 ∗ owns (c : Thread nD τ) scM0_3 fullShare y3 ∗ flyA c W0 (sg t.val) (kd t.val) (tg t.val) ∗ flyB c W0 (sg t.val) (kd t.val) (tg t.val) ∗ freeA c W0 (sg (t.val + 1)) ∗ freeB c W0 (sg (t.val + 1)) ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) scM0_0 fullShare (putM (t.val % 17) (main0 x0 x1 x2 x3 W0 (kd t.val) (tg t.val)) (main1 x0 x1 x2 x3 W0 (kd t.val) (tg t.val)) y0) ∗ owns (c : Thread nD τ) scM0_3 fullShare (amx (main1 x0 x1 x2 x3 W0 (kd t.val) (tg t.val)) (amx (main0 x0 x1 x2 x3 W0 (kd t.val) (tg t.val)) (k0_pay75 (F := F)))) ∗ flyA c W0 (sg (t.val + 1)) (kd (t.val + 1)) (tg (t.val + 1)) ∗ flyB c W0 (sg (t.val + 1)) (kd (t.val + 1)) (tg (t.val + 1)) ∗ freeA c W0 (sg t.val) ∗ freeB c W0 (sg t.val) ∗ (∃ W', owes (c : Thread nD τ) 0 W')) -∗ K ⟨⟩))
          ⊢ wp frame (wpE (defs₀ (F := F)) Variants.none c none) Set.univ (cc0_ffn (grid0.coords t) arg2 harg2 arg3 harg3 arg4 harg4 arg5 harg5 arg6 harg6 arg7 harg7 (Memref.whole main_arg3) (Memref.isWhole_whole _) (Memref.whole main_arg5) (Memref.isWhole_whole _) arg10 harg10 arg11 harg11 arg12 harg12 scM0_0 (Memref.isWhole_whole _) scM0_1 (Memref.isWhole_whole _) scM0_2 (Memref.isWhole_whole _) scM0_3 (Memref.isWhole_whole _) cc0_scratch4 cc0_scratch5) K := by
    intro W K
    haveI : Fact (¬cnd1 (grid0.coords t)) := ⟨hc1⟩
    haveI : Fact (cnd2 (grid0.coords t)) := ⟨hc2⟩
    haveI : Fact (¬cnd3 (grid0.coords t)) := ⟨hc3⟩
    haveI : Fact (¬cnd4 (grid0.coords t)) := ⟨hc4⟩
    haveI : Fact (¬cnd5 (grid0.coords t)) := ⟨hc5⟩
    haveI : Fact (cnd6 (grid0.coords t)) := ⟨hc6⟩
    haveI : Fact (cnd7 (grid0.coords t)) := ⟨hc7⟩
    haveI : Fact (¬cnd8 (grid0.coords t)) := ⟨hc8⟩
    haveI : Fact (¬cnd9 (grid0.coords t)) := ⟨hc9⟩
    simp only [cc0_ffn_eq_skeleton]; unfold cc0_ffn_skel
    simp only [k0_part19_eq_skeleton, k0_part1_eq_skeleton, k0_part2_eq_skeleton, k0_part3_eq_skeleton]
    unfold owns freeA freeB flyA flyB
    iintro ⟨⟨%f0, %hf0, H0⟩, ⟨%f1, %hf1, H1⟩, ⟨%f2, %hf2, H2⟩, ⟨%f3, %hf3, H3⟩, ⟨%g0, %hg0, HS0⟩, ⟨%g3, %hg3, HS3⟩, ⟨%fa, Hcfa, Hrfaw⟩, ⟨%fb, Hcfb, Hrfbw⟩, ⟨Hcna, ⟨%gna, Hsna⟩, Hwna⟩, ⟨Hcnb, ⟨%gnb, Hsnb⟩, Hwnb⟩, HW, Hk⟩
    ihave Hx := (splitA c W0 (sg (t.val + 1)) (kd (t.val + 1)) (tg (t.val + 1))).1 $$ Hwna
    icases Hx with ⟨Hhna, Hrnaw⟩
    ihave Hx := (splitB c W0 (sg (t.val + 1)) (kd (t.val + 1)) (tg (t.val + 1))).1 $$ Hwnb
    icases Hx with ⟨Hhnb, Hrnbw⟩
    obtain rfl := harg2.eq_unread hf0
    obtain rfl := harg3.eq_unread hf1
    obtain rfl := harg4.eq_unread hf2
    obtain rfl := harg5.eq_unread hf3
    sl_exec (disch := first | sl_exact hc1 | sl_exact hc2 | sl_exact hc3 | sl_exact hc4 | sl_exact hc5 | sl_exact hc6 | sl_exact hc7 | sl_exact hc8 | sl_exact hc9)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]
    · iexists _; isplitr; swap; · iexact HS0
      ipureintro
      sl_open_run
      rw [read_put _ _ _ _ (coff37_2 t), read_put _ _ _ _ (coff36_2 t), read_put _ _ _ _ (coff37_0 t), read_put _ _ _ _ (coff36_0 t), View.writes_nil, hg0]
      simp only [readAt_unread, store_full, cov_full, load_full, ld_full, ld_full3, readA_0 c (sg t.val) (kd t.val) (tg t.val) _ (coff34 t), readB_0 c (sg t.val) (kd t.val) (tg t.val) _ (coff35 t), readA_1 c (sg t.val) (kd t.val) (tg t.val) _ (coff38 t), readB_1 c (sg t.val) (kd t.val) (tg t.val) _ (coff39 t)]
      rfl
    isplitl [HS3]
    · iexists _; isplitr; swap; · iexact HS3
      ipureintro
      sl_open_run
      simp only [readAt_unread, store_full, cov_full, load_full, ld_full, ld_full3, readA_0 c (sg t.val) (kd t.val) (tg t.val) _ (coff34 t), readB_0 c (sg t.val) (kd t.val) (tg t.val) _ (coff35 t), readA_1 c (sg t.val) (kd t.val) (tg t.val) _ (coff38 t), readB_1 c (sg t.val) (kd t.val) (tg t.val) _ (coff39 t), hg3]
      rfl
    isplitl [Hcna Hrnaw]
    · iexists _; isplitl [Hcna]; · iexact Hcna
      iexact Hrnaw
    isplitl [Hcnb Hrnbw]
    · iexists _; isplitl [Hcnb]; · iexact Hcnb
      iexact Hrnbw
    isplitl [Hcfa Hcfa_dst Hcfa_src Hrfaw]
    · isplitl [Hcfa]; · iexact Hcfa
      isplitl [Hcfa_dst]; · iexists _; iexact Hcfa_dst
      iapply (splitA c W0 (sg t.val) (kd t.val) (tg t.val)).2; isplitl [Hcfa_src]; · iexact Hcfa_src
      iexact Hrfaw
    isplitl [Hcfb Hcfb_dst Hcfb_src Hrfbw]
    · isplitl [Hcfb]; · iexact Hcfb
      isplitl [Hcfb_dst]; · iexists _; iexact Hcfb_dst
      iapply (splitB c W0 (sg t.val) (kd t.val) (tg t.val)).2; isplitl [Hcfb_src]; · iexact Hcfb_src
      iexact Hrfbw
    iexists _; iexact HW

end Cert.KernelIdeal.Ffn

end
-- ==== Proof.Ideal.SoundB.lean ====
/- The body obligation at the points of case B. -/
module

public import proofs.«01_k».proof.Proof.Ideal.Inv
public import proofs.«01_k».proof.Proof.Ideal.RunB

@[expose] public section

set_option maxRecDepth 16384

noncomputable section

namespace Cert.KernelIdeal.Ffn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 2000000 in
theorem sound_B (c : Dev nD) (t : Fin cfg0.N) (h : t.val % 17 = 0 ∧ t.val ≠ 0) :
    bodyPre m c t ⊢ wp frame (wpE (defs₀ (F := F)) Variants.none c none) Set.univ (bodyAt0 t) (fun _ => bodyPost m c t) := by
  have hN : t.val < 136 := lt_of_lt_of_eq t.isLt (show cfg0.N = 136 from N_0)
  have hc1 : ¬cnd1 (grid0.coords t) := fun e => absurd ((hcnd1 t).mp e) (by omega)
  have hc2 : cnd2 (grid0.coords t) := (hcnd2 t).mpr (by omega)
  have hc3 : ¬cnd3 (grid0.coords t) := fun e => absurd ((hcnd3 t).mp e) (by omega)
  have hc4 : ¬cnd4 (grid0.coords t) := fun e => absurd ((hcnd4 t).mp e) (by omega)
  have hc5 : ¬cnd5 (grid0.coords t) := fun e => absurd ((hcnd5 t).mp e) (by omega)
  have hc6 : cnd6 (grid0.coords t) := (hcnd6 t).mpr (by omega)
  have hc7 : cnd7 (grid0.coords t) := (hcnd7 t).mpr (by omega)
  have hc8 : ¬cnd8 (grid0.coords t) := fun e => absurd ((hcnd8 t).mp e) (by omega)
  have hc9 : ¬cnd9 (grid0.coords t) := fun e => absurd ((hcnd9 t).mp e) (by omega)
  unfold bodyPre bodyPost bodyAt0
  simp only [bef_0, bef_1, bef_2, bef_3, bef_4, bef_5]
  rw [PhiR_castSucc m c t, PhiR_succ m c t, lv_0, lv_1, lv_2, lv_3, lv_4, lv_5]
  rw [lv_6_idle m c t (by omega), lv_7_idle m c t (by omega) (by omega), lv_8_idle m c t (by omega) (by omega)]
  unfold Dat.owesAt Pipeline.owesWithin
  rw [show (dats m 0 c).owed t.castSucc = 0 from rfl, show (dats m 0 c).owed t.succ = 0 from rfl]
  unfold PhiR
  rw [GU_main m c t.val (by omega) (by omega) (by omega), GU_main m c (t.val + 1) (by omega) (by omega) (by omega), WD_free m c t.val (by omega), WD_free m c (t.val + 1) (by omega)]
  rw [show sg (t.val + 1 + 1) = sg t.val from Fin.ext (show (t.val + 1 + 1) % 17 % 2 = t.val % 17 % 2 by omega)]
  iintro ⟨⟨⟨%dA, HACT⟩, Hg, ⟨%y, %hy, HAM⟩, ⟨⟨Hfa, Hfb⟩, ⟨Hna, Hnb⟩⟩, HWD⟩, ⟨%W, -, HW⟩, ⟨%d0, H0⟩, ⟨%d1, H1⟩, ⟨%d2, H2⟩, ⟨%d3, H3⟩, ⟨%d4, H4⟩, ⟨%d5, H5⟩, H6, H7, H8⟩
  iapply (runB c t _ _ _ _ _ _ _ _ _ _ _ _ _ _ _ _ _ _ hc1 hc2 hc3 hc4 hc5 hc6 hc7 hc8 hc9 (iblk m c 0 t) (iblk m c 1 t) (iblk m c 2 t) (iblk m c 3 t) (ACTat m c t.val dA) y (V m c main_arg3) W _)
  isplitl [H0]; · iexact H0
  isplitl [H1]; · iexact H1
  isplitl [H2]; · iexact H2
  isplitl [H3]; · iexact H3
  isplitl [HACT]; · iexact HACT
  isplitl [HAM]; · iexact HAM
  isplitl [Hfa]; · iexact Hfa
  isplitl [Hfb]; · iexact Hfb
  isplitl [Hna]; · iexact Hna
  isplitl [Hnb]; · iexact Hnb
  isplitl [HW]; · iexact HW
  iintro ⟨H0, H1, H2, H3, HACT, HAM, Hfa, Hfb, Hna, Hnb, ⟨%W2, HW⟩⟩
  rw [M0_at m c t, M1_at m c t, ACT_step m c t.val (by omega)]
  rw [← AM_first m c t.val (by omega)]
  rw [AM_step m c t.val (by omega)]
  isplitl [HACT Hg HAM Hfa Hfb Hna Hnb HWD]
  · isplitl [HACT]; · iexists dA; iexact HACT
    isplitl [Hg]; · iexact Hg
    isplitl [HAM]
    · iexists _; isplitr; · ipureintro; exact fun _ => rfl
      iexact HAM
    isplitl [Hfa Hfb Hna Hnb]
    · isplitl [Hfa Hfb]
      · isplitl [Hfa]; · iexact Hfa
        iexact Hfb
      isplitl [Hna]; · iexact Hna
      iexact Hnb
    iexact HWD
  isplitl [HW]
  · iexists W2; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

end Cert.KernelIdeal.Ffn

end
-- ==== Proof.Ideal.RunC.lean ====
/- The body at an inner column tile of the first product. -/
module

public import proofs.«01_k».proof.Proof.Ideal.Pure
public import proofs.«01_k».proof.Proof.Ideal.Cut
public import Idealize.ShloMosaic.Lib.Tactic.Stretches

@[expose] public section

set_option maxRecDepth 16384

noncomputable section

namespace Cert.KernelIdeal.Ffn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 4000000 in
/-- The body at an inner column tile of the first product. -/
theorem runC (c : Dev nD) (t : Fin cfg0.N) (arg2 : Memref sig .tc .vmem S1024x3584 .fp8e4m3) (harg2 : arg2.IsWhole) (arg3 : Memref sig .tc .vmem S1024x128 .f32) (harg3 : arg3.IsWhole) (arg4 : Memref sig .tc .vmem S1x1x512 .f32) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1024x512 .f32) (harg7 : arg7.IsWhole) (arg10 : Memref sig .tc .vmem S1024x512 .bf16) (harg10 : arg10.IsWhole) (arg11 : Memref sig .tc .vmem S1024x4736 .fp8e4m3) (harg11 : arg11.IsWhole) (arg12 : Memref sig .tc .vmem S1x1x1024 .f32) (harg12 : arg12.IsWhole) (hc1 : ¬cnd1 (grid0.coords t)) (hc2 : cnd2 (grid0.coords t)) (hc3 : ¬cnd3 (grid0.coords t)) (hc4 : ¬cnd4 (grid0.coords t)) (hc5 : ¬cnd5 (grid0.coords t)) (hc6 : ¬cnd6 (grid0.coords t)) (hc7 : cnd7 (grid0.coords t)) (hc8 : ¬cnd8 (grid0.coords t)) (hc9 : ¬cnd9 (grid0.coords t))
    (x0 : Vec F S1024x3584 .fp8e4m3) (x1 : Vec F S1024x128 .f32) (x2 : Vec F S1x1x512 .f32) (x3 : Vec F S1x1x512 .f32) (y0 : Vec F S37x1024x128 .f32) (y3 : Vec F S1024x128 .f32) (W0 : HbBuf0 (F := F) c hbM0_0) :
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) scM0_0 fullShare y0 ∗ owns (c : Thread nD τ) scM0_3 fullShare y3 ∗ flyA c W0 (sg t.val) (kd t.val) (tg t.val) ∗ flyB c W0 (sg t.val) (kd t.val) (tg t.val) ∗ freeA c W0 (sg (t.val + 1)) ∗ freeB c W0 (sg (t.val + 1)) ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) scM0_0 fullShare (putM (t.val % 17) (main0 x0 x1 x2 x3 W0 (kd t.val) (tg t.val)) (main1 x0 x1 x2 x3 W0 (kd t.val) (tg t.val)) y0) ∗ owns (c : Thread nD τ) scM0_3 fullShare (amx (main1 x0 x1 x2 x3 W0 (kd t.val) (tg t.val)) (amx (main0 x0 x1 x2 x3 W0 (kd t.val) (tg t.val)) y3)) ∗ flyA c W0 (sg (t.val + 1)) (kd (t.val + 1)) (tg (t.val + 1)) ∗ flyB c W0 (sg (t.val + 1)) (kd (t.val + 1)) (tg (t.val + 1)) ∗ freeA c W0 (sg t.val) ∗ freeB c W0 (sg t.val) ∗ (∃ W', owes (c : Thread nD τ) 0 W')) -∗ K ⟨⟩))
          ⊢ wp frame (wpE (defs₀ (F := F)) Variants.none c none) Set.univ (cc0_ffn (grid0.coords t) arg2 harg2 arg3 harg3 arg4 harg4 arg5 harg5 arg6 harg6 arg7 harg7 (Memref.whole main_arg3) (Memref.isWhole_whole _) (Memref.whole main_arg5) (Memref.isWhole_whole _) arg10 harg10 arg11 harg11 arg12 harg12 scM0_0 (Memref.isWhole_whole _) scM0_1 (Memref.isWhole_whole _) scM0_2 (Memref.isWhole_whole _) scM0_3 (Memref.isWhole_whole _) cc0_scratch4 cc0_scratch5) K := by
    intro W K
    haveI : Fact (¬cnd1 (grid0.coords t)) := ⟨hc1⟩
    haveI : Fact (cnd2 (grid0.coords t)) := ⟨hc2⟩
    haveI : Fact (¬cnd3 (grid0.coords t)) := ⟨hc3⟩
    haveI : Fact (¬cnd4 (grid0.coords t)) := ⟨hc4⟩
    haveI : Fact (¬cnd5 (grid0.coords t)) := ⟨hc5⟩
    haveI : Fact (¬cnd6 (grid0.coords t)) := ⟨hc6⟩
    haveI : Fact (cnd7 (grid0.coords t)) := ⟨hc7⟩
    haveI : Fact (¬cnd8 (grid0.coords t)) := ⟨hc8⟩
    haveI : Fact (¬cnd9 (grid0.coords t)) := ⟨hc9⟩
    simp only [cc0_ffn_eq_skeleton]; unfold cc0_ffn_skel
    simp only [k0_part19_eq_skeleton, k0_part1_eq_skeleton, k0_part2_eq_skeleton, k0_part3_eq_skeleton]
    unfold owns freeA freeB flyA flyB
    iintro ⟨⟨%f0, %hf0, H0⟩, ⟨%f1, %hf1, H1⟩, ⟨%f2, %hf2, H2⟩, ⟨%f3, %hf3, H3⟩, ⟨%g0, %hg0, HS0⟩, ⟨%g3, %hg3, HS3⟩, ⟨%fa, Hcfa, Hrfaw⟩, ⟨%fb, Hcfb, Hrfbw⟩, ⟨Hcna, ⟨%gna, Hsna⟩, Hwna⟩, ⟨Hcnb, ⟨%gnb, Hsnb⟩, Hwnb⟩, HW, Hk⟩
    ihave Hx := (splitA c W0 (sg (t.val + 1)) (kd (t.val + 1)) (tg (t.val + 1))).1 $$ Hwna
    icases Hx with ⟨Hhna, Hrnaw⟩
    ihave Hx := (splitB c W0 (sg (t.val + 1)) (kd (t.val + 1)) (tg (t.val + 1))).1 $$ Hwnb
    icases Hx with ⟨Hhnb, Hrnbw⟩
    obtain rfl := harg2.eq_unread hf0
    obtain rfl := harg3.eq_unread hf1
    obtain rfl := harg4.eq_unread hf2
    obtain rfl := harg5.eq_unread hf3
    sl_exec (disch := first | sl_exact hc1 | sl_exact hc2 | sl_exact hc3 | sl_exact hc4 | sl_exact hc5 | sl_exact hc6 | sl_exact hc7 | sl_exact hc8 | sl_exact hc9)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]
    · iexists _; isplitr; swap; · iexact HS0
      ipureintro
      sl_open_run
      rw [read_put _ _ _ _ (coff37_2 t), read_put _ _ _ _ (coff36_2 t), read_put _ _ _ _ (coff37_0 t), read_put _ _ _ _ (coff36_0 t), View.writes_nil, hg0]
      simp only [readAt_unread, store_full, cov_full, load_full, ld_full, ld_full3, readA_0 c (sg t.val) (kd t.val) (tg t.val) _ (coff34 t), readB_0 c (sg t.val) (kd t.val) (tg t.val) _ (coff35 t), readA_1 c (sg t.val) (kd t.val) (tg t.val) _ (coff38 t), readB_1 c (sg t.val) (kd t.val) (tg t.val) _ (coff39 t)]
      rfl
    isplitl [HS3]
    · iexists _; isplitr; swap; · iexact HS3
      ipureintro
      sl_open_run
      simp only [readAt_unread, store_full, cov_full, load_full, ld_full, ld_full3, readA_0 c (sg t.val) (kd t.val) (tg t.val) _ (coff34 t), readB_0 c (sg t.val) (kd t.val) (tg t.val) _ (coff35 t), readA_1 c (sg t.val) (kd t.val) (tg t.val) _ (coff38 t), readB_1 c (sg t.val) (kd t.val) (tg t.val) _ (coff39 t), hg3]
      rfl
    isplitl [Hcna Hrnaw]
    · iexists _; isplitl [Hcna]; · iexact Hcna
      iexact Hrnaw
    isplitl [Hcnb Hrnbw]
    · iexists _; isplitl [Hcnb]; · iexact Hcnb
      iexact Hrnbw
    isplitl [Hcfa Hcfa_dst Hcfa_src Hrfaw]
    · isplitl [Hcfa]; · iexact Hcfa
      isplitl [Hcfa_dst]; · iexists _; iexact Hcfa_dst
      iapply (splitA c W0 (sg t.val) (kd t.val) (tg t.val)).2; isplitl [Hcfa_src]; · iexact Hcfa_src
      iexact Hrfaw
    isplitl [Hcfb Hcfb_dst Hcfb_src Hrfbw]
    · isplitl [Hcfb]; · iexact Hcfb
      isplitl [Hcfb_dst]; · iexists _; iexact Hcfb_dst
      iapply (splitB c W0 (sg t.val) (kd t.val) (tg t.val)).2; isplitl [Hcfb_src]; · iexact Hcfb_src
      iexact Hrfbw
    iexists _; iexact HW

end Cert.KernelIdeal.Ffn

end
-- ==== Proof.Ideal.SoundC.lean ====
/- The body obligation at the points of case C. -/
module

public import proofs.«01_k».proof.Proof.Ideal.Inv
public import proofs.«01_k».proof.Proof.Ideal.RunC

@[expose] public section

set_option maxRecDepth 16384

noncomputable section

namespace Cert.KernelIdeal.Ffn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 2000000 in
theorem sound_C (c : Dev nD) (t : Fin cfg0.N) (h : 0 < t.val % 17 ∧ t.val % 17 < 8) :
    bodyPre m c t ⊢ wp frame (wpE (defs₀ (F := F)) Variants.none c none) Set.univ (bodyAt0 t) (fun _ => bodyPost m c t) := by
  have hN : t.val < 136 := lt_of_lt_of_eq t.isLt (show cfg0.N = 136 from N_0)
  have hc1 : ¬cnd1 (grid0.coords t) := fun e => absurd ((hcnd1 t).mp e) (by omega)
  have hc2 : cnd2 (grid0.coords t) := (hcnd2 t).mpr (by omega)
  have hc3 : ¬cnd3 (grid0.coords t) := fun e => absurd ((hcnd3 t).mp e) (by omega)
  have hc4 : ¬cnd4 (grid0.coords t) := fun e => absurd ((hcnd4 t).mp e) (by omega)
  have hc5 : ¬cnd5 (grid0.coords t) := fun e => absurd ((hcnd5 t).mp e) (by omega)
  have hc6 : ¬cnd6 (grid0.coords t) := fun e => absurd ((hcnd6 t).mp e) (by omega)
  have hc7 : cnd7 (grid0.coords t) := (hcnd7 t).mpr (by omega)
  have hc8 : ¬cnd8 (grid0.coords t) := fun e => absurd ((hcnd8 t).mp e) (by omega)
  have hc9 : ¬cnd9 (grid0.coords t) := fun e => absurd ((hcnd9 t).mp e) (by omega)
  unfold bodyPre bodyPost bodyAt0
  simp only [bef_0, bef_1, bef_2, bef_3, bef_4, bef_5]
  rw [PhiR_castSucc m c t, PhiR_succ m c t, lv_0, lv_1, lv_2, lv_3, lv_4, lv_5]
  rw [lv_6_idle m c t (by omega), lv_7_idle m c t (by omega) (by omega), lv_8_idle m c t (by omega) (by omega)]
  unfold Dat.owesAt Pipeline.owesWithin
  rw [show (dats m 0 c).owed t.castSucc = 0 from rfl, show (dats m 0 c).owed t.succ = 0 from rfl]
  unfold PhiR
  rw [GU_main m c t.val (by omega) (by omega) (by omega), GU_main m c (t.val + 1) (by omega) (by omega) (by omega), WD_free m c t.val (by omega), WD_free m c (t.val + 1) (by omega)]
  rw [show sg (t.val + 1 + 1) = sg t.val from Fin.ext (show (t.val + 1 + 1) % 17 % 2 = t.val % 17 % 2 by omega)]
  iintro ⟨⟨⟨%dA, HACT⟩, Hg, ⟨%y, %hy, HAM⟩, ⟨⟨Hfa, Hfb⟩, ⟨Hna, Hnb⟩⟩, HWD⟩, ⟨%W, -, HW⟩, ⟨%d0, H0⟩, ⟨%d1, H1⟩, ⟨%d2, H2⟩, ⟨%d3, H3⟩, ⟨%d4, H4⟩, ⟨%d5, H5⟩, H6, H7, H8⟩
  obtain rfl := hy (by omega)
  iapply (runC c t _ _ _ _ _ _ _ _ _ _ _ _ _ _ _ _ _ _ hc1 hc2 hc3 hc4 hc5 hc6 hc7 hc8 hc9 (iblk m c 0 t) (iblk m c 1 t) (iblk m c 2 t) (iblk m c 3 t) (ACTat m c t.val dA) (AMat m c t.val) (V m c main_arg3) W _)
  isplitl [H0]; · iexact H0
  isplitl [H1]; · iexact H1
  isplitl [H2]; · iexact H2
  isplitl [H3]; · iexact H3
  isplitl [HACT]; · iexact HACT
  isplitl [HAM]; · iexact HAM
  isplitl [Hfa]; · iexact Hfa
  isplitl [Hfb]; · iexact Hfb
  isplitl [Hna]; · iexact Hna
  isplitl [Hnb]; · iexact Hnb
  isplitl [HW]; · iexact HW
  iintro ⟨H0, H1, H2, H3, HACT, HAM, Hfa, Hfb, Hna, Hnb, ⟨%W2, HW⟩⟩
  rw [M0_at m c t, M1_at m c t, ACT_step m c t.val (by omega)]
  rw [AM_step m c t.val (by omega)]
  isplitl [HACT Hg HAM Hfa Hfb Hna Hnb HWD]
  · isplitl [HACT]; · iexists dA; iexact HACT
    isplitl [Hg]; · iexact Hg
    isplitl [HAM]
    · iexists _; isplitr; · ipureintro; exact fun _ => rfl
      iexact HAM
    isplitl [Hfa Hfb Hna Hnb]
    · isplitl [Hfa Hfb]
      · isplitl [Hfa]; · iexact Hfa
        iexact Hfb
      isplitl [Hna]; · iexact Hna
      iexact Hnb
    iexact HWD
  isplitl [HW]
  · iexists W2; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

end Cert.KernelIdeal.Ffn

end
-- ==== Proof.Ideal.RunD.lean ====
/- The body at the last full column tile of the first product. -/
module

public import proofs.«01_k».proof.Proof.Ideal.Pure
public import proofs.«01_k».proof.Proof.Ideal.Cut
public import Idealize.ShloMosaic.Lib.Tactic.Stretches

@[expose] public section

set_option maxRecDepth 16384

noncomputable section

namespace Cert.KernelIdeal.Ffn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 4000000 in
/-- The body at the last full column tile of the first product. -/
theorem runD (c : Dev nD) (t : Fin cfg0.N) (arg2 : Memref sig .tc .vmem S1024x3584 .fp8e4m3) (harg2 : arg2.IsWhole) (arg3 : Memref sig .tc .vmem S1024x128 .f32) (harg3 : arg3.IsWhole) (arg4 : Memref sig .tc .vmem S1x1x512 .f32) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1024x512 .f32) (harg7 : arg7.IsWhole) (arg10 : Memref sig .tc .vmem S1024x512 .bf16) (harg10 : arg10.IsWhole) (arg11 : Memref sig .tc .vmem S1024x4736 .fp8e4m3) (harg11 : arg11.IsWhole) (arg12 : Memref sig .tc .vmem S1x1x1024 .f32) (harg12 : arg12.IsWhole) (hc1 : ¬cnd1 (grid0.coords t)) (hc2 : ¬cnd2 (grid0.coords t)) (hc3 : cnd3 (grid0.coords t)) (hc4 : ¬cnd4 (grid0.coords t)) (hc5 : ¬cnd5 (grid0.coords t)) (hc6 : ¬cnd6 (grid0.coords t)) (hc7 : cnd7 (grid0.coords t)) (hc8 : ¬cnd8 (grid0.coords t)) (hc9 : ¬cnd9 (grid0.coords t))
    (x0 : Vec F S1024x3584 .fp8e4m3) (x1 : Vec F S1024x128 .f32) (x2 : Vec F S1x1x512 .f32) (x3 : Vec F S1x1x512 .f32) (y0 : Vec F S37x1024x128 .f32) (y3 : Vec F S1024x128 .f32) (W0 : HbBuf0 (F := F) c hbM0_0) :
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) scM0_0 fullShare y0 ∗ owns (c : Thread nD τ) scM0_3 fullShare y3 ∗ flyA c W0 (sg t.val) (kd t.val) (tg t.val) ∗ flyB c W0 (sg t.val) (kd t.val) (tg t.val) ∗ freeA c W0 (sg (t.val + 1)) ∗ freeB c W0 (sg (t.val + 1)) ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) scM0_0 fullShare (putM (t.val % 17) (main0 x0 x1 x2 x3 W0 (kd t.val) (tg t.val)) (main1 x0 x1 x2 x3 W0 (kd t.val) (tg t.val)) y0) ∗ owns (c : Thread nD τ) scM0_3 fullShare (amx (main1 x0 x1 x2 x3 W0 (kd t.val) (tg t.val)) (amx (main0 x0 x1 x2 x3 W0 (kd t.val) (tg t.val)) y3)) ∗ flyTA c W0 (sg (t.val + 1)) (kd (t.val + 1)) ∗ flyTB c W0 (sg (t.val + 1)) (kd (t.val + 1)) ∗ freeA c W0 (sg t.val) ∗ freeB c W0 (sg t.val) ∗ (∃ W', owes (c : Thread nD τ) 0 W')) -∗ K ⟨⟩))
          ⊢ wp frame (wpE (defs₀ (F := F)) Variants.none c none) Set.univ (cc0_ffn (grid0.coords t) arg2 harg2 arg3 harg3 arg4 harg4 arg5 harg5 arg6 harg6 arg7 harg7 (Memref.whole main_arg3) (Memref.isWhole_whole _) (Memref.whole main_arg5) (Memref.isWhole_whole _) arg10 harg10 arg11 harg11 arg12 harg12 scM0_0 (Memref.isWhole_whole _) scM0_1 (Memref.isWhole_whole _) scM0_2 (Memref.isWhole_whole _) scM0_3 (Memref.isWhole_whole _) cc0_scratch4 cc0_scratch5) K := by
    intro W K
    haveI : Fact (¬cnd1 (grid0.coords t)) := ⟨hc1⟩
    haveI : Fact (¬cnd2 (grid0.coords t)) := ⟨hc2⟩
    haveI : Fact (cnd3 (grid0.coords t)) := ⟨hc3⟩
    haveI : Fact (¬cnd4 (grid0.coords t)) := ⟨hc4⟩
    haveI : Fact (¬cnd5 (grid0.coords t)) := ⟨hc5⟩
    haveI : Fact (¬cnd6 (grid0.coords t)) := ⟨hc6⟩
    haveI : Fact (cnd7 (grid0.coords t)) := ⟨hc7⟩
    haveI : Fact (¬cnd8 (grid0.coords t)) := ⟨hc8⟩
    haveI : Fact (¬cnd9 (grid0.coords t)) := ⟨hc9⟩
    simp only [cc0_ffn_eq_skeleton]; unfold cc0_ffn_skel
    simp only [k0_part19_eq_skeleton, k0_part1_eq_skeleton, k0_part2_eq_skeleton, k0_part3_eq_skeleton]
    unfold owns freeA freeB flyA flyB flyTA flyTB
    iintro ⟨⟨%f0, %hf0, H0⟩, ⟨%f1, %hf1, H1⟩, ⟨%f2, %hf2, H2⟩, ⟨%f3, %hf3, H3⟩, ⟨%g0, %hg0, HS0⟩, ⟨%g3, %hg3, HS3⟩, ⟨%fa, Hcfa, Hrfaw⟩, ⟨%fb, Hcfb, Hrfbw⟩, ⟨Hcna, ⟨%gna, Hsna⟩, Hwna⟩, ⟨Hcnb, ⟨%gnb, Hsnb⟩, Hwnb⟩, HW, Hk⟩
    ihave Hx := (splitTA c W0 (sg (t.val + 1)) (kd (t.val + 1))).1 $$ Hwna
    icases Hx with ⟨Hhna, Hrnaw⟩
    ihave Hx := (splitTB c W0 (sg (t.val + 1)) (kd (t.val + 1))).1 $$ Hwnb
    icases Hx with ⟨Hhnb, Hrnbw⟩
    ihave Hx := (cutA c (sg (t.val + 1)) gna).1 $$ Hsna
    icases Hx with ⟨Hsna, Hqna⟩
    ihave Hx := (cutB c (sg (t.val + 1)) gnb).1 $$ Hsnb
    icases Hx with ⟨Hsnb, Hqnb⟩
    obtain rfl := harg2.eq_unread hf0
    obtain rfl := harg3.eq_unread hf1
    obtain rfl := harg4.eq_unread hf2
    obtain rfl := harg5.eq_unread hf3
    sl_exec (disch := first | sl_exact hc1 | sl_exact hc2 | sl_exact hc3 | sl_exact hc4 | sl_exact hc5 | sl_exact hc6 | sl_exact hc7 | sl_exact hc8 | sl_exact hc9)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]
    · iexists _; isplitr; swap; · iexact HS0
      ipureintro
      sl_open_run
      rw [read_put _ _ _ _ (coff37_2 t), read_put _ _ _ _ (coff36_2 t), read_put _ _ _ _ (coff37_0 t), read_put _ _ _ _ (coff36_0 t), View.writes_nil, hg0]
      simp only [readAt_unread, store_full, cov_full, load_full, ld_full, ld_full3, readA_0 c (sg t.val) (kd t.val) (tg t.val) _ (coff34 t), readB_0 c (sg t.val) (kd t.val) (tg t.val) _ (coff35 t), readA_1 c (sg t.val) (kd t.val) (tg t.val) _ (coff38 t), readB_1 c (sg t.val) (kd t.val) (tg t.val) _ (coff39 t)]
      rfl
    isplitl [HS3]
    · iexists _; isplitr; swap; · iexact HS3
      ipureintro
      sl_open_run
      simp only [readAt_unread, store_full, cov_full, load_full, ld_full, ld_full3, readA_0 c (sg t.val) (kd t.val) (tg t.val) _ (coff34 t), readB_0 c (sg t.val) (kd t.val) (tg t.val) _ (coff35 t), readA_1 c (sg t.val) (kd t.val) (tg t.val) _ (coff38 t), readB_1 c (sg t.val) (kd t.val) (tg t.val) _ (coff39 t), hg3]
      rfl
    isplitl [Hcna Hrnaw Hqna]
    · iexists _; isplitl [Hcna]; · iexact Hcna
      isplitl [Hrnaw]; · iexact Hrnaw
      iexists _; iexact Hqna
    isplitl [Hcnb Hrnbw Hqnb]
    · iexists _; isplitl [Hcnb]; · iexact Hcnb
      isplitl [Hrnbw]; · iexact Hrnbw
      iexists _; iexact Hqnb
    isplitl [Hcfa Hcfa_dst Hcfa_src Hrfaw]
    · isplitl [Hcfa]; · iexact Hcfa
      isplitl [Hcfa_dst]; · iexists _; iexact Hcfa_dst
      iapply (splitA c W0 (sg t.val) (kd t.val) (tg t.val)).2; isplitl [Hcfa_src]; · iexact Hcfa_src
      iexact Hrfaw
    isplitl [Hcfb Hcfb_dst Hcfb_src Hrfbw]
    · isplitl [Hcfb]; · iexact Hcfb
      isplitl [Hcfb_dst]; · iexists _; iexact Hcfb_dst
      iapply (splitB c W0 (sg t.val) (kd t.val) (tg t.val)).2; isplitl [Hcfb_src]; · iexact Hcfb_src
      iexact Hrfbw
    iexists _; iexact HW

end Cert.KernelIdeal.Ffn

end
-- ==== Proof.Ideal.SoundD.lean ====
/- The body obligation at the points of case D. -/
module

public import proofs.«01_k».proof.Proof.Ideal.Inv
public import proofs.«01_k».proof.Proof.Ideal.RunD

@[expose] public section

set_option maxRecDepth 16384

noncomputable section

namespace Cert.KernelIdeal.Ffn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 2000000 in
theorem sound_D (c : Dev nD) (t : Fin cfg0.N) (h : t.val % 17 = 8) :
    bodyPre m c t ⊢ wp frame (wpE (defs₀ (F := F)) Variants.none c none) Set.univ (bodyAt0 t) (fun _ => bodyPost m c t) := by
  have hN : t.val < 136 := lt_of_lt_of_eq t.isLt (show cfg0.N = 136 from N_0)
  have hc1 : ¬cnd1 (grid0.coords t) := fun e => absurd ((hcnd1 t).mp e) (by omega)
  have hc2 : ¬cnd2 (grid0.coords t) := fun e => absurd ((hcnd2 t).mp e) (by omega)
  have hc3 : cnd3 (grid0.coords t) := (hcnd3 t).mpr (by omega)
  have hc4 : ¬cnd4 (grid0.coords t) := fun e => absurd ((hcnd4 t).mp e) (by omega)
  have hc5 : ¬cnd5 (grid0.coords t) := fun e => absurd ((hcnd5 t).mp e) (by omega)
  have hc6 : ¬cnd6 (grid0.coords t) := fun e => absurd ((hcnd6 t).mp e) (by omega)
  have hc7 : cnd7 (grid0.coords t) := (hcnd7 t).mpr (by omega)
  have hc8 : ¬cnd8 (grid0.coords t) := fun e => absurd ((hcnd8 t).mp e) (by omega)
  have hc9 : ¬cnd9 (grid0.coords t) := fun e => absurd ((hcnd9 t).mp e) (by omega)
  unfold bodyPre bodyPost bodyAt0
  simp only [bef_0, bef_1, bef_2, bef_3, bef_4, bef_5]
  rw [PhiR_castSucc m c t, PhiR_succ m c t, lv_0, lv_1, lv_2, lv_3, lv_4, lv_5]
  rw [lv_6_idle m c t (by omega), lv_7_idle m c t (by omega) (by omega), lv_8_idle m c t (by omega) (by omega)]
  unfold Dat.owesAt Pipeline.owesWithin
  rw [show (dats m 0 c).owed t.castSucc = 0 from rfl, show (dats m 0 c).owed t.succ = 0 from rfl]
  unfold PhiR
  rw [GU_main m c t.val (by omega) (by omega) (by omega), GU_tail m c (t.val + 1) (by omega) (by omega), WD_free m c t.val (by omega), WD_free m c (t.val + 1) (by omega)]
  rw [show sg (t.val + 1 + 1) = sg t.val from Fin.ext (show (t.val + 1 + 1) % 17 % 2 = t.val % 17 % 2 by omega)]
  iintro ⟨⟨⟨%dA, HACT⟩, Hg, ⟨%y, %hy, HAM⟩, ⟨⟨Hfa, Hfb⟩, ⟨Hna, Hnb⟩⟩, HWD⟩, ⟨%W, -, HW⟩, ⟨%d0, H0⟩, ⟨%d1, H1⟩, ⟨%d2, H2⟩, ⟨%d3, H3⟩, ⟨%d4, H4⟩, ⟨%d5, H5⟩, H6, H7, H8⟩
  obtain rfl := hy (by omega)
  iapply (runD c t _ _ _ _ _ _ _ _ _ _ _ _ _ _ _ _ _ _ hc1 hc2 hc3 hc4 hc5 hc6 hc7 hc8 hc9 (iblk m c 0 t) (iblk m c 1 t) (iblk m c 2 t) (iblk m c 3 t) (ACTat m c t.val dA) (AMat m c t.val) (V m c main_arg3) W _)
  isplitl [H0]; · iexact H0
  isplitl [H1]; · iexact H1
  isplitl [H2]; · iexact H2
  isplitl [H3]; · iexact H3
  isplitl [HACT]; · iexact HACT
  isplitl [HAM]; · iexact HAM
  isplitl [Hfa]; · iexact Hfa
  isplitl [Hfb]; · iexact Hfb
  isplitl [Hna]; · iexact Hna
  isplitl [Hnb]; · iexact Hnb
  isplitl [HW]; · iexact HW
  iintro ⟨H0, H1, H2, H3, HACT, HAM, Hfa, Hfb, Hna, Hnb, ⟨%W2, HW⟩⟩
  rw [M0_at m c t, M1_at m c t, ACT_step m c t.val (by omega)]
  rw [AM_step m c t.val (by omega)]
  isplitl [HACT Hg HAM Hfa Hfb Hna Hnb HWD]
  · isplitl [HACT]; · iexists dA; iexact HACT
    isplitl [Hg]; · iexact Hg
    isplitl [HAM]
    · iexists _; isplitr; · ipureintro; exact fun _ => rfl
      iexact HAM
    isplitl [Hfa Hfb Hna Hnb]
    · isplitl [Hfa Hfb]
      · isplitl [Hfa]; · iexact Hfa
        iexact Hfb
      isplitl [Hna]; · iexact Hna
      iexact Hnb
    iexact HWD
  isplitl [HW]
  · iexists W2; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

end Cert.KernelIdeal.Ffn

end
-- ==== Proof.Ideal.Codes.lean ====
/- The stored codes of a row block, as the body writes them. -/
module

public import proofs.«01_k».proof.Proof.Ideal.Pure

@[expose] public section

set_option maxRecDepth 16384

noncomputable section

namespace Cert.KernelIdeal.Ffn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

theorem pay32_eq (s : Vec F S1024x128 .f32) (v : Vec F S1x1024x128 .f32) : k0_pay32 s v = k0_pay31 s v := rfl
theorem pay35_eq (s : Vec F S1024x128 .f32) (v : Vec F S1x1024x128 .f32) : k0_pay35 s v = k0_pay31 s v := rfl
theorem pay36_eq (s : Vec F S1024x128 .f32) (v : Vec F S1x1024x128 .f32) : k0_pay36 s v = k0_pay31 s v := rfl
theorem pay37_eq (s : Vec F S1024x128 .f32) (v : Vec F S1x1024x128 .f32) : k0_pay37 s v = k0_pay31 s v := rfl
theorem pay38_eq (s : Vec F S1024x128 .f32) (v : Vec F S1x1024x128 .f32) : k0_pay38 s v = k0_pay31 s v := rfl
theorem pay39_eq (s : Vec F S1024x128 .f32) (v : Vec F S1x1024x128 .f32) : k0_pay39 s v = k0_pay31 s v := rfl
theorem pay40_eq (s : Vec F S1024x128 .f32) (v : Vec F S1x1024x128 .f32) : k0_pay40 s v = k0_pay31 s v := rfl
theorem pay43_eq (s : Vec F S1024x128 .f32) (v : Vec F S1x1024x128 .f32) : k0_pay43 s v = k0_pay31 s v := rfl
theorem pay44_eq (s : Vec F S1024x128 .f32) (v : Vec F S1x1024x128 .f32) : k0_pay44 s v = k0_pay31 s v := rfl
theorem pay45_eq (s : Vec F S1024x128 .f32) (v : Vec F S1x1024x128 .f32) : k0_pay45 s v = k0_pay31 s v := rfl
theorem pay46_eq (s : Vec F S1024x128 .f32) (v : Vec F S1x1024x128 .f32) : k0_pay46 s v = k0_pay31 s v := rfl
theorem pay47_eq (s : Vec F S1024x128 .f32) (v : Vec F S1x1024x128 .f32) : k0_pay47 s v = k0_pay31 s v := rfl
theorem pay48_eq (s : Vec F S1024x128 .f32) (v : Vec F S1x1024x128 .f32) : k0_pay48 s v = k0_pay31 s v := rfl
theorem pay51_eq (s : Vec F S1024x128 .f32) (v : Vec F S1x1024x128 .f32) : k0_pay51 s v = k0_pay31 s v := rfl
theorem pay52_eq (s : Vec F S1024x128 .f32) (v : Vec F S1x1024x128 .f32) : k0_pay52 s v = k0_pay31 s v := rfl
theorem pay53_eq (s : Vec F S1024x128 .f32) (v : Vec F S1x1024x128 .f32) : k0_pay53 s v = k0_pay31 s v := rfl
theorem pay54_eq (s : Vec F S1024x128 .f32) (v : Vec F S1x1024x128 .f32) : k0_pay54 s v = k0_pay31 s v := rfl
theorem pay55_eq (s : Vec F S1024x128 .f32) (v : Vec F S1x1024x128 .f32) : k0_pay55 s v = k0_pay31 s v := rfl
theorem pay56_eq (s : Vec F S1024x128 .f32) (v : Vec F S1x1024x128 .f32) : k0_pay56 s v = k0_pay31 s v := rfl
theorem pay59_eq (s : Vec F S1024x128 .f32) (v : Vec F S1x1024x128 .f32) : k0_pay59 s v = k0_pay31 s v := rfl
theorem pay60_eq (s : Vec F S1024x128 .f32) (v : Vec F S1x1024x128 .f32) : k0_pay60 s v = k0_pay31 s v := rfl
theorem pay61_eq (s : Vec F S1024x128 .f32) (v : Vec F S1x1024x128 .f32) : k0_pay61 s v = k0_pay31 s v := rfl
theorem pay62_eq (s : Vec F S1024x128 .f32) (v : Vec F S1x1024x128 .f32) : k0_pay62 s v = k0_pay31 s v := rfl
theorem pay63_eq (s : Vec F S1024x128 .f32) (v : Vec F S1x1024x128 .f32) : k0_pay63 s v = k0_pay31 s v := rfl
theorem pay64_eq (s : Vec F S1024x128 .f32) (v : Vec F S1x1024x128 .f32) : k0_pay64 s v = k0_pay31 s v := rfl
theorem pay68_eq (s : Vec F S1024x128 .f32) (v : Vec F S1x1024x128 .f32) : k0_pay68 s v = k0_pay31 s v := rfl
theorem pay69_eq (s : Vec F S1024x128 .f32) (v : Vec F S1x1024x128 .f32) : k0_pay69 s v = k0_pay31 s v := rfl
theorem pay70_eq (s : Vec F S1024x128 .f32) (v : Vec F S1x1024x128 .f32) : k0_pay70 s v = k0_pay31 s v := rfl
theorem pay71_eq (s : Vec F S1024x128 .f32) (v : Vec F S1x1024x128 .f32) : k0_pay71 s v = k0_pay31 s v := rfl
theorem pay72_eq (s : Vec F S1024x128 .f32) (v : Vec F S1x1024x128 .f32) : k0_pay72 s v = k0_pay31 s v := rfl
theorem pay73_eq (s : Vec F S1024x128 .f32) (v : Vec F S1x1024x128 .f32) : k0_pay73 s v = k0_pay31 s v := rfl
theorem pay34_eq (s : Vec F S1024x128 .f32) (v : Vec F S1x1024x128 .f32) : k0_pay34 s (k0_pay33 v) = k0_pay31 s v := rfl
theorem pay42_eq (s : Vec F S1024x128 .f32) (v : Vec F S1x1024x128 .f32) : k0_pay42 (k0_pay41 s v) = k0_pay31 s v := rfl
theorem pay50_eq (s : Vec F S1024x128 .f32) (v : Vec F S1x1024x128 .f32) : k0_pay50 (k0_pay49 s v) (Scalar.ofBits .f32 0xC3E00000#32) = k0_pay31 s v := rfl
theorem pay58_eq (s : Vec F S1024x128 .f32) (v : Vec F S1x1024x128 .f32) : k0_pay58 (k0_pay57 s v) (Scalar.ofBits .f32 0xC3E00000#32) (Scalar.ofBits .f32 0x43E00000#32) = k0_pay31 s v := rfl
theorem pay67_eq (s : Vec F S1024x128 .f32) (v : Vec F S1x1024x128 .f32) : k0_pay67 (k0_pay65 s v) (Scalar.ofBits .f32 0x43E00000#32) (k0_pay66 (F := F)) = k0_pay31 s v := rfl
theorem plane_ld (Q : S1x1024x128.Idx → Elt F .f32) (d : S37x1024x128.Idx → Elt F .f32) (s : Vec F S1024x128 .f32) (k : Fin 37) (hk : k.val < 36) (o : ℕ) (ho : o = k.val)
    (inb : ∀ a, (![o, 0, 0] : Fin 3 → ℕ) a + (![1, 1024, 128] : Fin 3 → ℕ) a ≤ S37x1024x128.size a) :
    k0_pay31 s (View.ld d (Rect.unit (s := S37x1024x128) ![o, 0, 0] ![1, 1024, 128] inb)) = k0_pay31 s (planeOf (put 36 Q d) k) := by
  subst ho; rw [planeOf_put_lt Q d k hk]
set_option maxHeartbeats 2000000 in
/-- The stores of a row block's codes, each from the plane loaded, leave the codes. -/
theorem c4_run {sp : Space} (v : View sig .tc sp S1024x4736 .fp8e4m3) (f : v.ty.Contents (Elt F)) (d : S37x1024x128.Idx → Elt F .f32) (Q : FVec F S1x1024x128 .f32) (s : Vec F S1024x128 .f32) :
    v.read (Elt F) (v.writes (Elt F) f [
      ⟨Rect.unit (s := S1024x4736) ![0, 4608] ![1024, 128] inb_S1024x4736_S1024x128_0_4608, k0_pay73 s Q⟩,
      ⟨Rect.unit (s := S1024x4736) ![0, 4480] ![1024, 128] inb_S1024x4736_S1024x128_0_4480, k0_pay72 s (View.ld d (Rect.unit (s := S37x1024x128) ![35, 0, 0] ![1, 1024, 128] inb_S37x1024x128_S1x1024x128_35_0_0))⟩,
      ⟨Rect.unit (s := S1024x4736) ![0, 4352] ![1024, 128] inb_S1024x4736_S1024x128_0_4352, k0_pay71 s (View.ld d (Rect.unit (s := S37x1024x128) ![34, 0, 0] ![1, 1024, 128] inb_S37x1024x128_S1x1024x128_34_0_0))⟩,
      ⟨Rect.unit (s := S1024x4736) ![0, 4224] ![1024, 128] inb_S1024x4736_S1024x128_0_4224, k0_pay70 s (View.ld d (Rect.unit (s := S37x1024x128) ![33, 0, 0] ![1, 1024, 128] inb_S37x1024x128_S1x1024x128_33_0_0))⟩,
      ⟨Rect.unit (s := S1024x4736) ![0, 4096] ![1024, 128] inb_S1024x4736_S1024x128_0_4096, k0_pay69 s (View.ld d (Rect.unit (s := S37x1024x128) ![32, 0, 0] ![1, 1024, 128] inb_S37x1024x128_S1x1024x128_32_0_0))⟩,
      ⟨Rect.unit (s := S1024x4736) ![0, 3968] ![1024, 128] inb_S1024x4736_S1024x128_0_3968, k0_pay68 s (View.ld d (Rect.unit (s := S37x1024x128) ![31, 0, 0] ![1, 1024, 128] inb_S37x1024x128_S1x1024x128_31_0_0))⟩,
      ⟨Rect.unit (s := S1024x4736) ![0, 3840] ![1024, 128] inb_S1024x4736_S1024x128_0_3840, k0_pay67 (k0_pay65 s (View.ld d (Rect.unit (s := S37x1024x128) ![30, 0, 0] ![1, 1024, 128] inb_S37x1024x128_S1x1024x128_30_0_0))) (Scalar.ofBits .f32 0x43E00000#32) (k0_pay66 (F := F))⟩,
      ⟨Rect.unit (s := S1024x4736) ![0, 3712] ![1024, 128] inb_S1024x4736_S1024x128_0_3712, k0_pay64 s (View.ld d (Rect.unit (s := S37x1024x128) ![29, 0, 0] ![1, 1024, 128] inb_S37x1024x128_S1x1024x128_29_0_0))⟩,
      ⟨Rect.unit (s := S1024x4736) ![0, 3584] ![1024, 128] inb_S1024x4736_S1024x128_0_3584, k0_pay63 s (View.ld d (Rect.unit (s := S37x1024x128) ![28, 0, 0] ![1, 1024, 128] inb_S37x1024x128_S1x1024x128_28_0_0))⟩,
      ⟨Rect.unit (s := S1024x4736) ![0, 3456] ![1024, 128] inb_S1024x4736_S1024x128_0_3456, k0_pay62 s (View.ld d (Rect.unit (s := S37x1024x128) ![27, 0, 0] ![1, 1024, 128] inb_S37x1024x128_S1x1024x128_27_0_0))⟩,
      ⟨Rect.unit (s := S1024x4736) ![0, 3328] ![1024, 128] inb_S1024x4736_S1024x128_0_3328, k0_pay61 s (View.ld d (Rect.unit (s := S37x1024x128) ![26, 0, 0] ![1, 1024, 128] inb_S37x1024x128_S1x1024x128_26_0_0))⟩,
      ⟨Rect.unit (s := S1024x4736) ![0, 3200] ![1024, 128] inb_S1024x4736_S1024x128_0_3200, k0_pay60 s (View.ld d (Rect.unit (s := S37x1024x128) ![25, 0, 0] ![1, 1024, 128] inb_S37x1024x128_S1x1024x128_25_0_0))⟩,
      ⟨Rect.unit (s := S1024x4736) ![0, 3072] ![1024, 128] inb_S1024x4736_S1024x128_0_3072, k0_pay59 s (View.ld d (Rect.unit (s := S37x1024x128) ![24, 0, 0] ![1, 1024, 128] inb_S37x1024x128_S1x1024x128_24_0_0))⟩,
      ⟨Rect.unit (s := S1024x4736) ![0, 2944] ![1024, 128] inb_S1024x4736_S1024x128_0_2944, k0_pay58 (k0_pay57 s (View.ld d (Rect.unit (s := S37x1024x128) ![23, 0, 0] ![1, 1024, 128] inb_S37x1024x128_S1x1024x128_23_0_0))) (Scalar.ofBits .f32 0xC3E00000#32) (Scalar.ofBits .f32 0x43E00000#32)⟩,
      ⟨Rect.unit (s := S1024x4736) ![0, 2816] ![1024, 128] inb_S1024x4736_S1024x128_0_2816, k0_pay56 s (View.ld d (Rect.unit (s := S37x1024x128) ![22, 0, 0] ![1, 1024, 128] inb_S37x1024x128_S1x1024x128_22_0_0))⟩,
      ⟨Rect.unit (s := S1024x4736) ![0, 2688] ![1024, 128] inb_S1024x4736_S1024x128_0_2688, k0_pay55 s (View.ld d (Rect.unit (s := S37x1024x128) ![21, 0, 0] ![1, 1024, 128] inb_S37x1024x128_S1x1024x128_21_0_0))⟩,
      ⟨Rect.unit (s := S1024x4736) ![0, 2560] ![1024, 128] inb_S1024x4736_S1024x128_0_2560, k0_pay54 s (View.ld d (Rect.unit (s := S37x1024x128) ![20, 0, 0] ![1, 1024, 128] inb_S37x1024x128_S1x1024x128_20_0_0))⟩,
      ⟨Rect.unit (s := S1024x4736) ![0, 2432] ![1024, 128] inb_S1024x4736_S1024x128_0_2432, k0_pay53 s (View.ld d (Rect.unit (s := S37x1024x128) ![19, 0, 0] ![1, 1024, 128] inb_S37x1024x128_S1x1024x128_19_0_0))⟩,
      ⟨Rect.unit (s := S1024x4736) ![0, 2304] ![1024, 128] inb_S1024x4736_S1024x128_0_2304, k0_pay52 s (View.ld d (Rect.unit (s := S37x1024x128) ![18, 0, 0] ![1, 1024, 128] inb_S37x1024x128_S1x1024x128_18_0_0))⟩,
      ⟨Rect.unit (s := S1024x4736) ![0, 2176] ![1024, 128] inb_S1024x4736_S1024x128_0_2176, k0_pay51 s (View.ld d (Rect.unit (s := S37x1024x128) ![17, 0, 0] ![1, 1024, 128] inb_S37x1024x128_S1x1024x128_17_0_0))⟩,
      ⟨Rect.unit (s := S1024x4736) ![0, 2048] ![1024, 128] inb_S1024x4736_S1024x128_0_2048, k0_pay50 (k0_pay49 s (View.ld d (Rect.unit (s := S37x1024x128) ![16, 0, 0] ![1, 1024, 128] inb_S37x1024x128_S1x1024x128_16_0_0))) (Scalar.ofBits .f32 0xC3E00000#32)⟩,
      ⟨Rect.unit (s := S1024x4736) ![0, 1920] ![1024, 128] inb_S1024x4736_S1024x128_0_1920, k0_pay48 s (View.ld d (Rect.unit (s := S37x1024x128) ![15, 0, 0] ![1, 1024, 128] inb_S37x1024x128_S1x1024x128_15_0_0))⟩,
      ⟨Rect.unit (s := S1024x4736) ![0, 1792] ![1024, 128] inb_S1024x4736_S1024x128_0_1792, k0_pay47 s (View.ld d (Rect.unit (s := S37x1024x128) ![14, 0, 0] ![1, 1024, 128] inb_S37x1024x128_S1x1024x128_14_0_0))⟩,
      ⟨Rect.unit (s := S1024x4736) ![0, 1664] ![1024, 128] inb_S1024x4736_S1024x128_0_1664, k0_pay46 s (View.ld d (Rect.unit (s := S37x1024x128) ![13, 0, 0] ![1, 1024, 128] inb_S37x1024x128_S1x1024x128_13_0_0))⟩,
      ⟨Rect.unit (s := S1024x4736) ![0, 1536] ![1024, 128] inb_S1024x4736_S1024x128_0_1536, k0_pay45 s (View.ld d (Rect.unit (s := S37x1024x128) ![12, 0, 0] ![1, 1024, 128] inb_S37x1024x128_S1x1024x128_12_0_0))⟩,
      ⟨Rect.unit (s := S1024x4736) ![0, 1408] ![1024, 128] inb_S1024x4736_S1024x128_0_1408, k0_pay44 s (View.ld d (Rect.unit (s := S37x1024x128) ![11, 0, 0] ![1, 1024, 128] inb_S37x1024x128_S1x1024x128_11_0_0))⟩,
      ⟨Rect.unit (s := S1024x4736) ![0, 1280] ![1024, 128] inb_S1024x4736_S1024x128_0_1280, k0_pay43 s (View.ld d (Rect.unit (s := S37x1024x128) ![10, 0, 0] ![1, 1024, 128] inb_S37x1024x128_S1x1024x128_10_0_0))⟩,
      ⟨Rect.unit (s := S1024x4736) ![0, 1152] ![1024, 128] inb_S1024x4736_S1024x128_0_1152, k0_pay42 (k0_pay41 s (View.ld d (Rect.unit (s := S37x1024x128) ![9, 0, 0] ![1, 1024, 128] inb_S37x1024x128_S1x1024x128_9_0_0)))⟩,
      ⟨Rect.unit (s := S1024x4736) ![0, 1024] ![1024, 128] inb_S1024x4736_S1024x128_0_1024, k0_pay40 s (View.ld d (Rect.unit (s := S37x1024x128) ![8, 0, 0] ![1, 1024, 128] inb_S37x1024x128_S1x1024x128_8_0_0))⟩,
      ⟨Rect.unit (s := S1024x4736) ![0, 896] ![1024, 128] inb_S1024x4736_S1024x128_0_896, k0_pay39 s (View.ld d (Rect.unit (s := S37x1024x128) ![7, 0, 0] ![1, 1024, 128] inb_S37x1024x128_S1x1024x128_7_0_0))⟩,
      ⟨Rect.unit (s := S1024x4736) ![0, 768] ![1024, 128] inb_S1024x4736_S1024x128_0_768, k0_pay38 s (View.ld d (Rect.unit (s := S37x1024x128) ![6, 0, 0] ![1, 1024, 128] inb_S37x1024x128_S1x1024x128_6_0_0))⟩,
      ⟨Rect.unit (s := S1024x4736) ![0, 640] ![1024, 128] inb_S1024x4736_S1024x128_0_640, k0_pay37 s (View.ld d (Rect.unit (s := S37x1024x128) ![5, 0, 0] ![1, 1024, 128] inb_S37x1024x128_S1x1024x128_5_0_0))⟩,
      ⟨Rect.unit (s := S1024x4736) ![0, 512] ![1024, 128] inb_S1024x4736_S1024x128_0_512, k0_pay36 s (View.ld d (Rect.unit (s := S37x1024x128) ![4, 0, 0] ![1, 1024, 128] inb_S37x1024x128_S1x1024x128_4_0_0))⟩,
      ⟨Rect.unit (s := S1024x4736) ![0, 384] ![1024, 128] inb_S1024x4736_S1024x128_0_384, k0_pay35 s (View.ld d (Rect.unit (s := S37x1024x128) ![3, 0, 0] ![1, 1024, 128] inb_S37x1024x128_S1x1024x128_3_0_0))⟩,
      ⟨Rect.unit (s := S1024x4736) ![0, 256] ![1024, 128] inb_S1024x4736_S1024x128_0_256, k0_pay34 s (k0_pay33 (View.ld d (Rect.unit (s := S37x1024x128) ![2, 0, 0] ![1, 1024, 128] inb_S37x1024x128_S1x1024x128_2_0_0)))⟩,
      ⟨Rect.unit (s := S1024x4736) ![0, 128] ![1024, 128] inb_S1024x4736_S1024x128_0_128, k0_pay32 s (View.ld d (Rect.unit (s := S37x1024x128) ![1, 0, 0] ![1, 1024, 128] inb_S37x1024x128_S1x1024x128_1_0_0))⟩,
      ⟨Rect.unit (s := S1024x4736) ![0, 0] ![1024, 128] inb_S1024x4736_S1024x128_0_0, k0_pay31 s (View.ld d (Rect.unit (s := S37x1024x128) ![0, 0, 0] ![1, 1024, 128] inb_S37x1024x128_S1x1024x128_0_0_0))⟩]) = c4F (put 36 Q d) s := by
  exact c4_read v f (put 36 Q d) s _ _ _ _ _ _ _ _ _ _ _ _ _ _ _ _ _ _ _ _ _ _ _ _ _ _ _ _ _ _ _ _ _ _ _ _ _
    ((plane_ld Q d s 0 (by decide) 0 rfl _))
    ((pay32_eq s _).trans (plane_ld Q d s 1 (by decide) 1 rfl _))
    ((pay34_eq s _).trans (plane_ld Q d s 2 (by decide) 2 rfl _))
    ((pay35_eq s _).trans (plane_ld Q d s 3 (by decide) 3 rfl _))
    ((pay36_eq s _).trans (plane_ld Q d s 4 (by decide) 4 rfl _))
    ((pay37_eq s _).trans (plane_ld Q d s 5 (by decide) 5 rfl _))
    ((pay38_eq s _).trans (plane_ld Q d s 6 (by decide) 6 rfl _))
    ((pay39_eq s _).trans (plane_ld Q d s 7 (by decide) 7 rfl _))
    ((pay40_eq s _).trans (plane_ld Q d s 8 (by decide) 8 rfl _))
    ((pay42_eq s _).trans (plane_ld Q d s 9 (by decide) 9 rfl _))
    ((pay43_eq s _).trans (plane_ld Q d s 10 (by decide) 10 rfl _))
    ((pay44_eq s _).trans (plane_ld Q d s 11 (by decide) 11 rfl _))
    ((pay45_eq s _).trans (plane_ld Q d s 12 (by decide) 12 rfl _))
    ((pay46_eq s _).trans (plane_ld Q d s 13 (by decide) 13 rfl _))
    ((pay47_eq s _).trans (plane_ld Q d s 14 (by decide) 14 rfl _))
    ((pay48_eq s _).trans (plane_ld Q d s 15 (by decide) 15 rfl _))
    ((pay50_eq s _).trans (plane_ld Q d s 16 (by decide) 16 rfl _))
    ((pay51_eq s _).trans (plane_ld Q d s 17 (by decide) 17 rfl _))
    ((pay52_eq s _).trans (plane_ld Q d s 18 (by decide) 18 rfl _))
    ((pay53_eq s _).trans (plane_ld Q d s 19 (by decide) 19 rfl _))
    ((pay54_eq s _).trans (plane_ld Q d s 20 (by decide) 20 rfl _))
    ((pay55_eq s _).trans (plane_ld Q d s 21 (by decide) 21 rfl _))
    ((pay56_eq s _).trans (plane_ld Q d s 22 (by decide) 22 rfl _))
    ((pay58_eq s _).trans (plane_ld Q d s 23 (by decide) 23 rfl _))
    ((pay59_eq s _).trans (plane_ld Q d s 24 (by decide) 24 rfl _))
    ((pay60_eq s _).trans (plane_ld Q d s 25 (by decide) 25 rfl _))
    ((pay61_eq s _).trans (plane_ld Q d s 26 (by decide) 26 rfl _))
    ((pay62_eq s _).trans (plane_ld Q d s 27 (by decide) 27 rfl _))
    ((pay63_eq s _).trans (plane_ld Q d s 28 (by decide) 28 rfl _))
    ((pay64_eq s _).trans (plane_ld Q d s 29 (by decide) 29 rfl _))
    ((pay67_eq s _).trans (plane_ld Q d s 30 (by decide) 30 rfl _))
    ((pay68_eq s _).trans (plane_ld Q d s 31 (by decide) 31 rfl _))
    ((pay69_eq s _).trans (plane_ld Q d s 32 (by decide) 32 rfl _))
    ((pay70_eq s _).trans (plane_ld Q d s 33 (by decide) 33 rfl _))
    ((pay71_eq s _).trans (plane_ld Q d s 34 (by decide) 34 rfl _))
    ((pay72_eq s _).trans (plane_ld Q d s 35 (by decide) 35 rfl _))
    ((pay73_eq s _).trans (by rw [planeOf_put_36]))

end Cert.KernelIdeal.Ffn

end
-- ==== Proof.Ideal.RunE.lean ====
/- The body at the narrow last column tile of the first product, where the activations are quantised. -/
module

public import proofs.«01_k».proof.Proof.Ideal.Pure
public import proofs.«01_k».proof.Proof.Ideal.Cut
public import Idealize.ShloMosaic.Lib.Tactic.Stretches
public import proofs.«01_k».proof.Proof.Ideal.Codes

@[expose] public section

set_option maxRecDepth 16384

noncomputable section

namespace Cert.KernelIdeal.Ffn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 4000000 in
/-- The body at the narrow last column tile of the first product, where the activations are quantised. -/
theorem runE (c : Dev nD) (t : Fin cfg0.N) (arg2 : Memref sig .tc .vmem S1024x3584 .fp8e4m3) (harg2 : arg2.IsWhole) (arg3 : Memref sig .tc .vmem S1024x128 .f32) (harg3 : arg3.IsWhole) (arg4 : Memref sig .tc .vmem S1x1x512 .f32) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1024x512 .f32) (harg7 : arg7.IsWhole) (arg10 : Memref sig .tc .vmem S1024x512 .bf16) (harg10 : arg10.IsWhole) (arg11 : Memref sig .tc .vmem S1024x4736 .fp8e4m3) (harg11 : arg11.IsWhole) (arg12 : Memref sig .tc .vmem S1x1x1024 .f32) (harg12 : arg12.IsWhole) (hc1 : ¬cnd1 (grid0.coords t)) (hc2 : ¬cnd2 (grid0.coords t)) (hc3 : ¬cnd3 (grid0.coords t)) (hc4 : cnd4 (grid0.coords t)) (hc5 : ¬cnd5 (grid0.coords t)) (hc6 : ¬cnd6 (grid0.coords t)) (hc7 : ¬cnd7 (grid0.coords t)) (hc8 : cnd8 (grid0.coords t)) (hc9 : ¬cnd9 (grid0.coords t))
    (x0 : Vec F S1024x3584 .fp8e4m3) (x1 : Vec F S1024x128 .f32) (x2 : Vec F S1x1x512 .f32) (x3 : Vec F S1x1x512 .f32) (y0 : Vec F S37x1024x128 .f32) (y3 : Vec F S1024x128 .f32) (W0 : HbBuf0 (F := F) c hbM0_0) (W1 : HbBuf0 (F := F) c hbM0_1) :
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg11 fullShare d) ∗ (∃ d, owns (c : Thread nD τ) arg12 fullShare d) ∗ owns (c : Thread nD τ) scM0_0 fullShare y0 ∗ owns (c : Thread nD τ) scM0_3 fullShare y3 ∗ flyTA c W0 (sg t.val) (kd t.val) ∗ flyTB c W0 (sg t.val) (kd t.val) ∗ freeD c W1 (sd (t.val + 1)) ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg11 fullShare (c4F (put 36 (plT (tailV x0 x1 x2 x3 W0 (kd t.val))) y0) (k0_pay30 (k0_pay18 (amxT (tailV x0 x1 x2 x3 W0 (kd t.val)) y3)))) ∗ owns (c : Thread nD τ) arg12 fullShare (s4F (amxT (tailV x0 x1 x2 x3 W0 (kd t.val)) y3)) ∗ owns (c : Thread nD τ) scM0_0 fullShare (put 36 (plT (tailV x0 x1 x2 x3 W0 (kd t.val))) y0) ∗ owns (c : Thread nD τ) scM0_3 fullShare (k0_pay30 (k0_pay18 (amxT (tailV x0 x1 x2 x3 W0 (kd t.val)) y3))) ∗ flyD c W1 (sd (t.val + 1)) (kd (t.val + 1)) (td (t.val + 1)) ∗ freeA c W0 (sg t.val) ∗ freeB c W0 (sg t.val) ∗ (∃ W', owes (c : Thread nD τ) 0 W')) -∗ K ⟨⟩))
          ⊢ wp frame (wpE (defs₀ (F := F)) Variants.none c none) Set.univ (cc0_ffn (grid0.coords t) arg2 harg2 arg3 harg3 arg4 harg4 arg5 harg5 arg6 harg6 arg7 harg7 (Memref.whole main_arg3) (Memref.isWhole_whole _) (Memref.whole main_arg5) (Memref.isWhole_whole _) arg10 harg10 arg11 harg11 arg12 harg12 scM0_0 (Memref.isWhole_whole _) scM0_1 (Memref.isWhole_whole _) scM0_2 (Memref.isWhole_whole _) scM0_3 (Memref.isWhole_whole _) cc0_scratch4 cc0_scratch5) K := by
    intro W K
    haveI : Fact (¬cnd1 (grid0.coords t)) := ⟨hc1⟩
    haveI : Fact (¬cnd2 (grid0.coords t)) := ⟨hc2⟩
    haveI : Fact (¬cnd3 (grid0.coords t)) := ⟨hc3⟩
    haveI : Fact (cnd4 (grid0.coords t)) := ⟨hc4⟩
    haveI : Fact (¬cnd5 (grid0.coords t)) := ⟨hc5⟩
    haveI : Fact (¬cnd6 (grid0.coords t)) := ⟨hc6⟩
    haveI : Fact (¬cnd7 (grid0.coords t)) := ⟨hc7⟩
    haveI : Fact (cnd8 (grid0.coords t)) := ⟨hc8⟩
    haveI : Fact (¬cnd9 (grid0.coords t)) := ⟨hc9⟩
    simp only [cc0_ffn_eq_skeleton]; unfold cc0_ffn_skel
    simp only [k0_part19_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns freeD flyD flyTA flyTB freeA freeB
    iintro ⟨⟨%f0, %hf0, H0⟩, ⟨%f1, %hf1, H1⟩, ⟨%f2, %hf2, H2⟩, ⟨%f3, %hf3, H3⟩, ⟨%d7, %f7, -, H7⟩, ⟨%d8, %f8, -, H8⟩, ⟨%g0, %hg0, HS0⟩, ⟨%g3, %hg3, HS3⟩, ⟨%fa, Hcfa, Hrfaw, ⟨%qa, Hqa⟩⟩, ⟨%fb, Hcfb, Hrfbw, ⟨%qb, Hqb⟩⟩, ⟨Hcnd, ⟨%gnd, Hsnd⟩, Hwnd⟩, HW, Hk⟩
    ihave Hx := (splitD c W1 (sd (t.val + 1)) (kd (t.val + 1)) (td (t.val + 1))).1 $$ Hwnd
    icases Hx with ⟨Hhnd, Hrndw⟩
    obtain rfl := harg2.eq_unread hf0
    obtain rfl := harg3.eq_unread hf1
    obtain rfl := harg4.eq_unread hf2
    obtain rfl := harg5.eq_unread hf3
    sl_exec (disch := first | sl_exact hc1 | sl_exact hc2 | sl_exact hc3 | sl_exact hc4 | sl_exact hc5 | sl_exact hc6 | sl_exact hc7 | sl_exact hc8 | sl_exact hc9)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H7]
    · iexists _; isplitr; swap; · iexact H7
      ipureintro
      sl_open_run
      simp only [readAt_unread, store_full, cov_full, load_full, ld_full, ld_full3, readTA c (sg t.val) (kd t.val) _ (coff46 t), readTB c (sg t.val) (kd t.val) _ (coff47 t), hg3, View.readAt_eq_ld, hg0, harg2.read_unread, harg3.read_unread, harg4.read_unread, harg5.read_unread, tail_fold]
      generalize k0_pay30 (k0_pay18 (amxT (tailV x0 x1 x2 x3 W0 (kd t.val)) y3)) = sc
      refine (congrArg (fun P => View.read (Elt F) arg11.view (arg11.view.writes (Elt F) f7 (⟨Rect.unit (s := S1024x4736) ![0, 4608] ![1024, 128] inb_S1024x4736_S1024x128_0_4608, P⟩ :: _))) (?_ : _ = k0_pay73 sc (plT (tailV x0 x1 x2 x3 W0 (kd t.val))))).trans (c4_run arg11.view f7 y0 (plT (tailV x0 x1 x2 x3 W0 (kd t.val))) sc)
      exact congrArg (k0_pay73 sc) ((cov_same _ _ _ _).trans rfl)
    isplitl [H8]
    · iexists _; isplitr; swap; · iexact H8
      ipureintro
      sl_open_run
      simp only [readAt_unread, store_full, cov_full, load_full, ld_full, ld_full3, readTA c (sg t.val) (kd t.val) _ (coff46 t), readTB c (sg t.val) (kd t.val) _ (coff47 t), hg3]
      exact store_full3 arg12.view _ _ _ _
    isplitl [HS0]
    · iexists _; isplitr; swap; · iexact HS0
      ipureintro
      sl_open_run
      rw [read_put _ _ 36 _ rfl, View.writes_nil, hg0]
      simp only [readAt_unread, store_full, cov_full, load_full, ld_full, ld_full3, readTA c (sg t.val) (kd t.val) _ (coff46 t), readTB c (sg t.val) (kd t.val) _ (coff47 t)]
      rfl
    isplitl [HS3]
    · iexists _; isplitr; swap; · iexact HS3
      ipureintro
      sl_open_run
      simp only [readAt_unread, store_full, cov_full, load_full, ld_full, ld_full3, readTA c (sg t.val) (kd t.val) _ (coff46 t), readTB c (sg t.val) (kd t.val) _ (coff47 t), hg3]
      rfl
    isplitl [Hcnd Hrndw]
    · iexists _; isplitl [Hcnd]; · iexact Hcnd
      iexact Hrndw
    isplitl [Hcfa Hcfa_dst Hcfa_src Hrfaw Hqa]
    · isplitl [Hcfa]; · iexact Hcfa
      isplitl [Hcfa_dst Hqa]
      · iapply (glueA c (sg t.val) _ qa); isplitl [Hcfa_dst]; · iexact Hcfa_dst
        iexact Hqa
      iapply (splitTA c W0 (sg t.val) (kd t.val)).2; isplitl [Hcfa_src]; · iexact Hcfa_src
      iexact Hrfaw
    isplitl [Hcfb Hcfb_dst Hcfb_src Hrfbw Hqb]
    · isplitl [Hcfb]; · iexact Hcfb
      isplitl [Hcfb_dst Hqb]
      · iapply (glueB c (sg t.val) _ qb); isplitl [Hcfb_dst]; · iexact Hcfb_dst
        iexact Hqb
      iapply (splitTB c W0 (sg t.val) (kd t.val)).2; isplitl [Hcfb_src]; · iexact Hcfb_src
      iexact Hrfbw
    iexists _; iexact HW

end Cert.KernelIdeal.Ffn

end
-- ==== Proof.Ideal.SoundE.lean ====
/- The body obligation at the points of case E. -/
module

public import proofs.«01_k».proof.Proof.Ideal.Inv
public import proofs.«01_k».proof.Proof.Ideal.RunE

@[expose] public section

set_option maxRecDepth 16384

noncomputable section

namespace Cert.KernelIdeal.Ffn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 2000000 in
theorem sound_E (c : Dev nD) (t : Fin cfg0.N) (h : t.val % 17 = 9) :
    bodyPre m c t ⊢ wp frame (wpE (defs₀ (F := F)) Variants.none c none) Set.univ (bodyAt0 t) (fun _ => bodyPost m c t) := by
  have hN : t.val < 136 := lt_of_lt_of_eq t.isLt (show cfg0.N = 136 from N_0)
  have hc1 : ¬cnd1 (grid0.coords t) := fun e => absurd ((hcnd1 t).mp e) (by omega)
  have hc2 : ¬cnd2 (grid0.coords t) := fun e => absurd ((hcnd2 t).mp e) (by omega)
  have hc3 : ¬cnd3 (grid0.coords t) := fun e => absurd ((hcnd3 t).mp e) (by omega)
  have hc4 : cnd4 (grid0.coords t) := (hcnd4 t).mpr (by omega)
  have hc5 : ¬cnd5 (grid0.coords t) := fun e => absurd ((hcnd5 t).mp e) (by omega)
  have hc6 : ¬cnd6 (grid0.coords t) := fun e => absurd ((hcnd6 t).mp e) (by omega)
  have hc7 : ¬cnd7 (grid0.coords t) := fun e => absurd ((hcnd7 t).mp e) (by omega)
  have hc8 : cnd8 (grid0.coords t) := (hcnd8 t).mpr (by omega)
  have hc9 : ¬cnd9 (grid0.coords t) := fun e => absurd ((hcnd9 t).mp e) (by omega)
  unfold bodyPre bodyPost bodyAt0
  simp only [bef_0, bef_1, bef_2, bef_3, bef_4, bef_5]
  rw [PhiR_castSucc m c t, PhiR_succ m c t, lv_0, lv_1, lv_2, lv_3, lv_4, lv_5]
  rw [lv_6_idle m c t (by omega), lv_7 m c t (by omega), lv_8 m c t (by omega)]
  unfold Dat.owesAt Pipeline.owesWithin
  rw [show (dats m 0 c).owed t.castSucc = 0 from rfl, show (dats m 0 c).owed t.succ = 0 from rfl]
  unfold PhiR
  rw [GU_tail m c t.val (by omega) (by omega), GU_free m c (t.val + 1) (by omega), WD_free m c t.val (by omega), WD_fly m c (t.val + 1) (by omega)]
  rw [show sd (t.val + 1 + 1) = sd t.val from Fin.ext (show ((t.val + 1 + 1) / 17 + (t.val + 1 + 1) % 17) % 2 = (t.val / 17 + t.val % 17) % 2 by omega)]
  iintro ⟨⟨⟨%dA, HACT⟩, Hg, ⟨%y, %hy, HAM⟩, ⟨⟨Hfa, Hfb⟩, ⟨Hna, Hnb⟩⟩, HWD⟩, ⟨%W, -, HW⟩, ⟨%d0, H0⟩, ⟨%d1, H1⟩, ⟨%d2, H2⟩, ⟨%d3, H3⟩, ⟨%d4, H4⟩, ⟨%d5, H5⟩, H6, H7, H8⟩
  obtain rfl := hy (by omega)
  ihave HD := (dn_pair c (V m c main_arg5) (sd t.val) (sd (t.val + 1)) (show (t.val / 17 + t.val % 17) % 2 ≠ ((t.val + 1) / 17 + (t.val + 1) % 17) % 2 by omega)).1 $$ HWD
  icases HD with ⟨Hod, Hnd⟩
  iapply (runE c t _ _ _ _ _ _ _ _ _ _ _ _ _ _ _ _ _ _ hc1 hc2 hc3 hc4 hc5 hc6 hc7 hc8 hc9 (iblk m c 0 t) (iblk m c 1 t) (iblk m c 2 t) (iblk m c 3 t) (ACTat m c t.val dA) (AMat m c t.val) (V m c main_arg3) (V m c main_arg5) W _)
  isplitl [H0]; · iexact H0
  isplitl [H1]; · iexact H1
  isplitl [H2]; · iexact H2
  isplitl [H3]; · iexact H3
  isplitl [H7]; · icases H7 with ⟨%dz, H7⟩; iexists _; iexact H7
  isplitl [H8]; · icases H8 with ⟨%dz, H8⟩; iexists _; iexact H8
  isplitl [HACT]; · iexact HACT
  isplitl [HAM]; · iexact HAM
  isplitl [Hfa]; · iexact Hfa
  isplitl [Hfb]; · iexact Hfb
  isplitl [Hnd]; · iexact Hnd
  isplitl [HW]; · iexact HW
  iintro ⟨H0, H1, H2, H3, H7, H8, HACT, HAM, Hfd, Hfa, Hfb, ⟨%W2, HW⟩⟩
  rw [TV_at m c t, C4_at m c t.val h, S4_at m c t.val h, ACT_stepE m c t.val h, AM_stepE m c t.val h]
  isplitl [HACT Hg HAM Hfd Hfa Hfb Hna Hnb Hod]
  · isplitl [HACT]; · iexists dA; iexact HACT
    isplitl [Hg]; · iexact Hg
    isplitl [HAM]
    · iexists _; isplitr; · ipureintro; exact fun _ => rfl
      iexact HAM
    isplitl [Hfa Hfb Hna Hnb]
    · iapply (gu_pair c (V m c main_arg3) (sg t.val) (sg (t.val + 1)) (show t.val % 17 % 2 ≠ (t.val + 1) % 17 % 2 by omega)).2
      isplitl [Hfa Hfb]
      · isplitl [Hfa]; · iexact Hfa
        iexact Hfb
      isplitl [Hna]; · iexact Hna
      iexact Hnb
    isplitl [Hfd]; · iexact Hfd
    iexact Hod
  isplitl [HW]
  · iexists W2; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

end Cert.KernelIdeal.Ffn

end
-- ==== Proof.Ideal.RunF.lean ====
/- The body at a column tile of the second product. -/
module

public import proofs.«01_k».proof.Proof.Ideal.Pure
public import proofs.«01_k».proof.Proof.Ideal.Cut
public import Idealize.ShloMosaic.Lib.Tactic.Stretches

@[expose] public section

set_option maxRecDepth 16384

noncomputable section

namespace Cert.KernelIdeal.Ffn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 4000000 in
/-- The body at a column tile of the second product. -/
theorem runF (c : Dev nD) (t : Fin cfg0.N) (arg2 : Memref sig .tc .vmem S1024x3584 .fp8e4m3) (harg2 : arg2.IsWhole) (arg3 : Memref sig .tc .vmem S1024x128 .f32) (harg3 : arg3.IsWhole) (arg4 : Memref sig .tc .vmem S1x1x512 .f32) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1024x512 .f32) (harg7 : arg7.IsWhole) (arg10 : Memref sig .tc .vmem S1024x512 .bf16) (harg10 : arg10.IsWhole) (arg11 : Memref sig .tc .vmem S1024x4736 .fp8e4m3) (harg11 : arg11.IsWhole) (arg12 : Memref sig .tc .vmem S1x1x1024 .f32) (harg12 : arg12.IsWhole) (hc1 : ¬cnd1 (grid0.coords t)) (hc2 : ¬cnd2 (grid0.coords t)) (hc3 : ¬cnd3 (grid0.coords t)) (hc4 : cnd4 (grid0.coords t)) (hc5 : ¬cnd5 (grid0.coords t)) (hc6 : ¬cnd6 (grid0.coords t)) (hc7 : ¬cnd7 (grid0.coords t)) (hc8 : ¬cnd8 (grid0.coords t)) (hc9 : cnd9 (grid0.coords t))
    (x1 : Vec F S1024x128 .f32) (x4 : Vec F S1x1x512 .f32) (x5 : Vec F S1024x512 .f32) (x7 : Vec F S1024x4736 .fp8e4m3) (y3 : Vec F S1024x128 .f32) (W1 : HbBuf0 (F := F) c hbM0_1) :
      ∀ (W : Waits sig Unit) (K : PUnit → sProp 𝕄),
        iprop(owns (c : Thread nD τ) arg3 fullShare x1 ∗ owns (c : Thread nD τ) arg6 fullShare x4 ∗ owns (c : Thread nD τ) arg7 fullShare x5 ∗ owns (c : Thread nD τ) arg11 fullShare x7 ∗ (∃ d, owns (c : Thread nD τ) arg10 fullShare d) ∗ owns (c : Thread nD τ) scM0_3 fullShare y3 ∗ flyD c W1 (sd t.val) (kd t.val) (td t.val) ∗ freeD c W1 (sd (t.val + 1)) ∗ owes (c : Thread nD τ) 0 W
            ∗ (iprop(owns (c : Thread nD τ) arg3 fullShare x1 ∗ owns (c : Thread nD τ) arg6 fullShare x4 ∗ owns (c : Thread nD τ) arg7 fullShare x5 ∗ owns (c : Thread nD τ) arg11 fullShare x7 ∗ owns (c : Thread nD τ) arg10 fullShare (k0_pay74 x7 (gD W1 (kd t.val) (td t.val)) x5 (s3c y3) x4) ∗ owns (c : Thread nD τ) scM0_3 fullShare y3 ∗ flyD c W1 (sd (t.val + 1)) (kd (t.val + 1)) (td (t.val + 1)) ∗ freeD c W1 (sd t.val) ∗ (∃ W', owes (c : Thread nD τ) 0 W')) -∗ K ⟨⟩))
          ⊢ wp frame (wpE (defs₀ (F := F)) Variants.none c none) Set.univ (cc0_ffn (grid0.coords t) arg2 harg2 arg3 harg3 arg4 harg4 arg5 harg5 arg6 harg6 arg7 harg7 (Memref.whole main_arg3) (Memref.isWhole_whole _) (Memref.whole main_arg5) (Memref.isWhole_whole _) arg10 harg10 arg11 harg11 arg12 harg12 scM0_0 (Memref.isWhole_whole _) scM0_1 (Memref.isWhole_whole _) scM0_2 (Memref.isWhole_whole _) scM0_3 (Memref.isWhole_whole _) cc0_scratch4 cc0_scratch5) K := by
    intro W K
    haveI : Fact (¬cnd1 (grid0.coords t)) := ⟨hc1⟩
    haveI : Fact (¬cnd2 (grid0.coords t)) := ⟨hc2⟩
    haveI : Fact (¬cnd3 (grid0.coords t)) := ⟨hc3⟩
    haveI : Fact (cnd4 (grid0.coords t)) := ⟨hc4⟩
    haveI : Fact (¬cnd5 (grid0.coords t)) := ⟨hc5⟩
    haveI : Fact (¬cnd6 (grid0.coords t)) := ⟨hc6⟩
    haveI : Fact (¬cnd7 (grid0.coords t)) := ⟨hc7⟩
    haveI : Fact (¬cnd8 (grid0.coords t)) := ⟨hc8⟩
    haveI : Fact (cnd9 (grid0.coords t)) := ⟨hc9⟩
    simp only [cc0_ffn_eq_skeleton]; unfold cc0_ffn_skel
    simp only [k0_part19_eq_skeleton, k0_part18_eq_skeleton]
    unfold owns freeD flyD
    iintro ⟨⟨%f1, %hf1, H1⟩, ⟨%f4, %hf4, H4⟩, ⟨%f5, %hf5, H5⟩, ⟨%f7, %hf7, H7⟩, ⟨%d6, %f6, -, H6⟩, ⟨%g3, %hg3, HS3⟩, ⟨%fd, Hcfd, Hrfdw⟩, ⟨Hcnd, ⟨%gnd, Hsnd⟩, Hwnd⟩, HW, Hk⟩
    ihave Hx := (splitD c W1 (sd (t.val + 1)) (kd (t.val + 1)) (td (t.val + 1))).1 $$ Hwnd
    icases Hx with ⟨Hhnd, Hrndw⟩
    obtain rfl := harg3.eq_unread hf1
    obtain rfl := harg6.eq_unread hf4
    obtain rfl := harg7.eq_unread hf5
    obtain rfl := harg11.eq_unread hf7
    sl_exec (disch := first | sl_exact hc1 | sl_exact hc2 | sl_exact hc3 | sl_exact hc4 | sl_exact hc5 | sl_exact hc6 | sl_exact hc7 | sl_exact hc8 | sl_exact hc9)
    sl_step
    iapply Hk
    isplitl [H1]
    · iexists _; isplitr; · ipureintro; exact harg3.read_unread _
      iexact H1
    isplitl [H4]
    · iexists _; isplitr; · ipureintro; exact harg6.read_unread _
      iexact H4
    isplitl [H5]
    · iexists _; isplitr; · ipureintro; exact harg7.read_unread _
      iexact H5
    isplitl [H7]
    · iexists _; isplitr; · ipureintro; exact harg11.read_unread _
      iexact H7
    isplitl [H6]
    · iexists _; isplitr; swap; · iexact H6
      ipureintro
      sl_open_run
      simp only [readAt_unread, ld_full, ld_full3, readD c (sd t.val) (kd t.val) (td t.val) _ (coff51 t hc9), View.readAt_eq_ld, hg3, harg6.read_unread, harg7.read_unread, harg11.read_unread]
      exact store_full2 arg10.view _ _ _ _
    isplitl [HS3]
    · iexists _; isplitr; · ipureintro; exact hg3
      iexact HS3
    isplitl [Hcnd Hrndw]
    · iexists _; isplitl [Hcnd]; · iexact Hcnd
      iexact Hrndw
    isplitl [Hcfd Hcfd_dst Hcfd_src Hrfdw]
    · isplitl [Hcfd]; · iexact Hcfd
      isplitl [Hcfd_dst]; · iexists _; iexact Hcfd_dst
      iapply (splitD c W1 (sd t.val) (kd t.val) (td t.val)).2; isplitl [Hcfd_src]; · iexact Hcfd_src
      iexact Hrfdw
    iexists _; iexact HW

end Cert.KernelIdeal.Ffn

end
-- ==== Proof.Ideal.SoundF.lean ====
/- The body obligation at the points of case F. -/
module

public import proofs.«01_k».proof.Proof.Ideal.Inv
public import proofs.«01_k».proof.Proof.Ideal.RunF

@[expose] public section

set_option maxRecDepth 16384

noncomputable section

namespace Cert.KernelIdeal.Ffn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 2000000 in
theorem sound_F (c : Dev nD) (t : Fin cfg0.N) (h : 10 ≤ t.val % 17 ∧ t.val % 17 < 16) :
    bodyPre m c t ⊢ wp frame (wpE (defs₀ (F := F)) Variants.none c none) Set.univ (bodyAt0 t) (fun _ => bodyPost m c t) := by
  have hN : t.val < 136 := lt_of_lt_of_eq t.isLt (show cfg0.N = 136 from N_0)
  have hc1 : ¬cnd1 (grid0.coords t) := fun e => absurd ((hcnd1 t).mp e) (by omega)
  have hc2 : ¬cnd2 (grid0.coords t) := fun e => absurd ((hcnd2 t).mp e) (by omega)
  have hc3 : ¬cnd3 (grid0.coords t) := fun e => absurd ((hcnd3 t).mp e) (by omega)
  have hc4 : cnd4 (grid0.coords t) := (hcnd4 t).mpr (by omega)
  have hc5 : ¬cnd5 (grid0.coords t) := fun e => absurd ((hcnd5 t).mp e) (by omega)
  have hc6 : ¬cnd6 (grid0.coords t) := fun e => absurd ((hcnd6 t).mp e) (by omega)
  have hc7 : ¬cnd7 (grid0.coords t) := fun e => absurd ((hcnd7 t).mp e) (by omega)
  have hc8 : ¬cnd8 (grid0.coords t) := fun e => absurd ((hcnd8 t).mp e) (by omega)
  have hc9 : cnd9 (grid0.coords t) := (hcnd9 t).mpr (by omega)
  unfold bodyPre bodyPost bodyAt0
  simp only [bef_0, bef_1, bef_2, bef_3, bef_4, bef_5]
  rw [PhiR_castSucc m c t, PhiR_succ m c t, lv_0, lv_1, lv_2, lv_3, lv_4, lv_5]
  rw [lv_6 m c t (by omega), lv_7_idle m c t (by omega) (by omega), lv_8_idle m c t (by omega) (by omega)]
  unfold Dat.owesAt Pipeline.owesWithin
  rw [show (dats m 0 c).owed t.castSucc = 0 from rfl, show (dats m 0 c).owed t.succ = 0 from rfl]
  unfold PhiR
  rw [GU_free m c t.val (by omega), GU_free m c (t.val + 1) (by omega), WD_fly m c t.val (by omega), WD_fly m c (t.val + 1) (by omega)]
  rw [show sd (t.val + 1 + 1) = sd t.val from Fin.ext (show ((t.val + 1 + 1) / 17 + (t.val + 1 + 1) % 17) % 2 = (t.val / 17 + t.val % 17) % 2 by omega)]
  iintro ⟨⟨⟨%dA, HACT⟩, Hg, ⟨%y, %hy, HAM⟩, HGU, ⟨Hfd, Hnd⟩⟩, ⟨%W, -, HW⟩, ⟨%d0, H0⟩, ⟨%d1, H1⟩, ⟨%d2, H2⟩, ⟨%d3, H3⟩, ⟨%d4, H4⟩, ⟨%d5, H5⟩, H6, ⟨%d7, H7⟩, H8⟩
  obtain rfl := hy (by omega)
  rw [bef_7 m c t (by omega) d7]
  iapply (runF c t _ _ _ _ _ _ _ _ _ _ _ _ _ _ _ _ _ _ hc1 hc2 hc3 hc4 hc5 hc6 hc7 hc8 hc9 (iblk m c 1 t) (iblk m c 4 t) (iblk m c 5 t) (C4 m c (t.val / 17)) (AMat m c t.val) (V m c main_arg5) W _)
  isplitl [H1]; · iexact H1
  isplitl [H4]; · iexact H4
  isplitl [H5]; · iexact H5
  isplitl [H7]; · iexact H7
  isplitl [H6]; · icases H6 with ⟨%dz, H6⟩; iexists _; iexact H6
  isplitl [HAM]; · iexact HAM
  isplitl [Hfd]; · iexact Hfd
  isplitl [Hnd]; · iexact Hnd
  isplitl [HW]; · iexact HW
  iintro ⟨H1, H4, H5, H7, H6, HAM, Hfd, Hod, ⟨%W2, HW⟩⟩
  rw [AM_late m c t.val (by omega)]
  isplitl [HACT Hg HAM Hfd Hod HGU]
  · isplitl [HACT]; · iexists dA; rw [ACT_keep m c t.val (by omega) (by omega)]; iexact HACT
    isplitl [Hg]; · iexact Hg
    isplitl [HAM]
    · iexists _; isplitr; · ipureintro; exact fun _ => (AM_late m c t.val (by omega)).symm.trans (AM_keep m c t.val (by omega) (by omega)).symm
      iexact HAM
    isplitl [HGU]; · iexact HGU
    isplitl [Hfd]; · iexact Hfd
    iexact Hod
  isplitl [HW]
  · iexists W2; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists d7; rw [bef_7 m c t (by omega) d7]; iexact H7
  iexact H8

end Cert.KernelIdeal.Ffn

end
-- ==== Proof.Ideal.RunG.lean ====
/- The body at the last column tile of the second product. -/
module

public import proofs.«01_k».proof.Proof.Ideal.Pure
public import proofs.«01_k».proof.Proof.Ideal.Cut
public import Idealize.ShloMosaic.Lib.Tactic.Stretches

@[expose] public section

set_option maxRecDepth 16384

noncomputable section

namespace Cert.KernelIdeal.Ffn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 4000000 in
/-- The body at the last column tile of the second product. -/
theorem runG (c : Dev nD) (t : Fin cfg0.N) (arg2 : Memref sig .tc .vmem S1024x3584 .fp8e4m3) (harg2 : arg2.IsWhole) (arg3 : Memref sig .tc .vmem S1024x128 .f32) (harg3 : arg3.IsWhole) (arg4 : Memref sig .tc .vmem S1x1x512 .f32) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1024x512 .f32) (harg7 : arg7.IsWhole) (arg10 : Memref sig .tc .vmem S1024x512 .bf16) (harg10 : arg10.IsWhole) (arg11 : Memref sig .tc .vmem S1024x4736 .fp8e4m3) (harg11 : arg11.IsWhole) (arg12 : Memref sig .tc .vmem S1x1x1024 .f32) (harg12 : arg12.IsWhole) (hc1 : ¬cnd1 (grid0.coords t)) (hc2 : ¬cnd2 (grid0.coords t)) (hc3 : ¬cnd3 (grid0.coords t)) (hc4 : ¬cnd4 (grid0.coords t)) (hc5 : cnd5 (grid0.coords t)) (hc6 : ¬cnd6 (grid0.coords t)) (hc7 : ¬cnd7 (grid0.coords t)) (hc8 : ¬cnd8 (grid0.coords t)) (hc9 : cnd9 (grid0.coords t))
    (x1 : Vec F S1024x128 .f32) (x4 : Vec F S1x1x512 .f32) (x5 : Vec F S1024x512 .f32) (x7 : Vec F S1024x4736 .fp8e4m3) (y3 : Vec F S1024x128 .f32) (W0 : HbBuf0 (F := F) c hbM0_0) (W1 : HbBuf0 (F := F) c hbM0_1) :
      ∀ (W : Waits sig Unit) (K : PUnit → sProp 𝕄),
        iprop(owns (c : Thread nD τ) arg3 fullShare x1 ∗ owns (c : Thread nD τ) arg6 fullShare x4 ∗ owns (c : Thread nD τ) arg7 fullShare x5 ∗ owns (c : Thread nD τ) arg11 fullShare x7 ∗ (∃ d, owns (c : Thread nD τ) arg10 fullShare d) ∗ owns (c : Thread nD τ) scM0_3 fullShare y3 ∗ flyD c W1 (sd t.val) (kd t.val) (td t.val) ∗ freeA c W0 (sg (t.val + 1)) ∗ freeB c W0 (sg (t.val + 1)) ∗ owes (c : Thread nD τ) 0 W
            ∗ (iprop(owns (c : Thread nD τ) arg3 fullShare x1 ∗ owns (c : Thread nD τ) arg6 fullShare x4 ∗ owns (c : Thread nD τ) arg7 fullShare x5 ∗ owns (c : Thread nD τ) arg11 fullShare x7 ∗ owns (c : Thread nD τ) arg10 fullShare (k0_pay74 x7 (gD W1 (kd t.val) (td t.val)) x5 (s3c y3) x4) ∗ owns (c : Thread nD τ) scM0_3 fullShare y3 ∗ flyA c W0 (sg (t.val + 1)) (kd (t.val + 1)) (tg (t.val + 1)) ∗ flyB c W0 (sg (t.val + 1)) (kd (t.val + 1)) (tg (t.val + 1)) ∗ freeD c W1 (sd t.val) ∗ (∃ W', owes (c : Thread nD τ) 0 W')) -∗ K ⟨⟩))
          ⊢ wp frame (wpE (defs₀ (F := F)) Variants.none c none) Set.univ (cc0_ffn (grid0.coords t) arg2 harg2 arg3 harg3 arg4 harg4 arg5 harg5 arg6 harg6 arg7 harg7 (Memref.whole main_arg3) (Memref.isWhole_whole _) (Memref.whole main_arg5) (Memref.isWhole_whole _) arg10 harg10 arg11 harg11 arg12 harg12 scM0_0 (Memref.isWhole_whole _) scM0_1 (Memref.isWhole_whole _) scM0_2 (Memref.isWhole_whole _) scM0_3 (Memref.isWhole_whole _) cc0_scratch4 cc0_scratch5) K := by
    intro W K
    haveI : Fact (¬cnd1 (grid0.coords t)) := ⟨hc1⟩
    haveI : Fact (¬cnd2 (grid0.coords t)) := ⟨hc2⟩
    haveI : Fact (¬cnd3 (grid0.coords t)) := ⟨hc3⟩
    haveI : Fact (¬cnd4 (grid0.coords t)) := ⟨hc4⟩
    haveI : Fact (cnd5 (grid0.coords t)) := ⟨hc5⟩
    haveI : Fact (¬cnd6 (grid0.coords t)) := ⟨hc6⟩
    haveI : Fact (¬cnd7 (grid0.coords t)) := ⟨hc7⟩
    haveI : Fact (¬cnd8 (grid0.coords t)) := ⟨hc8⟩
    haveI : Fact (cnd9 (grid0.coords t)) := ⟨hc9⟩
    simp only [cc0_ffn_eq_skeleton]; unfold cc0_ffn_skel
    simp only [k0_part19_eq_skeleton, k0_part18_eq_skeleton]
    unfold owns freeD flyD freeA freeB flyA flyB
    iintro ⟨⟨%f1, %hf1, H1⟩, ⟨%f4, %hf4, H4⟩, ⟨%f5, %hf5, H5⟩, ⟨%f7, %hf7, H7⟩, ⟨%d6, %f6, -, H6⟩, ⟨%g3, %hg3, HS3⟩, ⟨%fd, Hcfd, Hrfdw⟩, ⟨Hcna, ⟨%gna, Hsna⟩, Hwna⟩, ⟨Hcnb, ⟨%gnb, Hsnb⟩, Hwnb⟩, HW, Hk⟩
    ihave Hx := (splitA c W0 (sg (t.val + 1)) (kd (t.val + 1)) (tg (t.val + 1))).1 $$ Hwna
    icases Hx with ⟨Hhna, Hrnaw⟩
    ihave Hx := (splitB c W0 (sg (t.val + 1)) (kd (t.val + 1)) (tg (t.val + 1))).1 $$ Hwnb
    icases Hx with ⟨Hhnb, Hrnbw⟩
    obtain rfl := harg3.eq_unread hf1
    obtain rfl := harg6.eq_unread hf4
    obtain rfl := harg7.eq_unread hf5
    obtain rfl := harg11.eq_unread hf7
    sl_exec (disch := first | sl_exact hc1 | sl_exact hc2 | sl_exact hc3 | sl_exact hc4 | sl_exact hc5 | sl_exact hc6 | sl_exact hc7 | sl_exact hc8 | sl_exact hc9)
    sl_step
    iapply Hk
    isplitl [H1]
    · iexists _; isplitr; · ipureintro; exact harg3.read_unread _
      iexact H1
    isplitl [H4]
    · iexists _; isplitr; · ipureintro; exact harg6.read_unread _
      iexact H4
    isplitl [H5]
    · iexists _; isplitr; · ipureintro; exact harg7.read_unread _
      iexact H5
    isplitl [H7]
    · iexists _; isplitr; · ipureintro; exact harg11.read_unread _
      iexact H7
    isplitl [H6]
    · iexists _; isplitr; swap; · iexact H6
      ipureintro
      sl_open_run
      simp only [readAt_unread, ld_full, ld_full3, readD c (sd t.val) (kd t.val) (td t.val) _ (coff51 t hc9), View.readAt_eq_ld, hg3, harg6.read_unread, harg7.read_unread, harg11.read_unread]
      exact store_full2 arg10.view _ _ _ _
    isplitl [HS3]
    · iexists _; isplitr; · ipureintro; exact hg3
      iexact HS3
    isplitl [Hcna Hrnaw]
    · iexists _; isplitl [Hcna]; · iexact Hcna
      iexact Hrnaw
    isplitl [Hcnb Hrnbw]
    · iexists _; isplitl [Hcnb]; · iexact Hcnb
      iexact Hrnbw
    isplitl [Hcfd Hcfd_dst Hcfd_src Hrfdw]
    · isplitl [Hcfd]; · iexact Hcfd
      isplitl [Hcfd_dst]; · iexists _; iexact Hcfd_dst
      iapply (splitD c W1 (sd t.val) (kd t.val) (td t.val)).2; isplitl [Hcfd_src]; · iexact Hcfd_src
      iexact Hrfdw
    iexists _; iexact HW

end Cert.KernelIdeal.Ffn

end
-- ==== Proof.Ideal.SoundG.lean ====
/- The body obligation at the points of case G. -/
module

public import proofs.«01_k».proof.Proof.Ideal.Inv
public import proofs.«01_k».proof.Proof.Ideal.RunG

@[expose] public section

set_option maxRecDepth 16384

noncomputable section

namespace Cert.KernelIdeal.Ffn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 2000000 in
theorem sound_G (c : Dev nD) (t : Fin cfg0.N) (h : t.val % 17 = 16 ∧ t.val < 135) :
    bodyPre m c t ⊢ wp frame (wpE (defs₀ (F := F)) Variants.none c none) Set.univ (bodyAt0 t) (fun _ => bodyPost m c t) := by
  have hN : t.val < 136 := lt_of_lt_of_eq t.isLt (show cfg0.N = 136 from N_0)
  have hc1 : ¬cnd1 (grid0.coords t) := fun e => absurd ((hcnd1 t).mp e) (by omega)
  have hc2 : ¬cnd2 (grid0.coords t) := fun e => absurd ((hcnd2 t).mp e) (by omega)
  have hc3 : ¬cnd3 (grid0.coords t) := fun e => absurd ((hcnd3 t).mp e) (by omega)
  have hc4 : ¬cnd4 (grid0.coords t) := fun e => absurd ((hcnd4 t).mp e) (by omega)
  have hc5 : cnd5 (grid0.coords t) := (hcnd5 t).mpr (by omega)
  have hc6 : ¬cnd6 (grid0.coords t) := fun e => absurd ((hcnd6 t).mp e) (by omega)
  have hc7 : ¬cnd7 (grid0.coords t) := fun e => absurd ((hcnd7 t).mp e) (by omega)
  have hc8 : ¬cnd8 (grid0.coords t) := fun e => absurd ((hcnd8 t).mp e) (by omega)
  have hc9 : cnd9 (grid0.coords t) := (hcnd9 t).mpr (by omega)
  unfold bodyPre bodyPost bodyAt0
  simp only [bef_0, bef_1, bef_2, bef_3, bef_4, bef_5]
  rw [PhiR_castSucc m c t, PhiR_succ m c t, lv_0, lv_1, lv_2, lv_3, lv_4, lv_5]
  rw [lv_6 m c t (by omega), lv_7 m c t (by omega), lv_8 m c t (by omega)]
  unfold Dat.owesAt Pipeline.owesWithin
  rw [show (dats m 0 c).owed t.castSucc = 0 from rfl, show (dats m 0 c).owed t.succ = 0 from rfl]
  unfold PhiR
  rw [GU_free m c t.val (by omega), GU_main m c (t.val + 1) (by omega) (by omega) (by omega), WD_fly m c t.val (by omega), WD_free m c (t.val + 1) (by omega)]
  iintro ⟨⟨⟨%dA, HACT⟩, Hg, ⟨%y, %hy, HAM⟩, HGU, ⟨Hfd, Hnd⟩⟩, ⟨%W, -, HW⟩, ⟨%d0, H0⟩, ⟨%d1, H1⟩, ⟨%d2, H2⟩, ⟨%d3, H3⟩, ⟨%d4, H4⟩, ⟨%d5, H5⟩, H6, ⟨%d7, H7⟩, ⟨%d8, H8⟩⟩
  obtain rfl := hy (by omega)
  ihave HG := (gu_pair c (V m c main_arg3) (sg (t.val + 1)) (sg (t.val + 1 + 1)) (show (t.val + 1) % 17 % 2 ≠ (t.val + 1 + 1) % 17 % 2 by omega)).1 $$ HGU
  icases HG with ⟨⟨Hna, Hnb⟩, ⟨Hoa, Hob⟩⟩
  rw [bef_7 m c t (by omega) d7]
  rw [bef_8 m c t (by omega) d8]
  iapply (runG c t _ _ _ _ _ _ _ _ _ _ _ _ _ _ _ _ _ _ hc1 hc2 hc3 hc4 hc5 hc6 hc7 hc8 hc9 (iblk m c 1 t) (iblk m c 4 t) (iblk m c 5 t) (C4 m c (t.val / 17)) (AMat m c t.val) (V m c main_arg3) (V m c main_arg5) W _)
  isplitl [H1]; · iexact H1
  isplitl [H4]; · iexact H4
  isplitl [H5]; · iexact H5
  isplitl [H7]; · iexact H7
  isplitl [H6]; · icases H6 with ⟨%dz, H6⟩; iexists _; iexact H6
  isplitl [HAM]; · iexact HAM
  isplitl [Hfd]; · iexact Hfd
  isplitl [Hna]; · iexact Hna
  isplitl [Hnb]; · iexact Hnb
  isplitl [HW]; · iexact HW
  iintro ⟨H1, H4, H5, H7, H6, HAM, Hfa, Hfb, Hod, ⟨%W2, HW⟩⟩
  rw [AM_late m c t.val (by omega)]
  isplitl [HACT Hg HAM Hfa Hfb Hod Hoa Hob Hnd]
  · isplitl [HACT]; · iexists (ACTat m c t.val dA); rw [ACT_first m c (t.val + 1) (by omega)]; iexact HACT
    isplitl [Hg]; · iexact Hg
    isplitl [HAM]
    · iexists (AM m c (t.val / 17) 10); isplitr; · ipureintro; exact fun e => absurd e (by omega)
      iexact HAM
    isplitl [Hfa Hfb Hoa Hob]
    · isplitl [Hfa Hfb]
      · isplitl [Hfa]; · iexact Hfa
        iexact Hfb
      isplitl [Hoa]; · iexact Hoa
      iexact Hob
    iapply (dn_pair c (V m c main_arg5) (sd t.val) (sd (t.val + 1)) (show (t.val / 17 + t.val % 17) % 2 ≠ ((t.val + 1) / 17 + (t.val + 1) % 17) % 2 by omega)).2
    isplitl [Hod]; · iexact Hod
    iexact Hnd
  isplitl [HW]
  · iexists W2; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

end Cert.KernelIdeal.Ffn

end
-- ==== Proof.Ideal.RunH.lean ====
/- The body at the very last point. -/
module

public import proofs.«01_k».proof.Proof.Ideal.Pure
public import proofs.«01_k».proof.Proof.Ideal.Cut
public import Idealize.ShloMosaic.Lib.Tactic.Stretches

@[expose] public section

set_option maxRecDepth 16384

noncomputable section

namespace Cert.KernelIdeal.Ffn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 4000000 in
/-- The body at the very last point. -/
theorem runH (c : Dev nD) (t : Fin cfg0.N) (arg2 : Memref sig .tc .vmem S1024x3584 .fp8e4m3) (harg2 : arg2.IsWhole) (arg3 : Memref sig .tc .vmem S1024x128 .f32) (harg3 : arg3.IsWhole) (arg4 : Memref sig .tc .vmem S1x1x512 .f32) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1024x512 .f32) (harg7 : arg7.IsWhole) (arg10 : Memref sig .tc .vmem S1024x512 .bf16) (harg10 : arg10.IsWhole) (arg11 : Memref sig .tc .vmem S1024x4736 .fp8e4m3) (harg11 : arg11.IsWhole) (arg12 : Memref sig .tc .vmem S1x1x1024 .f32) (harg12 : arg12.IsWhole) (hc1 : ¬cnd1 (grid0.coords t)) (hc2 : ¬cnd2 (grid0.coords t)) (hc3 : ¬cnd3 (grid0.coords t)) (hc4 : ¬cnd4 (grid0.coords t)) (hc5 : ¬cnd5 (grid0.coords t)) (hc6 : ¬cnd6 (grid0.coords t)) (hc7 : ¬cnd7 (grid0.coords t)) (hc8 : ¬cnd8 (grid0.coords t)) (hc9 : cnd9 (grid0.coords t))
    (x1 : Vec F S1024x128 .f32) (x4 : Vec F S1x1x512 .f32) (x5 : Vec F S1024x512 .f32) (x7 : Vec F S1024x4736 .fp8e4m3) (y3 : Vec F S1024x128 .f32) (W1 : HbBuf0 (F := F) c hbM0_1) :
      ∀ (W : Waits sig Unit) (K : PUnit → sProp 𝕄),
        iprop(owns (c : Thread nD τ) arg3 fullShare x1 ∗ owns (c : Thread nD τ) arg6 fullShare x4 ∗ owns (c : Thread nD τ) arg7 fullShare x5 ∗ owns (c : Thread nD τ) arg11 fullShare x7 ∗ (∃ d, owns (c : Thread nD τ) arg10 fullShare d) ∗ owns (c : Thread nD τ) scM0_3 fullShare y3 ∗ flyD c W1 (sd t.val) (kd t.val) (td t.val) ∗ owes (c : Thread nD τ) 0 W
            ∗ (iprop(owns (c : Thread nD τ) arg3 fullShare x1 ∗ owns (c : Thread nD τ) arg6 fullShare x4 ∗ owns (c : Thread nD τ) arg7 fullShare x5 ∗ owns (c : Thread nD τ) arg11 fullShare x7 ∗ owns (c : Thread nD τ) arg10 fullShare (k0_pay74 x7 (gD W1 (kd t.val) (td t.val)) x5 (s3c y3) x4) ∗ owns (c : Thread nD τ) scM0_3 fullShare y3 ∗ freeD c W1 (sd t.val) ∗ (∃ W', owes (c : Thread nD τ) 0 W')) -∗ K ⟨⟩))
          ⊢ wp frame (wpE (defs₀ (F := F)) Variants.none c none) Set.univ (cc0_ffn (grid0.coords t) arg2 harg2 arg3 harg3 arg4 harg4 arg5 harg5 arg6 harg6 arg7 harg7 (Memref.whole main_arg3) (Memref.isWhole_whole _) (Memref.whole main_arg5) (Memref.isWhole_whole _) arg10 harg10 arg11 harg11 arg12 harg12 scM0_0 (Memref.isWhole_whole _) scM0_1 (Memref.isWhole_whole _) scM0_2 (Memref.isWhole_whole _) scM0_3 (Memref.isWhole_whole _) cc0_scratch4 cc0_scratch5) K := by
    intro W K
    haveI : Fact (¬cnd1 (grid0.coords t)) := ⟨hc1⟩
    haveI : Fact (¬cnd2 (grid0.coords t)) := ⟨hc2⟩
    haveI : Fact (¬cnd3 (grid0.coords t)) := ⟨hc3⟩
    haveI : Fact (¬cnd4 (grid0.coords t)) := ⟨hc4⟩
    haveI : Fact (¬cnd5 (grid0.coords t)) := ⟨hc5⟩
    haveI : Fact (¬cnd6 (grid0.coords t)) := ⟨hc6⟩
    haveI : Fact (¬cnd7 (grid0.coords t)) := ⟨hc7⟩
    haveI : Fact (¬cnd8 (grid0.coords t)) := ⟨hc8⟩
    haveI : Fact (cnd9 (grid0.coords t)) := ⟨hc9⟩
    simp only [cc0_ffn_eq_skeleton]; unfold cc0_ffn_skel
    simp only [k0_part19_eq_skeleton, k0_part18_eq_skeleton]
    unfold owns freeD flyD
    iintro ⟨⟨%f1, %hf1, H1⟩, ⟨%f4, %hf4, H4⟩, ⟨%f5, %hf5, H5⟩, ⟨%f7, %hf7, H7⟩, ⟨%d6, %f6, -, H6⟩, ⟨%g3, %hg3, HS3⟩, ⟨%fd, Hcfd, Hrfdw⟩, HW, Hk⟩
    obtain rfl := harg3.eq_unread hf1
    obtain rfl := harg6.eq_unread hf4
    obtain rfl := harg7.eq_unread hf5
    obtain rfl := harg11.eq_unread hf7
    sl_exec (disch := first | sl_exact hc1 | sl_exact hc2 | sl_exact hc3 | sl_exact hc4 | sl_exact hc5 | sl_exact hc6 | sl_exact hc7 | sl_exact hc8 | sl_exact hc9)
    sl_step
    iapply Hk
    isplitl [H1]
    · iexists _; isplitr; · ipureintro; exact harg3.read_unread _
      iexact H1
    isplitl [H4]
    · iexists _; isplitr; · ipureintro; exact harg6.read_unread _
      iexact H4
    isplitl [H5]
    · iexists _; isplitr; · ipureintro; exact harg7.read_unread _
      iexact H5
    isplitl [H7]
    · iexists _; isplitr; · ipureintro; exact harg11.read_unread _
      iexact H7
    isplitl [H6]
    · iexists _; isplitr; swap; · iexact H6
      ipureintro
      sl_open_run
      simp only [readAt_unread, ld_full, ld_full3, readD c (sd t.val) (kd t.val) (td t.val) _ (coff51 t hc9), View.readAt_eq_ld, hg3, harg6.read_unread, harg7.read_unread, harg11.read_unread]
      exact store_full2 arg10.view _ _ _ _
    isplitl [HS3]
    · iexists _; isplitr; · ipureintro; exact hg3
      iexact HS3
    isplitl [Hcfd Hcfd_dst Hcfd_src Hrfdw]
    · isplitl [Hcfd]; · iexact Hcfd
      isplitl [Hcfd_dst]; · iexists _; iexact Hcfd_dst
      iapply (splitD c W1 (sd t.val) (kd t.val) (td t.val)).2; isplitl [Hcfd_src]; · iexact Hcfd_src
      iexact Hrfdw
    iexists _; iexact HW

end Cert.KernelIdeal.Ffn

end
-- ==== Proof.Ideal.SoundH.lean ====
/- The body obligation at the points of case H. -/
module

public import proofs.«01_k».proof.Proof.Ideal.Inv
public import proofs.«01_k».proof.Proof.Ideal.RunH

@[expose] public section

set_option maxRecDepth 16384

noncomputable section

namespace Cert.KernelIdeal.Ffn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 2000000 in
theorem sound_H (c : Dev nD) (t : Fin cfg0.N) (h : t.val % 17 = 16 ∧ ¬ t.val < 135) :
    bodyPre m c t ⊢ wp frame (wpE (defs₀ (F := F)) Variants.none c none) Set.univ (bodyAt0 t) (fun _ => bodyPost m c t) := by
  have hN : t.val < 136 := lt_of_lt_of_eq t.isLt (show cfg0.N = 136 from N_0)
  have hc1 : ¬cnd1 (grid0.coords t) := fun e => absurd ((hcnd1 t).mp e) (by omega)
  have hc2 : ¬cnd2 (grid0.coords t) := fun e => absurd ((hcnd2 t).mp e) (by omega)
  have hc3 : ¬cnd3 (grid0.coords t) := fun e => absurd ((hcnd3 t).mp e) (by omega)
  have hc4 : ¬cnd4 (grid0.coords t) := fun e => absurd ((hcnd4 t).mp e) (by omega)
  have hc5 : ¬cnd5 (grid0.coords t) := fun e => absurd ((hcnd5 t).mp e) (by omega)
  have hc6 : ¬cnd6 (grid0.coords t) := fun e => absurd ((hcnd6 t).mp e) (by omega)
  have hc7 : ¬cnd7 (grid0.coords t) := fun e => absurd ((hcnd7 t).mp e) (by omega)
  have hc8 : ¬cnd8 (grid0.coords t) := fun e => absurd ((hcnd8 t).mp e) (by omega)
  have hc9 : cnd9 (grid0.coords t) := (hcnd9 t).mpr (by omega)
  unfold bodyPre bodyPost bodyAt0
  simp only [bef_0, bef_1, bef_2, bef_3, bef_4, bef_5]
  rw [PhiR_castSucc m c t, PhiR_succ m c t, lv_0, lv_1, lv_2, lv_3, lv_4, lv_5]
  rw [lv_6 m c t (by omega), lv_7 m c t (by omega), lv_8 m c t (by omega)]
  unfold Dat.owesAt Pipeline.owesWithin
  rw [show (dats m 0 c).owed t.castSucc = 0 from rfl, show (dats m 0 c).owed t.succ = 0 from rfl]
  unfold PhiR
  rw [GU_free m c t.val (by omega), GU_free m c (t.val + 1) (by omega), WD_fly m c t.val (by omega), WD_free m c (t.val + 1) (by omega)]
  iintro ⟨⟨⟨%dA, HACT⟩, Hg, ⟨%y, %hy, HAM⟩, HGU, ⟨Hfd, Hnd⟩⟩, ⟨%W, -, HW⟩, ⟨%d0, H0⟩, ⟨%d1, H1⟩, ⟨%d2, H2⟩, ⟨%d3, H3⟩, ⟨%d4, H4⟩, ⟨%d5, H5⟩, H6, ⟨%d7, H7⟩, ⟨%d8, H8⟩⟩
  obtain rfl := hy (by omega)
  rw [bef_7 m c t (by omega) d7]
  rw [bef_8 m c t (by omega) d8]
  iapply (runH c t _ _ _ _ _ _ _ _ _ _ _ _ _ _ _ _ _ _ hc1 hc2 hc3 hc4 hc5 hc6 hc7 hc8 hc9 (iblk m c 1 t) (iblk m c 4 t) (iblk m c 5 t) (C4 m c (t.val / 17)) (AMat m c t.val) (V m c main_arg5) W _)
  isplitl [H1]; · iexact H1
  isplitl [H4]; · iexact H4
  isplitl [H5]; · iexact H5
  isplitl [H7]; · iexact H7
  isplitl [H6]; · icases H6 with ⟨%dz, H6⟩; iexists _; iexact H6
  isplitl [HAM]; · iexact HAM
  isplitl [Hfd]; · iexact Hfd
  isplitl [HW]; · iexact HW
  iintro ⟨H1, H4, H5, H7, H6, HAM, Hod, ⟨%W2, HW⟩⟩
  rw [AM_late m c t.val (by omega)]
  isplitl [HACT Hg HAM Hod HGU Hnd]
  · isplitl [HACT]; · iexists (ACTat m c t.val dA); rw [ACT_first m c (t.val + 1) (by omega)]; iexact HACT
    isplitl [Hg]; · iexact Hg
    isplitl [HAM]
    · iexists (AM m c (t.val / 17) 10); isplitr; · ipureintro; exact fun e => absurd e (by omega)
      iexact HAM
    isplitl [HGU]; · iexact HGU
    iapply (dn_pair c (V m c main_arg5) (sd t.val) (sd (t.val + 1)) (show (t.val / 17 + t.val % 17) % 2 ≠ ((t.val + 1) / 17 + (t.val + 1) % 17) % 2 by omega)).2
    isplitl [Hod]; · iexact Hod
    iexact Hnd
  isplitl [HW]
  · iexists W2; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

end Cert.KernelIdeal.Ffn

end
-- ==== Proof.Ideal.Frame.lean ====
/- The frame of the feed-forward kernel: every run ends, the arguments unchanged, every counter at zero, the results at what the proof data says. -/
module

public import proofs.«01_k».proof.Proof.Ideal.SoundA
public import proofs.«01_k».proof.Proof.Ideal.SoundB
public import proofs.«01_k».proof.Proof.Ideal.SoundC
public import proofs.«01_k».proof.Proof.Ideal.SoundD
public import proofs.«01_k».proof.Proof.Ideal.SoundE
public import proofs.«01_k».proof.Proof.Ideal.SoundF
public import proofs.«01_k».proof.Proof.Ideal.SoundG
public import proofs.«01_k».proof.Proof.Ideal.SoundH
public import Idealize.ShloMosaic.Lib.Claim

@[expose] public section

set_option maxRecDepth 16384

noncomputable section

namespace Cert.KernelIdeal.Ffn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The body at any point, by cases. -/
theorem sound_body (c : Dev nD) (t : Fin cfg0.N) :
    bodyPre m c t ⊢ wp frame (wpE (defs₀ (F := F)) Variants.none c none) Set.univ (bodyAt0 t) (fun _ => bodyPost m c t) := by
  by_cases hA : t.val = 0
  · exact sound_A m c t hA
  by_cases hB : t.val % 17 = 0
  · exact sound_B m c t ⟨hB, hA⟩
  by_cases hC : t.val % 17 < 8
  · exact sound_C m c t ⟨Nat.pos_of_ne_zero hB, hC⟩
  by_cases hD : t.val % 17 = 8
  · exact sound_D m c t hD
  by_cases hE : t.val % 17 = 9
  · exact sound_E m c t hE
  by_cases hF : t.val % 17 < 16
  · exact sound_F m c t ⟨by omega, hF⟩
  by_cases hG : t.val < 135
  · exact sound_G m c t ⟨by omega, hG⟩
  · exact sound_H m c t ⟨by omega, hG⟩

/-- The library's body obligation. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point, -/
theorem hin (c : Dev nD) : Pipeline.ΦD osem0 spec0 H0 (V m) c ⊢ (dats m 0 c).Φ 0 := by
  rw [PhiD0_eq, show (dats m 0 c).Φ 0 = PhiR m c 0 from rfl]
  unfold PhiR
  rw [GU_free m c 0 (Or.inl rfl), WD_free m c 0 (by decide)]
  iintro ⟨⟨⟨%d, HS0⟩, HS1, HS2, ⟨%y, HS3⟩⟩, Hg, ⟨Q0, Q1, Q2, Q3, Q4, Q5⟩, HW0, HW1⟩
  isplitl [HS0]; · iexists d; rw [ACT_first m c 0 rfl]; iexact HS0
  isplitl [Hg]; · iexact Hg
  isplitl [HS3]
  · iexists y; isplitr; · ipureintro; exact fun e => absurd e (by decide)
    iexact HS3
  isplitl [HS1 Q0 Q1 Q2 Q3 HW0]
  · iapply (gu_in (F := F) c (V m c main_arg3))
    isplitl [HS1]; · iexact HS1
    isplitl [Q0 Q1 Q2 Q3]
    · isplitl [Q0]; · iexact Q0
      isplitl [Q1]; · iexact Q1
      isplitl [Q2]; · iexact Q2
      iexact Q3
    iexact HW0
  · iapply (dn_in (F := F) c (V m c main_arg5))
    isplitl [HS2]; · iexact HS2
    isplitl [Q4 Q5]
    · isplitl [Q4]; · iexact Q4
      iexact Q5
    iexact HW1
/-- and the invariant after the last point hands it back. -/
theorem hout (c : Dev nD) : (dats m 0 c).Φ (Fin.last cfg0.N) ⊢ Pipeline.ΦD osem0 spec0 H0 (V m) c := by
  rw [PhiD0_eq, show (dats m 0 c).Φ (Fin.last cfg0.N) = PhiR m c grid0.N from rfl]
  unfold PhiR
  rw [show grid0.N = 136 from N_0, GU_free m c 136 (Or.inr (Or.inl le_rfl)), WD_free m c 136 (by decide)]
  iintro ⟨⟨%d, HS0⟩, Hg, ⟨%y, -, HS3⟩, HGU, HWD⟩
  ihave HX := (gu_out (F := F) c (V m c main_arg3)) $$ HGU
  icases HX with ⟨HS1, ⟨Q0, Q1, Q2, Q3⟩, HW0⟩
  ihave HX := (dn_out (F := F) c (V m c main_arg5)) $$ HWD
  icases HX with ⟨HS2, ⟨Q4, Q5⟩, HW1⟩
  isplitl [HS0 HS1 HS2 HS3]
  · isplitl [HS0]; · iexists _; iexact HS0
    isplitl [HS1]; · iexact HS1
    isplitl [HS2]; · iexact HS2
    iexists y; iexact HS3
  isplitl [Hg]; · iexact Hg
  isplitl [Q0 Q1 Q2 Q3 Q4 Q5]
  · isplitl [Q0]; · iexact Q0
    isplitl [Q1]; · iexact Q1
    isplitl [Q2]; · iexact Q2
    isplitl [Q3]; · iexact Q3
    isplitl [Q4]; · iexact Q4
    iexact Q5
  isplitl [HW0]; · iexact HW0
  iexact HW1

set_option backward.isDefEq.respectTransparency.types false in
/-- The launch: every run ends with the arrays at what the proof data says, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m) (hin := hin m) (hout := hout m)
theorem run_main : θ_run defs (onTc (τ := τ) (main (F := F))) (s₀ m ρ) (Pipeline.FramePost cfgs (dats m) 0 (V m)) :=
  (θ_run defs _ _).mono (fun _ h => h.1) (run_main_quiescent m ρ)
/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6)) :=
  frame_of m ρ (dats m) (A_eq m) (run_main m ρ)
/-- The frame: the arguments end unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.KernelIdeal.Ffn

end
-- ==== Proof.Printed.lean ====
/- The frame of the printed feed-forward kernel. No operation was rewritten in idealizing it, so the two programs are one, and the frame proved of the idealization is its frame. -/
module

public import proofs.«01_k».proof.Proof.Ideal.Frame
public import proofs.«01_k».proof.Proof.Gen.Kernel

@[expose] public section

set_option maxRecDepth 100000
set_option maxHeartbeats 4000000

noncomputable section

namespace Cert.Kernel.Ffn

open Cert.Kernel.Gen
open Idealize.ShloMosaic Idealize.ShloMosaic.TcCoe Idealize.SL.Sem

variable {F : FTy → Type} [FloatOps F]

/-- The printed kernel and its idealization are the same program. -/
theorem main_eq : Cert.Kernel.main (F := F) = Cert.KernelIdeal.main (F := F) := rfl

/-- The kernels' bodies are the same at every label. -/
theorem defs0_eq : Cert.Kernel.defs₀ (F := F) = Cert.KernelIdeal.defs₀ (F := F) := by
  unfold Cert.Kernel.defs₀ Cert.KernelIdeal.defs₀
  refine congrArg Defs.onTc ?_
  funext l a
  obtain ⟨l, hl⟩ := l
  obtain _ | l := l
  · obtain ⟨t, s⟩ := a
    rfl
  · exact absurd hl (Nat.not_lt.2 (Nat.le_add_left _ _))

/-- The body tables, with the pipeline's own bodies, are the same. -/
theorem defs_eq : Cert.Kernel.defs (F := F) = Cert.KernelIdeal.defs (F := F) :=
  congrArg (Pipeline.defs (Cert.KernelIdeal.pcfgs (F := F))) defs0_eq

/-- The frame of the printed kernel: the arguments end unchanged, every counter at zero. It is the same program as its idealization, so the frame is the one proved there, at any interpretation of the floats. -/
theorem frame (m : (ℓ : Loc nD τ sig) → Buf (Elt F) ℓ) (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6))
      ∧ r.2.sem = fun _ => 0) := by
  have h := Cert.KernelIdeal.Ffn.frame (F := F) m ρ
  rw [← defs_eq] at h
  exact h

end Cert.Kernel.Ffn

end
-- ==== Proof.Ideal.Reads.lean ====
/- What the kernel reads, at coordinates: the blocks of its windows and the tiles of its weights, as elements of the argument arrays. -/
module

public import proofs.«01_k».proof.Proof.Ideal.Model
public import Idealize.ShloMosaic.Lib.Pointwise.Tactic
public import Idealize.ShloMosaic.Lib.Pipeline.ValueKit.Geometry

@[expose] public section

set_option maxRecDepth 16384

noncomputable section

namespace Cert.KernelIdeal.Ffn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## Which block each window is on -/

/-- Window 0: the block at point `t`. -/
theorem index_0 : ∀ t : Fin cfg0.N, win0_0.index t = ![t.val / 17, 0] := (by decide +kernel : ∀ t : Fin grid0.N, _)
/-- Window 1: the block at point `t`. -/
theorem index_1 : ∀ t : Fin cfg0.N, win0_1.index t = ![t.val / 17, 0] := (by decide +kernel : ∀ t : Fin grid0.N, _)
/-- Window 2: the block at point `t`. -/
theorem index_2 : ∀ t : Fin cfg0.N, win0_2.index t = ![(kd t.val).val, 0, min (t.val % 17) 9] := (by decide +kernel : ∀ t : Fin grid0.N, _)
/-- Window 3: the block at point `t`. -/
theorem index_3 : ∀ t : Fin cfg0.N, win0_3.index t = ![(kd t.val).val, 0, min (t.val % 17) 9] := (by decide +kernel : ∀ t : Fin grid0.N, _)
/-- Window 4: the block at point `t`. -/
theorem index_4 : ∀ t : Fin cfg0.N, win0_4.index t = ![(kd t.val).val, 0, t.val % 17 - 10] := (by decide +kernel : ∀ t : Fin grid0.N, _)
/-- Window 5: the block at point `t`. -/
theorem index_5 : ∀ t : Fin cfg0.N, win0_5.index t = ![t.val / 17, t.val % 17 - 10] := (by decide +kernel : ∀ t : Fin grid0.N, _)
/-- Window 6: the block at point `t`. -/
theorem index_6 : ∀ t : Fin cfg0.N, win0_6.index t = ![t.val / 17, t.val % 17 - 10] := (by decide +kernel : ∀ t : Fin grid0.N, _)
/-- Window 7: the block at point `t`. -/
theorem index_7 : ∀ t : Fin cfg0.N, win0_7.index t = ![t.val / 17, 0] := (by decide +kernel : ∀ t : Fin grid0.N, _)
/-- Window 8: the block at point `t`. -/
theorem index_8 : ∀ t : Fin cfg0.N, win0_8.index t = ![t.val / 17, 0, 0] := (by decide +kernel : ∀ t : Fin grid0.N, _)

/-! ## The tiles of the weights -/

theorem gA_at (W : hbM0_0.view.ty.Contents (Elt Ideal)) (k : Fin 2) (b : Fin 9) (s : Fin 2) (p : Fin 3584) (q : Fin 256) (h : 512 * b.val + 256 * s.val + q.val < 9472) :
    gA W k b s (ix3 0 p q) = W (ix3 k p ⟨512 * b.val + 256 * s.val + q.val, h⟩) := by
  unfold gA
  rw [View.readAt_apply]
  show W _ = W _
  refine congrArg W (funext fun a => Fin.ext ?_)
  match a with
  | ⟨0, _⟩ => show k.val + 1 * 0 = k.val; omega
  | ⟨1, _⟩ => show 0 + 1 * p.val = p.val; omega
  | ⟨2, _⟩ => show 512 * b.val + 256 * s.val + 1 * q.val = 512 * b.val + 256 * s.val + q.val; omega
theorem gB_at (W : hbM0_0.view.ty.Contents (Elt Ideal)) (k : Fin 2) (b : Fin 9) (s : Fin 2) (p : Fin 3584) (q : Fin 256) (h : 4736 + 512 * b.val + 256 * s.val + q.val < 9472) :
    gB W k b s (ix3 0 p q) = W (ix3 k p ⟨4736 + 512 * b.val + 256 * s.val + q.val, h⟩) := by
  unfold gB
  rw [View.readAt_apply]
  show W _ = W _
  refine congrArg W (funext fun a => Fin.ext ?_)
  match a with
  | ⟨0, _⟩ => show k.val + 1 * 0 = k.val; omega
  | ⟨1, _⟩ => show 0 + 1 * p.val = p.val; omega
  | ⟨2, _⟩ => show 4736 + 512 * b.val + 256 * s.val + 1 * q.val = 4736 + 512 * b.val + 256 * s.val + q.val; omega
theorem hA_at (W : hbM0_0.view.ty.Contents (Elt Ideal)) (k : Fin 2) (p : Fin 3584) (q : Fin 128) (h : 4608 + q.val < 9472) :
    hA W k (ix3 0 p q) = W (ix3 k p ⟨4608 + q.val, h⟩) := by
  unfold hA
  rw [View.readAt_apply]
  show W _ = W _
  refine congrArg W (funext fun a => Fin.ext ?_)
  match a with
  | ⟨0, _⟩ => show k.val + 1 * 0 = k.val; omega
  | ⟨1, _⟩ => show 0 + 1 * p.val = p.val; omega
  | ⟨2, _⟩ => show 4608 + 1 * q.val = 4608 + q.val; omega
theorem hB_at (W : hbM0_0.view.ty.Contents (Elt Ideal)) (k : Fin 2) (p : Fin 3584) (q : Fin 128) (h : 9344 + q.val < 9472) :
    hB W k (ix3 0 p q) = W (ix3 k p ⟨9344 + q.val, h⟩) := by
  unfold hB
  rw [View.readAt_apply]
  show W _ = W _
  refine congrArg W (funext fun a => Fin.ext ?_)
  match a with
  | ⟨0, _⟩ => show k.val + 1 * 0 = k.val; omega
  | ⟨1, _⟩ => show 0 + 1 * p.val = p.val; omega
  | ⟨2, _⟩ => show 9344 + 1 * q.val = 9344 + q.val; omega
theorem gD_at (W : hbM0_1.view.ty.Contents (Elt Ideal)) (k : Fin 2) (b : Fin 7) (p : Fin 4736) (q : Fin 512) (h : 512 * b.val + q.val < 3584) :
    gD W k b (ix3 0 p q) = W (ix3 k p ⟨512 * b.val + q.val, h⟩) := by
  unfold gD
  rw [View.readAt_apply]
  show W _ = W _
  refine congrArg W (funext fun a => Fin.ext ?_)
  match a with
  | ⟨0, _⟩ => show k.val + 1 * 0 = k.val; omega
  | ⟨1, _⟩ => show 0 + 1 * p.val = p.val; omega
  | ⟨2, _⟩ => show 512 * b.val + 1 * q.val = 512 * b.val + q.val; omega

/-! ## The blocks of the windows -/

variable (mi : (ℓ : Loc nD τ sig) → Buf (Elt Ideal) ℓ)

theorem blk_0 (c : Dev nD) (t : Fin cfg0.N) (p : Fin 1024) (q : Fin 3584) (h : 1024 * (t.val / 17) + p.val < 8192) :
    iblk mi c 0 t (ix2 p q) = V mi c main_arg0 (ix2 ⟨1024 * (t.val / 17) + p.val, h⟩ q) := by
  blk_simp [iblk]
  refine congrArg (V mi c main_arg0) (funext fun a => Fin.ext ?_)
  match a with
  | ⟨0, _⟩ => blk_simp [index_0] <;> (show _ = _; simp; omega)
  | ⟨1, _⟩ => blk_simp [index_0]
theorem blk_1 (c : Dev nD) (t : Fin cfg0.N) (p : Fin 1024) (q : Fin 128) (h : 1024 * (t.val / 17) + p.val < 8192) :
    iblk mi c 1 t (ix2 p q) = V mi c main_arg1 (ix2 ⟨1024 * (t.val / 17) + p.val, h⟩ q) := by
  blk_simp [iblk]
  refine congrArg (V mi c main_arg1) (funext fun a => Fin.ext ?_)
  match a with
  | ⟨0, _⟩ => blk_simp [index_1] <;> (show _ = _; simp; omega)
  | ⟨1, _⟩ => blk_simp [index_1]
theorem blk_2 (c : Dev nD) (t : Fin cfg0.N) (q : Fin 512) (h : 512 * min (t.val % 17) 9 + q.val < 5120) :
    iblk mi c 2 t (ix3 0 0 q) = V mi c main_v2 (ix3 (kd t.val) 0 ⟨512 * min (t.val % 17) 9 + q.val, h⟩) := by
  blk_simp [iblk]
  refine congrArg (V mi c main_v2) (funext fun a => Fin.ext ?_)
  match a with
  | ⟨0, _⟩ => blk_simp [index_2] <;> rfl
  | ⟨1, _⟩ => blk_simp [index_2]
  | ⟨2, _⟩ => blk_simp [index_2] <;> (show _ = _; simp; omega)
theorem blk_3 (c : Dev nD) (t : Fin cfg0.N) (q : Fin 512) (h : 512 * min (t.val % 17) 9 + q.val < 5120) :
    iblk mi c 3 t (ix3 0 0 q) = V mi c main_v3 (ix3 (kd t.val) 0 ⟨512 * min (t.val % 17) 9 + q.val, h⟩) := by
  blk_simp [iblk]
  refine congrArg (V mi c main_v3) (funext fun a => Fin.ext ?_)
  match a with
  | ⟨0, _⟩ => blk_simp [index_3] <;> rfl
  | ⟨1, _⟩ => blk_simp [index_3]
  | ⟨2, _⟩ => blk_simp [index_3] <;> (show _ = _; simp; omega)
theorem blk_4 (c : Dev nD) (t : Fin cfg0.N) (q : Fin 512) (h : 512 * (t.val % 17 - 10) + q.val < 3584) :
    iblk mi c 4 t (ix3 0 0 q) = V mi c main_v4 (ix3 (kd t.val) 0 ⟨512 * (t.val % 17 - 10) + q.val, h⟩) := by
  blk_simp [iblk]
  refine congrArg (V mi c main_v4) (funext fun a => Fin.ext ?_)
  match a with
  | ⟨0, _⟩ => blk_simp [index_4] <;> rfl
  | ⟨1, _⟩ => blk_simp [index_4]
  | ⟨2, _⟩ => blk_simp [index_4] <;> (show _ = _; simp; omega)
theorem blk_5 (c : Dev nD) (t : Fin cfg0.N) (p : Fin 1024) (q : Fin 512) (h : 1024 * (t.val / 17) + p.val < 8192) (h2 : 512 * (t.val % 17 - 10) + q.val < 3584) :
    iblk mi c 5 t (ix2 p q) = V mi c main_arg2 (ix2 ⟨1024 * (t.val / 17) + p.val, h⟩ ⟨512 * (t.val % 17 - 10) + q.val, h2⟩) := by
  blk_simp [iblk]
  refine congrArg (V mi c main_arg2) (funext fun a => Fin.ext ?_)
  match a with
  | ⟨0, _⟩ => blk_simp [index_5] <;> (show _ = _; simp; omega)
  | ⟨1, _⟩ => blk_simp [index_5] <;> (show _ = _; simp; omega)

/-! ## What the host leaves in the scale arrays -/

theorem cast_split (x : S2x9472.Idx → EReal) (h : S2x9472.ShapeCasts S2x2x4736) (k o : Fin 2) (q : Fin 4736) (hq : 4736 * o.val + q.val < 9472) :
    shapeCast S2x2x4736 x h (ix3 k o q) = x (ix2 k ⟨4736 * o.val + q.val, hq⟩) := by
  refine shapeCast_apply x h _ _ ?_
  rw [Shape.rowMajor_val_two, Shape.rowMajor_val_three]
  show k.val * 9472 + (4736 * o.val + q.val) = (k.val * 2 + o.val) * 4736 + q.val
  omega
theorem cast_mid (x : S2x3584.Idx → EReal) (h : S2x3584.ShapeCasts S2x1x3584) (k : Fin 2) (q : Fin 3584) :
    shapeCast S2x1x3584 x h (ix3 k 0 q) = x (ix2 k q) := by
  refine shapeCast_apply x h _ _ ?_
  rw [Shape.rowMajor_val_two, Shape.rowMajor_val_three]
  show k.val * 3584 + q.val = (k.val * 1 + 0) * 3584 + q.val
  omega
theorem v2_at (c : Dev nD) (k : Fin 2) (q : Fin 5120) (h : q.val < 4736) :
    V mi c main_v2 (ix3 k 0 q) = mi (c, main_arg4) (ix2 k ⟨q.val, by omega⟩) := by
  show StableHlo.after (hostOps0 ++ (hostOps0_1 ++ (hostOps0_2 ++ []))) _ _ _ = _
  simp only [hostOps0, hostOps0_1, hostOps0_2, List.cons_append, List.nil_append]
  after_results_simp
  show extractStridedSlice S2x1x5120 ![0, 0, 0] (pad S2x2x5120 ![0, 0, 0] ![0, 0, 384] ![0, 0, 0] (shapeCast S2x2x4736 (mi (c, Proc.tc.devRef main_arg4) : S2x9472.Idx → EReal) shapeCasts_S2x9472_S2x2x4736) (sitofp (F := Ideal) FTy.f32 (constantI S_ 32 0#32)) pads_S2x2x4736_S2x2x5120_000_000_03840 h_S_) slices_S2x2x5120_S2x1x5120_0_0_0 (ix3 k 0 q) = _
  pointwise
  rw [dif_pos h]
  exact (cast_split _ _ k 0 ⟨q.val, h⟩ (by simp; omega)).trans (congrArg _ (congrArg (ix2 k) (Fin.ext (by simp))))
theorem v3_at (c : Dev nD) (k : Fin 2) (q : Fin 5120) (h : q.val < 4736) :
    V mi c main_v3 (ix3 k 0 q) = mi (c, main_arg4) (ix2 k ⟨4736 + q.val, by omega⟩) := by
  show StableHlo.after (hostOps0 ++ (hostOps0_1 ++ (hostOps0_2 ++ []))) _ _ _ = _
  simp only [hostOps0, hostOps0_1, hostOps0_2, List.cons_append, List.nil_append]
  after_results_simp
  show extractStridedSlice S2x1x5120 ![0, 1, 0] (pad S2x2x5120 ![0, 0, 0] ![0, 0, 384] ![0, 0, 0] (shapeCast S2x2x4736 (mi (c, Proc.tc.devRef main_arg4) : S2x9472.Idx → EReal) shapeCasts_S2x9472_S2x2x4736) (sitofp (F := Ideal) FTy.f32 (constantI S_ 32 0#32)) pads_S2x2x4736_S2x2x5120_000_000_03840 h_S_) slices_S2x2x5120_S2x1x5120_0_1_0 (ix3 k 0 q) = _
  pointwise
  rw [dif_pos h]
  exact (cast_split _ _ k 1 ⟨q.val, h⟩ (by simp; omega)).trans (congrArg _ (congrArg (ix2 k) (Fin.ext (by simp))))
theorem v4_at (c : Dev nD) (k : Fin 2) (q : Fin 3584) :
    V mi c main_v4 (ix3 k 0 q) = mi (c, main_arg6) (ix2 k q) := by
  show StableHlo.after (hostOps0 ++ (hostOps0_1 ++ (hostOps0_2 ++ []))) _ _ _ = _
  simp only [hostOps0, hostOps0_1, hostOps0_2, List.cons_append, List.nil_append]
  after_results_simp
  show shapeCast S2x1x3584 (mi (c, Proc.tc.devRef main_arg6) : S2x3584.Idx → EReal) shapeCasts_S2x3584_S2x1x3584 (ix3 k 0 q) = _
  exact cast_mid _ _ k q

end Cert.KernelIdeal.Ffn

end
-- ==== Proof.Spec.lean ====
/- What the feed-forward block of the layer computes, over the extended reals: the gated activations of a token from its codes,
   its scale, its weights; the token's scale; its codes; and the output. -/
module

public import Idealize.ShloMosaic.Lib.Pointwise.Tactic

@[expose] public section

noncomputable section

namespace Cert.Spec

open Idealize.ShloMosaic

/-- A matrix of extended reals; -/
abbrev A2 (a b : ℕ) := (⟨2, ![a, b]⟩ : Shape).Idx → EReal
/-- a stack of matrices. -/
abbrev A3 (a b c : ℕ) := (⟨3, ![a, b, c]⟩ : Shape).Idx → EReal

variable (x0 : A2 8192 3584) (x1 : A2 8192 128) (x2 : A2 8192 3584) (x3 : A3 2 3584 9472) (x4 : A2 2 9472) (x5 : A3 2 4736 3584) (x6 : A2 2 3584)

/-- Which of the two sets of weights a token takes: the first 1024 tokens take the first. -/
def kr (r : Fin 8192) : Fin 2 := ⟨min (r.val / 1024) 1, by omega⟩

/-- A token's product with a column of the gate and up weights, scaled. -/
def gu (r : Fin 8192) (n : Fin 9472) : EReal := (∑ k : Fin 3584, x0 (ix2 r k) * x3 (ix3 (kr r) k n)) * x1 (ix2 r 0) * x4 (ix2 (kr r) n)

/-- The gated activation. -/
def act (r : Fin 8192) (n : Fin 4736) : EReal :=
  gu x0 x1 x3 x4 r ⟨n.val, by omega⟩ * Ideal.logistic (gu x0 x1 x3 x4 r ⟨n.val, by omega⟩) * gu x0 x1 x3 x4 r ⟨4736 + n.val, by omega⟩

/-- The largest magnitude of a token's activations. -/
def mx (r : Fin 8192) : EReal := Finset.univ.fold max (Ideal.ofBits .f32 4286578688#32) (fun n : Fin 4736 => FloatOps.absf (F := Ideal) (φ := .f32) (act x0 x1 x3 x4 r n))

/-- The scale of a token with largest magnitude `a`. -/
def scOf (a : EReal) : EReal := if 0 < a then Ideal.div a (Ideal.ofBits .f32 1138753536#32) else 1

/-- The scale of a token. -/
def sc (r : Fin 8192) : EReal := scOf (mx x0 x1 x3 x4 r)

/-- The code of an activation. -/
def code (r : Fin 8192) (n : Fin 4736) : EReal :=
  min (Ideal.ofBits .f32 1138753536#32) (max (Ideal.ofBits .f32 3286237184#32) (Ideal.div (act x0 x1 x3 x4 r n) (sc x0 x1 x3 x4 r)))

/-- The output. -/
def out (r : Fin 8192) (d : Fin 3584) : EReal :=
  x2 (ix2 r d) + (∑ n : Fin 4736, code x0 x1 x3 x4 r n * x5 (ix3 (kr r) n d)) * sc x0 x1 x3 x4 r * x6 (ix2 (kr r) d)

end Cert.Spec

end
-- ==== Proof.Ideal.Acts.lean ====
/- The activations of the kernel, at coordinates, are those of the specification. -/
module

public import proofs.«01_k».proof.Proof.Ideal.Reads
public import proofs.«01_k».proof.Proof.Spec
public import Idealize.ShloMosaic.Lib.Pointwise

@[expose] public section

set_option maxRecDepth 16384

noncomputable section

namespace Cert.KernelIdeal.Ffn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

variable (mi : (ℓ : Loc nD τ sig) → Buf (Elt Ideal) ℓ)

theorem main0_ix (y0 : Vec Ideal S1024x3584 .fp8e4m3) (y1 : Vec Ideal S1024x128 .f32) (y2 y3 : Vec Ideal S1x1x512 .f32) (W : hbM0_0.view.ty.Contents (Elt Ideal)) (k : Fin 2) (b : Fin 9) (p : Fin 1024) (q : Fin 256)
    (a wa wb : Fin 3584 → EReal) (s sg su ga gb : EReal) (h0 : ∀ x, y0 (ix2 p x) = a x) (hA : ∀ x, gA W k b 0 (ix3 0 x q) = wa x) (hB : ∀ x, gB W k b 0 (ix3 0 x q) = wb x)
    (h1 : y1 (ix2 p 0) = s) (h2 : y2 (ix3 0 0 ⟨q.val, by omega⟩) = sg) (h3 : y3 (ix3 0 0 ⟨q.val, by omega⟩) = su)
    (hg : (∑ x, a x * wa x) * s * sg = ga) (hu : (∑ x, a x * wb x) * s * su = gb) :
    main0 y0 y1 y2 y3 W k b (ix2 p q) = ga * Ideal.logistic ga * gb := by
  subst hg hu
  unfold main0 s3c cs0
  pointwise [k0_pay3, k0_pay2]
  simp only [h0, hA, hB, h1, h2, h3]

theorem main1_ix (y0 : Vec Ideal S1024x3584 .fp8e4m3) (y1 : Vec Ideal S1024x128 .f32) (y2 y3 : Vec Ideal S1x1x512 .f32) (W : hbM0_0.view.ty.Contents (Elt Ideal)) (k : Fin 2) (b : Fin 9) (p : Fin 1024) (q : Fin 256)
    (a wa wb : Fin 3584 → EReal) (s sg su ga gb : EReal) (h0 : ∀ x, y0 (ix2 p x) = a x) (hA : ∀ x, gA W k b 1 (ix3 0 x q) = wa x) (hB : ∀ x, gB W k b 1 (ix3 0 x q) = wb x)
    (h1 : y1 (ix2 p 0) = s) (h2 : y2 (ix3 0 0 ⟨256 + q.val, by omega⟩) = sg) (h3 : y3 (ix3 0 0 ⟨256 + q.val, by omega⟩) = su)
    (hg : (∑ x, a x * wa x) * s * sg = ga) (hu : (∑ x, a x * wb x) * s * su = gb) :
    main1 y0 y1 y2 y3 W k b (ix2 p q) = ga * Ideal.logistic ga * gb := by
  subst hg hu
  unfold main1 s3c cs1
  pointwise [k0_pay3, k0_pay2]
  simp only [h0, hA, hB, h1, h2, h3]

theorem tailV_ix (y0 : Vec Ideal S1024x3584 .fp8e4m3) (y1 : Vec Ideal S1024x128 .f32) (y2 y3 : Vec Ideal S1x1x512 .f32) (W : hbM0_0.view.ty.Contents (Elt Ideal)) (k : Fin 2) (p : Fin 1024) (q : Fin 128)
    (a wa wb : Fin 3584 → EReal) (s sg su ga gb : EReal) (h0 : ∀ x, y0 (ix2 p x) = a x) (hA : ∀ x, hA W k (ix3 0 x q) = wa x) (hB : ∀ x, hB W k (ix3 0 x q) = wb x)
    (h1 : y1 (ix2 p 0) = s) (h2 : y2 (ix3 0 0 ⟨q.val, by omega⟩) = sg) (h3 : y3 (ix3 0 0 ⟨q.val, by omega⟩) = su)
    (hg : (∑ x, a x * wa x) * s * sg = ga) (hu : (∑ x, a x * wb x) * s * su = gb) :
    tailV y0 y1 y2 y3 W k (ix2 p q) = ga * Ideal.logistic ga * gb := by
  subst hg hu
  unfold tailV s3c csT
  pointwise [k0_pay15, k0_pay12, k0_pay13, k0_pay14]
  simp only [h0, hA, hB, h1, h2, h3]

section
variable (c : Dev nD)
/-- The specification's activations, of the argument arrays; -/
def aS (r : Fin 8192) (n : Fin 4736) : EReal := Spec.act (mi (c, main_arg0)) (mi (c, main_arg1)) (mi (c, main_arg3)) (mi (c, main_arg4)) r n
/-- its products; -/
def gS (r : Fin 8192) (n : Fin 9472) : EReal := Spec.gu (mi (c, main_arg0)) (mi (c, main_arg1)) (mi (c, main_arg3)) (mi (c, main_arg4)) r n
theorem aS_eq (r : Fin 8192) (n : Fin 4736) (a b : Fin 9472) (ha : a.val = n.val) (hb : b.val = 4736 + n.val) :
    gS mi c r a * Ideal.logistic (gS mi c r a) * gS mi c r b = aS mi c r n := by
  obtain ⟨a, h1⟩ := a; obtain ⟨b, h2⟩ := b
  dsimp only at ha hb; subst ha hb; rfl
/-- The row of the arrays that row `p` of point `t`'s block is. -/
def rw0 (t : Fin cfg0.N) (p : Fin 1024) : Fin 8192 := ⟨1024 * (t.val / 17) + p.val, by
  have := lt_of_lt_of_eq t.isLt (show cfg0.N = 136 from N_0); omega⟩
theorem kr_rw0 (t : Fin cfg0.N) (p : Fin 1024) : Spec.kr (rw0 t p) = kd t.val := by
  refine Fin.ext ?_
  show min ((1024 * (t.val / 17) + p.val) / 1024) 1 = min (t.val / 17) 1
  omega

theorem main0_act (t : Fin cfg0.N) (p : Fin 1024) (q : Fin 256) (ht : t.val % 17 < 9) (h : 512 * (t.val % 17) + q.val < 4736) :
    main0 (iblk mi c 0 t) (iblk mi c 1 t) (iblk mi c 2 t) (iblk mi c 3 t) (V mi c main_arg3) (kd t.val) (tg t.val) (ix2 p q) = aS mi c (rw0 t p) ⟨512 * (t.val % 17) + q.val, h⟩ := by
  rw [← aS_eq mi c (rw0 t p) ⟨512 * (t.val % 17) + q.val, h⟩ ⟨512 * (t.val % 17) + q.val, by omega⟩ ⟨4736 + (512 * (t.val % 17)) + q.val, by omega⟩ (by dsimp only; try omega) (by dsimp only; omega)]
  exact main0_ix _ _ _ _ _ _ _ p q _ _ _ _ _ _ _ _
    (fun x => (blk_0 mi c t p x (rw0 t p).isLt).trans (congrFun (V_main_arg0 mi c) _))
    (fun x => (congrFun (congrArg (fun W => gA W (kd t.val) (tg t.val) 0) (V_main_arg3 mi c)) _).trans ((gA_at _ _ _ _ x q (by dsimp only [tg]; simp; omega)).trans
      (congrArg (mi (c, main_arg3)) (congrArg (ix3 (kd t.val) x) (show _ = (⟨512 * (t.val % 17) + q.val, by omega⟩ : Fin 9472) from Fin.ext (by dsimp only [tg]; simp; try omega))))))
    (fun x => (congrFun (congrArg (fun W => gB W (kd t.val) (tg t.val) 0) (V_main_arg3 mi c)) _).trans ((gB_at _ _ _ _ x q (by dsimp only [tg]; simp; omega)).trans
      (congrArg (mi (c, main_arg3)) (congrArg (ix3 (kd t.val) x) (show _ = (⟨4736 + (512 * (t.val % 17)) + q.val, by omega⟩ : Fin 9472) from Fin.ext (by dsimp only [tg]; simp; try omega))))))
    ((blk_1 mi c t p 0 (rw0 t p).isLt).trans (congrFun (V_main_arg1 mi c) _))
    ((blk_2 mi c t _ (by dsimp only; omega)).trans ((v2_at mi c _ _ (by dsimp only; omega)).trans (congrArg (mi (c, main_arg4)) (congrArg (ix2 (kd t.val)) (show _ = (⟨512 * (t.val % 17) + q.val, by omega⟩ : Fin 9472) from Fin.ext (by dsimp only; omega))))))
    ((blk_3 mi c t _ (by dsimp only; omega)).trans ((v3_at mi c _ _ (by dsimp only; omega)).trans (congrArg (mi (c, main_arg4)) (congrArg (ix2 (kd t.val)) (show _ = (⟨4736 + (512 * (t.val % 17)) + q.val, by omega⟩ : Fin 9472) from Fin.ext (by dsimp only; omega))))))
    (by unfold gS Spec.gu; rw [kr_rw0]; rfl)
    (by unfold gS Spec.gu; rw [kr_rw0]; rfl)

theorem main1_act (t : Fin cfg0.N) (p : Fin 1024) (q : Fin 256) (ht : t.val % 17 < 9) (h : 512 * (t.val % 17) + 256 + q.val < 4736) :
    main1 (iblk mi c 0 t) (iblk mi c 1 t) (iblk mi c 2 t) (iblk mi c 3 t) (V mi c main_arg3) (kd t.val) (tg t.val) (ix2 p q) = aS mi c (rw0 t p) ⟨512 * (t.val % 17) + 256 + q.val, h⟩ := by
  rw [← aS_eq mi c (rw0 t p) ⟨512 * (t.val % 17) + 256 + q.val, h⟩ ⟨512 * (t.val % 17) + 256 + q.val, by omega⟩ ⟨4736 + (512 * (t.val % 17) + 256) + q.val, by omega⟩ (by dsimp only; try omega) (by dsimp only; omega)]
  exact main1_ix _ _ _ _ _ _ _ p q _ _ _ _ _ _ _ _
    (fun x => (blk_0 mi c t p x (rw0 t p).isLt).trans (congrFun (V_main_arg0 mi c) _))
    (fun x => (congrFun (congrArg (fun W => gA W (kd t.val) (tg t.val) 1) (V_main_arg3 mi c)) _).trans ((gA_at _ _ _ _ x q (by dsimp only [tg]; simp; omega)).trans
      (congrArg (mi (c, main_arg3)) (congrArg (ix3 (kd t.val) x) (show _ = (⟨512 * (t.val % 17) + 256 + q.val, by omega⟩ : Fin 9472) from Fin.ext (by dsimp only [tg]; simp; try omega))))))
    (fun x => (congrFun (congrArg (fun W => gB W (kd t.val) (tg t.val) 1) (V_main_arg3 mi c)) _).trans ((gB_at _ _ _ _ x q (by dsimp only [tg]; simp; omega)).trans
      (congrArg (mi (c, main_arg3)) (congrArg (ix3 (kd t.val) x) (show _ = (⟨4736 + (512 * (t.val % 17) + 256) + q.val, by omega⟩ : Fin 9472) from Fin.ext (by dsimp only [tg]; simp; try omega))))))
    ((blk_1 mi c t p 0 (rw0 t p).isLt).trans (congrFun (V_main_arg1 mi c) _))
    ((blk_2 mi c t _ (by dsimp only; omega)).trans ((v2_at mi c _ _ (by dsimp only; omega)).trans (congrArg (mi (c, main_arg4)) (congrArg (ix2 (kd t.val)) (show _ = (⟨512 * (t.val % 17) + 256 + q.val, by omega⟩ : Fin 9472) from Fin.ext (by dsimp only; omega))))))
    ((blk_3 mi c t _ (by dsimp only; omega)).trans ((v3_at mi c _ _ (by dsimp only; omega)).trans (congrArg (mi (c, main_arg4)) (congrArg (ix2 (kd t.val)) (show _ = (⟨4736 + (512 * (t.val % 17) + 256) + q.val, by omega⟩ : Fin 9472) from Fin.ext (by dsimp only; omega))))))
    (by unfold gS Spec.gu; rw [kr_rw0]; rfl)
    (by unfold gS Spec.gu; rw [kr_rw0]; rfl)

theorem tailV_act (t : Fin cfg0.N) (p : Fin 1024) (q : Fin 128) (ht : t.val % 17 = 9) (h : 4608 + q.val < 4736) :
    tailV (iblk mi c 0 t) (iblk mi c 1 t) (iblk mi c 2 t) (iblk mi c 3 t) (V mi c main_arg3) (kd t.val) (ix2 p q) = aS mi c (rw0 t p) ⟨4608 + q.val, h⟩ := by
  rw [← aS_eq mi c (rw0 t p) ⟨4608 + q.val, h⟩ ⟨4608 + q.val, by omega⟩ ⟨9344 + q.val, by omega⟩ (by dsimp only; try omega) (by dsimp only; omega)]
  exact tailV_ix _ _ _ _ _ _ p q _ _ _ _ _ _ _ _
    (fun x => (blk_0 mi c t p x (rw0 t p).isLt).trans (congrFun (V_main_arg0 mi c) _))
    (fun x => (congrFun (congrArg (fun W => hA W (kd t.val)) (V_main_arg3 mi c)) _).trans ((hA_at _ _ x q (by omega)).trans
      (congrArg (mi (c, main_arg3)) (congrArg (ix3 (kd t.val) x) (show _ = (⟨4608 + q.val, by omega⟩ : Fin 9472) from Fin.ext (by rfl))))))
    (fun x => (congrFun (congrArg (fun W => hB W (kd t.val)) (V_main_arg3 mi c)) _).trans ((hB_at _ _ x q (by omega)).trans
      (congrArg (mi (c, main_arg3)) (congrArg (ix3 (kd t.val) x) (show _ = (⟨9344 + q.val, by omega⟩ : Fin 9472) from Fin.ext (by rfl))))))
    ((blk_1 mi c t p 0 (rw0 t p).isLt).trans (congrFun (V_main_arg1 mi c) _))
    ((blk_2 mi c t _ (by dsimp only; omega)).trans ((v2_at mi c _ _ (by dsimp only; omega)).trans (congrArg (mi (c, main_arg4)) (congrArg (ix2 (kd t.val)) (show _ = (⟨4608 + q.val, by omega⟩ : Fin 9472) from Fin.ext (by dsimp only; omega))))))
    ((blk_3 mi c t _ (by dsimp only; omega)).trans ((v3_at mi c _ _ (by dsimp only; omega)).trans (congrArg (mi (c, main_arg4)) (congrArg (ix2 (kd t.val)) (show _ = (⟨9344 + q.val, by omega⟩ : Fin 9472) from Fin.ext (by dsimp only; omega))))))
    (by unfold gS Spec.gu; rw [kr_rw0]; rfl)
    (by unfold gS Spec.gu; rw [kr_rw0]; rfl)
end

end Cert.KernelIdeal.Ffn

end
-- ==== Proof.Ideal.Scales.lean ====
/- The maxima, scales, codes and outputs of the kernel, at coordinates, are those of the specification. -/
module

public import proofs.«01_k».proof.Proof.Ideal.Acts

@[expose] public section

set_option maxRecDepth 16384

noncomputable section

namespace Cert.KernelIdeal.Ffn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

variable (mi : (ℓ : Loc nD τ sig) → Buf (Elt Ideal) ℓ)

section
variable (c : Dev nD)

/-- The row of the arrays that row `p` of block `i` is. -/
def rwB (i : Fin 8) (p : Fin 1024) : Fin 8192 := ⟨1024 * i.val + p.val, by omega⟩
theorem pt17 (i : Fin 8) (n : ℕ) (hn : n < 17) : (pt (17 * i.val + n)).val = 17 * i.val + n := Nat.mod_eq_of_lt (by omega)
theorem rw0_pt (i : Fin 8) (n : ℕ) (hn : n < 17) (p : Fin 1024) : rw0 (pt (17 * i.val + n)) p = rwB i p := by
  refine Fin.ext ?_
  show 1024 * ((pt (17 * i.val + n)).val / 17) + p.val = 1024 * i.val + p.val
  rw [pt17 i n hn]; omega

theorem M0_act (i : Fin 8) (n : ℕ) (hn : n < 9) (p : Fin 1024) (q : Fin 256) (col : Fin 4736) (h : col.val = 512 * n + q.val) :
    M0 mi c (17 * i.val + n) (ix2 p q) = aS mi c (rwB i p) col := by
  have e : (pt (17 * i.val + n)).val % 17 = n := by rw [pt17 i n (by omega)]; omega
  have hm := main0_act mi c (pt (17 * i.val + n)) p q (by omega) (by omega)
  rw [rw0_pt i n (by omega)] at hm
  rw [M0_at] at hm
  exact (congrFun (congrArg (M0 mi c) (pt17 i n (by omega)).symm) _).trans <| hm.trans (congrArg (aS mi c (rwB i p)) (Fin.ext (by dsimp only; omega)))
theorem M1_act (i : Fin 8) (n : ℕ) (hn : n < 9) (p : Fin 1024) (q : Fin 256) (col : Fin 4736) (h : col.val = 512 * n + 256 + q.val) :
    M1 mi c (17 * i.val + n) (ix2 p q) = aS mi c (rwB i p) col := by
  have e : (pt (17 * i.val + n)).val % 17 = n := by rw [pt17 i n (by omega)]; omega
  have hm := main1_act mi c (pt (17 * i.val + n)) p q (by omega) (by omega)
  rw [rw0_pt i n (by omega)] at hm
  rw [M1_at] at hm
  exact (congrFun (congrArg (M1 mi c) (pt17 i n (by omega)).symm) _).trans <| hm.trans (congrArg (aS mi c (rwB i p)) (Fin.ext (by dsimp only; omega)))
theorem TV_act (i : Fin 8) (p : Fin 1024) (q : Fin 128) (col : Fin 4736) (h : col.val = 4608 + q.val) :
    TV mi c (17 * i.val + 9) (ix2 p q) = aS mi c (rwB i p) col := by
  have e : (pt (17 * i.val + 9)).val % 17 = 9 := by rw [pt17 i 9 (by omega)]; omega
  have hm := tailV_act mi c (pt (17 * i.val + 9)) p q (by omega) (by omega)
  rw [rw0_pt i 9 (by omega)] at hm
  rw [TV_at] at hm
  exact (congrFun (congrArg (TV mi c) (pt17 i 9 (by omega)).symm) _).trans <| hm.trans (congrArg (aS mi c (rwB i p)) (Fin.ext (by dsimp only; omega)))

/-! ## The maxima -/

theorem amx_ix (v : FVec Ideal S1024x256 .f32) (y : FVec Ideal S1024x128 .f32) (p : Fin 1024) (q : Fin 128) :
    amx (F := Ideal) v y (ix2 p q) = max (y (ix2 p q)) (max (FloatOps.absf (v (ix2 p ⟨q.val, by omega⟩))) (FloatOps.absf (v (ix2 p ⟨128 + q.val, by omega⟩)))) := by
  unfold amx
  pointwise
theorem amxT_ix (v : FVec Ideal S1024x128 .f32) (y : FVec Ideal S1024x128 .f32) (p : Fin 1024) (q : Fin 128) :
    amxT (F := Ideal) v y (ix2 p q) = max (y (ix2 p q)) (FloatOps.absf (v (ix2 p q))) := by
  unfold amxT
  pointwise
theorem zero_ix (p : Fin 1024) (q : Fin 128) : k0_pay75 (F := Ideal) (ix2 p q) = (0 : EReal) := by
  pointwise [k0_pay75]
theorem pay18_ix (y : FVec Ideal S1024x128 .f32) (p : Fin 1024) :
    k0_pay18 (F := Ideal) y (ix2 p 0) = Spec.scOf (Finset.univ.fold max (Ideal.ofBits .f32 4286578688#32) fun q : Fin 128 => y (ix2 p q)) := by
  unfold Spec.scOf
  pointwise [k0_pay18]
theorem pay30_ix (y : FVec Ideal S1024x1 .f32) (p : Fin 1024) (q : Fin 128) : k0_pay30 (F := Ideal) y (ix2 p q) = y (ix2 p 0) := by
  pointwise [k0_pay30]
theorem pay31_ix (y : FVec Ideal S1024x128 .f32) (z : FVec Ideal S1x1024x128 .f32) (p : Fin 1024) (q : Fin 128) :
    k0_pay31 (F := Ideal) y z (ix2 p q) = min (Ideal.ofBits .f32 1138753536#32) (max (Ideal.ofBits .f32 3286237184#32) (Ideal.div (z (ix3 0 p q)) (y (ix2 p q)))) := by
  pointwise [k0_pay31]
theorem pl0_ix (v : FVec Ideal S1024x256 .f32) (p : Fin 1024) (q : Fin 128) : pl0 v (ix3 0 p q) = v (ix2 p ⟨q.val, by omega⟩) := by
  unfold pl0
  pointwise
theorem pl1_ix (v : FVec Ideal S1024x256 .f32) (p : Fin 1024) (q : Fin 128) : pl1 v (ix3 0 p q) = v (ix2 p ⟨128 + q.val, by omega⟩) := by
  unfold pl1
  pointwise
theorem plT_ix (v : FVec Ideal S1024x128 .f32) (p : Fin 1024) (q : Fin 128) : plT v (ix3 0 p q) = v (ix2 p q) := by
  unfold plT
  pointwise

theorem eye_eq (x : Fin 128) (j : ℕ) (hj : j < 128) (a : EReal) :
    Scalar.select (IntOp.cmpi CmpIPredicate.eq (BitVec.ofNat 32 x.val) (BitVec.ofNat 32 j)) a 0 = if x.val = j then a else 0 := by
  have hx := x.isLt
  have h : (BitVec.ofNat 32 x.val = BitVec.ofNat 32 j) ↔ x.val = j := by
    constructor
    · intro h
      have := congrArg BitVec.toNat h
      simp only [BitVec.toNat_ofNat] at this
      omega
    · intro h; rw [h]
  by_cases e : x.val = j
  · rw [if_pos e, e]; simp [Scalar.select, IntOp.cmpi]
  · rw [if_neg e]
    have : ¬ (BitVec.ofNat 32 x.val = BitVec.ofNat 32 j) := fun he => e (h.mp he)
    have hb : (BitVec.ofNat 32 x.val == BitVec.ofNat 32 j) = false := beq_eq_false_iff_ne.mpr this
    simp [Scalar.select, IntOp.cmpi, hb]
theorem diag (f : Fin 128 → EReal) (j : ℕ) (hj : j < 128) :
    (∑ x : Fin 128, Scalar.select (IntOp.cmpi CmpIPredicate.eq (BitVec.ofNat 32 x.val) (BitVec.ofNat 32 j)) (f x) 0) = f ⟨j, hj⟩ := by
  simp only [eye_eq _ j hj]
  rw [Finset.sum_eq_single (⟨j, hj⟩ : Fin 128) (fun b _ hb => if_neg fun e => hb (Fin.ext e)) (fun h => absurd (Finset.mem_univ _) h)]
  exact if_pos rfl
theorem s4F_ix (v : FVec Ideal S1024x128 .f32) (p : Fin 1024) : s4F (F := Ideal) v (ix3 0 0 p) = k0_pay18 (F := Ideal) v (ix2 p 0) := by
  unfold s4F
  pointwise [k0_pay29, k0_pay20, k0_pay22, k0_pay19, k0_pay21, k0_pay23, k0_pay24, k0_pay25, k0_pay26, k0_pay27, k0_pay28]
  split
  · rw [diag (fun x => k0_pay18 (F := Ideal) v (ix2 ⟨x.val, by omega⟩ 0)) _ (by omega)]
  split
  · rw [diag (fun x => k0_pay18 (F := Ideal) v (ix2 ⟨128 + x.val, by omega⟩ 0)) _ (by omega)]; exact congrArg (fun r => k0_pay18 (F := Ideal) v (ix2 r 0)) (Fin.ext (by dsimp only; omega))
  split
  · rw [diag (fun x => k0_pay18 (F := Ideal) v (ix2 ⟨256 + x.val, by omega⟩ 0)) _ (by omega)]; exact congrArg (fun r => k0_pay18 (F := Ideal) v (ix2 r 0)) (Fin.ext (by dsimp only; omega))
  split
  · rw [diag (fun x => k0_pay18 (F := Ideal) v (ix2 ⟨384 + x.val, by omega⟩ 0)) _ (by omega)]; exact congrArg (fun r => k0_pay18 (F := Ideal) v (ix2 r 0)) (Fin.ext (by dsimp only; omega))
  split
  · rw [diag (fun x => k0_pay18 (F := Ideal) v (ix2 ⟨512 + x.val, by omega⟩ 0)) _ (by omega)]; exact congrArg (fun r => k0_pay18 (F := Ideal) v (ix2 r 0)) (Fin.ext (by dsimp only; omega))
  split
  · rw [diag (fun x => k0_pay18 (F := Ideal) v (ix2 ⟨640 + x.val, by omega⟩ 0)) _ (by omega)]; exact congrArg (fun r => k0_pay18 (F := Ideal) v (ix2 r 0)) (Fin.ext (by dsimp only; omega))
  split
  · rw [diag (fun x => k0_pay18 (F := Ideal) v (ix2 ⟨768 + x.val, by omega⟩ 0)) _ (by omega)]; exact congrArg (fun r => k0_pay18 (F := Ideal) v (ix2 r 0)) (Fin.ext (by dsimp only; omega))
  · rw [diag (fun x => k0_pay18 (F := Ideal) v (ix2 ⟨896 + x.val, by omega⟩ 0)) _ (by omega)]; exact congrArg (fun r => k0_pay18 (F := Ideal) v (ix2 r 0)) (Fin.ext (by dsimp only; omega))
theorem pay74_ix (x : Vec Ideal S1024x4736 .fp8e4m3) (w : Vec Ideal S1x4736x512 .fp8e4m3) (h : Vec Ideal S1024x512 .f32) (s : Vec Ideal S1024x1 .f32) (d : Vec Ideal S1x1x512 .f32) (p : Fin 1024) (q : Fin 512)
    (a b : Fin 4736 → EReal) (e f g : EReal) (h0 : ∀ n, x (ix2 p n) = a n) (h1 : ∀ n, w (ix3 0 n q) = b n) (h2 : h (ix2 p q) = e) (h3 : s (ix2 p 0) = f) (h4 : d (ix3 0 0 q) = g) :
    k0_pay74 (F := Ideal) x w h s d (ix2 p q) = e + (∑ n, a n * b n) * f * g := by
  pointwise [k0_pay74]
  simp only [h0, h1, h2, h3, h4]

/-! ## The maxima of a row block -/

theorem absf_nonneg (a : EReal) : (0 : EReal) ≤ FloatOps.absf (F := Ideal) (φ := .f32) a := by
  show (0 : EReal) ≤ max a (-a)
  rcases le_total 0 a with h | h
  · exact h.trans (le_max_left _ _)
  · exact (EReal.neg_nonneg.mpr h).trans (le_max_right _ _)

/-- After `n` tiles lane `q` holds the largest magnitude over the columns seen that lie in the lane. -/
theorem AM_le (i : Fin 8) (p : Fin 1024) (q : Fin 128) (z : EReal) : ∀ n : ℕ, n ≤ 9 →
    (AM mi c i.val n (ix2 p q) ≤ z ↔ 0 ≤ z ∧ ∀ col : Fin 4736, col.val < 512 * n → col.val % 128 = q.val → FloatOps.absf (F := Ideal) (φ := .f32) (aS mi c (rwB i p) col) ≤ z)
  | 0, _ => by
    show k0_pay75 (F := Ideal) (ix2 p q) ≤ z ↔ _
    rw [zero_ix]
    exact ⟨fun h => ⟨h, fun col hc => absurd hc (by omega)⟩, fun h => h.1⟩
  | n + 1, hn => by
    have ih := AM_le i p q z n (by omega)
    rw [AM_main mi c i.val n (by omega), amx_ix, amx_ix,
      M0_act mi c i n (by omega) p ⟨q.val, by omega⟩ ⟨512 * n + q.val, by omega⟩ rfl,
      M0_act mi c i n (by omega) p ⟨128 + q.val, by omega⟩ ⟨512 * n + 128 + q.val, by omega⟩ (by dsimp only; omega),
      M1_act mi c i n (by omega) p ⟨q.val, by omega⟩ ⟨512 * n + 256 + q.val, by omega⟩ rfl,
      M1_act mi c i n (by omega) p ⟨128 + q.val, by omega⟩ ⟨512 * n + 384 + q.val, by omega⟩ (by dsimp only; omega)]
    have key : ∀ A a0 a1 a2 a3 : EReal, max (max A (max a0 a1)) (max a2 a3) ≤ z ↔ A ≤ z ∧ a0 ≤ z ∧ a1 ≤ z ∧ a2 ≤ z ∧ a3 ≤ z := by
      intro A a0 a1 a2 a3; simp only [max_le_iff, and_assoc]
    refine (key _ _ _ _ _).trans ?_
    rw [ih]
    constructor
    · rintro ⟨⟨h0, h⟩, a0, a1, a2, a3⟩
      refine ⟨h0, fun col hc hq => ?_⟩
      by_cases hl : col.val < 512 * n
      · exact h col hl hq
      have h4 : col.val = 512 * n + q.val ∨ col.val = 512 * n + 128 + q.val ∨ col.val = 512 * n + 256 + q.val ∨ col.val = 512 * n + 384 + q.val := by omega
      rcases h4 with e | e | e | e
      · rw [show col = ⟨512 * n + q.val, by omega⟩ from Fin.ext e]; exact a0
      · rw [show col = ⟨512 * n + 128 + q.val, by omega⟩ from Fin.ext e]; exact a1
      · rw [show col = ⟨512 * n + 256 + q.val, by omega⟩ from Fin.ext e]; exact a2
      · rw [show col = ⟨512 * n + 384 + q.val, by omega⟩ from Fin.ext e]; exact a3
    · rintro ⟨h0, h⟩
      exact ⟨⟨h0, fun col hc hq => h col (by omega) hq⟩, h _ (by dsimp only; omega) (by dsimp only; omega), h _ (by dsimp only; omega) (by dsimp only; omega),
        h _ (by dsimp only; omega) (by dsimp only; omega), h _ (by dsimp only; omega) (by dsimp only; omega)⟩

/-- The last tile's maxima. -/
def AT (i : ℕ) : Vec Ideal S1024x128 .f32 := amxT (TV mi c (17 * i + 9)) (AM mi c i 9)
theorem AT_le (i : Fin 8) (p : Fin 1024) (q : Fin 128) (z : EReal) :
    AT mi c i.val (ix2 p q) ≤ z ↔ 0 ≤ z ∧ ∀ col : Fin 4736, col.val % 128 = q.val → FloatOps.absf (F := Ideal) (φ := .f32) (aS mi c (rwB i p) col) ≤ z := by
  unfold AT
  rw [amxT_ix, TV_act mi c i p q ⟨4608 + q.val, by omega⟩ rfl]
  have key : ∀ A a0 : EReal, max A a0 ≤ z ↔ A ≤ z ∧ a0 ≤ z := fun A a0 => max_le_iff
  refine (key _ _).trans ?_
  rw [AM_le mi c i p q z 9 le_rfl]
  constructor
  · rintro ⟨⟨h0, h⟩, a0⟩
    refine ⟨h0, fun col hq => ?_⟩
    by_cases hl : col.val < 512 * 9
    · exact h col hl hq
    · rw [show col = ⟨4608 + q.val, by omega⟩ from Fin.ext (by have := col.isLt; dsimp only; omega)]; exact a0
  · rintro ⟨h0, h⟩
    exact ⟨⟨h0, fun col _ hq => h col hq⟩, h _ (by dsimp only; omega)⟩

/-- The specification's largest magnitude, of the argument arrays. -/
def mS (r : Fin 8192) : EReal := Spec.mx (mi (c, main_arg0)) (mi (c, main_arg1)) (mi (c, main_arg3)) (mi (c, main_arg4)) r
/-- The largest of the lanes' maxima is the row's. -/
theorem AT_max (i : Fin 8) (p : Fin 1024) :
    (Finset.univ.fold max (Ideal.ofBits .f32 4286578688#32) fun q : Fin 128 => (AT mi c i.val (ix2 p q) : EReal)) = mS mi c (rwB i p) := by
  refine eq_of_forall_ge_iff fun z => ?_
  unfold mS Spec.mx
  rw [Finset.fold_max_le, Finset.fold_max_le]
  refine and_congr_right fun _ => ?_
  constructor
  · intro h n _
    exact ((AT_le mi c i p ⟨n.val % 128, Nat.mod_lt _ (by decide)⟩ z).mp (h _ (Finset.mem_univ _))).2 n rfl
  · intro h q _
    exact (AT_le mi c i p q z).mpr ⟨(absf_nonneg _).trans (h ⟨0, by decide⟩ (Finset.mem_univ _)), fun col _ => h col (Finset.mem_univ _)⟩

/-- The specification's scale, of the argument arrays; -/
def sS (r : Fin 8192) : EReal := Spec.sc (mi (c, main_arg0)) (mi (c, main_arg1)) (mi (c, main_arg3)) (mi (c, main_arg4)) r
/-- its codes; -/
def kS (r : Fin 8192) (n : Fin 4736) : EReal := Spec.code (mi (c, main_arg0)) (mi (c, main_arg1)) (mi (c, main_arg3)) (mi (c, main_arg4)) r n
/-- its output. -/
def oS (r : Fin 8192) (d : Fin 3584) : EReal :=
  Spec.out (mi (c, main_arg0)) (mi (c, main_arg1)) (mi (c, main_arg2)) (mi (c, main_arg3)) (mi (c, main_arg4)) (mi (c, main_arg5)) (mi (c, main_arg6)) r d

theorem AT_scale (i : Fin 8) (p : Fin 1024) : k0_pay18 (F := Ideal) (AT mi c i.val) (ix2 p 0) = sS mi c (rwB i p) :=
  (pay18_ix _ p).trans (congrArg Spec.scOf (AT_max mi c i p))
theorem AM_scale (i : Fin 8) (p : Fin 1024) (q : Fin 128) : AM mi c i.val 10 (ix2 p q) = sS mi c (rwB i p) := by
  rw [AM_tail]
  exact (pay30_ix _ p q).trans (AT_scale mi c i p)
theorem S4_ix (i : Fin 8) (p : Fin 1024) : S4 mi c i.val (ix3 0 0 p) = sS mi c (rwB i p) :=
  (s4F_ix _ p).trans (AT_scale mi c i p)

/-! ## The codes -/

theorem PL_ix (i : Fin 8) (k : ℕ) (hk : k < 37) (p : Fin 1024) (q : Fin 128) :
    PL mi c i.val k (ix3 0 p q) = aS mi c (rwB i p) ⟨128 * k + q.val, by omega⟩ := by
  unfold PL
  split
  · exact (plT_ix _ p q).trans (TV_act mi c i p q _ (by dsimp only; omega))
  split
  · exact (pl0_ix _ p q).trans (M0_act mi c i _ (by omega) p _ _ (by dsimp only; omega))
  split
  · exact (pl1_ix _ p q).trans (M0_act mi c i _ (by omega) p _ _ (by dsimp only; omega))
  split
  · exact (pl0_ix _ p q).trans (M1_act mi c i _ (by omega) p _ _ (by dsimp only; omega))
  · exact (pl1_ix _ p q).trans (M1_act mi c i _ (by omega) p _ _ (by dsimp only; omega))
theorem plane_ix (i : Fin 8) (k : Fin 37) (p : Fin 1024) (q : Fin 128) :
    planeOf (ACTV mi c i.val) k (ix3 0 p q) = aS mi c (rwB i p) ⟨128 * k.val + q.val, by omega⟩ := by
  refine Eq.trans ?_ (PL_ix mi c i k.val k.isLt p q)
  have e : ∀ j : S37x1024x128.Idx, j = ix3 k p q → ACTV mi c i.val j = PL mi c i.val k.val (ix3 0 p q) := by
    rintro j rfl
    unfold ACTV
    refine congrArg (PL mi c i.val k.val) (funext fun a => ?_)
    match a with
    | ⟨0, _⟩ => rfl
    | ⟨1, _⟩ => rfl
    | ⟨2, _⟩ => rfl
  refine e _ (funext fun a => Fin.ext ?_)
  match a with
  | ⟨0, _⟩ => show k.val + 1 * 0 = k.val; omega
  | ⟨1, _⟩ => show 0 + 1 * p.val = p.val; omega
  | ⟨2, _⟩ => show 0 + 1 * q.val = q.val; omega
theorem C4_ix (i : Fin 8) (p : Fin 1024) (n : Fin 4736) : C4 mi c i.val (ix2 p n) = kS mi c (rwB i p) n := by
  have ec : colIn (ix2 p n) = ix2 p ⟨n.val % 128, Nat.mod_lt _ (by decide)⟩ := funext fun a => by
    match a with
    | ⟨0, _⟩ => rfl
    | ⟨1, _⟩ => rfl
  unfold C4 c4F
  rw [ec]
  refine (pay31_ix _ _ p _).trans ?_
  rw [plane_ix mi c i _ p _, AM_scale]
  unfold kS Spec.code sS
  refine congrArg (fun a => min (Ideal.ofBits .f32 1138753536#32) (max (Ideal.ofBits .f32 3286237184#32) (Ideal.div a _))) ?_
  refine (congrArg (aS mi c (rwB i p)) (show _ = n from Fin.ext ?_)).trans rfl
  show 128 * (n.val / 128) + n.val % 128 = n.val
  omega

/-! ## The output -/

theorem s3c_ix (x : Vec Ideal S1024x128 .f32) (p : Fin 1024) : s3c x (ix2 p 0) = x (ix2 p 0) := by
  refine congrArg x (funext fun a => Fin.ext ?_)
  match a with
  | ⟨0, _⟩ => show 0 + 1 * p.val = p.val; omega
  | ⟨1, _⟩ => rfl
theorem HV_ix (t : Fin cfg0.N) (ht : 10 ≤ t.val % 17) (p : Fin 1024) (q : Fin 512) (h : 512 * (t.val % 17 - 10) + q.val < 3584) :
    HV mi c t (ix2 p q) = oS mi c (rw0 t p) ⟨512 * (t.val % 17 - 10) + q.val, h⟩ := by
  have hi : t.val / 17 < 8 := by have := lt_of_lt_of_eq t.isLt (show cfg0.N = 136 from N_0); omega
  have er : rwB ⟨t.val / 17, hi⟩ p = rw0 t p := rfl
  unfold HV
  refine (pay74_ix _ _ _ _ _ p q (fun n => kS mi c (rw0 t p) n) (fun n => mi (c, main_arg5) (ix3 (Spec.kr (rw0 t p)) n ⟨512 * (t.val % 17 - 10) + q.val, h⟩))
    (mi (c, main_arg2) (ix2 (rw0 t p) ⟨512 * (t.val % 17 - 10) + q.val, h⟩)) (sS mi c (rw0 t p)) (mi (c, main_arg6) (ix2 (Spec.kr (rw0 t p)) ⟨512 * (t.val % 17 - 10) + q.val, h⟩))
    (fun n => C4_ix mi c ⟨t.val / 17, hi⟩ p n) (fun n => ?_) ?_ ?_ ?_).trans rfl
  · rw [V_main_arg5]
    refine (gD_at _ _ _ n q (by dsimp only [td]; omega)).trans ?_
    rw [kr_rw0]
    exact congrArg (mi (c, main_arg5)) (congrArg (ix3 (kd t.val) n) (Fin.ext (by dsimp only [td]; omega)))
  · exact (blk_5 mi c t p q (rw0 t p).isLt h).trans (congrFun (V_main_arg2 mi c) _)
  · exact (s3c_ix _ p).trans (AM_scale mi c ⟨t.val / 17, hi⟩ p 0)
  · refine (blk_4 mi c t q h).trans ((v4_at mi c _ _).trans ?_)
    rw [kr_rw0]
end

end Cert.KernelIdeal.Ffn

end
-- ==== Proof.Ideal.Final.lean ====
/- What the kernel leaves in its three output arrays: the outputs, the codes and the scales of the specification. -/
module

public import proofs.«01_k».proof.Proof.Ideal.Scales
public import proofs.«01_k».proof.Proof.Ideal.Frame

@[expose] public section

set_option maxRecDepth 16384

noncomputable section

namespace Cert.KernelIdeal.Ffn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

variable (mi : (ℓ : Loc nD τ sig) → Buf (Elt Ideal) ℓ) (ρi : Dev nD → PrngReg)

section
variable (c : Dev nD)

/-- The output array; -/
def G6 : S8192x3584.Idx → EReal := fun j => oS mi c ⟨(j 0).val, (j 0).isLt⟩ ⟨(j 1).val, (j 1).isLt⟩
/-- the codes; -/
def G7 : S8192x4736.Idx → EReal := fun j => kS mi c ⟨(j 0).val, (j 0).isLt⟩ ⟨(j 1).val, (j 1).isLt⟩
/-- the scales, a row of 1024 tokens at a time. -/
def G8 : S8x1x1024.Idx → EReal := fun j => sS mi c (rwB ⟨(j 0).val, (j 0).isLt⟩ ⟨(j 2).val, (j 2).isLt⟩)

theorem bi_lt (t : Fin cfg0.N) : t.val / 17 < 8 := by have := lt_of_lt_of_eq t.isLt (show cfg0.N = 136 from N_0); omega

/-- Every block of outputs is written once, with the specification's outputs. -/
theorem arr6 : (dats mi 0 c).arrAt 6 cfg0.N = G6 mi c := by
  refine (dats mi 0 c).arrAt_eq_of_covers 6 _ (by decide +kernel) fun t hf y => ?_
  have ht : 10 ≤ t.val % 17 := by rw [flush6] at hf; simpa using hf
  blk_simp
  rw [after_6]
  obtain ⟨p, q, rfl⟩ : ∃ (p : Fin 1024) (q : Fin 512), y = ix2 p q := ⟨y 0, y 1, by funext a; match a with | ⟨0, _⟩ => rfl | ⟨1, _⟩ => rfl⟩
  refine (HV_ix mi c t ht p q (by omega)).trans ?_
  show oS mi c _ _ = oS mi c _ _
  congr 1
  · refine Fin.ext ?_
    show 1024 * (t.val / 17) + p.val = _
    blk_simp [index_6] <;> (simp; try omega)
  · refine Fin.ext ?_
    show 512 * (t.val % 17 - 10) + q.val = _
    blk_simp [index_6] <;> (simp; try omega)
/-- Every block of codes is written once, with the specification's codes. -/
theorem arr7 : (dats mi 0 c).arrAt 7 cfg0.N = G7 mi c := by
  refine (dats mi 0 c).arrAt_eq_of_covers 7 _ (by decide +kernel) fun t hf y => ?_
  blk_simp
  rw [after_7]
  obtain ⟨p, q, rfl⟩ : ∃ (p : Fin 1024) (q : Fin 4736), y = ix2 p q := ⟨y 0, y 1, by funext a; match a with | ⟨0, _⟩ => rfl | ⟨1, _⟩ => rfl⟩
  refine (C4_ix mi c ⟨t.val / 17, bi_lt t⟩ p q).trans ?_
  show kS mi c _ _ = kS mi c _ _
  congr 1
  · refine Fin.ext ?_
    show 1024 * (t.val / 17) + p.val = _
    blk_simp [index_7] <;> (simp; try omega)
  · refine Fin.ext ?_
    show q.val = _
    blk_simp [index_7] <;> (simp; try omega)
/-- Every row of scales is written once, with the specification's scales. -/
theorem arr8 : (dats mi 0 c).arrAt 8 cfg0.N = G8 mi c := by
  refine (dats mi 0 c).arrAt_eq_of_covers 8 _ (by decide +kernel) fun t hf y => ?_
  blk_simp
  rw [after_8]
  obtain ⟨p, rfl⟩ : ∃ (p : Fin 1024), y = ix3 0 0 p := ⟨y 2, by
    funext a
    match a with
    | ⟨0, _⟩ => exact Subsingleton.elim (α := Fin 1) _ _
    | ⟨1, _⟩ => exact Subsingleton.elim (α := Fin 1) _ _
    | ⟨2, _⟩ => rfl⟩
  refine (S4_ix mi c ⟨t.val / 17, bi_lt t⟩ p).trans ?_
  show sS mi c (rwB _ _) = sS mi c (rwB _ _)
  congr 2
  · refine Fin.ext ?_
    show t.val / 17 = _
    blk_simp [index_8] <;> (simp; try omega)
  · refine Fin.ext ?_
    show p.val = _
    blk_simp [index_8] <;> (simp; try omega)

end

/-- Every run of the kernel ends with the three arrays at the specification's values. -/
theorem run_value : θ_run defs (onTc (τ := τ) (main (F := Ideal))) ⟨mi, fun _ => 0, ρi⟩ (fun r => ∀ c : Dev nD,
      r.2.mem ((c.tc : Thread nD τ).loc main_v5_0) = G6 mi c ∧ r.2.mem ((c.tc : Thread nD τ).loc main_v5_1) = G7 mi c ∧ r.2.mem ((c.tc : Thread nD τ).loc main_v5_2) = G8 mi c) :=
  (θ_run defs _ _).mono (fun r h c => ⟨((h c).1 6).trans (arr6 mi c), ((h c).1 7).trans (arr7 mi c), ((h c).1 8).trans (arr8 mi c)⟩) (run_main mi ρi)

end Cert.KernelIdeal.Ffn

end
-- ==== Proof.RefValue.lean ====
/- What the reference leaves in its three output arrays: the outputs, the codes and the scales of the specification. -/
module

public import proofs.«01_k».proof.Proof.Gen.ReferenceIdeal.Value
public import proofs.«01_k».proof.Proof.Spec
public import Idealize.ShloMosaic.Lib.Pointwise
public import Idealize.ShloMosaic.Lib.Pipeline.ValueKit.Geometry

@[expose] public section

set_option maxRecDepth 16384

noncomputable section

namespace Cert.ReferenceIdeal.Ffn

open Cert Cert.ReferenceIdeal Cert.ReferenceIdeal.Gen
open Idealize.ShloMosaic Idealize.ShloMosaic.TcCoe Idealize.ShloMosaic.Tactic Idealize.SL.Sem
open Idealize.ShloMosaic.Pipeline (Dat Cfg Window)

/-! ## The payloads, at coordinates -/

theorem kr_lo (r : Fin 8192) (h : r.val < 1024) : Spec.kr r = 0 := Fin.ext (by show min (r.val / 1024) 1 = 0; omega)
theorem kr_hi (r : Fin 8192) (h : ¬ r.val < 1024) : Spec.kr r = 1 := Fin.ext (by show min (r.val / 1024) 1 = 1; omega)

theorem absf_ix (y : FVec Ideal S8192x4736 .f32) (i : S8192x4736.Idx) : absf y i = FloatOps.absf (F := Ideal) (φ := .f32) (y i) := rfl
/-- The largest element of each row of an array, as a column. -/
theorem max_ix (y : FVec Ideal S8192x4736 .f32) (r : Fin 8192) :
    (shapeCast S8192x1 (multiReduction (F := Ideal) .maximumf [1] S8192 y 0xFF800000#32 reduces_S8192x4736_S8192 (.inl rfl) rfl) shapeCasts_S8192_S8192x1 : FVec Ideal S8192x1 .f32) (ix2 r 0)
      = Finset.univ.fold max (Ideal.ofBits .f32 4286578688#32) (fun n : Fin 4736 => y (ix2 r n)) := by
  refine (shapeCast_apply _ _ (ix2 r 0) (ix1 r) ?_).trans ?_
  · rw [Shape.rowMajor_val_two, Shape.rowMajor_val_one]
    show r.val = r.val * 1 + 0
    omega
  · pointwise

/-- The scale of each row, from its largest magnitude. -/
theorem scale_ix (y : FVec Ideal S8192x1 .f32) (r : Fin 8192) :
    k0_pay6 (F := Ideal) (cmpf .ogt y (broadcast S8192x1 (Scalar.ofBits .f32 0x00000000#32))) (divf y (broadcast S8192x1 (Scalar.ofBits .f32 0x43E00000#32))) (Scalar.ofBits .f32 0x3F800000#32) (ix2 r 0)
      = Spec.scOf (y (ix2 r 0)) := by
  unfold Spec.scOf
  pointwise [k0_pay6]

section
variable (v0 : Vec Ideal S8192x3584 .fp8e4m3) (v1 : Vec Ideal S8192x128 .f32) (v4 v8 : Vec Ideal S1x3584x9472 .fp8e4m3) (v14 v21 : Vec Ideal S1x1x9472 .f32)
variable (x0 : Spec.A2 8192 3584) (x1 : Spec.A2 8192 128) (x3 : Spec.A3 2 3584 9472) (x4 : Spec.A2 2 9472)

/-- The activations, row by row: the first 1024 rows from the first set of weights, the others from the second. -/
theorem pay2_ix (h0 : ∀ r k, v0 (ix2 r k) = x0 (ix2 r k)) (h1 : ∀ r, v1 (ix2 r 0) = x1 (ix2 r 0))
    (h4 : ∀ k n, v4 (ix3 0 k n) = x3 (ix3 0 k n)) (h8 : ∀ k n, v8 (ix3 0 k n) = x3 (ix3 1 k n))
    (h14 : ∀ n, v14 (ix3 0 0 n) = x4 (ix2 0 n)) (h21 : ∀ n, v21 (ix3 0 0 n) = x4 (ix2 1 n)) (r : Fin 8192) (n : Fin 4736) :
    k0_pay2 (F := Ideal) v0 v1 v4 v8 v14 v21 (ix2 r n) = Spec.act x0 x1 x3 x4 r n := by
  unfold Spec.act Spec.gu
  by_cases h : r.val < 1024
  · rw [kr_lo r h]
    pointwise [k0_pay2]
    simp only [dif_pos h, h0, h1, h4, h14]
  · rw [kr_hi r h]
    pointwise [k0_pay2]
    have e : ∀ h', (⟨1024 + (r.val - 1024), h'⟩ : Fin 8192) = r := fun _ => Fin.ext (by dsimp only; omega)
    simp only [dif_neg h, h0, h1, h8, h21, e]

/-- The largest magnitude of a row. -/
theorem pay3_ix (r : Fin 8192) (a : Fin 4736 → EReal) (ha : ∀ n, k0_pay2 (F := Ideal) v0 v1 v4 v8 v14 v21 (ix2 r n) = a n) :
    k0_pay3 (F := Ideal) v0 v1 v4 v8 v14 v21 (ix2 r 0) = Finset.univ.fold max (Ideal.ofBits .f32 4286578688#32) (fun n : Fin 4736 => FloatOps.absf (F := Ideal) (φ := .f32) (a n)) := by
  unfold k0_pay3
  refine (max_ix (absf (k0_pay2 (F := Ideal) v0 v1 v4 v8 v14 v21)) r).trans ?_
  have e : (fun n : Fin 4736 => absf (k0_pay2 (F := Ideal) v0 v1 v4 v8 v14 v21) (ix2 r n)) = fun n : Fin 4736 => FloatOps.absf (F := Ideal) (φ := .f32) (a n) :=
    funext fun n => (absf_ix _ _).trans (congrArg (FloatOps.absf (F := Ideal) (φ := .f32)) (ha n))
  rw [e]

/-- The scale of a row. -/
theorem pay6_ix (r : Fin 8192) (a : EReal) (ha : k0_pay3 (F := Ideal) v0 v1 v4 v8 v14 v21 (ix2 r 0) = a) :
    k0_pay6 (F := Ideal) (k0_pay4 v0 v1 v4 v8 v14 v21) (k0_pay5 v0 v1 v4 v8 v14 v21) (Scalar.ofBits .f32 0x3F800000#32) (ix2 r 0) = Spec.scOf a := by
  unfold k0_pay4 k0_pay5
  refine (scale_ix _ r).trans ?_
  rw [ha]

end

section
variable (v30 : FVec Ideal S8192x4736 .f32) (v35 : IVec S8192x1 1) (v37 : FVec Ideal S8192x1 .f32) (cst : Ideal .f32)

/-- The codes of a row. -/
theorem pay7_ix (r : Fin 8192) (n : Fin 4736) (a s : EReal) (ha : v30 (ix2 r n) = a) (hs : k0_pay6 (F := Ideal) v35 v37 cst (ix2 r 0) = s) :
    k0_pay7 (F := Ideal) v30 v35 v37 cst (ix2 r n) = min (Ideal.ofBits .f32 1138753536#32) (max (Ideal.ofBits .f32 3286237184#32) (Ideal.div a s)) := by
  pointwise [k0_pay7]
  simp only [ha, hs]

/-- The scales, laid out a row of 1024 at a time. -/
theorem pay8_ix (i : Fin 8) (p : Fin 1024) : k0_pay8 (F := Ideal) v35 v37 cst (ix3 i 0 p) = k0_pay6 (F := Ideal) v35 v37 cst (ix2 ⟨1024 * i.val + p.val, by omega⟩ 0) := by
  unfold k0_pay8
  refine shapeCast_apply _ _ _ _ ?_
  rw [Shape.rowMajor_val_two, Shape.rowMajor_val_three]
  show (1024 * i.val + p.val) * 1 + 0 = (i.val * 1 + 0) * 1024 + p.val
  omega

/-- The outputs of a row. -/
theorem pay1_ix (v50 : Vec Ideal S8192x3584 .f32) (v52 v56 : Vec Ideal S1x4736x3584 .fp8e4m3) (v62 v69 : Vec Ideal S1x1x3584 .f32)
    (x5 : Spec.A3 2 4736 3584) (x6 : Spec.A2 2 3584) (r : Fin 8192) (d : Fin 3584) (a s : EReal) (k : Fin 4736 → EReal)
    (h50 : v50 (ix2 r d) = a) (hs : k0_pay6 (F := Ideal) v35 v37 cst (ix2 r 0) = s) (hk : ∀ n, k0_pay7 (F := Ideal) v30 v35 v37 cst (ix2 r n) = k n)
    (h52 : ∀ n, v52 (ix3 0 n d) = x5 (ix3 0 n d)) (h56 : ∀ n, v56 (ix3 0 n d) = x5 (ix3 1 n d))
    (h62 : v62 (ix3 0 0 d) = x6 (ix2 0 d)) (h69 : v69 (ix3 0 0 d) = x6 (ix2 1 d)) :
    k0_pay1 (F := Ideal) v50 (k0_pay9 v30 v35 v37 cst v52 v62) (k0_pay10 v30 v35 v37 cst v56 v69) (ix2 r d)
      = a + (∑ n, k n * x5 (ix3 (Spec.kr r) n d)) * s * x6 (ix2 (Spec.kr r) d) := by
  by_cases h : r.val < 1024
  · rw [kr_lo r h]
    pointwise [k0_pay1, k0_pay9, k0_pay10]
    simp only [dif_pos h, h50, hs, hk, h52, h62]
  · rw [kr_hi r h]
    pointwise [k0_pay1, k0_pay9, k0_pay10]
    have e : ∀ h', (⟨1024 + (r.val - 1024), h'⟩ : Fin 8192) = r := fun _ => Fin.ext (by dsimp only; omega)
    simp only [dif_neg h, h50, h56, h69, e, hs, hk]

end

end Cert.ReferenceIdeal.Ffn

end
-- ==== Proof.RefArrays.lean ====
/- The reference's run: its three output arrays, at the specification's values. -/
module

public import proofs.«01_k».proof.Proof.RefValue

@[expose] public section

set_option maxRecDepth 16384

noncomputable section

namespace Cert.ReferenceIdeal.Ffn

open Cert Cert.ReferenceIdeal Cert.ReferenceIdeal.Gen
open Idealize.ShloMosaic Idealize.ShloMosaic.TcCoe Idealize.ShloMosaic.Tactic Idealize.SL.Sem
open Idealize.ShloMosaic.Pipeline (Dat Cfg Window)

/-! ## The loads, at coordinates -/

theorem ld_0 (x : Vec Ideal S8192x3584 .fp8e4m3) (r : Fin 8192) (k : Fin 3584) : View.ld x r0_0 (ix2 r k) = x (ix2 r k) := by
  refine congrArg x (funext fun a => Fin.ext ?_)
  match a with
  | ⟨0, _⟩ => show 0 + 1 * r.val = r.val; omega
  | ⟨1, _⟩ => show 0 + 1 * k.val = k.val; omega
theorem ld_0f (x : Vec Ideal S8192x3584 .f32) (r : Fin 8192) (k : Fin 3584) : View.ld x r0_0 (ix2 r k) = x (ix2 r k) := by
  refine congrArg x (funext fun a => Fin.ext ?_)
  match a with
  | ⟨0, _⟩ => show 0 + 1 * r.val = r.val; omega
  | ⟨1, _⟩ => show 0 + 1 * k.val = k.val; omega
theorem ld_1 (x : Vec Ideal S8192x128 .f32) (r : Fin 8192) (k : Fin 128) : View.ld x r0_1 (ix2 r k) = x (ix2 r k) := by
  refine congrArg x (funext fun a => Fin.ext ?_)
  match a with
  | ⟨0, _⟩ => show 0 + 1 * r.val = r.val; omega
  | ⟨1, _⟩ => show 0 + 1 * k.val = k.val; omega
theorem ld_2 (x : Vec Ideal S2x3584x9472 .fp8e4m3) (p : Fin 3584) (q : Fin 9472) : View.ld x r0_2 (ix3 0 p q) = x (ix3 0 p q) := by
  refine congrArg x (funext fun a => Fin.ext ?_)
  match a with
  | ⟨0, _⟩ => rfl
  | ⟨1, _⟩ => show 0 + 1 * p.val = p.val; omega
  | ⟨2, _⟩ => show 0 + 1 * q.val = q.val; omega
theorem ld_3 (x : Vec Ideal S2x3584x9472 .fp8e4m3) (p : Fin 3584) (q : Fin 9472) : View.ld x r0_3 (ix3 0 p q) = x (ix3 1 p q) := by
  refine congrArg x (funext fun a => Fin.ext ?_)
  match a with
  | ⟨0, _⟩ => rfl
  | ⟨1, _⟩ => show 0 + 1 * p.val = p.val; omega
  | ⟨2, _⟩ => show 0 + 1 * q.val = q.val; omega
theorem ld_8 (x : Vec Ideal S2x4736x3584 .fp8e4m3) (p : Fin 4736) (q : Fin 3584) : View.ld x r0_8 (ix3 0 p q) = x (ix3 0 p q) := by
  refine congrArg x (funext fun a => Fin.ext ?_)
  match a with
  | ⟨0, _⟩ => rfl
  | ⟨1, _⟩ => show 0 + 1 * p.val = p.val; omega
  | ⟨2, _⟩ => show 0 + 1 * q.val = q.val; omega
theorem ld_9 (x : Vec Ideal S2x4736x3584 .fp8e4m3) (p : Fin 4736) (q : Fin 3584) : View.ld x r0_9 (ix3 0 p q) = x (ix3 1 p q) := by
  refine congrArg x (funext fun a => Fin.ext ?_)
  match a with
  | ⟨0, _⟩ => rfl
  | ⟨1, _⟩ => show 0 + 1 * p.val = p.val; omega
  | ⟨2, _⟩ => show 0 + 1 * q.val = q.val; omega
theorem ld_4 (x : Vec Ideal S2x1x9472 .f32) (p : Fin 1) (q : Fin 9472) : View.ld x r0_4 (ix3 0 p q) = x (ix3 0 p q) := by
  refine congrArg x (funext fun a => Fin.ext ?_)
  match a with
  | ⟨0, _⟩ => rfl
  | ⟨1, _⟩ => show 0 + 1 * p.val = p.val; omega
  | ⟨2, _⟩ => show 0 + 1 * q.val = q.val; omega
theorem ld_5 (x : Vec Ideal S2x1x9472 .f32) (p : Fin 1) (q : Fin 9472) : View.ld x r0_5 (ix3 0 p q) = x (ix3 1 p q) := by
  refine congrArg x (funext fun a => Fin.ext ?_)
  match a with
  | ⟨0, _⟩ => rfl
  | ⟨1, _⟩ => show 0 + 1 * p.val = p.val; omega
  | ⟨2, _⟩ => show 0 + 1 * q.val = q.val; omega
theorem ld_10 (x : Vec Ideal S2x1x3584 .f32) (p : Fin 1) (q : Fin 3584) : View.ld x r0_10 (ix3 0 p q) = x (ix3 0 p q) := by
  refine congrArg x (funext fun a => Fin.ext ?_)
  match a with
  | ⟨0, _⟩ => rfl
  | ⟨1, _⟩ => show 0 + 1 * p.val = p.val; omega
  | ⟨2, _⟩ => show 0 + 1 * q.val = q.val; omega
theorem ld_11 (x : Vec Ideal S2x1x3584 .f32) (p : Fin 1) (q : Fin 3584) : View.ld x r0_11 (ix3 0 p q) = x (ix3 1 p q) := by
  refine congrArg x (funext fun a => Fin.ext ?_)
  match a with
  | ⟨0, _⟩ => rfl
  | ⟨1, _⟩ => show 0 + 1 * p.val = p.val; omega
  | ⟨2, _⟩ => show 0 + 1 * q.val = q.val; omega

variable (m : (ℓ : Loc nD τ sig) → Buf (Elt Ideal) ℓ) (ρ : Dev nD → PrngReg)

theorem cast_9472 (x : S2x9472.Idx → EReal) (h : S2x9472.ShapeCasts S2x1x9472) (k : Fin 2) (q : Fin 9472) :
    shapeCast S2x1x9472 x h (ix3 k 0 q) = x (ix2 k q) := by
  refine shapeCast_apply x h _ _ ?_
  rw [Shape.rowMajor_val_two, Shape.rowMajor_val_three]
  show k.val * 9472 + q.val = (k.val * 1 + 0) * 9472 + q.val
  omega
theorem cast_3584 (x : S2x3584.Idx → EReal) (h : S2x3584.ShapeCasts S2x1x3584) (k : Fin 2) (q : Fin 3584) :
    shapeCast S2x1x3584 x h (ix3 k 0 q) = x (ix2 k q) := by
  refine shapeCast_apply x h _ _ ?_
  rw [Shape.rowMajor_val_two, Shape.rowMajor_val_three]
  show k.val * 3584 + q.val = (k.val * 1 + 0) * 3584 + q.val
  omega

/-! ## The blocks: each window's one block is its whole array -/

theorem index_0 : ∀ t : Fin cfg0.N, win0_0.index t = ![0, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![0, 0, 0] := (by decide +kernel : ∀ t : Fin grid0.N, _)
theorem index_3 : ∀ t : Fin cfg0.N, win0_3.index t = ![0, 0, 0] := (by decide +kernel : ∀ t : Fin grid0.N, _)
theorem index_4 : ∀ t : Fin cfg0.N, win0_4.index t = ![0, 0] := (by decide +kernel : ∀ t : Fin grid0.N, _)
theorem index_5 : ∀ t : Fin cfg0.N, win0_5.index t = ![0, 0, 0] := (by decide +kernel : ∀ t : Fin grid0.N, _)
theorem index_6 : ∀ t : Fin cfg0.N, win0_6.index t = ![0, 0, 0] := (by decide +kernel : ∀ t : Fin grid0.N, _)
theorem index_7 : ∀ t : Fin cfg0.N, win0_7.index t = ![0, 0] := (by decide +kernel : ∀ t : Fin grid0.N, _)
theorem index_8 : ∀ t : Fin cfg0.N, win0_8.index t = ![0, 0] := (by decide +kernel : ∀ t : Fin grid0.N, _)
theorem index_9 : ∀ t : Fin cfg0.N, win0_9.index t = ![0, 0, 0] := (by decide +kernel : ∀ t : Fin grid0.N, _)

theorem blk_0 (c : Dev nD) (t : Fin cfg0.N) (r : Fin 8192) (k : Fin 3584) : iblk m c 0 t (ix2 r k) = m (c, main_arg0) (ix2 r k) := by
  refine Eq.trans ?_ (congrFun (V_main_arg0 m c) (ix2 r k))
  blk_simp [iblk]
  refine congrArg (V m c main_arg0) (funext fun a => Fin.ext ?_)
  match a with
  | ⟨0, _⟩ => blk_simp [index_0]
  | ⟨1, _⟩ => blk_simp [index_0]
theorem blk_1 (c : Dev nD) (t : Fin cfg0.N) (r : Fin 8192) (k : Fin 128) : iblk m c 1 t (ix2 r k) = m (c, main_arg1) (ix2 r k) := by
  refine Eq.trans ?_ (congrFun (V_main_arg1 m c) (ix2 r k))
  blk_simp [iblk]
  refine congrArg (V m c main_arg1) (funext fun a => Fin.ext ?_)
  match a with
  | ⟨0, _⟩ => blk_simp [index_1]
  | ⟨1, _⟩ => blk_simp [index_1]
theorem blk_2 (c : Dev nD) (t : Fin cfg0.N) (k : Fin 2) (q : Fin 9472) : iblk m c 2 t (ix3 k 0 q) = m (c, main_arg4) (ix2 k q) := by
  trans V m c main_v0 (ix3 k 0 q)
  · blk_simp [iblk]
    refine congrArg (V m c main_v0) (funext fun a => Fin.ext ?_)
    match a with
    | ⟨0, _⟩ => blk_simp [index_2]
    | ⟨1, _⟩ => blk_simp [index_2]
    | ⟨2, _⟩ => blk_simp [index_2]
  · show StableHlo.after hostOps0 _ _ _ = _
    simp only [hostOps0, List.cons_append, List.nil_append]
    after_results_simp
    exact cast_9472 (m (c, Proc.tc.devRef main_arg4)) _ k q
theorem blk_3 (c : Dev nD) (t : Fin cfg0.N) (k : Fin 2) (q : Fin 3584) : iblk m c 3 t (ix3 k 0 q) = m (c, main_arg6) (ix2 k q) := by
  trans V m c main_v1 (ix3 k 0 q)
  · blk_simp [iblk]
    refine congrArg (V m c main_v1) (funext fun a => Fin.ext ?_)
    match a with
    | ⟨0, _⟩ => blk_simp [index_3]
    | ⟨1, _⟩ => blk_simp [index_3]
    | ⟨2, _⟩ => blk_simp [index_3]
  · show StableHlo.after hostOps0 _ _ _ = _
    simp only [hostOps0, List.cons_append, List.nil_append]
    after_results_simp
    exact cast_3584 (m (c, Proc.tc.devRef main_arg6)) _ k q
theorem blk_4 (c : Dev nD) (t : Fin cfg0.N) (r : Fin 8192) (k : Fin 3584) : iblk m c 4 t (ix2 r k) = m (c, main_arg2) (ix2 r k) := by
  refine Eq.trans ?_ (congrFun (V_main_arg2 m c) (ix2 r k))
  blk_simp [iblk]
  refine congrArg (V m c main_arg2) (funext fun a => Fin.ext ?_)
  match a with
  | ⟨0, _⟩ => blk_simp [index_4]
  | ⟨1, _⟩ => blk_simp [index_4]
theorem blk_5 (c : Dev nD) (t : Fin cfg0.N) (k : Fin 2) (p : Fin 3584) (q : Fin 9472) : iblk m c 5 t (ix3 k p q) = m (c, main_arg3) (ix3 k p q) := by
  refine Eq.trans ?_ (congrFun (V_main_arg3 m c) (ix3 k p q))
  blk_simp [iblk]
  refine congrArg (V m c main_arg3) (funext fun a => Fin.ext ?_)
  match a with
  | ⟨0, _⟩ => blk_simp [index_5]
  | ⟨1, _⟩ => blk_simp [index_5]
  | ⟨2, _⟩ => blk_simp [index_5]
theorem blk_6 (c : Dev nD) (t : Fin cfg0.N) (k : Fin 2) (p : Fin 4736) (q : Fin 3584) : iblk m c 6 t (ix3 k p q) = m (c, main_arg5) (ix3 k p q) := by
  refine Eq.trans ?_ (congrFun (V_main_arg5 m c) (ix3 k p q))
  blk_simp [iblk]
  refine congrArg (V m c main_arg5) (funext fun a => Fin.ext ?_)
  match a with
  | ⟨0, _⟩ => blk_simp [index_6]
  | ⟨1, _⟩ => blk_simp [index_6]
  | ⟨2, _⟩ => blk_simp [index_6]

/-! ## The body's results -/

section
variable (c : Dev nD) (t : Fin cfg0.N)

/-- The activations of the body, over the argument arrays. -/
theorem act_ix (r : Fin 8192) (n : Fin 4736) :
    k0_pay11 (iblk m c 0 t) (iblk m c 1 t) (iblk m c 2 t) (iblk m c 3 t) (iblk m c 4 t) (iblk m c 5 t) (iblk m c 6 t) (ix2 r n)
      = Spec.act (m (c, main_arg0)) (m (c, main_arg1)) (m (c, main_arg3)) (m (c, main_arg4)) r n := by
  unfold k0_pay11
  exact pay2_ix _ _ _ _ _ _ _ _ _ _ (fun r k => (ld_0 _ r k).trans (blk_0 m c t r k)) (fun r => (ld_1 _ r 0).trans (blk_1 m c t r 0))
    (fun k n => (ld_2 _ k n).trans (blk_5 m c t 0 k n)) (fun k n => (ld_3 _ k n).trans (blk_5 m c t 1 k n))
    (fun n => (ld_4 _ 0 n).trans (blk_2 m c t 0 n)) (fun n => (ld_5 _ 0 n).trans (blk_2 m c t 1 n)) r n
/-- The scales of the body. -/
theorem sc_ix (r : Fin 8192) :
    k0_pay6 (k0_pay12 (iblk m c 0 t) (iblk m c 1 t) (iblk m c 2 t) (iblk m c 3 t) (iblk m c 4 t) (iblk m c 5 t) (iblk m c 6 t)) (k0_pay13 (iblk m c 0 t) (iblk m c 1 t) (iblk m c 2 t) (iblk m c 3 t) (iblk m c 4 t) (iblk m c 5 t) (iblk m c 6 t)) (Scalar.ofBits .f32 0x3F800000#32) (ix2 r 0)
      = Spec.sc (m (c, main_arg0)) (m (c, main_arg1)) (m (c, main_arg3)) (m (c, main_arg4)) r := by
  unfold k0_pay12 k0_pay13
  exact pay6_ix _ _ _ _ _ _ r _ (pay3_ix _ _ _ _ _ _ r _ fun n => act_ix m c t r n)
/-- The codes of the body. -/
theorem code_ix (r : Fin 8192) (n : Fin 4736) :
    k0_pay7 (k0_pay11 (iblk m c 0 t) (iblk m c 1 t) (iblk m c 2 t) (iblk m c 3 t) (iblk m c 4 t) (iblk m c 5 t) (iblk m c 6 t)) (k0_pay12 (iblk m c 0 t) (iblk m c 1 t) (iblk m c 2 t) (iblk m c 3 t) (iblk m c 4 t) (iblk m c 5 t) (iblk m c 6 t)) (k0_pay13 (iblk m c 0 t) (iblk m c 1 t) (iblk m c 2 t) (iblk m c 3 t) (iblk m c 4 t) (iblk m c 5 t) (iblk m c 6 t)) (Scalar.ofBits .f32 0x3F800000#32) (ix2 r n)
      = Spec.code (m (c, main_arg0)) (m (c, main_arg1)) (m (c, main_arg3)) (m (c, main_arg4)) r n :=
  pay7_ix _ _ _ _ r n _ _ (act_ix m c t r n) (sc_ix m c t r)

theorem out7_ix (r : Fin 8192) (d : Fin 3584) :
    out0_7 (iblk m c 0 t) (iblk m c 1 t) (iblk m c 2 t) (iblk m c 3 t) (iblk m c 4 t) (iblk m c 5 t) (iblk m c 6 t) (ix2 r d)
      = Spec.out (m (c, main_arg0)) (m (c, main_arg1)) (m (c, main_arg2)) (m (c, main_arg3)) (m (c, main_arg4)) (m (c, main_arg5)) (m (c, main_arg6)) r d := by
  unfold out0_7
  rw [View.canon_unit_zero (by decide)]
  exact pay1_ix _ _ _ _ _ _ _ _ _ (m (c, main_arg5)) (m (c, main_arg6)) r d _ _ _ ((ld_0f _ r d).trans (blk_4 m c t r d)) (sc_ix m c t r) (code_ix m c t r)
    (fun n => (ld_8 _ n d).trans (blk_6 m c t 0 n d)) (fun n => (ld_9 _ n d).trans (blk_6 m c t 1 n d)) ((ld_10 _ 0 d).trans (blk_3 m c t 0 d)) ((ld_11 _ 0 d).trans (blk_3 m c t 1 d))
theorem out8_ix (r : Fin 8192) (n : Fin 4736) :
    out0_8 (iblk m c 0 t) (iblk m c 1 t) (iblk m c 2 t) (iblk m c 3 t) (iblk m c 4 t) (iblk m c 5 t) (iblk m c 6 t) (ix2 r n)
      = Spec.code (m (c, main_arg0)) (m (c, main_arg1)) (m (c, main_arg3)) (m (c, main_arg4)) r n := by
  unfold out0_8
  rw [View.canon_unit_zero (by decide)]
  exact code_ix m c t r n
theorem out9_ix (i : Fin 8) (p : Fin 1024) :
    out0_9 (iblk m c 0 t) (iblk m c 1 t) (iblk m c 2 t) (iblk m c 3 t) (iblk m c 4 t) (iblk m c 5 t) (iblk m c 6 t) (ix3 i 0 p)
      = Spec.sc (m (c, main_arg0)) (m (c, main_arg1)) (m (c, main_arg3)) (m (c, main_arg4)) ⟨1024 * i.val + p.val, by omega⟩ := by
  unfold out0_9
  rw [View.canon_unit_zero (by decide)]
  exact (pay8_ix _ _ _ i p).trans (sc_ix m c t _)

end

/-! ## The arrays -/

section
variable (c : Dev nD)

/-- The output array; -/
def G7 : S8192x3584.Idx → EReal := fun j => Spec.out (m (c, main_arg0)) (m (c, main_arg1)) (m (c, main_arg2)) (m (c, main_arg3)) (m (c, main_arg4)) (m (c, main_arg5)) (m (c, main_arg6)) ⟨(j 0).val, (j 0).isLt⟩ ⟨(j 1).val, (j 1).isLt⟩
/-- the codes; -/
def G8 : S8192x4736.Idx → EReal := fun j => Spec.code (m (c, main_arg0)) (m (c, main_arg1)) (m (c, main_arg3)) (m (c, main_arg4)) ⟨(j 0).val, (j 0).isLt⟩ ⟨(j 1).val, (j 1).isLt⟩
/-- the scales, a row of 1024 tokens at a time. -/
def G9 : S8x1x1024.Idx → EReal := fun j => Spec.sc (m (c, main_arg0)) (m (c, main_arg1)) (m (c, main_arg3)) (m (c, main_arg4)) ⟨1024 * (j 0).val + (j 2).val, by
  have h0 : (j 0).val < 8 := (j 0).isLt
  have h2 : (j 2).val < 1024 := (j 2).isLt
  omega⟩

theorem arr7 : (dats m 0 c).arrAt 7 cfg0.N = G7 m c := by
  refine (dats m 0 c).arrAt_eq_of_covers 7 _ (by decide +kernel) fun t hf y => ?_
  blk_simp
  rw [after0_7]
  obtain ⟨p, q, rfl⟩ : ∃ (p : Fin 8192) (q : Fin 3584), y = ix2 p q := ⟨y 0, y 1, by funext a; match a with | ⟨0, _⟩ => rfl | ⟨1, _⟩ => rfl⟩
  refine (out7_ix m c t p q).trans ?_
  show Spec.out _ _ _ _ _ _ _ _ _ = Spec.out _ _ _ _ _ _ _ _ _
  congr 1
  · refine Fin.ext ?_
    show p.val = _
    blk_simp [index_7]
  · refine Fin.ext ?_
    show q.val = _
    blk_simp [index_7]
theorem arr8 : (dats m 0 c).arrAt 8 cfg0.N = G8 m c := by
  refine (dats m 0 c).arrAt_eq_of_covers 8 _ (by decide +kernel) fun t hf y => ?_
  blk_simp
  rw [after0_8]
  obtain ⟨p, q, rfl⟩ : ∃ (p : Fin 8192) (q : Fin 4736), y = ix2 p q := ⟨y 0, y 1, by funext a; match a with | ⟨0, _⟩ => rfl | ⟨1, _⟩ => rfl⟩
  refine (out8_ix m c t p q).trans ?_
  show Spec.code _ _ _ _ _ _ = Spec.code _ _ _ _ _ _
  congr 1
  · refine Fin.ext ?_
    show p.val = _
    blk_simp [index_8]
  · refine Fin.ext ?_
    show q.val = _
    blk_simp [index_8]
theorem arr9 : (dats m 0 c).arrAt 9 cfg0.N = G9 m c := by
  refine (dats m 0 c).arrAt_eq_of_covers 9 _ (by decide +kernel) fun t hf y => ?_
  blk_simp
  rw [after0_9]
  obtain ⟨i, p, rfl⟩ : ∃ (i : Fin 8) (p : Fin 1024), y = ix3 i 0 p := ⟨y 0, y 2, by
    funext a
    match a with
    | ⟨0, _⟩ => rfl
    | ⟨1, _⟩ => exact Subsingleton.elim (α := Fin 1) _ _
    | ⟨2, _⟩ => rfl⟩
  refine (out9_ix m c t i p).trans ?_
  show Spec.sc _ _ _ _ _ = Spec.sc _ _ _ _ _
  congr 1
  refine Fin.ext ?_
  show 1024 * i.val + p.val = 1024 * _ + _
  congr 1
  · congr 1
    blk_simp [index_9]
  · blk_simp [index_9]

end

/-- Every run of the reference ends with the three arrays at the specification's values and the arguments unchanged. -/
theorem run_value : θ_run defs (onTc (τ := τ) (main (F := Ideal))) ⟨m, fun _ => 0, ρ⟩ (fun r => ∀ c : Dev nD,
      r.2.mem ((c.tc : Thread nD τ).loc main_v2_0) = G7 m c ∧ r.2.mem ((c.tc : Thread nD τ).loc main_v2_1) = G8 m c ∧ r.2.mem ((c.tc : Thread nD τ).loc main_v2_2) = G9 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(Value.post7 m r h c).trans (arr7 m c), (Value.post8 m r h c).trans (arr8 m c), (Value.post9 m r h c).trans (arr9 m c),
    Value.kept_main_arg0 m r h c, Value.kept_main_arg1 m r h c, Value.kept_main_arg2 m r h c, Value.kept_main_arg3 m r h c, Value.kept_main_arg4 m r h c, Value.kept_main_arg5 m r h c, Value.kept_main_arg6 m r h c⟩) (run_main m ρ)

end Cert.ReferenceIdeal.Ffn

end
-- ==== Proof.Ideal.Equal.lean ====
/- Over the extended reals, from the same arguments, the kernel and the reference leave the same three arrays. -/
module

public import proofs.«01_k».proof.Proof.Ideal.Final
public import proofs.«01_k».proof.Proof.RefArrays
public import proofs.«01_k».proof.Defs
public import Idealize.ShloMosaic.Adequacy
public import Idealize.ShloMosaic.Init

@[expose] public section

noncomputable section

namespace Cert.KernelIdeal.Ffn

open Idealize.ShloMosaic Idealize.ShloMosaic.TcCoe Idealize.SL.Sem

/-- The outputs, the codes and the scales of the kernel are those of the reference. -/
theorem algebraic : Cert.algebraic_KernelIdeal_ReferenceIdeal (hKernelIdeal := Cert.KernelIdeal.Gen.facts) (hReferenceIdeal := Cert.ReferenceIdeal.Gen.facts) := by
  intro m g m' g' _ hm
  refine ⟨fun c => G6 m c, fun c => G7 m c, fun c => G8 m c, ?_, ?_⟩
  · exact (θ_run _ _ _).mono (fun r h c => ⟨(h.1 c).1, (h.1 c).2.1, (h.1 c).2.2, h.2 c⟩) (θ_run_and (run_value m g) (unchanged m g))
  · refine (θ_run _ _ _).mono (fun r h c => ?_) (Cert.ReferenceIdeal.Ffn.run_value m' g')
    obtain ⟨h0, h1, h2, h3, h4, h5, h6⟩ := hm c
    obtain ⟨e7, e8, e9, hk⟩ := h c
    refine ⟨e7.trans ?_, e8.trans ?_, e9.trans ?_, hk⟩
    · unfold Cert.ReferenceIdeal.Ffn.G7 G6 oS
      funext j
      show Spec.out _ _ _ _ _ _ _ _ _ = Spec.out _ _ _ _ _ _ _ _ _
      exact congrFun (congrFun (congr (congr (congr (congr (congr (congr (congrArg Spec.out h0) h1) h2) h3) h4) h5) h6) _) _
    · unfold Cert.ReferenceIdeal.Ffn.G8 G7 kS
      funext j
      exact congrFun (congrFun (congr (congr (congr (congrArg Spec.code h0) h1) h3) h4) _) _
    · unfold Cert.ReferenceIdeal.Ffn.G9 G8 sS
      funext j
      exact congrFun (congr (congr (congr (congrArg Spec.sc h0) h1) h3) h4) _

end Cert.KernelIdeal.Ffn

end
-- ==== Proof.Oproj.Spec.lean ====
/- What the output product of the attention and the norm after it compute, over the extended reals: the new residual of a token,
   its norm, its scale and its codes. -/
module

public import proofs.«01_k».proof.Proof.Spec

@[expose] public section

noncomputable section

namespace Cert.Spec

open Idealize.ShloMosaic

variable (c2 : A2 8192 896) (s2 : A3 64 1 128) (wo : A3 2 896 3584) (so : A2 2 3584) (xs : A2 8192 3584) (ln : A2 2 3584)

/-- The scale of a token's attention codes, which are laid out a row of 128 tokens at a time. -/
def atSc (r : Fin 8192) : EReal := s2 (ix3 ⟨r.val / 128, by omega⟩ 0 ⟨r.val % 128, by omega⟩)

/-- The residual after the output product. -/
def res (r : Fin 8192) (d : Fin 3584) : EReal :=
  xs (ix2 r d) + (∑ k : Fin 896, c2 (ix2 r k) * wo (ix3 (kr r) k d)) * atSc s2 r * so (ix2 (kr r) d)

/-- The entry `d` of the norm of a row `h` with weights `w`. -/
def rmsOf (h : Fin 3584 → EReal) (w : EReal) (d : Fin 3584) : EReal :=
  Ideal.div (h d) (Ideal.sqrt (Ideal.div (∑ n : Fin 3584, h n * h n) (Ideal.ofBits .f32 0x45600000#32) + Ideal.ofBits .f32 0x358637BD#32)) * w

/-- The norm of the residual. -/
def nrm (r : Fin 8192) (d : Fin 3584) : EReal := rmsOf (res c2 s2 wo so xs r) (ln (ix2 (kr r) d)) d

/-- The scale of a row. -/
def rowSc (a : Fin 3584 → EReal) : EReal :=
  scOf (Finset.univ.fold max (Ideal.ofBits .f32 4286578688#32) (fun n : Fin 3584 => FloatOps.absf (F := Ideal) (φ := .f32) (a n)))

/-- The scale of a token. -/
def nSc (r : Fin 8192) : EReal := rowSc (nrm c2 s2 wo so xs ln r)

/-- The code of an entry `a` of a token of scale `s`. -/
def codeOf (a s : EReal) : EReal := min (Ideal.ofBits .f32 1138753536#32) (max (Ideal.ofBits .f32 3286237184#32) (Ideal.div a s))

/-- The codes of the norm. -/
def nCode (r : Fin 8192) (d : Fin 3584) : EReal := codeOf (nrm c2 s2 wo so xs ln r d) (nSc c2 s2 wo so xs ln r)

end Cert.Spec

end
-- ==== Proof.Oproj.Kernel.lean ====
/- The output product's kernel: what its body computes at coordinates. -/
module

public import proofs.«01_k».proof.Proof.Gen.OprojIdeal.Frame
public import proofs.«01_k».proof.Proof.Oproj.Spec
public import Idealize.ShloMosaic.Lib.Pointwise
public import Idealize.ShloMosaic.Lib.Pipeline.ValueKit.Geometry

@[expose] public section

set_option maxRecDepth 16384

noncomputable section

namespace Cert.OprojIdeal.Val

open Cert Cert.OprojIdeal Cert.OprojIdeal.Gen
open Idealize.ShloMosaic Idealize.ShloMosaic.TcCoe Idealize.ShloMosaic.Tactic Idealize.SL.Sem
open Idealize.ShloMosaic.Pipeline (Dat Cfg Window)

/-! ## The identity matrix that turns a row into a column and back -/

theorem eye_eq (x y : ℕ) (hx : x < 128) (hy : y < 128) (a : EReal) :
    Scalar.select (IntOp.cmpi CmpIPredicate.eq (BitVec.ofNat 32 x) (BitVec.ofNat 32 y)) a 0 = if x = y then a else 0 := by
  have h : (BitVec.ofNat 32 x = BitVec.ofNat 32 y) ↔ x = y := by
    constructor
    · intro h
      have := congrArg BitVec.toNat h
      simp only [BitVec.toNat_ofNat] at this
      omega
    · intro h; rw [h]
  by_cases e : x = y
  · rw [if_pos e, e]; simp [Scalar.select, IntOp.cmpi]
  · rw [if_neg e]
    have hb : (BitVec.ofNat 32 x == BitVec.ofNat 32 y) = false := beq_eq_false_iff_ne.mpr fun he => e (h.mp he)
    simp [Scalar.select, IntOp.cmpi, hb]
/-- A sum down column `j` of the identity matrix takes the entry `j`; -/
theorem diag (f : Fin 128 → EReal) (j : ℕ) (hj : j < 128) :
    (∑ x : Fin 128, Scalar.select (IntOp.cmpi CmpIPredicate.eq (BitVec.ofNat 32 x.val) (BitVec.ofNat 32 j)) (f x) 0) = f ⟨j, hj⟩ := by
  simp only [eye_eq _ j (Fin.isLt _) hj]
  rw [Finset.sum_eq_single (⟨j, hj⟩ : Fin 128) (fun b _ hb => if_neg fun e => hb (Fin.ext e)) (fun h => absurd (Finset.mem_univ _) h)]
  exact if_pos rfl
/-- so does a sum along row `j`. -/
theorem diag' (f : Fin 128 → EReal) (j : ℕ) (hj : j < 128) :
    (∑ x : Fin 128, Scalar.select (IntOp.cmpi CmpIPredicate.eq (BitVec.ofNat 32 j) (BitVec.ofNat 32 x.val)) (f x) 0) = f ⟨j, hj⟩ := by
  simp only [eye_eq j _ hj (Fin.isLt _)]
  rw [Finset.sum_eq_single (⟨j, hj⟩ : Fin 128) (fun b _ hb => if_neg fun e => hb (Fin.ext e.symm)) (fun h => absurd (Finset.mem_univ _) h)]
  exact if_pos rfl

/-! ## The payloads, at coordinates -/

/-- The residual of a row; the scales arrive as two rows of 128. -/
theorem pay3_ix (v0 : Vec Ideal S256x896 .fp8e4m3) (v1 : Vec Ideal S1x896x3584 .fp8e4m3) (v4 v15 : Vec Ideal S1x1x128 .f32) (v27 : Vec Ideal S256x3584 .bf16) (v31 : Vec Ideal S1x1x3584 .f32)
    (p : Fin 256) (d : Fin 3584) (a b : Fin 896 → EReal) (s x w : EReal) (h0 : ∀ k, v0 (ix2 p k) = a k) (h1 : ∀ k, v1 (ix3 0 k d) = b k)
    (h4 : ∀ h : p.val < 128, v4 (ix3 0 0 ⟨p.val, h⟩) = s) (h15 : ∀ h : ¬ p.val < 128, v15 (ix3 0 0 ⟨p.val - 128, by omega⟩) = s)
    (h27 : v27 (ix2 p d) = x) (h31 : v31 (ix3 0 0 d) = w) :
    k0_pay3 (F := Ideal) v0 v1 v4 v15 v27 v31 (ix2 p d) = x + (∑ k, a k * b k) * s * w := by
  by_cases h : p.val < 128
  · pointwise [k0_pay3]
    simp only [dif_pos h, h0, h1, h27, h31]
    rw [diag' (fun x => v4 (ix3 0 0 x)) _ h, h4 h]
  · pointwise [k0_pay3]
    simp only [dif_neg h, h0, h1, h27, h31]
    rw [diag' (fun x => v15 (ix3 0 0 x)) _ (by omega), h15 h]

/-- The scale of each row of an array; -/
theorem scale_ix (y : FVec Ideal S256x3584 .f32) (p : Fin 256) (a : Fin 3584 → EReal) (ha : ∀ n, y (ix2 p n) = a n) (z : FVec Ideal S256x1 .f32)
    (hz : z = (shapeCast S256x1 (multiReduction (F := Ideal) .maximumf [1] S256 (absf y) 0xFF800000#32 reduces_S256x3584_S256 (.inl rfl) rfl) shapeCasts_S256_S256x1 : FVec Ideal S256x1 .f32)) :
    select (cmpf .ogt z (broadcast S256x1 (Scalar.ofBits .f32 0x00000000#32))) (divf z (broadcast S256x1 (Scalar.ofBits .f32 0x43E00000#32))) (broadcast S256x1 (Scalar.ofBits .f32 0x3F800000#32)) (ix2 p 0)
      = Spec.rowSc a := by
  subst hz
  unfold Spec.rowSc Spec.scOf
  pointwise
  simp only [ha]
/-- the codes, from a row and its scale. -/
theorem code_ix (y : FVec Ideal S256x3584 .f32) (z : FVec Ideal S256x1 .f32) (p : Fin 256) (d : Fin 3584) :
    truncf .fp8e4m3 (minimumf (broadcast S256x3584 (Scalar.ofBits .f32 0x43E00000#32)) (maximumf (broadcast S256x3584 (Scalar.ofBits .f32 0xC3E00000#32)) (divf y (broadcastTo S256x3584 z broadcasts_S256x1_S256x3584)))) bitsLt_fp8e4m3_f32 (ix2 p d)
      = Spec.codeOf (y (ix2 p d)) (z (ix2 p 0)) := by
  unfold Spec.codeOf
  pointwise

section
variable (y : FVec Ideal S256x3584 .f32) (v37 : Vec Ideal S1x1x3584 .f32)

/-- The norm of a row. -/
theorem pay4_ix (p : Fin 256) (d : Fin 3584) (h : Fin 3584 → EReal) (w : EReal) (hy : ∀ n, y (ix2 p n) = h n) (hw : v37 (ix3 0 0 d) = w) :
    k0_pay4 (F := Ideal) y v37 (ix2 p d) = Spec.rmsOf h w d := by
  unfold Spec.rmsOf
  pointwise [k0_pay4]
  simp only [hy, hw]

/-- The scale of a row. -/
theorem pay5_ix (p : Fin 256) (a : Fin 3584 → EReal) (ha : ∀ n, k0_pay4 (F := Ideal) y v37 (ix2 p n) = a n) :
    k0_pay5 (F := Ideal) y v37 (ix2 p 0) = Spec.rowSc a := by
  unfold k0_pay5
  exact scale_ix _ p a ha _ rfl

/-- The codes of a row. -/
theorem pay6_ix (p : Fin 256) (d : Fin 3584) (a s : EReal) (ha : k0_pay4 (F := Ideal) y v37 (ix2 p d) = a) (hs : k0_pay5 (F := Ideal) y v37 (ix2 p 0) = s) :
    k0_pay6 (F := Ideal) y v37 (ix2 p d) = Spec.codeOf a s := by
  unfold k0_pay6
  refine (code_ix _ _ p d).trans ?_
  rw [ha, hs]

/-- The scales, as a row. -/
theorem pay1_ix (p : Fin 256) : k0_pay1 (F := Ideal) (k0_pay5 y v37) k0_pay7 (k0_pay8 y v37) (ix3 0 0 p) = k0_pay5 (F := Ideal) y v37 (ix2 p 0) := by
  by_cases h : p.val < 128
  · pointwise [k0_pay1, k0_pay7, k0_pay8]
    simp only [dif_pos h]
    rw [diag (fun x => k0_pay5 (F := Ideal) y v37 (ix2 ⟨x.val, by omega⟩ 0)) _ h]
  · pointwise [k0_pay1, k0_pay7, k0_pay8]
    simp only [dif_neg h]
    rw [diag (fun x => k0_pay5 (F := Ideal) y v37 (ix2 ⟨128 + x.val, by omega⟩ 0)) _ (by omega)]
    exact congrArg (fun r => k0_pay5 (F := Ideal) y v37 (ix2 r 0)) (Fin.ext (by dsimp only; omega))

end

/-- The scales, one per lane. -/
theorem pay2_ix (v : FVec Ideal S256x1 .f32) (p : Fin 256) (q : Fin 128) : k0_pay2 (F := Ideal) v (ix2 p q) = v (ix2 p 0) := by
  pointwise [k0_pay2]

end Cert.OprojIdeal.Val

end
-- ==== Proof.Oproj.KernelArrays.lean ====
/- The output product's kernel: its run ends with its four arrays at the specification's values. -/
module

public import proofs.«01_k».proof.Proof.Oproj.Kernel

@[expose] public section

set_option maxRecDepth 16384

noncomputable section

namespace Cert.OprojIdeal.Val

open Cert Cert.OprojIdeal Cert.OprojIdeal.Gen
open Idealize.ShloMosaic Idealize.ShloMosaic.TcCoe Idealize.ShloMosaic.Tactic Idealize.SL.Sem
open Idealize.ShloMosaic.Pipeline (Dat Cfg Window)

/-! ## The loads, at coordinates -/

theorem ld_0 (x : Vec Ideal S256x896 .fp8e4m3) (p : Fin 256) (k : Fin 896) : View.ld x r0_0 (ix2 p k) = x (ix2 p k) := by
  refine congrArg x (funext fun a => Fin.ext ?_)
  match a with
  | ⟨0, _⟩ => show 0 + 1 * p.val = p.val; omega
  | ⟨1, _⟩ => show 0 + 1 * k.val = k.val; omega
theorem ld_1 (x : Vec Ideal S1x896x3584 .fp8e4m3) (k : Fin 896) (d : Fin 3584) : View.ld x r0_1 (ix3 0 k d) = x (ix3 0 k d) := by
  refine congrArg x (funext fun a => Fin.ext ?_)
  match a with
  | ⟨0, _⟩ => rfl
  | ⟨1, _⟩ => show 0 + 1 * k.val = k.val; omega
  | ⟨2, _⟩ => show 0 + 1 * d.val = d.val; omega
theorem ld_2 (x : Vec Ideal S2x1x128 .f32) (q : Fin 128) : View.ld x r0_2 (ix3 0 0 q) = x (ix3 0 0 q) := by
  refine congrArg x (funext fun a => Fin.ext ?_)
  match a with
  | ⟨0, _⟩ => rfl
  | ⟨1, _⟩ => rfl
  | ⟨2, _⟩ => show 0 + 1 * q.val = q.val; omega
theorem ld_3 (x : Vec Ideal S2x1x128 .f32) (q : Fin 128) : View.ld x r0_3 (ix3 0 0 q) = x (ix3 1 0 q) := by
  refine congrArg x (funext fun a => Fin.ext ?_)
  match a with
  | ⟨0, _⟩ => rfl
  | ⟨1, _⟩ => rfl
  | ⟨2, _⟩ => show 0 + 1 * q.val = q.val; omega
theorem ld_4 (x : Vec Ideal S256x3584 .bf16) (p : Fin 256) (d : Fin 3584) : View.ld x r0_4 (ix2 p d) = x (ix2 p d) := by
  refine congrArg x (funext fun a => Fin.ext ?_)
  match a with
  | ⟨0, _⟩ => show 0 + 1 * p.val = p.val; omega
  | ⟨1, _⟩ => show 0 + 1 * d.val = d.val; omega
theorem ld_5 (x : Vec Ideal S1x1x3584 .f32) (d : Fin 3584) : View.ld x r0_5 (ix3 0 0 d) = x (ix3 0 0 d) := by
  refine congrArg x (funext fun a => Fin.ext ?_)
  match a with
  | ⟨0, _⟩ => rfl
  | ⟨1, _⟩ => rfl
  | ⟨2, _⟩ => show 0 + 1 * d.val = d.val; omega

variable (m : (ℓ : Loc nD τ sig) → Buf (Elt Ideal) ℓ) (ρ : Dev nD → PrngReg)

theorem cast_row (x : S2x3584.Idx → EReal) (h : S2x3584.ShapeCasts S2x1x3584) (k : Fin 2) (q : Fin 3584) :
    shapeCast S2x1x3584 x h (ix3 k 0 q) = x (ix2 k q) := by
  refine shapeCast_apply x h _ _ ?_
  rw [Shape.rowMajor_val_two, Shape.rowMajor_val_three]
  show k.val * 3584 + q.val = (k.val * 1 + 0) * 3584 + q.val
  omega

/-! ## The blocks -/

theorem index_0 : ∀ t : Fin cfg0.N, win0_0.index t = ![t.val, 0] := (by decide +kernel : ∀ t : Fin grid0.N, _)
theorem index_1 : ∀ t : Fin cfg0.N, win0_1.index t = ![t.val, 0, 0] := (by decide +kernel : ∀ t : Fin grid0.N, _)
theorem index_2 : ∀ t : Fin cfg0.N, win0_2.index t = ![min (t.val / 4) 1, 0, 0] := (by decide +kernel : ∀ t : Fin grid0.N, _)
theorem index_3 : ∀ t : Fin cfg0.N, win0_3.index t = ![min (t.val / 4) 1, 0, 0] := (by decide +kernel : ∀ t : Fin grid0.N, _)
theorem index_4 : ∀ t : Fin cfg0.N, win0_4.index t = ![t.val, 0] := (by decide +kernel : ∀ t : Fin grid0.N, _)
theorem index_5 : ∀ t : Fin cfg0.N, win0_5.index t = ![min (t.val / 4) 1, 0, 0] := (by decide +kernel : ∀ t : Fin grid0.N, _)
theorem index_6 : ∀ t : Fin cfg0.N, win0_6.index t = ![t.val, 0] := (by decide +kernel : ∀ t : Fin grid0.N, _)
theorem index_7 : ∀ t : Fin cfg0.N, win0_7.index t = ![t.val, 0] := (by decide +kernel : ∀ t : Fin grid0.N, _)
theorem index_8 : ∀ t : Fin cfg0.N, win0_8.index t = ![t.val, 0, 0] := (by decide +kernel : ∀ t : Fin grid0.N, _)
theorem index_9 : ∀ t : Fin cfg0.N, win0_9.index t = ![t.val, 0] := (by decide +kernel : ∀ t : Fin grid0.N, _)

theorem t_lt (t : Fin cfg0.N) : t.val < 32 := by have := lt_of_lt_of_eq t.isLt (show cfg0.N = 32 from N_0); omega
/-- The row of the arrays that row `p` of the block of point `t` is. -/
def rw0 (t : Fin cfg0.N) (p : Fin 256) : Fin 8192 := ⟨256 * t.val + p.val, by have := t_lt t; omega⟩
theorem kr_val (t : Fin cfg0.N) (p : Fin 256) : (Spec.kr (rw0 t p)).val = min (t.val / 4) 1 := by
  show min ((256 * t.val + p.val) / 1024) 1 = _
  omega

section
variable (c : Dev nD) (t : Fin cfg0.N)

theorem blk_0 (p : Fin 256) (d : Fin 896) : iblk m c 0 t (ix2 p d) = m (c, main_arg0) (ix2 (rw0 t p) d) := by
  refine Eq.trans ?_ (congrFun (V_main_arg0 m c) (ix2 (rw0 t p) d))
  blk_simp [iblk]
  refine congrArg (V m c main_arg0) (funext fun a => Fin.ext ?_)
  match a with
  | ⟨0, _⟩ => blk_simp [index_0] <;> (show _ = 256 * t.val + p.val; simp; omega)
  | ⟨1, _⟩ => blk_simp [index_0]
theorem blk_1 (j : Fin 2) (q : Fin 128) (r : Fin 64) (hr : r.val = 2 * t.val + j.val) : iblk m c 1 t (ix3 j 0 q) = m (c, main_arg1) (ix3 r 0 q) := by
  refine Eq.trans ?_ (congrFun (V_main_arg1 m c) (ix3 r 0 q))
  blk_simp [iblk]
  refine congrArg (V m c main_arg1) (funext fun a => Fin.ext ?_)
  match a with
  | ⟨0, _⟩ => blk_simp [index_1] <;> omega
  | ⟨1, _⟩ => blk_simp [index_1]
  | ⟨2, _⟩ => blk_simp [index_1]
theorem blk_2 (p : Fin 256) (k : Fin 896) (d : Fin 3584) : iblk m c 2 t (ix3 0 k d) = m (c, main_arg2) (ix3 (Spec.kr (rw0 t p)) k d) := by
  refine Eq.trans ?_ (congrFun (V_main_arg2 m c) (ix3 (Spec.kr (rw0 t p)) k d))
  blk_simp [iblk]
  refine congrArg (V m c main_arg2) (funext fun a => Fin.ext ?_)
  match a with
  | ⟨0, _⟩ => refine Eq.trans ?_ (kr_val t p).symm; blk_simp [index_2] <;> rfl
  | ⟨1, _⟩ => blk_simp [index_2]
  | ⟨2, _⟩ => blk_simp [index_2]
theorem blk_3 (p : Fin 256) (d : Fin 3584) : iblk m c 3 t (ix3 0 0 d) = m (c, main_arg3) (ix2 (Spec.kr (rw0 t p)) d) := by
  trans V m c main_v0 (ix3 (Spec.kr (rw0 t p)) 0 d)
  · blk_simp [iblk]
    refine congrArg (V m c main_v0) (funext fun a => Fin.ext ?_)
    match a with
    | ⟨0, _⟩ => refine Eq.trans ?_ (kr_val t p).symm; blk_simp [index_3] <;> rfl
    | ⟨1, _⟩ => blk_simp [index_3]
    | ⟨2, _⟩ => blk_simp [index_3]
  · show StableHlo.after hostOps0 _ _ _ = _
    simp only [hostOps0, List.cons_append, List.nil_append]
    after_results_simp
    exact cast_row (m (c, Proc.tc.devRef main_arg3)) _ (Spec.kr (rw0 t p)) d
theorem blk_5 (p : Fin 256) (d : Fin 3584) : iblk m c 5 t (ix3 0 0 d) = m (c, main_arg5) (ix2 (Spec.kr (rw0 t p)) d) := by
  trans V m c main_v1 (ix3 (Spec.kr (rw0 t p)) 0 d)
  · blk_simp [iblk]
    refine congrArg (V m c main_v1) (funext fun a => Fin.ext ?_)
    match a with
    | ⟨0, _⟩ => refine Eq.trans ?_ (kr_val t p).symm; blk_simp [index_5] <;> rfl
    | ⟨1, _⟩ => blk_simp [index_5]
    | ⟨2, _⟩ => blk_simp [index_5]
  · show StableHlo.after hostOps0 _ _ _ = _
    simp only [hostOps0, List.cons_append, List.nil_append]
    after_results_simp
    exact cast_row (m (c, Proc.tc.devRef main_arg5)) _ (Spec.kr (rw0 t p)) d
theorem blk_4 (p : Fin 256) (d : Fin 3584) : iblk m c 4 t (ix2 p d) = m (c, main_arg4) (ix2 (rw0 t p) d) := by
  refine Eq.trans ?_ (congrFun (V_main_arg4 m c) (ix2 (rw0 t p) d))
  blk_simp [iblk]
  refine congrArg (V m c main_arg4) (funext fun a => Fin.ext ?_)
  match a with
  | ⟨0, _⟩ => blk_simp [index_4] <;> (show _ = 256 * t.val + p.val; simp; omega)
  | ⟨1, _⟩ => blk_simp [index_4]

/-! ## The body's results -/

/-- The specification's residual, of the argument arrays; -/
def hS (r : Fin 8192) (d : Fin 3584) : EReal := Spec.res (m (c, main_arg0)) (m (c, main_arg1)) (m (c, main_arg2)) (m (c, main_arg3)) (m (c, main_arg4)) r d
/-- its norm; -/
def nS (r : Fin 8192) (d : Fin 3584) : EReal := Spec.nrm (m (c, main_arg0)) (m (c, main_arg1)) (m (c, main_arg2)) (m (c, main_arg3)) (m (c, main_arg4)) (m (c, main_arg5)) r d
/-- its scales; -/
def sS (r : Fin 8192) : EReal := Spec.nSc (m (c, main_arg0)) (m (c, main_arg1)) (m (c, main_arg2)) (m (c, main_arg3)) (m (c, main_arg4)) (m (c, main_arg5)) r
/-- its codes. -/
def kS (r : Fin 8192) (d : Fin 3584) : EReal := Spec.nCode (m (c, main_arg0)) (m (c, main_arg1)) (m (c, main_arg2)) (m (c, main_arg3)) (m (c, main_arg4)) (m (c, main_arg5)) r d

theorem res_ix (p : Fin 256) (d : Fin 3584) : k0_pay9 (iblk m c 0 t) (iblk m c 1 t) (iblk m c 2 t) (iblk m c 3 t) (iblk m c 4 t) (iblk m c 5 t) (ix2 p d) = hS m c (rw0 t p) d := by
  have ht := t_lt t
  unfold k0_pay9 hS Spec.res
  exact pay3_ix _ _ _ _ _ _ p d _ _ _ _ _ (fun k => (ld_0 _ p k).trans (blk_0 m c t p k)) (fun k => (ld_1 _ k d).trans (blk_2 m c t p k d))
    (fun h => ((ld_2 _ _).trans (blk_1 m c t 0 ⟨p.val, h⟩ ⟨2 * t.val, by omega⟩ rfl)).trans (congrArg (m (c, main_arg1)) (congr (congrArg (fun r => ix3 r 0) (Fin.ext (by show 2 * t.val = (256 * t.val + p.val) / 128; omega))) (Fin.ext (by show p.val = (256 * t.val + p.val) % 128; omega)))))
    (fun h => ((ld_3 _ _).trans (blk_1 m c t 1 ⟨p.val - 128, by omega⟩ ⟨2 * t.val + 1, by omega⟩ rfl)).trans (congrArg (m (c, main_arg1)) (congr (congrArg (fun r => ix3 r 0) (Fin.ext (by show 2 * t.val + 1 = (256 * t.val + p.val) / 128; omega))) (Fin.ext (by show p.val - 128 = (256 * t.val + p.val) % 128; omega)))))
    ((ld_4 _ p d).trans (blk_4 m c t p d)) ((ld_5 _ d).trans (blk_3 m c t p d))
theorem nrm_ix (p : Fin 256) (d : Fin 3584) : k0_pay4 (k0_pay9 (iblk m c 0 t) (iblk m c 1 t) (iblk m c 2 t) (iblk m c 3 t) (iblk m c 4 t) (iblk m c 5 t)) (View.ld (iblk m c 5 t) r0_5) (ix2 p d) = nS m c (rw0 t p) d :=
  pay4_ix _ _ p d (hS m c (rw0 t p)) _ (res_ix m c t p) ((ld_5 _ d).trans (blk_5 m c t p d))
theorem sc_ix (p : Fin 256) : k0_pay5 (k0_pay9 (iblk m c 0 t) (iblk m c 1 t) (iblk m c 2 t) (iblk m c 3 t) (iblk m c 4 t) (iblk m c 5 t)) (View.ld (iblk m c 5 t) r0_5) (ix2 p 0) = sS m c (rw0 t p) :=
  pay5_ix _ _ p (nS m c (rw0 t p)) (nrm_ix m c t p)

theorem out6_ix (p : Fin 256) (d : Fin 3584) : out0_6 (iblk m c 0 t) (iblk m c 1 t) (iblk m c 2 t) (iblk m c 3 t) (iblk m c 4 t) (iblk m c 5 t) (ix2 p d) = hS m c (rw0 t p) d := by
  unfold out0_6
  rw [View.canon_unit_zero (by decide)]
  exact res_ix m c t p d
theorem out7_ix (p : Fin 256) (d : Fin 3584) : out0_7 (iblk m c 0 t) (iblk m c 1 t) (iblk m c 2 t) (iblk m c 3 t) (iblk m c 4 t) (iblk m c 5 t) (ix2 p d) = kS m c (rw0 t p) d := by
  unfold out0_7
  rw [View.canon_unit_zero (by decide)]
  exact pay6_ix _ _ p d _ _ (nrm_ix m c t p d) (sc_ix m c t p)
theorem out8_ix (p : Fin 256) : out0_8 (iblk m c 0 t) (iblk m c 1 t) (iblk m c 2 t) (iblk m c 3 t) (iblk m c 4 t) (iblk m c 5 t) (ix3 0 0 p) = sS m c (rw0 t p) := by
  unfold out0_8 k0_pay10
  rw [View.canon_unit_zero (by decide)]
  exact (pay1_ix _ _ p).trans (sc_ix m c t p)
theorem out9_ix (p : Fin 256) (q : Fin 128) : out0_9 (iblk m c 0 t) (iblk m c 1 t) (iblk m c 2 t) (iblk m c 3 t) (iblk m c 4 t) (iblk m c 5 t) (ix2 p q) = sS m c (rw0 t p) := by
  unfold out0_9 k0_pay10
  rw [View.canon_unit_zero (by decide)]
  exact (pay2_ix _ p q).trans (sc_ix m c t p)

end

/-! ## The arrays -/

section
variable (c : Dev nD)

/-- The residuals as an array; -/
def G6 : S8192x3584.Idx → EReal := fun j => hS m c ⟨(j 0).val, (j 0).isLt⟩ ⟨(j 1).val, (j 1).isLt⟩
/-- the codes; -/
def G7 : S8192x3584.Idx → EReal := fun j => kS m c ⟨(j 0).val, (j 0).isLt⟩ ⟨(j 1).val, (j 1).isLt⟩
/-- the scales, a row of 256 tokens at a time; -/
def G8 : S32x1x256.Idx → EReal := fun j => sS m c ⟨256 * (j 0).val + (j 2).val, by
  have h0 : (j 0).val < 32 := (j 0).isLt
  have h2 : (j 2).val < 256 := (j 2).isLt
  omega⟩
/-- the scales, one per lane. -/
def G9 : S8192x128.Idx → EReal := fun j => sS m c ⟨(j 0).val, (j 0).isLt⟩

theorem arr6 : (dats m 0 c).arrAt 6 cfg0.N = G6 m c := by
  refine (dats m 0 c).arrAt_eq_of_covers 6 _ (by decide +kernel) fun t hf y => ?_
  blk_simp
  rw [after0_6]
  obtain ⟨p, q, rfl⟩ : ∃ (p : Fin 256) (q : Fin 3584), y = ix2 p q := ⟨y 0, y 1, by funext a; match a with | ⟨0, _⟩ => rfl | ⟨1, _⟩ => rfl⟩
  refine (out6_ix m c t p q).trans ?_
  show hS m c _ _ = hS m c _ _
  congr 1
  · refine Fin.ext ?_
    show 256 * t.val + p.val = _
    blk_simp [index_6] <;> (simp; try omega)
  · refine Fin.ext ?_
    show q.val = _
    blk_simp [index_6]
theorem arr7 : (dats m 0 c).arrAt 7 cfg0.N = G7 m c := by
  refine (dats m 0 c).arrAt_eq_of_covers 7 _ (by decide +kernel) fun t hf y => ?_
  blk_simp
  rw [after0_7]
  obtain ⟨p, q, rfl⟩ : ∃ (p : Fin 256) (q : Fin 3584), y = ix2 p q := ⟨y 0, y 1, by funext a; match a with | ⟨0, _⟩ => rfl | ⟨1, _⟩ => rfl⟩
  refine (out7_ix m c t p q).trans ?_
  show kS m c _ _ = kS m c _ _
  congr 1
  · refine Fin.ext ?_
    show 256 * t.val + p.val = _
    blk_simp [index_7] <;> (simp; try omega)
  · refine Fin.ext ?_
    show q.val = _
    blk_simp [index_7]
theorem arr8 : (dats m 0 c).arrAt 8 cfg0.N = G8 m c := by
  refine (dats m 0 c).arrAt_eq_of_covers 8 _ (by decide +kernel) fun t hf y => ?_
  blk_simp
  rw [after0_8]
  obtain ⟨p, rfl⟩ : ∃ (p : Fin 256), y = ix3 0 0 p := ⟨y 2, by
    funext a
    match a with
    | ⟨0, _⟩ => exact Subsingleton.elim (α := Fin 1) _ _
    | ⟨1, _⟩ => exact Subsingleton.elim (α := Fin 1) _ _
    | ⟨2, _⟩ => rfl⟩
  refine (out8_ix m c t p).trans ?_
  show sS m c _ = sS m c _
  congr 1
  refine Fin.ext ?_
  show 256 * t.val + p.val = 256 * _ + _
  congr 1
  · congr 1
    blk_simp [index_8] <;> (simp; try omega)
  · blk_simp [index_8] <;> (simp; try omega)
theorem arr9 : (dats m 0 c).arrAt 9 cfg0.N = G9 m c := by
  refine (dats m 0 c).arrAt_eq_of_covers 9 _ (by decide +kernel) fun t hf y => ?_
  blk_simp
  rw [after0_9]
  obtain ⟨p, q, rfl⟩ : ∃ (p : Fin 256) (q : Fin 128), y = ix2 p q := ⟨y 0, y 1, by funext a; match a with | ⟨0, _⟩ => rfl | ⟨1, _⟩ => rfl⟩
  refine (out9_ix m c t p q).trans ?_
  show sS m c _ = sS m c _
  congr 1
  refine Fin.ext ?_
  show 256 * t.val + p.val = _
  blk_simp [index_9] <;> (simp; try omega)

end

/-- Every run of the kernel ends with the four arrays at the specification's values and the arguments unchanged. -/
theorem run_value : θ_run defs (onTc (τ := τ) (main (F := Ideal))) ⟨m, fun _ => 0, ρ⟩ (fun r => ∀ c : Dev nD,
      r.2.mem ((c.tc : Thread nD τ).loc main_v2_0) = G6 m c ∧ r.2.mem ((c.tc : Thread nD τ).loc main_v2_1) = G7 m c
      ∧ r.2.mem ((c.tc : Thread nD τ).loc main_v2_2) = G8 m c ∧ r.2.mem ((c.tc : Thread nD τ).loc main_v2_3) = G9 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨((h c).1 6).trans (arr6 m c), ((h c).1 7).trans (arr7 m c), ((h c).1 8).trans (arr8 m c), ((h c).1 9).trans (arr9 m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).2 main_arg3 (Pipeline.mem_restRefs_of main_arg3 (by decide) (by decide))).trans (V_main_arg3 m c),
    ((h c).1 4).trans (((dats m 0 c).arrAt_in 4 rfl _).trans ((A_eq m c 4).trans (V_main_arg4 m c))),
    ((h c).2 main_arg5 (Pipeline.mem_restRefs_of main_arg5 (by decide) (by decide))).trans (V_main_arg5 m c)⟩) (run_main m ρ)

end Cert.OprojIdeal.Val

end
-- ==== Proof.Oproj.Ref.lean ====
/- The output product's reference: what its body computes at coordinates. -/
module

public import proofs.«01_k».proof.Proof.Gen.OprojReferenceIdeal.Frame
public import proofs.«01_k».proof.Proof.Oproj.Spec
public import Idealize.ShloMosaic.Lib.Pointwise
public import Idealize.ShloMosaic.Lib.Pipeline.ValueKit.Geometry

@[expose] public section

set_option maxRecDepth 16384

noncomputable section

namespace Cert.OprojReferenceIdeal.Val

open Cert Cert.OprojReferenceIdeal Cert.OprojReferenceIdeal.Gen
open Idealize.ShloMosaic Idealize.ShloMosaic.TcCoe Idealize.ShloMosaic.Tactic Idealize.SL.Sem
open Idealize.ShloMosaic.Pipeline (Dat Cfg Window)

/-! ## The payloads, at coordinates -/

theorem kr_lo (r : Fin 8192) (h : r.val < 1024) : Spec.kr r = 0 := Fin.ext (by show min (r.val / 1024) 1 = 0; omega)
theorem kr_hi (r : Fin 8192) (h : ¬ r.val < 1024) : Spec.kr r = 1 := Fin.ext (by show min (r.val / 1024) 1 = 1; omega)

theorem absf_ix (y : FVec Ideal S8192x3584 .f32) (i : S8192x3584.Idx) : absf y i = FloatOps.absf (F := Ideal) (φ := .f32) (y i) := rfl
/-- The largest element of each row of an array, as a column. -/
theorem max_ix (y : FVec Ideal S8192x3584 .f32) (r : Fin 8192) :
    (shapeCast S8192x1 (multiReduction (F := Ideal) .maximumf [1] S8192 y 0xFF800000#32 reduces_S8192x3584_S8192 (.inl rfl) rfl) shapeCasts_S8192_S8192x1 : FVec Ideal S8192x1 .f32) (ix2 r 0)
      = Finset.univ.fold max (Ideal.ofBits .f32 4286578688#32) (fun n : Fin 3584 => y (ix2 r n)) := by
  refine (shapeCast_apply _ _ (ix2 r 0) (ix1 r) ?_).trans ?_
  · rw [Shape.rowMajor_val_two, Shape.rowMajor_val_one]
    show r.val = r.val * 1 + 0
    omega
  · pointwise
/-- The sum of each row of an array, as a column. -/
theorem sum_ix (y : FVec Ideal S8192x3584 .f32) (r : Fin 8192) :
    (shapeCast S8192x1 (multiReduction (F := Ideal) .add [1] S8192 y 0x00000000#32 reduces_S8192x3584_S8192 (.inl rfl) rfl) shapeCasts_S8192_S8192x1 : FVec Ideal S8192x1 .f32) (ix2 r 0)
      = ∑ n : Fin 3584, y (ix2 r n) := by
  refine (shapeCast_apply _ _ (ix2 r 0) (ix1 r) ?_).trans ?_
  · rw [Shape.rowMajor_val_two, Shape.rowMajor_val_one]
    show r.val = r.val * 1 + 0
    omega
  · pointwise

/-- The root of a mean square, from the sum of the squares; -/
theorem root_ix (y : FVec Ideal S8192x1 .f32) (r : Fin 8192) :
    sqrt (addf (divf y (broadcast S8192x1 (Scalar.ofBits .f32 0x45600000#32))) (broadcast S8192x1 (Scalar.ofBits .f32 0x358637BD#32))) (ix2 r 0)
      = Ideal.sqrt (Ideal.div (y (ix2 r 0)) (Ideal.ofBits .f32 0x45600000#32) + Ideal.ofBits .f32 0x358637BD#32) := by
  pointwise
/-- a product of an array with itself; -/
theorem sq_ix (y : FVec Ideal S8192x3584 .f32) (r : Fin 8192) (n : Fin 3584) : mulf y y (ix2 r n) = (y (ix2 r n) * y (ix2 r n) : EReal) := by
  pointwise
/-- the scale of each row, from its largest magnitude. -/
theorem scale_ix (y : FVec Ideal S8192x1 .f32) (r : Fin 8192) :
    select (cmpf .ogt y (broadcast S8192x1 (Scalar.ofBits .f32 0x00000000#32))) (divf y (broadcast S8192x1 (Scalar.ofBits .f32 0x43E00000#32))) (broadcast S8192x1 (Scalar.ofBits .f32 0x3F800000#32)) (ix2 r 0)
      = Spec.scOf (y (ix2 r 0)) := by
  unfold Spec.scOf
  pointwise

/-- The codes of a row, from the row and its scale; -/
theorem code_ix (y : FVec Ideal S8192x3584 .f32) (z : FVec Ideal S8192x1 .f32) (r : Fin 8192) (d : Fin 3584) :
    truncf .fp8e4m3 (minimumf (broadcast S8192x3584 (Scalar.ofBits .f32 0x43E00000#32)) (maximumf (broadcast S8192x3584 (Scalar.ofBits .f32 0xC3E00000#32)) (divf y (broadcastTo S8192x3584 z broadcasts_S8192x1_S8192x3584)))) bitsLt_fp8e4m3_f32 (ix2 r d)
      = Spec.codeOf (y (ix2 r d)) (z (ix2 r 0)) := by
  unfold Spec.codeOf
  pointwise
/-- a column, repeated in each lane. -/
theorem lanes_ix (y : FVec Ideal S8192x1 .f32) (r : Fin 8192) (q : Fin 128) :
    (broadcastTo S8192x128 (shapeCast S8192x1 y shapeCasts_S8192x1_S8192x1 : FVec Ideal S8192x1 .f32) broadcasts_S8192x1_S8192x128 : FVec Ideal S8192x128 .f32) (ix2 r q) = y (ix2 r 0) := by
  pointwise

section
variable (v0 : Vec Ideal S8192x896 .fp8e4m3) (v1 : Vec Ideal S8192x1 .f32) (v4 v8 : Vec Ideal S1x896x3584 .fp8e4m3) (v11 : Vec Ideal S8192x3584 .bf16) (v16 v23 : Vec Ideal S1x1x3584 .f32)

/-- The residual of a row. -/
theorem pay1_ix (r : Fin 8192) (d : Fin 3584) (a : Fin 896 → EReal) (wo : Spec.A3 2 896 3584) (so : Spec.A2 2 3584) (s x : EReal)
    (h0 : ∀ k, v0 (ix2 r k) = a k) (h1 : v1 (ix2 r 0) = s) (h4 : ∀ k, v4 (ix3 0 k d) = wo (ix3 0 k d)) (h8 : ∀ k, v8 (ix3 0 k d) = wo (ix3 1 k d))
    (h11 : v11 (ix2 r d) = x) (h16 : v16 (ix3 0 0 d) = so (ix2 0 d)) (h23 : v23 (ix3 0 0 d) = so (ix2 1 d)) :
    k0_pay1 (F := Ideal) v0 v1 v4 v8 v11 v16 v23 (ix2 r d) = x + (∑ k, a k * wo (ix3 (Spec.kr r) k d)) * s * so (ix2 (Spec.kr r) d) := by
  by_cases h : r.val < 1024
  · rw [kr_lo r h]
    pointwise [k0_pay1]
    simp only [dif_pos h, h0, h1, h4, h11, h16]
  · rw [kr_hi r h]
    pointwise [k0_pay1]
    have e : ∀ h', (⟨1024 + (r.val - 1024), h'⟩ : Fin 8192) = r := fun _ => Fin.ext (by dsimp only; omega)
    simp only [dif_neg h, e, h0, h1, h8, h11, h23]

/-- The root of the mean square of a row. -/
theorem pay2_ix (r : Fin 8192) (h : Fin 3584 → EReal) (hy : ∀ n, k0_pay1 (F := Ideal) v0 v1 v4 v8 v11 v16 v23 (ix2 r n) = h n) :
    k0_pay2 (F := Ideal) v0 v1 v4 v8 v11 v16 v23 (ix2 r 0)
      = Ideal.sqrt (Ideal.div (∑ n : Fin 3584, h n * h n) (Ideal.ofBits .f32 0x45600000#32) + Ideal.ofBits .f32 0x358637BD#32) := by
  unfold k0_pay2
  refine (root_ix _ r).trans ?_
  refine congrArg (fun z => Ideal.sqrt (Ideal.div z (Ideal.ofBits .f32 0x45600000#32) + Ideal.ofBits .f32 0x358637BD#32)) ?_
  refine (sum_ix _ r).trans (Finset.sum_congr rfl fun n _ => ?_)
  refine (sq_ix _ r n).trans ?_
  rw [hy n]

end

section
variable (v28 : FVec Ideal S8192x3584 .f32) (v36 : FVec Ideal S8192x1 .f32) (v40 v45 : Vec Ideal S1x1x3584 .f32)

/-- The norm of a row. -/
theorem pay3_ix (r : Fin 8192) (d : Fin 3584) (ln : Spec.A2 2 3584) (a b : EReal) (h28 : v28 (ix2 r d) = a) (h36 : v36 (ix2 r 0) = b)
    (h40 : v40 (ix3 0 0 d) = ln (ix2 0 d)) (h45 : v45 (ix3 0 0 d) = ln (ix2 1 d)) :
    k0_pay3 (F := Ideal) v28 v36 v40 v45 (ix2 r d) = Ideal.div a b * ln (ix2 (Spec.kr r) d) := by
  by_cases h : r.val < 1024
  · rw [kr_lo r h]
    pointwise [k0_pay3]
    simp only [dif_pos h, h28, h36, h40]
  · rw [kr_hi r h]
    pointwise [k0_pay3]
    have e : ∀ h', (⟨1024 + (r.val - 1024), h'⟩ : Fin 8192) = r := fun _ => Fin.ext (by dsimp only; omega)
    simp only [dif_neg h, e, h28, h36, h45]

/-- The scale of a row. -/
theorem pay4_ix (r : Fin 8192) (a : Fin 3584 → EReal) (ha : ∀ n, k0_pay3 (F := Ideal) v28 v36 v40 v45 (ix2 r n) = a n) :
    k0_pay4 (F := Ideal) v28 v36 v40 v45 (ix2 r 0) = Spec.rowSc a := by
  unfold k0_pay4 Spec.rowSc
  refine (scale_ix _ r).trans (congrArg Spec.scOf ?_)
  refine (max_ix _ r).trans ?_
  have e : (fun n : Fin 3584 => absf (k0_pay3 (F := Ideal) v28 v36 v40 v45) (ix2 r n)) = fun n : Fin 3584 => FloatOps.absf (F := Ideal) (φ := .f32) (a n) :=
    funext fun n => (absf_ix _ _).trans (congrArg (FloatOps.absf (F := Ideal) (φ := .f32)) (ha n))
  rw [e]

/-- The codes of a row. -/
theorem pay5_ix (r : Fin 8192) (d : Fin 3584) (a s : EReal) (ha : k0_pay3 (F := Ideal) v28 v36 v40 v45 (ix2 r d) = a) (hs : k0_pay4 (F := Ideal) v28 v36 v40 v45 (ix2 r 0) = s) :
    k0_pay5 (F := Ideal) v28 v36 v40 v45 (ix2 r d) = Spec.codeOf a s := by
  unfold k0_pay5
  refine (code_ix _ _ r d).trans ?_
  rw [ha, hs]

/-- The scales, laid out a row of 256 at a time. -/
theorem pay6_ix (i : Fin 32) (p : Fin 256) : k0_pay6 (F := Ideal) v28 v36 v40 v45 (ix3 i 0 p) = k0_pay4 (F := Ideal) v28 v36 v40 v45 (ix2 ⟨256 * i.val + p.val, by omega⟩ 0) := by
  unfold k0_pay6
  refine shapeCast_apply _ _ _ _ ?_
  rw [Shape.rowMajor_val_two, Shape.rowMajor_val_three]
  show (256 * i.val + p.val) * 1 + 0 = (i.val * 1 + 0) * 256 + p.val
  omega

/-- The scales, one per lane. -/
theorem pay7_ix (r : Fin 8192) (q : Fin 128) (s : EReal) (hs : k0_pay4 (F := Ideal) v28 v36 v40 v45 (ix2 r 0) = s) :
    k0_pay7 (F := Ideal) v28 v36 v40 v45 (ix2 r q) = s := by
  unfold k0_pay7
  exact (lanes_ix _ r q).trans hs

end

end Cert.OprojReferenceIdeal.Val

end
-- ==== Proof.Oproj.RefArrays.lean ====
/- The output product's reference: its run ends with its four arrays at the specification's values. -/
module

public import proofs.«01_k».proof.Proof.Oproj.Ref

@[expose] public section

set_option maxRecDepth 16384

noncomputable section

namespace Cert.OprojReferenceIdeal.Val

open Cert Cert.OprojReferenceIdeal Cert.OprojReferenceIdeal.Gen
open Idealize.ShloMosaic Idealize.ShloMosaic.TcCoe Idealize.ShloMosaic.Tactic Idealize.SL.Sem
open Idealize.ShloMosaic.Pipeline (Dat Cfg Window)

/-! ## The loads, at coordinates -/

theorem ld_0 (x : Vec Ideal S8192x896 .fp8e4m3) (r : Fin 8192) (k : Fin 896) : View.ld x r0_0 (ix2 r k) = x (ix2 r k) := by
  refine congrArg x (funext fun a => Fin.ext ?_)
  match a with
  | ⟨0, _⟩ => show 0 + 1 * r.val = r.val; omega
  | ⟨1, _⟩ => show 0 + 1 * k.val = k.val; omega
theorem ld_1 (x : Vec Ideal S8192x1 .f32) (r : Fin 8192) : View.ld x r0_1 (ix2 r 0) = x (ix2 r 0) := by
  refine congrArg x (funext fun a => Fin.ext ?_)
  match a with
  | ⟨0, _⟩ => show 0 + 1 * r.val = r.val; omega
  | ⟨1, _⟩ => rfl
theorem ld_2 (x : Vec Ideal S2x896x3584 .fp8e4m3) (k : Fin 896) (d : Fin 3584) : View.ld x r0_2 (ix3 0 k d) = x (ix3 0 k d) := by
  refine congrArg x (funext fun a => Fin.ext ?_)
  match a with
  | ⟨0, _⟩ => rfl
  | ⟨1, _⟩ => show 0 + 1 * k.val = k.val; omega
  | ⟨2, _⟩ => show 0 + 1 * d.val = d.val; omega
theorem ld_3 (x : Vec Ideal S2x896x3584 .fp8e4m3) (k : Fin 896) (d : Fin 3584) : View.ld x r0_3 (ix3 0 k d) = x (ix3 1 k d) := by
  refine congrArg x (funext fun a => Fin.ext ?_)
  match a with
  | ⟨0, _⟩ => rfl
  | ⟨1, _⟩ => show 0 + 1 * k.val = k.val; omega
  | ⟨2, _⟩ => show 0 + 1 * d.val = d.val; omega
theorem ld_4 (x : Vec Ideal S8192x3584 .bf16) (r : Fin 8192) (d : Fin 3584) : View.ld x r0_4 (ix2 r d) = x (ix2 r d) := by
  refine congrArg x (funext fun a => Fin.ext ?_)
  match a with
  | ⟨0, _⟩ => show 0 + 1 * r.val = r.val; omega
  | ⟨1, _⟩ => show 0 + 1 * d.val = d.val; omega
theorem ld_5 (x : Vec Ideal S2x1x3584 .f32) (d : Fin 3584) : View.ld x r0_5 (ix3 0 0 d) = x (ix3 0 0 d) := by
  refine congrArg x (funext fun a => Fin.ext ?_)
  match a with
  | ⟨0, _⟩ => rfl
  | ⟨1, _⟩ => rfl
  | ⟨2, _⟩ => show 0 + 1 * d.val = d.val; omega
theorem ld_6 (x : Vec Ideal S2x1x3584 .f32) (d : Fin 3584) : View.ld x r0_6 (ix3 0 0 d) = x (ix3 1 0 d) := by
  refine congrArg x (funext fun a => Fin.ext ?_)
  match a with
  | ⟨0, _⟩ => rfl
  | ⟨1, _⟩ => rfl
  | ⟨2, _⟩ => show 0 + 1 * d.val = d.val; omega

variable (m : (ℓ : Loc nD τ sig) → Buf (Elt Ideal) ℓ) (ρ : Dev nD → PrngReg)

theorem cast_row (x : S2x3584.Idx → EReal) (h : S2x3584.ShapeCasts S2x1x3584) (k : Fin 2) (q : Fin 3584) :
    shapeCast S2x1x3584 x h (ix3 k 0 q) = x (ix2 k q) := by
  refine shapeCast_apply x h _ _ ?_
  rw [Shape.rowMajor_val_two, Shape.rowMajor_val_three]
  show k.val * 3584 + q.val = (k.val * 1 + 0) * 3584 + q.val
  omega
theorem cast_col (x : S64x1x128.Idx → EReal) (h : S64x1x128.ShapeCasts S8192x1) (r : Fin 8192) :
    shapeCast S8192x1 x h (ix2 r 0) = x (ix3 ⟨r.val / 128, by omega⟩ 0 ⟨r.val % 128, by omega⟩) := by
  refine shapeCast_apply x h _ _ ?_
  rw [Shape.rowMajor_val_two, Shape.rowMajor_val_three]
  show (r.val / 128 * 1 + 0) * 128 + r.val % 128 = r.val * 1 + 0
  omega

/-! ## The blocks: each window's one block is its whole array -/

theorem index_0 : ∀ t : Fin cfg0.N, win0_0.index t = ![0, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![0, 0, 0] := (by decide +kernel : ∀ t : Fin grid0.N, _)
theorem index_3 : ∀ t : Fin cfg0.N, win0_3.index t = ![0, 0, 0] := (by decide +kernel : ∀ t : Fin grid0.N, _)
theorem index_4 : ∀ t : Fin cfg0.N, win0_4.index t = ![0, 0] := (by decide +kernel : ∀ t : Fin grid0.N, _)
theorem index_5 : ∀ t : Fin cfg0.N, win0_5.index t = ![0, 0, 0] := (by decide +kernel : ∀ t : Fin grid0.N, _)
theorem index_6 : ∀ t : Fin cfg0.N, win0_6.index t = ![0, 0] := (by decide +kernel : ∀ t : Fin grid0.N, _)
theorem index_7 : ∀ t : Fin cfg0.N, win0_7.index t = ![0, 0] := (by decide +kernel : ∀ t : Fin grid0.N, _)
theorem index_8 : ∀ t : Fin cfg0.N, win0_8.index t = ![0, 0, 0] := (by decide +kernel : ∀ t : Fin grid0.N, _)
theorem index_9 : ∀ t : Fin cfg0.N, win0_9.index t = ![0, 0] := (by decide +kernel : ∀ t : Fin grid0.N, _)

section
variable (c : Dev nD) (t : Fin cfg0.N)

theorem blk_0 (r : Fin 8192) (d : Fin 896) : iblk m c 0 t (ix2 r d) = m (c, main_arg0) (ix2 r d) := by
  refine Eq.trans ?_ (congrFun (V_main_arg0 m c) (ix2 r d))
  blk_simp [iblk]
  refine congrArg (V m c main_arg0) (funext fun a => Fin.ext ?_)
  match a with
  | ⟨0, _⟩ => blk_simp [index_0]
  | ⟨1, _⟩ => blk_simp [index_0]
theorem blk_1 (r : Fin 8192) : iblk m c 1 t (ix2 r 0) = Spec.atSc (m (c, main_arg1)) r := by
  trans V m c main_v0 (ix2 r 0)
  · blk_simp [iblk]
    refine congrArg (V m c main_v0) (funext fun a => Fin.ext ?_)
    match a with
    | ⟨0, _⟩ => blk_simp [index_1]
    | ⟨1, _⟩ => blk_simp [index_1]
  · show StableHlo.after hostOps0 _ _ _ = _
    simp only [hostOps0, List.cons_append, List.nil_append]
    after_results_simp
    exact cast_col (m (c, Proc.tc.devRef main_arg1)) _ r
theorem blk_2 (k : Fin 2) (p : Fin 896) (q : Fin 3584) : iblk m c 2 t (ix3 k p q) = m (c, main_arg2) (ix3 k p q) := by
  refine Eq.trans ?_ (congrFun (V_main_arg2 m c) (ix3 k p q))
  blk_simp [iblk]
  refine congrArg (V m c main_arg2) (funext fun a => Fin.ext ?_)
  match a with
  | ⟨0, _⟩ => blk_simp [index_2]
  | ⟨1, _⟩ => blk_simp [index_2]
  | ⟨2, _⟩ => blk_simp [index_2]
theorem blk_3 (k : Fin 2) (d : Fin 3584) : iblk m c 3 t (ix3 k 0 d) = m (c, main_arg3) (ix2 k d) := by
  trans V m c main_v1 (ix3 k 0 d)
  · blk_simp [iblk]
    refine congrArg (V m c main_v1) (funext fun a => Fin.ext ?_)
    match a with
    | ⟨0, _⟩ => blk_simp [index_3]
    | ⟨1, _⟩ => blk_simp [index_3]
    | ⟨2, _⟩ => blk_simp [index_3]
  · show StableHlo.after hostOps0 _ _ _ = _
    simp only [hostOps0, List.cons_append, List.nil_append]
    after_results_simp
    exact cast_row (m (c, Proc.tc.devRef main_arg3)) _ k d
theorem blk_5 (k : Fin 2) (d : Fin 3584) : iblk m c 5 t (ix3 k 0 d) = m (c, main_arg5) (ix2 k d) := by
  trans V m c main_v2 (ix3 k 0 d)
  · blk_simp [iblk]
    refine congrArg (V m c main_v2) (funext fun a => Fin.ext ?_)
    match a with
    | ⟨0, _⟩ => blk_simp [index_5]
    | ⟨1, _⟩ => blk_simp [index_5]
    | ⟨2, _⟩ => blk_simp [index_5]
  · show StableHlo.after hostOps0 _ _ _ = _
    simp only [hostOps0, List.cons_append, List.nil_append]
    after_results_simp
    exact cast_row (m (c, Proc.tc.devRef main_arg5)) _ k d
theorem blk_4 (r : Fin 8192) (d : Fin 3584) : iblk m c 4 t (ix2 r d) = m (c, main_arg4) (ix2 r d) := by
  refine Eq.trans ?_ (congrFun (V_main_arg4 m c) (ix2 r d))
  blk_simp [iblk]
  refine congrArg (V m c main_arg4) (funext fun a => Fin.ext ?_)
  match a with
  | ⟨0, _⟩ => blk_simp [index_4]
  | ⟨1, _⟩ => blk_simp [index_4]

/-! ## The body's results -/

/-- The specification's residual, of the argument arrays; -/
def hS (r : Fin 8192) (d : Fin 3584) : EReal := Spec.res (m (c, main_arg0)) (m (c, main_arg1)) (m (c, main_arg2)) (m (c, main_arg3)) (m (c, main_arg4)) r d
/-- its norm; -/
def nS (r : Fin 8192) (d : Fin 3584) : EReal := Spec.nrm (m (c, main_arg0)) (m (c, main_arg1)) (m (c, main_arg2)) (m (c, main_arg3)) (m (c, main_arg4)) (m (c, main_arg5)) r d
/-- its scales; -/
def sS (r : Fin 8192) : EReal := Spec.nSc (m (c, main_arg0)) (m (c, main_arg1)) (m (c, main_arg2)) (m (c, main_arg3)) (m (c, main_arg4)) (m (c, main_arg5)) r
/-- its codes. -/
def kS (r : Fin 8192) (d : Fin 3584) : EReal := Spec.nCode (m (c, main_arg0)) (m (c, main_arg1)) (m (c, main_arg2)) (m (c, main_arg3)) (m (c, main_arg4)) (m (c, main_arg5)) r d

theorem res_ix (r : Fin 8192) (d : Fin 3584) : k0_pay8 (iblk m c 0 t) (iblk m c 1 t) (iblk m c 2 t) (iblk m c 3 t) (iblk m c 4 t) (iblk m c 5 t) (ix2 r d) = hS m c r d := by
  unfold k0_pay8 hS Spec.res
  exact pay1_ix _ _ _ _ _ _ _ r d _ (m (c, main_arg2)) (m (c, main_arg3)) _ _ (fun k => (ld_0 _ r k).trans (blk_0 m c t r k)) ((ld_1 _ r).trans (blk_1 m c t r))
    (fun k => (ld_2 _ k d).trans (blk_2 m c t 0 k d)) (fun k => (ld_3 _ k d).trans (blk_2 m c t 1 k d)) ((ld_4 _ r d).trans (blk_4 m c t r d))
    ((ld_5 _ d).trans (blk_3 m c t 0 d)) ((ld_6 _ d).trans (blk_3 m c t 1 d))
theorem root_eq (r : Fin 8192) : k0_pay9 (iblk m c 0 t) (iblk m c 1 t) (iblk m c 2 t) (iblk m c 3 t) (iblk m c 4 t) (iblk m c 5 t) (ix2 r 0)
    = Ideal.sqrt (Ideal.div (∑ n : Fin 3584, hS m c r n * hS m c r n) (Ideal.ofBits .f32 0x45600000#32) + Ideal.ofBits .f32 0x358637BD#32) := by
  unfold k0_pay9
  exact pay2_ix _ _ _ _ _ _ _ r (hS m c r) fun n => res_ix m c t r n
theorem nrm_ix (r : Fin 8192) (d : Fin 3584) : k0_pay3 (k0_pay8 (iblk m c 0 t) (iblk m c 1 t) (iblk m c 2 t) (iblk m c 3 t) (iblk m c 4 t) (iblk m c 5 t)) (k0_pay9 (iblk m c 0 t) (iblk m c 1 t) (iblk m c 2 t) (iblk m c 3 t) (iblk m c 4 t) (iblk m c 5 t)) (View.ld (iblk m c 5 t) r0_5) (View.ld (iblk m c 5 t) r0_6) (ix2 r d) = nS m c r d :=
  (pay3_ix _ _ _ _ r d (m (c, main_arg5)) _ _ (res_ix m c t r d) (root_eq m c t r) ((ld_5 _ d).trans (blk_5 m c t 0 d)) ((ld_6 _ d).trans (blk_5 m c t 1 d))).trans rfl
theorem sc_ix (r : Fin 8192) : k0_pay4 (k0_pay8 (iblk m c 0 t) (iblk m c 1 t) (iblk m c 2 t) (iblk m c 3 t) (iblk m c 4 t) (iblk m c 5 t)) (k0_pay9 (iblk m c 0 t) (iblk m c 1 t) (iblk m c 2 t) (iblk m c 3 t) (iblk m c 4 t) (iblk m c 5 t)) (View.ld (iblk m c 5 t) r0_5) (View.ld (iblk m c 5 t) r0_6) (ix2 r 0) = sS m c r :=
  pay4_ix _ _ _ _ r (nS m c r) (nrm_ix m c t r)

theorem out6_ix (r : Fin 8192) (d : Fin 3584) : out0_6 (iblk m c 0 t) (iblk m c 1 t) (iblk m c 2 t) (iblk m c 3 t) (iblk m c 4 t) (iblk m c 5 t) (ix2 r d) = hS m c r d := by
  unfold out0_6
  rw [View.canon_unit_zero (by decide)]
  exact res_ix m c t r d
theorem out7_ix (r : Fin 8192) (d : Fin 3584) : out0_7 (iblk m c 0 t) (iblk m c 1 t) (iblk m c 2 t) (iblk m c 3 t) (iblk m c 4 t) (iblk m c 5 t) (ix2 r d) = kS m c r d := by
  unfold out0_7
  rw [View.canon_unit_zero (by decide)]
  exact pay5_ix _ _ _ _ r d _ _ (nrm_ix m c t r d) (sc_ix m c t r)
theorem out8_ix (i : Fin 32) (p : Fin 256) : out0_8 (iblk m c 0 t) (iblk m c 1 t) (iblk m c 2 t) (iblk m c 3 t) (iblk m c 4 t) (iblk m c 5 t) (ix3 i 0 p) = sS m c ⟨256 * i.val + p.val, by omega⟩ := by
  unfold out0_8
  rw [View.canon_unit_zero (by decide)]
  exact (pay6_ix _ _ _ _ i p).trans (sc_ix m c t _)
theorem out9_ix (r : Fin 8192) (q : Fin 128) : out0_9 (iblk m c 0 t) (iblk m c 1 t) (iblk m c 2 t) (iblk m c 3 t) (iblk m c 4 t) (iblk m c 5 t) (ix2 r q) = sS m c r := by
  unfold out0_9
  rw [View.canon_unit_zero (by decide)]
  exact pay7_ix _ _ _ _ r q _ (sc_ix m c t r)

end

/-! ## The arrays -/

section
variable (c : Dev nD)

/-- The residuals as an array; -/
def G6 : S8192x3584.Idx → EReal := fun j => hS m c ⟨(j 0).val, (j 0).isLt⟩ ⟨(j 1).val, (j 1).isLt⟩
/-- the codes; -/
def G7 : S8192x3584.Idx → EReal := fun j => kS m c ⟨(j 0).val, (j 0).isLt⟩ ⟨(j 1).val, (j 1).isLt⟩
/-- the scales, a row of 256 tokens at a time; -/
def G8 : S32x1x256.Idx → EReal := fun j => sS m c ⟨256 * (j 0).val + (j 2).val, by
  have h0 : (j 0).val < 32 := (j 0).isLt
  have h2 : (j 2).val < 256 := (j 2).isLt
  omega⟩
/-- the scales, one per lane. -/
def G9 : S8192x128.Idx → EReal := fun j => sS m c ⟨(j 0).val, (j 0).isLt⟩

theorem arr6 : (dats m 0 c).arrAt 6 cfg0.N = G6 m c := by
  refine (dats m 0 c).arrAt_eq_of_covers 6 _ (by decide +kernel) fun t hf y => ?_
  blk_simp
  rw [after0_6]
  obtain ⟨p, q, rfl⟩ : ∃ (p : Fin 8192) (q : Fin 3584), y = ix2 p q := ⟨y 0, y 1, by funext a; match a with | ⟨0, _⟩ => rfl | ⟨1, _⟩ => rfl⟩
  refine (out6_ix m c t p q).trans ?_
  show hS m c _ _ = hS m c _ _
  congr 1
  · refine Fin.ext ?_
    show p.val = _
    blk_simp [index_6]
  · refine Fin.ext ?_
    show q.val = _
    blk_simp [index_6]
theorem arr7 : (dats m 0 c).arrAt 7 cfg0.N = G7 m c := by
  refine (dats m 0 c).arrAt_eq_of_covers 7 _ (by decide +kernel) fun t hf y => ?_
  blk_simp
  rw [after0_7]
  obtain ⟨p, q, rfl⟩ : ∃ (p : Fin 8192) (q : Fin 3584), y = ix2 p q := ⟨y 0, y 1, by funext a; match a with | ⟨0, _⟩ => rfl | ⟨1, _⟩ => rfl⟩
  refine (out7_ix m c t p q).trans ?_
  show kS m c _ _ = kS m c _ _
  congr 1
  · refine Fin.ext ?_
    show p.val = _
    blk_simp [index_7]
  · refine Fin.ext ?_
    show q.val = _
    blk_simp [index_7]
theorem arr8 : (dats m 0 c).arrAt 8 cfg0.N = G8 m c := by
  refine (dats m 0 c).arrAt_eq_of_covers 8 _ (by decide +kernel) fun t hf y => ?_
  blk_simp
  rw [after0_8]
  obtain ⟨i, p, rfl⟩ : ∃ (i : Fin 32) (p : Fin 256), y = ix3 i 0 p := ⟨y 0, y 2, by
    funext a
    match a with
    | ⟨0, _⟩ => rfl
    | ⟨1, _⟩ => exact Subsingleton.elim (α := Fin 1) _ _
    | ⟨2, _⟩ => rfl⟩
  refine (out8_ix m c t i p).trans ?_
  show sS m c _ = sS m c _
  congr 1
  refine Fin.ext ?_
  show 256 * i.val + p.val = 256 * _ + _
  congr 1
  · congr 1
    blk_simp [index_8]
  · blk_simp [index_8]
theorem arr9 : (dats m 0 c).arrAt 9 cfg0.N = G9 m c := by
  refine (dats m 0 c).arrAt_eq_of_covers 9 _ (by decide +kernel) fun t hf y => ?_
  blk_simp
  rw [after0_9]
  obtain ⟨p, q, rfl⟩ : ∃ (p : Fin 8192) (q : Fin 128), y = ix2 p q := ⟨y 0, y 1, by funext a; match a with | ⟨0, _⟩ => rfl | ⟨1, _⟩ => rfl⟩
  refine (out9_ix m c t p q).trans ?_
  show sS m c _ = sS m c _
  congr 1
  refine Fin.ext ?_
  show p.val = _
  blk_simp [index_9]

end

/-- Every run of the reference ends with the four arrays at the specification's values and the arguments unchanged. -/
theorem run_value : θ_run defs (onTc (τ := τ) (main (F := Ideal))) ⟨m, fun _ => 0, ρ⟩ (fun r => ∀ c : Dev nD,
      r.2.mem ((c.tc : Thread nD τ).loc main_v3_0) = G6 m c ∧ r.2.mem ((c.tc : Thread nD τ).loc main_v3_1) = G7 m c
      ∧ r.2.mem ((c.tc : Thread nD τ).loc main_v3_2) = G8 m c ∧ r.2.mem ((c.tc : Thread nD τ).loc main_v3_3) = G9 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨((h c).1 6).trans (arr6 m c), ((h c).1 7).trans (arr7 m c), ((h c).1 8).trans (arr8 m c), ((h c).1 9).trans (arr9 m c),
    ((h c).1 0).trans (((dats m 0 c).arrAt_in 0 rfl _).trans ((A_eq m c 0).trans (V_main_arg0 m c))),
    ((h c).2 main_arg1 (Pipeline.mem_restRefs_of main_arg1 (by decide) (by decide))).trans (V_main_arg1 m c),
    ((h c).1 2).trans (((dats m 0 c).arrAt_in 2 rfl _).trans ((A_eq m c 2).trans (V_main_arg2 m c))),
    ((h c).2 main_arg3 (Pipeline.mem_restRefs_of main_arg3 (by decide) (by decide))).trans (V_main_arg3 m c),
    ((h c).1 4).trans (((dats m 0 c).arrAt_in 4 rfl _).trans ((A_eq m c 4).trans (V_main_arg4 m c))),
    ((h c).2 main_arg5 (Pipeline.mem_restRefs_of main_arg5 (by decide) (by decide))).trans (V_main_arg5 m c)⟩) (run_main m ρ)

end Cert.OprojReferenceIdeal.Val

end
-- ==== Proof.Oproj.Equal.lean ====
/- Over the extended reals, from the same arguments, the output product's kernel and its reference leave the same four arrays. -/
module

public import proofs.«01_k».proof.Proof.Oproj.KernelArrays
public import proofs.«01_k».proof.Proof.Oproj.RefArrays
public import proofs.«01_k».proof.Defs
public import Idealize.ShloMosaic.Adequacy
public import Idealize.ShloMosaic.Init

@[expose] public section

noncomputable section

namespace Cert.OprojIdeal.Val

open Idealize.ShloMosaic Idealize.ShloMosaic.TcCoe Idealize.SL.Sem

/-- The residuals, the codes and both layouts of the scales of the kernel are those of the reference. -/
theorem algebraic : Cert.algebraic_OprojIdeal_OprojReferenceIdeal (hOprojIdeal := Cert.OprojIdeal.Gen.facts) (hOprojReferenceIdeal := Cert.OprojReferenceIdeal.Gen.facts) := by
  intro m g m' g' _ hm
  refine ⟨fun c => G6 m c, fun c => G7 m c, fun c => G8 m c, fun c => G9 m c, run_value m g, ?_⟩
  refine (θ_run _ _ _).mono (fun r h c => ?_) (Cert.OprojReferenceIdeal.Val.run_value m' g')
  obtain ⟨h0, h1, h2, h3, h4, h5⟩ := hm c
  obtain ⟨e6, e7, e8, e9, hk⟩ := h c
  refine ⟨e6.trans ?_, e7.trans ?_, e8.trans ?_, e9.trans ?_, hk⟩
  · unfold Cert.OprojReferenceIdeal.Val.G6 G6 Cert.OprojReferenceIdeal.Val.hS hS
    funext j
    exact congrFun (congrFun (congr (congr (congr (congr (congrArg Spec.res h0) h1) h2) h3) h4) _) _
  · unfold Cert.OprojReferenceIdeal.Val.G7 G7 Cert.OprojReferenceIdeal.Val.kS kS
    funext j
    exact congrFun (congrFun (congr (congr (congr (congr (congr (congrArg Spec.nCode h0) h1) h2) h3) h4) h5) _) _
  · unfold Cert.OprojReferenceIdeal.Val.G8 G8 Cert.OprojReferenceIdeal.Val.sS sS
    funext j
    exact congrFun (congr (congr (congr (congr (congr (congrArg Spec.nSc h0) h1) h2) h3) h4) h5) _
  · unfold Cert.OprojReferenceIdeal.Val.G9 G9 Cert.OprojReferenceIdeal.Val.sS sS
    funext j
    exact congrFun (congr (congr (congr (congr (congr (congrArg Spec.nSc h0) h1) h2) h3) h4) h5) _

end Cert.OprojIdeal.Val

end
-- ==== Proof.lean ====
module

public import proofs.«01_k».proof.Defs
public import proofs.«01_k».proof.Proof.Printed
public import proofs.«01_k».proof.Proof.Ideal.Frame
public import proofs.«01_k».proof.Proof.Gen.ReferenceIdeal.Frame
public import proofs.«01_k».proof.Proof.Gen.ReferenceIdeal.Value
public import proofs.«01_k».proof.Proof.Ideal.Equal
public import proofs.«01_k».proof.Proof.Gen.Oproj.Frame
public import proofs.«01_k».proof.Proof.Gen.OprojIdeal.Frame
public import proofs.«01_k».proof.Proof.Gen.OprojReferenceIdeal.Frame
public import proofs.«01_k».proof.Proof.Oproj.Equal
public import Idealize.ShloMosaic.Adequacy
public import Idealize.ShloMosaic.Init

@[expose] public section

noncomputable section

namespace Cert.Proof

open Idealize.ShloMosaic Idealize.SL.Sem

/-- The claims, for the feed-forward call and for the output product's call: the frames, the idealization without rewrites, the equal results. -/
theorem claim : Cert.Claim := ⟨Cert.Kernel.Gen.facts, Cert.KernelIdeal.Gen.facts, Cert.ReferenceIdeal.Gen.facts,
  Cert.Oproj.Gen.facts, Cert.OprojIdeal.Gen.facts, Cert.OprojReferenceIdeal.Gen.facts,
  fun m ρ _ => Cert.Kernel.Ffn.frame m ρ, fun m ρ _ => Cert.KernelIdeal.Ffn.frame m ρ, fun m ρ _ => Cert.ReferenceIdeal.Gen.frame m ρ,
  fun m ρ _ => Cert.Oproj.Gen.frame m ρ, fun m ρ _ => Cert.OprojIdeal.Gen.frame m ρ, fun m ρ _ => Cert.OprojReferenceIdeal.Gen.frame m ρ,
  trivial, Cert.KernelIdeal.Ffn.algebraic, trivial, Cert.OprojIdeal.Val.algebraic⟩

end Cert.Proof

end
